-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_pool_finite [hPre_pool_finite : Cert.Pre_pool_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_pool_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_pool_finite [hPre_pool_finite : Cert.Pre_pool_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_pool_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Kernel5Ideal_pre_pool_finite [hKernel5Ideal : Cert.Kernel5Ideal.Facts] [hPre_pool_finite : Cert.Pre_pool_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_pool_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Reference5Ideal_pre_pool_finite [hReference5Ideal : Cert.Reference5Ideal.Facts] [hPre_pool_finite : Cert.Pre_pool_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_pool_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74_4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v21) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_pool_finite [hKernel5Ideal : Cert.Kernel5Ideal.Facts] [hReference5Ideal : Cert.Reference5Ideal.Facts] [hPre_pool_finite : Cert.Pre_pool_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_pool_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v151)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v151) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v182) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v27) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v74_4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v27) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v20) = v0 c
          ∧ r.2.mem ((c.tc : Thread Cert.Reference11Ideal.nD Cert.Reference11Ideal.τ).loc Cert.Reference11Ideal.main_v21) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_pool_finite : Cert.Pre_pool_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_pool_finite (hKernel5Ideal := hKernel5Ideal) (hPre_pool_finite := hPre_pool_finite)
    ∧ quiescent_Reference5Ideal (hReference5Ideal := hReference5Ideal)
    ∧ quiescent_Reference5Ideal_pre_pool_finite (hReference5Ideal := hReference5Ideal) (hPre_pool_finite := hPre_pool_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_pool_finite (hKernel5Ideal := hKernel5Ideal) (hReference5Ideal := hReference5Ideal) (hPre_pool_finite := hPre_pool_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_pool_finite.lean ====
abbrev S16384x1024 : Shape := ⟨2, ![16384, 1024]⟩
abbrev S16384x3072 : Shape := ⟨2, ![16384, 3072]⟩
abbrev S16384x6144 : Shape := ⟨2, ![16384, 6144]⟩
abbrev S16384x2048 : Shape := ⟨2, ![16384, 2048]⟩
abbrev S1x2048 : Shape := ⟨2, ![1, 2048]⟩
abbrev S1024x2048 : Shape := ⟨2, ![1024, 2048]⟩
abbrev S4x128x512 : Shape := ⟨3, ![4, 128, 512]⟩
abbrev S2048 : Shape := ⟨1, ![2048]⟩
abbrev S2048x2048 : Shape := ⟨2, ![2048, 2048]⟩
abbrev S16384x512 : Shape := ⟨2, ![16384, 512]⟩
abbrev S_ : Shape := ⟨0, ![]⟩

class Facts : Prop where
  slices_S16384x3072_S16384x512_0_2048 : S16384x3072.Slices ![0, 2048] S16384x512
  bcast_S_S16384x512 : S_.BroadcastsInDim S16384x512 (![] : Fin 0 → Fin S16384x512.rank)

variable [Facts]

def fn {F : FTy → Type} [FloatOps F] (main_arg0 : FVec F S16384x1024 .f32) (main_arg1 : FVec F S16384x1024 .f32) (main_arg2 : FVec F S16384x3072 .f32) (main_arg3 : FVec F S16384x1024 .f32) (main_arg4 : FVec F S16384x6144 .bf16) (main_arg5 : FVec F S16384x2048 .f32) (main_arg6 : FVec F S1x2048 .f32) (main_arg7 : FVec F S1024x2048 .f32) (main_arg8 : FVec F S4x128x512 .f32) (main_arg9 : FVec F S2048 .f32) (main_arg10 : FVec F S1024x2048 .bf16) (main_arg11 : FVec F S2048x2048 .f32) : IVec S16384x512 1 :=
  let main_v0 : FVec F S16384x512 .f32 := (extractStridedSlice S16384x512 ![0, 2048] · slices_S16384x3072_S16384x512_0_2048) main_arg2
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  main_v3
-- ==== Kernel.lean ====
abbrev S16384x3072 : Shape := ⟨2, ![16384, 3072]⟩
abbrev S4x1024 : Shape := ⟨2, ![4, 1024]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S8x128x256 : Shape := ⟨3, ![8, 128, 256]⟩
abbrev S16384x1024 : Shape := ⟨2, ![16384, 1024]⟩
abbrev S256x1024 : Shape := ⟨2, ![256, 1024]⟩
abbrev S8x1024 : Shape := ⟨2, ![8, 1024]⟩
abbrev S272x1024 : Shape := ⟨2, ![272, 1024]⟩
abbrev S256x128 : Shape := ⟨2, ![256, 128]⟩
abbrev S1x128x256 : Shape := ⟨3, ![1, 128, 256]⟩
abbrev S128x256 : Shape := ⟨2, ![128, 256]⟩
abbrev S256x256 : Shape := ⟨2, ![256, 256]⟩

abbrev nBuf : Space → Nat
  | .hbm => 16
  | .vmem => 19
  | .smem => 0
  | _ => 0

abbrev bufTy : (tb : Table) → Fin (tcTables nBuf tb) → BufTy
  | .hbm, ⟨0, _⟩ => ⟨S16384x3072, .f32⟩
  | .hbm, ⟨1, _⟩ => ⟨S4x1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S8x128x128, .f32⟩
  | .hbm, ⟨6, _⟩ => ⟨S8x128, .f32⟩
  | .hbm, ⟨7, _⟩ => ⟨S1024, .f32⟩
  | .hbm, ⟨8, _⟩ => ⟨S1x1024, .f32⟩
  | .hbm, ⟨9, _⟩ => ⟨S8x128x256, .f32⟩
  | .hbm, ⟨10, _⟩ => ⟨S8x128x256, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S4x1024, .f32⟩
  | .local _ .vmem, ⟨7, _⟩ => ⟨S1x1024, .f32⟩
  | .local _ .vmem, ⟨8, _⟩ => ⟨S8x128x256, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S272x1024, .f32⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_71 : BitVec 32 := 0#32
  let c32_i32 : BitVec 32 := 32#32
  let v142 : BitVec 32 := Scalar.addi c0_i32_71 c32_i32
  let c1_i32 : BitVec 32 := 1#32
  ⟨c0_i32_71, v142, c1_i32⟩
def k0_mult1 (k0_t1 : Fin k0_t1_loop.trips) : BitVec 32 :=
  let c0_i32_71 : BitVec 32 := 0#32
  let c1_i32 : BitVec 32 := 1#32
  let arg16 : BitVec 32 := Scf.iv c0_i32_71 c1_i32 k0_t1
  let c8_i32 : BitVec 32 := 8#32
  let v147 : BitVec 32 := Scalar.muli arg16 c8_i32
  v147
def k0_off1 (k0_t1 : Fin k0_t1_loop.trips) (c0_i32_75 : BitVec 32) : Fin 2 → Nat :=
  let c0_i32_71 : BitVec 32 := 0#32
  let c1_i32 : BitVec 32 := 1#32
  let arg16 : BitVec 32 := Scf.iv c0_i32_71 c1_i32 k0_t1
  let c8_i32 : BitVec 32 := 8#32
  let v147 : BitVec 32 := Scalar.muli arg16 c8_i32
  let v148 : BitVec 32 := v147
  let v149 : BitVec 32 := Scalar.addi v148 c0_i32_75
  let v150 : Index := Scalar.indexCast v149
  let c0_76 : Index := 0#32
  ![v150.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S16384x3072 : Shape := ⟨2, ![16384, 3072]⟩
abbrev S4x1024 : Shape := ⟨2, ![4, 1024]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S16384x1024 : Shape := ⟨2, ![16384, 1024]⟩
abbrev S_ : Shape := ⟨0, ![]⟩
abbrev S16387x1024 : Shape := ⟨2, ![16387, 1024]⟩
abbrev S16384x8x128 : Shape := ⟨3, ![16384, 8, 128]⟩
abbrev S8x128x16384 : Shape := ⟨3, ![8, 128, 16384]⟩
abbrev S1x8x128 : Shape := ⟨3, ![1, 8, 128]⟩

abbrev nBuf : Space → Nat
  | .hbm => 126
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S4x1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S8x128x128, .f32⟩
  | .hbm, ⟨6, _⟩ => ⟨S8x128, .f32⟩
  | .hbm, ⟨7, _⟩ => ⟨S1024, .f32⟩
  | .hbm, ⟨8, _⟩ => ⟨S1x1024, .f32⟩
  | .hbm, ⟨9, _⟩ => ⟨S16384x1024, .f32⟩
  | .hbm, ⟨10, _⟩ => ⟨S_, .i32⟩
  | .hbm, ⟨11, _⟩ => ⟨S_, .f32⟩
  | .hbm, ⟨12, _⟩ => ⟨S16387x1024, .f32⟩
  | .hbm, ⟨13, _⟩ => ⟨S1x1024, .f32⟩
  | .hbm, ⟨14, _⟩ => ⟨S1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S1024, .f32⟩
  | .hbm, ⟨31, _⟩ => ⟨S16384x1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x8x128, .f32⟩
  | .hbm, ⟨44, _⟩ => ⟨S8x128x16384, .f32⟩
  | .hbm, ⟨45, _⟩ => ⟨S16384x8x128, .f32⟩
  | .hbm, ⟨46, _⟩ => ⟨S1x8x128, .f32⟩
  | .hbm, ⟨47, _⟩ => ⟨S16384x8x128, .f32⟩
  | .hbm, ⟨48, _⟩ => ⟨S16384x8x128, .f32⟩
  | .hbm, ⟨49, _⟩ => ⟨S16384x8x128, .f32⟩
  | .hbm, ⟨50, _⟩ => ⟨S16384x8x128, .f32⟩
  | .hbm, ⟨51, _⟩ => ⟨S_, .f32⟩
  | .hbm, ⟨52, _⟩ => ⟨S16384x8x128, .f32⟩
  | .hbm, ⟨53, _⟩ => ⟨S16384x8x128, .f32⟩
  | .hbm, ⟨54, _⟩ => ⟨S_, .f32⟩
  | .hbm, ⟨55, _⟩ => ⟨S16384x8x128, .f32⟩
  | .hbm, ⟨56, _⟩ => ⟨S16384x8x128, .f32⟩
  | .hbm, ⟨57, _⟩ => ⟨S16384x1024, .f32⟩
  | .hbm, ⟨58, _⟩ => ⟨S8x128x16384, .f32⟩
  | .hbm, ⟨59, _⟩ => ⟨S16384x8x128, .f32⟩
  | .hbm, ⟨60, _⟩ => ⟨S1x8x128, .f32⟩
  | .hbm, ⟨61, _⟩ => ⟨S16384x8x128, .f32⟩
  | .hbm, ⟨62, _⟩ => ⟨S16384x8x128, .f32⟩
  | .hbm, ⟨63, _⟩ => ⟨S16384x8x128, .f32⟩
  | .hbm, ⟨64, _⟩ => ⟨S16384x8x128, .f32⟩
  | .hbm, ⟨65, _⟩ => ⟨S_, .f32⟩
  | .hbm, ⟨66, _⟩ => ⟨S16384x8x128, .f32⟩
  | .hbm, ⟨67, _⟩ => ⟨S16384x8x128, .f32⟩
  | .hbm, ⟨68, _⟩ => ⟨S_, .f32⟩
  | .hbm, ⟨69, _⟩ => ⟨S16384x8x128, .f32⟩
  | .hbm, ⟨70, _⟩ => ⟨S16384x8x128, .f32⟩
  | .hbm, ⟨71, _⟩ => ⟨S16384x1024, .f32⟩
  | .hbm, ⟨72, _⟩ => ⟨S_, .f32⟩
  | .hbm, ⟨73, _⟩ => ⟨S16384x1024, .f32⟩
  | .hbm, ⟨74, _⟩ => ⟨S16384x1024, .f32⟩
  | .hbm, ⟨75, _⟩ => ⟨S1024, .f32⟩
  | .hbm, ⟨76, _⟩ => ⟨S_, .f32⟩
  | .hbm, ⟨77, _⟩ => ⟨S1024, .f32⟩
  | .hbm, ⟨78, _⟩ => ⟨S1024, .f32⟩
  | .hbm, ⟨79, _⟩ => ⟨S1024, .f32⟩
  | .hbm, ⟨80, _⟩ => ⟨S1024, .f32⟩
  | .hbm, ⟨81, _⟩ => ⟨S1024, .i1⟩
  | .hbm, ⟨82, _⟩ => ⟨S1024, .f32⟩
  | .hbm, ⟨83, _⟩ => ⟨S1024, .f32⟩
  | .hbm, ⟨84, _⟩ => ⟨S1024, .f32⟩
  | .hbm, ⟨85, _⟩ => ⟨S1024, .f32⟩
  | .hbm, ⟨86, _⟩ => ⟨S1024, .f32⟩
  | .hbm, ⟨87, _⟩ => ⟨S1024, .f32⟩
  | .hbm, ⟨88, _⟩ => ⟨S1024, .f32⟩
  | .hbm, ⟨89, _⟩ => ⟨S1024, .f32⟩
  | .hbm, ⟨90, _⟩ => ⟨S1x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S_, .f32⟩
  | .hbm, ⟨95, _⟩ => ⟨S16384x1024, .f32⟩
  | .hbm, ⟨96, _⟩ => ⟨S16384x1024, .f32⟩
  | .hbm, ⟨97, _⟩ => ⟨S16384x1024, .f32⟩
  | .hbm, ⟨98, _⟩ => ⟨S16384x1024, .f32⟩
  | .hbm, ⟨99, _⟩ => ⟨S16384x1024, .f32⟩
  | .hbm, ⟨100, _⟩ => ⟨S16384x1024, .f32⟩
  | .hbm, ⟨101, _⟩ => ⟨S16384x1024, .f32⟩
  | .hbm, ⟨102, _⟩ => ⟨S1024, .f32⟩
  | .hbm, ⟨103, _⟩ => ⟨S_, .f32⟩
  | .hbm, ⟨104, _⟩ => ⟨S16384x1024, .f32⟩
  | .hbm, ⟨105, _⟩ => ⟨S_, .i32⟩
  | .hbm, ⟨106, _⟩ => ⟨S16384x1024, .f32⟩
  | .hbm, ⟨107, _⟩ => ⟨S16384x1024, .f32⟩
  | .hbm, ⟨108, _⟩ => ⟨S_, .i32⟩
  | .hbm, ⟨109, _⟩ => ⟨S1024, .f32⟩
  | .hbm, ⟨110, _⟩ => ⟨S16384x1024, .f32⟩
  | .hbm, ⟨111, _⟩ => ⟨S_, .i32⟩
  | .hbm, ⟨112, _⟩ => ⟨S_, .i1⟩
  | .hbm, ⟨113, _⟩ => ⟨S_, .i32⟩
  | .hbm, ⟨114, _⟩ => ⟨S1x1024, .f32⟩
  | .hbm, ⟨115, _⟩ => ⟨S1024, .f32⟩
  | .hbm, ⟨116, _⟩ => ⟨S_, .i32⟩
  | .hbm, ⟨117, _⟩ => ⟨S1x1024, .f32⟩
  | .hbm, ⟨118, _⟩ => ⟨S1024, .f32⟩
  | .hbm, ⟨119, _⟩ => ⟨S1024, .f32⟩
  | .hbm, ⟨120, _⟩ => ⟨S1024, .f32⟩
  | .hbm, ⟨121, _⟩ => ⟨S1x1024, .f32⟩
  | .hbm, ⟨122, _⟩ => ⟨S_, .i32⟩
  | .hbm, ⟨123, _⟩ => ⟨S16384x1024, .f32⟩
  | .hbm, ⟨124, _⟩ => ⟨S_, .i32⟩
  | .hbm, ⟨125, _⟩ => ⟨S_, .i32⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst : Ref sig .tc := ⟨.hbm, 51, rfl⟩
abbrev main_v40 : Ref sig .tc := ⟨.hbm, 52, rfl⟩
abbrev main_v41 : Ref sig .tc := ⟨.hbm, 53, rfl⟩
abbrev main_cst_0 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_1 : Ref sig .tc := ⟨.hbm, 65, rfl⟩
abbrev main_v52 : Ref sig .tc := ⟨.hbm, 66, rfl⟩
abbrev main_v53 : Ref sig .tc := ⟨.hbm, 67, rfl⟩
abbrev main_cst_2 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_3 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_4 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_5 : Ref sig .tc := ⟨.hbm, 103, rfl⟩
abbrev main_v73 : Ref sig .tc := ⟨.hbm, 104, rfl⟩
abbrev main_c_6 : Ref sig .tc := ⟨.hbm, 105, rfl⟩
abbrev main_v74_0 : Ref sig .tc := ⟨.hbm, 106, rfl⟩
abbrev main_v74_1 : Ref sig .tc := ⟨.hbm, 107, rfl⟩
abbrev main_v74_2 : Ref sig .tc := ⟨.hbm, 108, rfl⟩
abbrev main_v74_3 : Ref sig .tc := ⟨.hbm, 109, rfl⟩
abbrev main_v74_4 : Ref sig .tc := ⟨.hbm, 110, rfl⟩
abbrev main_while0c_c_11 : Ref sig .tc := ⟨.hbm, 111, rfl⟩
abbrev main_while0c_v75 : Ref sig .tc := ⟨.hbm, 112, rfl⟩
abbrev main_while0b_call2_c : Ref sig .tc := ⟨.hbm, 113, rfl⟩
abbrev main_while0b_call2_v0 : Ref sig .tc := ⟨.hbm, 114, rfl⟩
abbrev main_while0b_v75 : Ref sig .tc := ⟨.hbm, 115, rfl⟩
abbrev main_while0b_call3_c : Ref sig .tc := ⟨.hbm, 116, rfl⟩
abbrev main_while0b_call3_v0 : Ref sig .tc := ⟨.hbm, 117, rfl⟩
abbrev main_while0b_v76 : Ref sig .tc := ⟨.hbm, 118, rfl⟩
abbrev main_while0b_v77 : Ref sig .tc := ⟨.hbm, 119, rfl⟩
abbrev main_while0b_v78 : Ref sig .tc := ⟨.hbm, 120, rfl⟩
abbrev main_while0b_call4_v0 : Ref sig .tc := ⟨.hbm, 121, rfl⟩
abbrev main_while0b_call4_c : Ref sig .tc := ⟨.hbm, 122, rfl⟩
abbrev main_while0b_v79 : Ref sig .tc := ⟨.hbm, 123, rfl⟩
abbrev main_while0b_c_11 : Ref sig .tc := ⟨.hbm, 124, rfl⟩
abbrev main_while0b_v80 : Ref sig .tc := ⟨.hbm, 125, rfl⟩

abbrev nD : Nat := 1
abbrev τ : Topo := Topo.v7x

variable {F : FTy → Type} [FloatOps F]

abbrev main_while0_count : Scf.Loop 32 := ⟨0#32, 16384#32, 1#32⟩
-- ==== Kernel2.lean ====
abbrev S16384x2048 : Shape := ⟨2, ![16384, 2048]⟩
abbrev S2048 : Shape := ⟨1, ![2048]⟩
abbrev S1x2048 : Shape := ⟨2, ![1, 2048]⟩
abbrev S2048x11264 : Shape := ⟨2, ![2048, 11264]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 13
  | .vmem => 17
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S2048, .f32⟩
  | .hbm, ⟨6, _⟩ => ⟨S2048x11264, .f32⟩
  | .hbm, ⟨7, _⟩ => ⟨S5632x2048, .f32⟩
  | .hbm, ⟨8, _⟩ => ⟨S1x2048, .f32⟩
  | .hbm, ⟨9, _⟩ => ⟨S1x2048, .f32⟩
  | .hbm, ⟨10, _⟩ => ⟨S2048x11264, .bf16⟩
  | .hbm, ⟨11, _⟩ => ⟨S5632x2048, .bf16⟩
  | .hbm, ⟨12, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S16384x2048 : Shape := ⟨2, ![16384, 2048]⟩
abbrev S2048 : Shape := ⟨1, ![2048]⟩
abbrev S1x2048 : Shape := ⟨2, ![1, 2048]⟩
abbrev S2048x11264 : Shape := ⟨2, ![2048, 11264]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S16384x11264 : Shape := ⟨2, ![16384, 11264]⟩
abbrev S16384x5632 : Shape := ⟨2, ![16384, 5632]⟩

abbrev nBuf : Space → Nat
  | .hbm => 64
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S2048, .f32⟩
  | .hbm, ⟨6, _⟩ => ⟨S2048x11264, .f32⟩
  | .hbm, ⟨7, _⟩ => ⟨S5632x2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x11264, .f32⟩
  | .hbm, ⟨32, _⟩ => ⟨S16384x5632, .f32⟩
  | .hbm, ⟨33, _⟩ => ⟨S16384x5632, .f32⟩
  | .hbm, ⟨34, _⟩ => ⟨S16384x5632, .f32⟩
  | .hbm, ⟨35, _⟩ => ⟨S16384x5632, .f32⟩
  | .hbm, ⟨36, _⟩ => ⟨S_, .f32⟩
  | .hbm, ⟨37, _⟩ => ⟨S16384x5632, .f32⟩
  | .hbm, ⟨38, _⟩ => ⟨S16384x5632, .f32⟩
  | .hbm, ⟨39, _⟩ => ⟨S_, .f32⟩
  | .hbm, ⟨40, _⟩ => ⟨S16384x5632, .f32⟩
  | .hbm, ⟨41, _⟩ => ⟨S16384x5632, .f32⟩
  | .hbm, ⟨42, _⟩ => ⟨S16384x5632, .f32⟩
  | .hbm, ⟨43, _⟩ => ⟨S16384x5632, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x1, .f32⟩
  | .hbm, ⟨59, _⟩ => ⟨S16384x2048, .f32⟩
  | .hbm, ⟨60, _⟩ => ⟨S16384x2048, .f32⟩
  | .hbm, ⟨61, _⟩ => ⟨S1x2048, .f32⟩
  | .hbm, ⟨62, _⟩ => ⟨S16384x2048, .f32⟩
  | .hbm, ⟨63, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]
-- ==== Kernel3.lean ====
abbrev S16384x2048 : Shape := ⟨2, ![16384, 2048]⟩
abbrev S2048 : Shape := ⟨1, ![2048]⟩
abbrev S1x2048 : Shape := ⟨2, ![1, 2048]⟩
abbrev S2048x9216 : Shape := ⟨2, ![2048, 9216]⟩
abbrev S2048x3072 : Shape := ⟨2, ![2048, 3072]⟩
abbrev S16384x3072 : Shape := ⟨2, ![16384, 3072]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S2048x9216, .f32⟩
  | .hbm, ⟨5, _⟩ => ⟨S1x2048, .f32⟩
  | .hbm, ⟨6, _⟩ => ⟨S2048x3072, .f32⟩
  | .hbm, ⟨7, _⟩ => ⟨S2048x3072, .bf16⟩
  | .hbm, ⟨8, _⟩ => ⟨S16384x3072, .f32⟩
  | .hbm, ⟨9, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x2048, .bf16⟩
  | .local _ .vmem, ⟨10, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S16384x2048 : Shape := ⟨2, ![16384, 2048]⟩
abbrev S2048 : Shape := ⟨1, ![2048]⟩
abbrev S1x2048 : Shape := ⟨2, ![1, 2048]⟩
abbrev S2048x9216 : Shape := ⟨2, ![2048, 9216]⟩
abbrev S_ : Shape := ⟨0, ![]⟩
abbrev S16384 : Shape := ⟨1, ![16384]⟩
abbrev S16384x1 : Shape := ⟨2, ![16384, 1]⟩
abbrev S2048x3072 : Shape := ⟨2, ![2048, 3072]⟩
abbrev S16384x3072 : Shape := ⟨2, ![16384, 3072]⟩

abbrev nBuf : Space → Nat
  | .hbm => 31
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S2048x9216, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S2048x3072, .f32⟩
  | .hbm, ⟨29, _⟩ => ⟨S16384x3072, .f32⟩
  | .hbm, ⟨30, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel4.lean ====
abbrev S16384x2048 : Shape := ⟨2, ![16384, 2048]⟩
abbrev S2048x9216 : Shape := ⟨2, ![2048, 9216]⟩
abbrev S6144 : Shape := ⟨1, ![6144]⟩
abbrev S2048x6144 : Shape := ⟨2, ![2048, 6144]⟩
abbrev S1x6144 : Shape := ⟨2, ![1, 6144]⟩
abbrev S16384x6144 : Shape := ⟨2, ![16384, 6144]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x9216, .f32⟩
  | .hbm, ⟨2, _⟩ => ⟨S6144, .f32⟩
  | .hbm, ⟨3, _⟩ => ⟨S2048x6144, .f32⟩
  | .hbm, ⟨4, _⟩ => ⟨S2048x6144, .bf16⟩
  | .hbm, ⟨5, _⟩ => ⟨S1x6144, .f32⟩
  | .hbm, ⟨6, _⟩ => ⟨S16384x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x2048 : Shape := ⟨2, ![16384, 2048]⟩
abbrev S2048x9216 : Shape := ⟨2, ![2048, 9216]⟩
abbrev S6144 : Shape := ⟨1, ![6144]⟩
abbrev S2048x6144 : Shape := ⟨2, ![2048, 6144]⟩
abbrev S16384x6144 : Shape := ⟨2, ![16384, 6144]⟩
abbrev S1x6144 : Shape := ⟨2, ![1, 6144]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x9216, .f32⟩
  | .hbm, ⟨2, _⟩ => ⟨S6144, .f32⟩
  | .hbm, ⟨3, _⟩ => ⟨S16384x2048, .f32⟩
  | .hbm, ⟨4, _⟩ => ⟨S2048x6144, .f32⟩
  | .hbm, ⟨5, _⟩ => ⟨S16384x6144, .f32⟩
  | .hbm, ⟨6, _⟩ => ⟨S1x6144, .f32⟩
  | .hbm, ⟨7, _⟩ => ⟨S16384x6144, .f32⟩
  | .hbm, ⟨8, _⟩ => ⟨S16384x6144, .f32⟩
  | .hbm, ⟨9, _⟩ => ⟨S16384x6144, .f32⟩
  | .hbm, ⟨10, _⟩ => ⟨S16384x6144, .f32⟩
  | .hbm, ⟨11, _⟩ => ⟨S_, .f32⟩
  | .hbm, ⟨12, _⟩ => ⟨S16384x6144, .f32⟩
  | .hbm, ⟨13, _⟩ => ⟨S16384x6144, .f32⟩
  | .hbm, ⟨14, _⟩ => ⟨S_, .f32⟩
  | .hbm, ⟨15, _⟩ => ⟨S16384x6144, .f32⟩
  | .hbm, ⟨16, _⟩ => ⟨S16384x6144, .f32⟩
  | .hbm, ⟨17, _⟩ => ⟨S16384x6144, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel5.lean ====
abbrev S16384x1024 : Shape := ⟨2, ![16384, 1024]⟩
abbrev S16384x3072 : Shape := ⟨2, ![16384, 3072]⟩
abbrev S16384x6144 : Shape := ⟨2, ![16384, 6144]⟩
abbrev S16384x2048 : Shape := ⟨2, ![16384, 2048]⟩
abbrev S1x2048 : Shape := ⟨2, ![1, 2048]⟩
abbrev S1024x2048 : Shape := ⟨2, ![1024, 2048]⟩
abbrev S4x128x512 : Shape := ⟨3, ![4, 128, 512]⟩
abbrev S2048 : Shape := ⟨1, ![2048]⟩
abbrev S2048x2048 : Shape := ⟨2, ![2048, 2048]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S256x128 : Shape := ⟨2, ![256, 128]⟩
abbrev S1x256x256 : Shape := ⟨3, ![1, 256, 256]⟩
abbrev S4x256x256 : Shape := ⟨3, ![4, 256, 256]⟩
abbrev S256x512 : Shape := ⟨2, ![256, 512]⟩
abbrev S256x1024 : Shape := ⟨2, ![256, 1024]⟩
abbrev S256x6144 : Shape := ⟨2, ![256, 6144]⟩
abbrev S256x2048 : Shape := ⟨2, ![256, 2048]⟩
abbrev S1x128x512 : Shape := ⟨3, ![1, 128, 512]⟩
abbrev S128x512 : Shape := ⟨2, ![128, 512]⟩

abbrev nBuf : Space → Nat
  | .hbm => 190
  | .vmem => 24
  | .smem => 0
  | _ => 0

abbrev hbmTy0_0 (i : Nat) : BufTy := match i % 128 with
  | 0 => ⟨S16384x1024, .f32⟩
  | 1 => ⟨S16384x1024, .f32⟩
  | 2 => ⟨S16384x3072, .f32⟩
  | 3 => ⟨S16384x1024, .f32⟩
  | 4 => ⟨S16384x6144, .bf16⟩
  | 5 => ⟨S16384x2048, .f32⟩
  | 6 => ⟨S1x2048, .f32⟩
  | 7 => ⟨S1024x2048, .f32⟩
  | 8 => ⟨S4x128x512, .f32⟩
  | 9 => ⟨S2048, .f32⟩
  | 10 => ⟨S1024x2048, .bf16⟩
  | 11 => ⟨S2048x2048, .f32⟩
  | 12 => ⟨S256, .i32⟩
  | 13 => ⟨S_, .i32⟩
  | 14 => ⟨S256, .i32⟩
  | 15 => ⟨S256, .i32⟩
  | 16 => ⟨S_, .i32⟩
  | 17 => ⟨S256, .i32⟩
  | 18 => ⟨S256, .i32⟩
  | 19 => ⟨S_, .i32⟩
  | 20 => ⟨S256, .i32⟩
  | 21 => ⟨S256, .i32⟩
  | 22 => ⟨S_, .i32⟩
  | 23 => ⟨S256, .i32⟩
  | 24 => ⟨S256, .i32⟩
  | 25 => ⟨S_, .i32⟩
  | 26 => ⟨S256, .i32⟩
  | 27 => ⟨S256, .i32⟩
  | 28 => ⟨S_, .i32⟩
  | 29 => ⟨S256, .i32⟩
  | 30 => ⟨S256, .i32⟩
  | 31 => ⟨S_, .i32⟩
  | 32 => ⟨S256, .i32⟩
  | 33 => ⟨S256, .i32⟩
  | 34 => ⟨S256x1, .i32⟩
  | 35 => ⟨S1x256, .i32⟩
  | 36 => ⟨S256x256, .i32⟩
  | 37 => ⟨S256x256, .i32⟩
  | 38 => ⟨S256x256, .i1⟩
  | 39 => ⟨S1x256, .i32⟩
  | 40 => ⟨S256x1, .i32⟩
  | 41 => ⟨S256x256, .i32⟩
  | 42 => ⟨S256x256, .i32⟩
  | 43 => ⟨S256x256, .i1⟩
  | 44 => ⟨S256x256, .i1⟩
  | 45 => ⟨S1x256, .i32⟩
  | 46 => ⟨S256x1, .i32⟩
  | 47 => ⟨S256x256, .i32⟩
  | 48 => ⟨S256x256, .i32⟩
  | 49 => ⟨S256x256, .i1⟩
  | 50 => ⟨S256x256, .i1⟩
  | 51 => ⟨S256x256, .bf16⟩
  | 52 => ⟨S256, .i32⟩
  | 53 => ⟨S256, .f32⟩
  | 54 => ⟨S_, .f32⟩
  | 55 => ⟨S256, .f32⟩
  | 56 => ⟨S256, .f32⟩
  | 57 => ⟨S256x1, .f32⟩
  | 58 => ⟨S256x128, .f32⟩
  | 59 => ⟨S_, .i32⟩
  | 60 => ⟨S256, .i32⟩
  | 61 => ⟨S256, .i32⟩
  | 62 => ⟨S_, .i32⟩
  | 63 => ⟨S256, .i32⟩
  | 64 => ⟨S256, .i32⟩
  | 65 => ⟨S_, .i32⟩
  | 66 => ⟨S256, .i32⟩
  | 67 => ⟨S256, .i32⟩
  | 68 => ⟨S_, .i32⟩
  | 69 => ⟨S256, .i32⟩
  | 70 => ⟨S256, .i32⟩
  | 71 => ⟨S_, .i32⟩
  | 72 => ⟨S256, .i32⟩
  | 73 => ⟨S256, .i32⟩
  | 74 => ⟨S256x1, .i32⟩
  | 75 => ⟨S1x256, .i32⟩
  | 76 => ⟨S256x256, .i32⟩
  | 77 => ⟨S256x256, .i32⟩
  | 78 => ⟨S256x256, .i1⟩
  | 79 => ⟨S1x256, .i32⟩
  | 80 => ⟨S256x1, .i32⟩
  | 81 => ⟨S256x256, .i32⟩
  | 82 => ⟨S256x256, .i32⟩
  | 83 => ⟨S256x256, .i1⟩
  | 84 => ⟨S256x256, .i1⟩
  | 85 => ⟨S1x256, .i32⟩
  | 86 => ⟨S256x1, .i32⟩
  | 87 => ⟨S256x256, .i32⟩
  | 88 => ⟨S256x256, .i32⟩
  | 89 => ⟨S256x256, .i1⟩
  | 90 => ⟨S256x256, .i1⟩
  | 91 => ⟨S256x256, .bf16⟩
  | 92 => ⟨S256, .i32⟩
  | 93 => ⟨S256, .f32⟩
  | 94 => ⟨S_, .f32⟩
  | 95 => ⟨S256, .f32⟩
  | 96 => ⟨S256, .f32⟩
  | 97 => ⟨S256x1, .f32⟩
  | 98 => ⟨S256x128, .f32⟩
  | 99 => ⟨S_, .i32⟩
  | 100 => ⟨S256, .i32⟩
  | 101 => ⟨S256, .i32⟩
  | 102 => ⟨S_, .i32⟩
  | 103 => ⟨S256, .i32⟩
  | 104 => ⟨S256, .i32⟩
  | 105 => ⟨S_, .i32⟩
  | 106 => ⟨S256, .i32⟩
  | 107 => ⟨S256, .i32⟩
  | 108 => ⟨S_, .i32⟩
  | 109 => ⟨S256, .i32⟩
  | 110 => ⟨S256, .i32⟩
  | 111 => ⟨S_, .i32⟩
  | 112 => ⟨S256, .i32⟩
  | 113 => ⟨S256, .i32⟩
  | 114 => ⟨S256x1, .i32⟩
  | 115 => ⟨S1x256, .i32⟩
  | 116 => ⟨S256x256, .i32⟩
  | 117 => ⟨S256x256, .i32⟩
  | 118 => ⟨S256x256, .i1⟩
  | 119 => ⟨S1x256, .i32⟩
  | 120 => ⟨S256x1, .i32⟩
  | 121 => ⟨S256x256, .i32⟩
  | 122 => ⟨S256x256, .i32⟩
  | 123 => ⟨S256x256, .i1⟩
  | 124 => ⟨S256x256, .i1⟩
  | 125 => ⟨S1x256, .i32⟩
  | 126 => ⟨S256x1, .i32⟩
  | 127 => ⟨S256x256, .i32⟩
  | _ => ⟨S16384x1024, .f32⟩

abbrev hbmTy0_1 (i : Nat) : BufTy := match i % 128 with
  | 0 => ⟨S256x256, .i32⟩
  | 1 => ⟨S256x256, .i1⟩
  | 2 => ⟨S256x256, .i1⟩
  | 3 => ⟨S256x256, .bf16⟩
  | 4 => ⟨S256, .i32⟩
  | 5 => ⟨S256, .f32⟩
  | 6 => ⟨S_, .f32⟩
  | 7 => ⟨S256, .f32⟩
  | 8 => ⟨S256, .f32⟩
  | 9 => ⟨S256x1, .f32⟩
  | 10 => ⟨S256x128, .f32⟩
  | 11 => ⟨S_, .i32⟩
  | 12 => ⟨S256, .i32⟩
  | 13 => ⟨S256, .i32⟩
  | 14 => ⟨S_, .i32⟩
  | 15 => ⟨S256, .i32⟩
  | 16 => ⟨S256, .i32⟩
  | 17 => ⟨S_, .i32⟩
  | 18 => ⟨S256, .i32⟩
  | 19 => ⟨S256, .i32⟩
  | 20 => ⟨S_, .i32⟩
  | 21 => ⟨S256, .i32⟩
  | 22 => ⟨S256, .i32⟩
  | 23 => ⟨S_, .i32⟩
  | 24 => ⟨S256, .i32⟩
  | 25 => ⟨S256, .i32⟩
  | 26 => ⟨S256x1, .i32⟩
  | 27 => ⟨S1x256, .i32⟩
  | 28 => ⟨S256x256, .i32⟩
  | 29 => ⟨S256x256, .i32⟩
  | 30 => ⟨S256x256, .i1⟩
  | 31 => ⟨S1x256, .i32⟩
  | 32 => ⟨S256x1, .i32⟩
  | 33 => ⟨S256x256, .i32⟩
  | 34 => ⟨S256x256, .i32⟩
  | 35 => ⟨S256x256, .i1⟩
  | 36 => ⟨S256x256, .i1⟩
  | 37 => ⟨S1x256, .i32⟩
  | 38 => ⟨S256x1, .i32⟩
  | 39 => ⟨S256x256, .i32⟩
  | 40 => ⟨S256x256, .i32⟩
  | 41 => ⟨S256x256, .i1⟩
  | 42 => ⟨S256x256, .i1⟩
  | 43 => ⟨S256x256, .bf16⟩
  | 44 => ⟨S256, .i32⟩
  | 45 => ⟨S256, .f32⟩
  | 46 => ⟨S_, .f32⟩
  | 47 => ⟨S256, .f32⟩
  | 48 => ⟨S256, .f32⟩
  | 49 => ⟨S256x1, .f32⟩
  | 50 => ⟨S256x128, .f32⟩
  | 51 => ⟨S1x256x256, .bf16⟩
  | 52 => ⟨S1x256x256, .bf16⟩
  | 53 => ⟨S1x256x256, .bf16⟩
  | 54 => ⟨S1x256x256, .bf16⟩
  | 55 => ⟨S4x256x256, .bf16⟩
  | 56 => ⟨S256x512, .f32⟩
  | 57 => ⟨S1024x2048, .bf16⟩
  | 58 => ⟨S4x128x512, .bf16⟩
  | 59 => ⟨S1x2048, .f32⟩
  | 60 => ⟨S2048x2048, .bf16⟩
  | 61 => ⟨S16384x2048, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x6144, .bf16⟩
  | .local _ .vmem, ⟨11, _⟩ => ⟨S256x6144, .bf16⟩
  | .local _ .vmem, ⟨12, _⟩ => ⟨S256x2048, .f32⟩
  | .local _ .vmem, ⟨13, _⟩ => ⟨S256x2048, .f32⟩
  | .local _ .vmem, ⟨14, _⟩ => ⟨S1x2048, .f32⟩
  | .local _ .vmem, ⟨15, _⟩ => ⟨S1024x2048, .bf16⟩
  | .local _ .vmem, ⟨16, _⟩ => ⟨S4x256x256, .bf16⟩
  | .local _ .vmem, ⟨17, _⟩ => ⟨S256x512, .f32⟩
  | .local _ .vmem, ⟨18, _⟩ => ⟨S4x128x512, .bf16⟩
  | .local _ .vmem, ⟨19, _⟩ => ⟨S1x2048, .f32⟩
  | .local _ .vmem, ⟨20, _⟩ => ⟨S1024x2048, .bf16⟩
  | .local _ .vmem, ⟨21, _⟩ => ⟨S2048x2048, .bf16⟩
  | .local _ .vmem, ⟨22, _⟩ => ⟨S256x2048, .f32⟩
  | .local _ .vmem, ⟨23, _⟩ => ⟨S256x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_c_1 : Ref sig .tc := ⟨.hbm, 19, rfl⟩
abbrev main_v5 : Ref sig .tc := ⟨.hbm, 20, rfl⟩
abbrev main_v6 : Ref sig .tc := ⟨.hbm, 21, rfl⟩
abbrev main_c_2 : Ref sig .tc := ⟨.hbm, 22, rfl⟩
abbrev main_v7 : Ref sig .tc := ⟨.hbm, 23, rfl⟩
abbrev main_v8 : Ref sig .tc := ⟨.hbm, 24, rfl⟩
abbrev main_c_3 : Ref sig .tc := ⟨.hbm, 25, rfl⟩
abbrev main_v9 : Ref sig .tc := ⟨.hbm, 26, rfl⟩
abbrev main_v10 : Ref sig .tc := ⟨.hbm, 27, rfl⟩
abbrev main_c_4 : Ref sig .tc := ⟨.hbm, 28, rfl⟩
abbrev main_v11 : Ref sig .tc := ⟨.hbm, 29, rfl⟩
abbrev main_v12 : Ref sig .tc := ⟨.hbm, 30, rfl⟩
abbrev main_c_5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_6 : Ref sig .tc := ⟨.hbm, 59, rfl⟩
abbrev main_v39 : Ref sig .tc := ⟨.hbm, 60, rfl⟩
abbrev main_v40 : Ref sig .tc := ⟨.hbm, 61, rfl⟩
abbrev main_c_7 : Ref sig .tc := ⟨.hbm, 62, rfl⟩
abbrev main_v41 : Ref sig .tc := ⟨.hbm, 63, rfl⟩
abbrev main_v42 : Ref sig .tc := ⟨.hbm, 64, rfl⟩
abbrev main_c_8 : Ref sig .tc := ⟨.hbm, 65, rfl⟩
abbrev main_v43 : Ref sig .tc := ⟨.hbm, 66, rfl⟩
abbrev main_v44 : Ref sig .tc := ⟨.hbm, 67, rfl⟩
abbrev main_c_9 : Ref sig .tc := ⟨.hbm, 68, rfl⟩
abbrev main_v45 : Ref sig .tc := ⟨.hbm, 69, rfl⟩
abbrev main_v46 : Ref sig .tc := ⟨.hbm, 70, rfl⟩
abbrev main_c_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_11 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_12 : Ref sig .tc := ⟨.hbm, 99, rfl⟩
abbrev main_v73 : Ref sig .tc := ⟨.hbm, 100, rfl⟩
abbrev main_v74 : Ref sig .tc := ⟨.hbm, 101, rfl⟩
abbrev main_c_13 : Ref sig .tc := ⟨.hbm, 102, rfl⟩
abbrev main_v75 : Ref sig .tc := ⟨.hbm, 103, rfl⟩
abbrev main_v76 : Ref sig .tc := ⟨.hbm, 104, rfl⟩
abbrev main_c_14 : Ref sig .tc := ⟨.hbm, 105, rfl⟩
abbrev main_v77 : Ref sig .tc := ⟨.hbm, 106, rfl⟩
abbrev main_v78 : Ref sig .tc := ⟨.hbm, 107, rfl⟩
abbrev main_c_15 : Ref sig .tc := ⟨.hbm, 108, rfl⟩
abbrev main_v79 : Ref sig .tc := ⟨.hbm, 109, rfl⟩
abbrev main_v80 : Ref sig .tc := ⟨.hbm, 110, rfl⟩
abbrev main_c_16 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_17 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_c_18 : Ref sig .tc := ⟨.hbm, 139, rfl⟩
abbrev main_v107 : Ref sig .tc := ⟨.hbm, 140, rfl⟩
abbrev main_v108 : Ref sig .tc := ⟨.hbm, 141, rfl⟩
abbrev main_c_19 : Ref sig .tc := ⟨.hbm, 142, rfl⟩
abbrev main_v109 : Ref sig .tc := ⟨.hbm, 143, rfl⟩
abbrev main_v110 : Ref sig .tc := ⟨.hbm, 144, rfl⟩
abbrev main_c_20 : Ref sig .tc := ⟨.hbm, 145, rfl⟩
abbrev main_v111 : Ref sig .tc := ⟨.hbm, 146, rfl⟩
abbrev main_v112 : Ref sig .tc := ⟨.hbm, 147, rfl⟩
abbrev main_c_21 : Ref sig .tc := ⟨.hbm, 148, rfl⟩
abbrev main_v113 : Ref sig .tc := ⟨.hbm, 149, rfl⟩
abbrev main_v114 : Ref sig .tc := ⟨.hbm, 150, rfl⟩
abbrev main_c_22 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_cst_23 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2048x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference5Ideal.lean ====
abbrev S16384x1024 : Shape := ⟨2, ![16384, 1024]⟩
abbrev S16384x3072 : Shape := ⟨2, ![16384, 3072]⟩
abbrev S16384x6144 : Shape := ⟨2, ![16384, 6144]⟩
abbrev S16384x2048 : Shape := ⟨2, ![16384, 2048]⟩
abbrev S1x2048 : Shape := ⟨2, ![1, 2048]⟩
abbrev S1024x2048 : Shape := ⟨2, ![1024, 2048]⟩
abbrev S4x128x512 : Shape := ⟨3, ![4, 128, 512]⟩
abbrev S2048 : Shape := ⟨1, ![2048]⟩
abbrev S2048x2048 : Shape := ⟨2, ![2048, 2048]⟩
abbrev S16384x512 : Shape := ⟨2, ![16384, 512]⟩
abbrev S_ : Shape := ⟨0, ![]⟩
abbrev S256x64x4x128 : Shape := ⟨4, ![256, 64, 4, 128]⟩
abbrev S64 : Shape := ⟨1, ![64]⟩
abbrev S256x64x1x128 : Shape := ⟨4, ![256, 64, 1, 128]⟩
abbrev S256x64x128 : Shape := ⟨3, ![256, 64, 128]⟩
abbrev S256x65x128 : Shape := ⟨3, ![256, 65, 128]⟩
abbrev S64x1 : Shape := ⟨2, ![64, 1]⟩
abbrev S1x64x1 : Shape := ⟨3, ![1, 64, 1]⟩
abbrev S256x67x128 : Shape := ⟨3, ![256, 67, 128]⟩
abbrev S256x71x128 : Shape := ⟨3, ![256, 71, 128]⟩
abbrev S256x79x128 : Shape := ⟨3, ![256, 79, 128]⟩
abbrev S16384x4x128 : Shape := ⟨3, ![16384, 4, 128]⟩
abbrev S4x512x16384 : Shape := ⟨3, ![4, 512, 16384]⟩
abbrev S16384x4x512 : Shape := ⟨3, ![16384, 4, 512]⟩

abbrev nBuf : Space → Nat
  | .hbm => 275
  | .vmem => 0
  | .smem => 0
  | _ => 0

abbrev hbmTy0_0 (i : Nat) : BufTy := match i % 128 with
  | 0 => ⟨S16384x1024, .f32⟩
  | 1 => ⟨S16384x1024, .f32⟩
  | 2 => ⟨S16384x3072, .f32⟩
  | 3 => ⟨S16384x1024, .f32⟩
  | 4 => ⟨S16384x6144, .bf16⟩
  | 5 => ⟨S16384x2048, .f32⟩
  | 6 => ⟨S1x2048, .f32⟩
  | 7 => ⟨S1024x2048, .f32⟩
  | 8 => ⟨S4x128x512, .f32⟩
  | 9 => ⟨S2048, .f32⟩
  | 10 => ⟨S1024x2048, .bf16⟩
  | 11 => ⟨S2048x2048, .f32⟩
  | 12 => ⟨S16384x1024, .f32⟩
  | 13 => ⟨S16384x512, .f32⟩
  | 14 => ⟨S16384x1024, .f32⟩
  | 15 => ⟨S16384x1024, .f32⟩
  | 16 => ⟨S16384x1024, .f32⟩
  | 17 => ⟨S_, .f32⟩
  | 18 => ⟨S16384x1024, .f32⟩
  | 19 => ⟨S16384x1024, .f32⟩
  | 20 => ⟨S16384x1024, .f32⟩
  | 21 => ⟨S_, .f32⟩
  | 22 => ⟨S16384x1024, .f32⟩
  | 23 => ⟨S16384x1024, .f32⟩
  | 24 => ⟨S16384x1024, .f32⟩
  | 25 => ⟨S_, .f32⟩
  | 26 => ⟨S16384x1024, .f32⟩
  | 27 => ⟨S16384x1024, .f32⟩
  | 28 => ⟨S_, .f32⟩
  | 29 => ⟨S16384x1024, .f32⟩
  | 30 => ⟨S16384x1024, .f32⟩
  | 31 => ⟨S16384x1024, .f32⟩
  | 32 => ⟨S16384x1024, .f32⟩
  | 33 => ⟨S16384x2048, .f32⟩
  | 34 => ⟨S256x64x4x128, .f32⟩
  | 35 => ⟨S64, .i32⟩
  | 36 => ⟨S256x64x1x128, .f32⟩
  | 37 => ⟨S256x64x128, .f32⟩
  | 38 => ⟨S_, .i32⟩
  | 39 => ⟨S_, .f32⟩
  | 40 => ⟨S256x65x128, .f32⟩
  | 41 => ⟨S256x64x128, .f32⟩
  | 42 => ⟨S256x64x128, .f32⟩
  | 43 => ⟨S256x64x128, .f32⟩
  | 44 => ⟨S_, .i32⟩
  | 45 => ⟨S64, .i32⟩
  | 46 => ⟨S64, .i32⟩
  | 47 => ⟨S_, .i32⟩
  | 48 => ⟨S_, .i32⟩
  | 49 => ⟨S_, .i32⟩
  | 50 => ⟨S64, .i32⟩
  | 51 => ⟨S64, .i32⟩
  | 52 => ⟨S_, .i32⟩
  | 53 => ⟨S64, .i32⟩
  | 54 => ⟨S64, .i32⟩
  | 55 => ⟨S_, .i32⟩
  | 56 => ⟨S64, .i32⟩
  | 57 => ⟨S64, .i32⟩
  | 58 => ⟨S_, .i32⟩
  | 59 => ⟨S64, .i32⟩
  | 60 => ⟨S64, .i32⟩
  | 61 => ⟨S_, .i32⟩
  | 62 => ⟨S_, .i32⟩
  | 63 => ⟨S_, .i32⟩
  | 64 => ⟨S64, .i32⟩
  | 65 => ⟨S64, .i32⟩
  | 66 => ⟨S_, .i32⟩
  | 67 => ⟨S64, .i32⟩
  | 68 => ⟨S64, .i32⟩
  | 69 => ⟨S64, .i32⟩
  | 70 => ⟨S64, .f32⟩
  | 71 => ⟨S64x1, .f32⟩
  | 72 => ⟨S1x64x1, .f32⟩
  | 73 => ⟨S256x64x128, .f32⟩
  | 74 => ⟨S256x64x128, .f32⟩
  | 75 => ⟨S256x64x1x128, .f32⟩
  | 76 => ⟨S256x64x128, .f32⟩
  | 77 => ⟨S256x64x128, .f32⟩
  | 78 => ⟨S256x64x1x128, .f32⟩
  | 79 => ⟨S256x64x128, .f32⟩
  | 80 => ⟨S_, .i32⟩
  | 81 => ⟨S_, .f32⟩
  | 82 => ⟨S256x67x128, .f32⟩
  | 83 => ⟨S256x64x128, .f32⟩
  | 84 => ⟨S256x64x128, .f32⟩
  | 85 => ⟨S256x64x128, .f32⟩
  | 86 => ⟨S256x64x128, .f32⟩
  | 87 => ⟨S256x64x128, .f32⟩
  | 88 => ⟨S256x64x128, .f32⟩
  | 89 => ⟨S256x64x128, .f32⟩
  | 90 => ⟨S_, .i32⟩
  | 91 => ⟨S64, .i32⟩
  | 92 => ⟨S64, .i32⟩
  | 93 => ⟨S_, .i32⟩
  | 94 => ⟨S_, .i32⟩
  | 95 => ⟨S_, .i32⟩
  | 96 => ⟨S64, .i32⟩
  | 97 => ⟨S64, .i32⟩
  | 98 => ⟨S_, .i32⟩
  | 99 => ⟨S64, .i32⟩
  | 100 => ⟨S64, .i32⟩
  | 101 => ⟨S_, .i32⟩
  | 102 => ⟨S64, .i32⟩
  | 103 => ⟨S64, .i32⟩
  | 104 => ⟨S_, .i32⟩
  | 105 => ⟨S64, .i32⟩
  | 106 => ⟨S64, .i32⟩
  | 107 => ⟨S_, .i32⟩
  | 108 => ⟨S_, .i32⟩
  | 109 => ⟨S_, .i32⟩
  | 110 => ⟨S64, .i32⟩
  | 111 => ⟨S64, .i32⟩
  | 112 => ⟨S_, .i32⟩
  | 113 => ⟨S64, .i32⟩
  | 114 => ⟨S64, .i32⟩
  | 115 => ⟨S64, .i32⟩
  | 116 => ⟨S64, .f32⟩
  | 117 => ⟨S64x1, .f32⟩
  | 118 => ⟨S1x64x1, .f32⟩
  | 119 => ⟨S256x64x128, .f32⟩
  | 120 => ⟨S256x64x128, .f32⟩
  | 121 => ⟨S256x64x1x128, .f32⟩
  | 122 => ⟨S256x64x128, .f32⟩
  | 123 => ⟨S256x64x128, .f32⟩
  | 124 => ⟨S256x64x1x128, .f32⟩
  | 125 => ⟨S256x64x128, .f32⟩
  | 126 => ⟨S_, .i32⟩
  | 127 => ⟨S_, .f32⟩
  | _ => ⟨S16384x1024, .f32⟩

abbrev hbmTy0_1 (i : Nat) : BufTy := match i % 128 with
  | 0 => ⟨S256x71x128, .f32⟩
  | 1 => ⟨S256x64x128, .f32⟩
  | 2 => ⟨S256x64x128, .f32⟩
  | 3 => ⟨S256x64x128, .f32⟩
  | 4 => ⟨S256x64x128, .f32⟩
  | 5 => ⟨S256x64x128, .f32⟩
  | 6 => ⟨S256x64x128, .f32⟩
  | 7 => ⟨S256x64x128, .f32⟩
  | 8 => ⟨S256x64x128, .f32⟩
  | 9 => ⟨S256x64x128, .f32⟩
  | 10 => ⟨S256x64x128, .f32⟩
  | 11 => ⟨S256x64x128, .f32⟩
  | 12 => ⟨S256x64x128, .f32⟩
  | 13 => ⟨S256x64x128, .f32⟩
  | 14 => ⟨S256x64x128, .f32⟩
  | 15 => ⟨S256x64x128, .f32⟩
  | 16 => ⟨S_, .i32⟩
  | 17 => ⟨S64, .i32⟩
  | 18 => ⟨S64, .i32⟩
  | 19 => ⟨S_, .i32⟩
  | 20 => ⟨S_, .i32⟩
  | 21 => ⟨S_, .i32⟩
  | 22 => ⟨S64, .i32⟩
  | 23 => ⟨S64, .i32⟩
  | 24 => ⟨S_, .i32⟩
  | 25 => ⟨S64, .i32⟩
  | 26 => ⟨S64, .i32⟩
  | 27 => ⟨S_, .i32⟩
  | 28 => ⟨S64, .i32⟩
  | 29 => ⟨S64, .i32⟩
  | 30 => ⟨S_, .i32⟩
  | 31 => ⟨S64, .i32⟩
  | 32 => ⟨S64, .i32⟩
  | 33 => ⟨S_, .i32⟩
  | 34 => ⟨S_, .i32⟩
  | 35 => ⟨S_, .i32⟩
  | 36 => ⟨S64, .i32⟩
  | 37 => ⟨S64, .i32⟩
  | 38 => ⟨S_, .i32⟩
  | 39 => ⟨S64, .i32⟩
  | 40 => ⟨S64, .i32⟩
  | 41 => ⟨S64, .i32⟩
  | 42 => ⟨S64, .f32⟩
  | 43 => ⟨S64x1, .f32⟩
  | 44 => ⟨S1x64x1, .f32⟩
  | 45 => ⟨S256x64x128, .f32⟩
  | 46 => ⟨S256x64x128, .f32⟩
  | 47 => ⟨S256x64x1x128, .f32⟩
  | 48 => ⟨S256x64x128, .f32⟩
  | 49 => ⟨S256x64x128, .f32⟩
  | 50 => ⟨S256x64x1x128, .f32⟩
  | 51 => ⟨S256x64x128, .f32⟩
  | 52 => ⟨S_, .i32⟩
  | 53 => ⟨S_, .f32⟩
  | 54 => ⟨S256x79x128, .f32⟩
  | 55 => ⟨S256x64x128, .f32⟩
  | 56 => ⟨S256x64x128, .f32⟩
  | 57 => ⟨S256x64x128, .f32⟩
  | 58 => ⟨S256x64x128, .f32⟩
  | 59 => ⟨S256x64x128, .f32⟩
  | 60 => ⟨S256x64x128, .f32⟩
  | 61 => ⟨S256x64x128, .f32⟩
  | 62 => ⟨S256x64x128, .f32⟩
  | 63 => ⟨S256x64x128, .f32⟩
  | 64 => ⟨S256x64x128, .f32⟩
  | 65 => ⟨S256x64x128, .f32⟩
  | 66 => ⟨S256x64x128, .f32⟩
  | 67 => ⟨S256x64x128, .f32⟩
  | 68 => ⟨S256x64x128, .f32⟩
  | 69 => ⟨S256x64x128, .f32⟩
  | 70 => ⟨S256x64x128, .f32⟩
  | 71 => ⟨S256x64x128, .f32⟩
  | 72 => ⟨S256x64x128, .f32⟩
  | 73 => ⟨S256x64x128, .f32⟩
  | 74 => ⟨S256x64x128, .f32⟩
  | 75 => ⟨S256x64x128, .f32⟩
  | 76 => ⟨S256x64x128, .f32⟩
  | 77 => ⟨S256x64x128, .f32⟩
  | 78 => ⟨S256x64x128, .f32⟩
  | 79 => ⟨S256x64x128, .f32⟩
  | 80 => ⟨S256x64x128, .f32⟩
  | 81 => ⟨S256x64x128, .f32⟩
  | 82 => ⟨S256x64x128, .f32⟩
  | 83 => ⟨S256x64x128, .f32⟩
  | 84 => ⟨S256x64x128, .f32⟩
  | 85 => ⟨S256x64x128, .f32⟩
  | 86 => ⟨S_, .i32⟩
  | 87 => ⟨S64, .i32⟩
  | 88 => ⟨S64, .i32⟩
  | 89 => ⟨S_, .i32⟩
  | 90 => ⟨S_, .i32⟩
  | 91 => ⟨S_, .i32⟩
  | 92 => ⟨S64, .i32⟩
  | 93 => ⟨S64, .i32⟩
  | 94 => ⟨S_, .i32⟩
  | 95 => ⟨S64, .i32⟩
  | 96 => ⟨S64, .i32⟩
  | 97 => ⟨S_, .i32⟩
  | 98 => ⟨S64, .i32⟩
  | 99 => ⟨S64, .i32⟩
  | 100 => ⟨S_, .i32⟩
  | 101 => ⟨S64, .i32⟩
  | 102 => ⟨S64, .i32⟩
  | 103 => ⟨S_, .i32⟩
  | 104 => ⟨S_, .i32⟩
  | 105 => ⟨S_, .i32⟩
  | 106 => ⟨S64, .i32⟩
  | 107 => ⟨S64, .i32⟩
  | 108 => ⟨S_, .i32⟩
  | 109 => ⟨S64, .i32⟩
  | 110 => ⟨S64, .i32⟩
  | 111 => ⟨S64, .i32⟩
  | 112 => ⟨S64, .f32⟩
  | 113 => ⟨S64x1, .f32⟩
  | 114 => ⟨S1x64x1, .f32⟩
  | 115 => ⟨S256x64x128, .f32⟩
  | 116 => ⟨S256x64x128, .f32⟩
  | 117 => ⟨S256x64x1x128, .f32⟩
  | 118 => ⟨S256x64x128, .f32⟩
  | 119 => ⟨S256x64x128, .f32⟩
  | 120 => ⟨S256x64x1x128, .f32⟩
  | 121 => ⟨S256x64x1x128, .f32⟩
  | 122 => ⟨S256x64x1x128, .f32⟩
  | 123 => ⟨S256x64x1x128, .f32⟩
  | 124 => ⟨S256x64x4x128, .f32⟩
  | 125 => ⟨S16384x4x128, .f32⟩
  | 126 => ⟨S4x512x16384, .f32⟩
  | 127 => ⟨S16384x4x512, .f32⟩
  | _ => ⟨S16384x1024, .f32⟩

abbrev hbmTy0_2 (i : Nat) : BufTy := match i % 128 with
  | 0 => ⟨S16384x2048, .f32⟩
  | 1 => ⟨S1x2048, .f32⟩
  | 2 => ⟨S16384x2048, .f32⟩
  | 3 => ⟨S16384x2048, .f32⟩
  | 4 => ⟨S1024x2048, .f32⟩
  | 5 => ⟨S16384x2048, .f32⟩
  | 6 => ⟨S16384x6144, .f32⟩
  | 7 => ⟨S16384x2048, .f32⟩
  | 8 => ⟨S16384x2048, .f32⟩
  | 9 => ⟨S16384x2048, .f32⟩
  | 10 => ⟨S16384x2048, .f32⟩
  | 11 => ⟨S16384x2048, .f32⟩
  | 12 => ⟨S16384x2048, .f32⟩
  | 13 => ⟨S16384x2048, .f32⟩
  | 14 => ⟨S16384x2048, .f32⟩
  | 15 => ⟨S16384x2048, .f32⟩
  | 16 => ⟨S16384x2048, .f32⟩
  | 17 => ⟨S16384x2048, .f32⟩
  | 18 => ⟨S16384x2048, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c : Ref sig .tc := ⟨.hbm, 38, rfl⟩
abbrev main_call0_v0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_3 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_c_5 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v28 : Ref sig .tc := ⟨.hbm, 54, rfl⟩
abbrev main_c_6 : Ref sig .tc := ⟨.hbm, 55, rfl⟩
abbrev main_v29 : Ref sig .tc := ⟨.hbm, 56, rfl⟩
abbrev main_v30 : Ref sig .tc := ⟨.hbm, 57, rfl⟩
abbrev main_c_7 : Ref sig .tc := ⟨.hbm, 58, rfl⟩
abbrev main_v31 : Ref sig .tc := ⟨.hbm, 59, rfl⟩
abbrev main_v32 : Ref sig .tc := ⟨.hbm, 60, rfl⟩
abbrev main_c_8 : Ref sig .tc := ⟨.hbm, 61, rfl⟩
abbrev main_c_9 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_c_10 : Ref sig .tc := ⟨.hbm, 80, rfl⟩
abbrev main_call3_v0 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_c_11 : Ref sig .tc := ⟨.hbm, 90, rfl⟩
abbrev main_v53 : Ref sig .tc := ⟨.hbm, 91, rfl⟩
abbrev main_v54 : Ref sig .tc := ⟨.hbm, 92, rfl⟩
abbrev main_c_12 : Ref sig .tc := ⟨.hbm, 93, rfl⟩
abbrev main_c_13 : Ref sig .tc := ⟨.hbm, 94, rfl⟩
abbrev main_call4_v0 : Ref sig .tc := ⟨.hbm, 95, rfl⟩
abbrev main_call4_v1 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_v55 : Ref sig .tc := ⟨.hbm, 100, rfl⟩
abbrev main_c_14 : Ref sig .tc := ⟨.hbm, 101, rfl⟩
abbrev main_v56 : Ref sig .tc := ⟨.hbm, 102, rfl⟩
abbrev main_v57 : Ref sig .tc := ⟨.hbm, 103, rfl⟩
abbrev main_c_15 : Ref sig .tc := ⟨.hbm, 104, rfl⟩
abbrev main_v58 : Ref sig .tc := ⟨.hbm, 105, rfl⟩
abbrev main_v59 : Ref sig .tc := ⟨.hbm, 106, rfl⟩
abbrev main_c_16 : Ref sig .tc := ⟨.hbm, 107, rfl⟩
abbrev main_c_17 : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_c_18 : Ref sig .tc := ⟨.hbm, 126, rfl⟩
abbrev main_call6_v0 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_c_19 : Ref sig .tc := ⟨.hbm, 144, rfl⟩
abbrev main_v88 : Ref sig .tc := ⟨.hbm, 145, rfl⟩
abbrev main_v89 : Ref sig .tc := ⟨.hbm, 146, rfl⟩
abbrev main_c_20 : Ref sig .tc := ⟨.hbm, 147, rfl⟩
abbrev main_c_21 : Ref sig .tc := ⟨.hbm, 148, rfl⟩
abbrev main_call7_v0 : Ref sig .tc := ⟨.hbm, 149, rfl⟩
abbrev main_call7_v1 : Ref sig .tc := ⟨.hbm, 150, rfl⟩
abbrev main_call7_v2 : Ref sig .tc := ⟨.hbm, 151, rfl⟩
abbrev main_call7_v3 : Ref sig .tc := ⟨.hbm, 152, rfl⟩
abbrev main_call7_v4 : Ref sig .tc := ⟨.hbm, 153, rfl⟩
abbrev main_v90 : Ref sig .tc := ⟨.hbm, 154, rfl⟩
abbrev main_c_22 : Ref sig .tc := ⟨.hbm, 155, rfl⟩
abbrev main_v91 : Ref sig .tc := ⟨.hbm, 156, rfl⟩
abbrev main_v92 : Ref sig .tc := ⟨.hbm, 157, rfl⟩
abbrev main_c_23 : Ref sig .tc := ⟨.hbm, 158, rfl⟩
abbrev main_v93 : Ref sig .tc := ⟨.hbm, 159, rfl⟩
abbrev main_v94 : Ref sig .tc := ⟨.hbm, 160, rfl⟩
abbrev main_c_24 : Ref sig .tc := ⟨.hbm, 161, rfl⟩
abbrev main_c_25 : Ref sig .tc := ⟨.hbm, 162, rfl⟩
abbrev main_call8_v0 : Ref sig .tc := ⟨.hbm, 163, rfl⟩
abbrev main_call8_v1 : Ref sig .tc := ⟨.hbm, 164, rfl⟩
abbrev main_call8_v2 : Ref sig .tc := ⟨.hbm, 165, rfl⟩
abbrev main_call8_v3 : Ref sig .tc := ⟨.hbm, 166, rfl⟩
abbrev main_call8_v4 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_c_26 : Ref sig .tc := ⟨.hbm, 180, rfl⟩
abbrev main_call9_v0 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_c_27 : Ref sig .tc := ⟨.hbm, 214, rfl⟩
abbrev main_v139 : Ref sig .tc := ⟨.hbm, 215, rfl⟩
abbrev main_v140 : Ref sig .tc := ⟨.hbm, 216, rfl⟩
abbrev main_c_28 : Ref sig .tc := ⟨.hbm, 217, rfl⟩
abbrev main_c_29 : Ref sig .tc := ⟨.hbm, 218, rfl⟩
abbrev main_call10_v0 : Ref sig .tc := ⟨.hbm, 219, rfl⟩
abbrev main_call10_v1 : Ref sig .tc := ⟨.hbm, 220, rfl⟩
abbrev main_call10_v2 : Ref sig .tc := ⟨.hbm, 221, rfl⟩
abbrev main_call10_v3 : Ref sig .tc := ⟨.hbm, 222, rfl⟩
abbrev main_call10_v4 : Ref sig .tc := ⟨.hbm, 223, rfl⟩
abbrev main_v141 : Ref sig .tc := ⟨.hbm, 224, rfl⟩
abbrev main_c_30 : Ref sig .tc := ⟨.hbm, 225, rfl⟩
abbrev main_v142 : Ref sig .tc := ⟨.hbm, 226, rfl⟩
abbrev main_v143 : Ref sig .tc := ⟨.hbm, 227, rfl⟩
abbrev main_c_31 : Ref sig .tc := ⟨.hbm, 228, rfl⟩
abbrev main_v144 : Ref sig .tc := ⟨.hbm, 229, rfl⟩
abbrev main_v145 : Ref sig .tc := ⟨.hbm, 230, rfl⟩
abbrev main_c_32 : Ref sig .tc := ⟨.hbm, 231, rfl⟩
abbrev main_c_33 : Ref sig .tc := ⟨.hbm, 232, rfl⟩
abbrev main_call11_v0 : Ref sig .tc := ⟨.hbm, 233, rfl⟩
abbrev main_call11_v1 : Ref sig .tc := ⟨.hbm, 234, rfl⟩
abbrev main_call11_v2 : Ref sig .tc := ⟨.hbm, 235, rfl⟩
abbrev main_call11_v3 : Ref sig .tc := ⟨.hbm, 236, rfl⟩
abbrev main_call11_v4 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_v153 : Ref sig .tc := ⟨.hbm, 245, rfl⟩
abbrev main_v154 : Ref sig .tc := ⟨.hbm, 246, rfl⟩
abbrev main_v155 : Ref sig .tc := ⟨.hbm, 247, rfl⟩
abbrev main_v156 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_v160 : Ref sig .tc := ⟨.hbm, 252, rfl⟩
abbrev main_v161 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_v167 : Ref sig .tc := ⟨.hbm, 259, rfl⟩
abbrev main_v168 : Ref sig .tc := ⟨.hbm, 260, rfl⟩
abbrev main_v169 : Ref sig .tc := ⟨.hbm, 261, rfl⟩
abbrev main_v170 : Ref sig .tc := ⟨.hbm, 262, rfl⟩
abbrev main_v171 : Ref sig .tc := ⟨.hbm, 263, rfl⟩
abbrev main_v172 : Ref sig .tc := ⟨.hbm, 264, rfl⟩
abbrev main_v173 : Ref sig .tc := ⟨.hbm, 265, rfl⟩
abbrev main_v174 : Ref sig .tc := ⟨.hbm, 266, rfl⟩
abbrev main_v175 : Ref sig .tc := ⟨.hbm, 267, rfl⟩
abbrev main_v176 : Ref sig .tc := ⟨.hbm, 268, rfl⟩
abbrev main_v177 : Ref sig .tc := ⟨.hbm, 269, rfl⟩
abbrev main_v178 : Ref sig .tc := ⟨.hbm, 270, rfl⟩
abbrev main_v179 : Ref sig .tc := ⟨.hbm, 271, rfl⟩
abbrev main_v180 : Ref sig .tc := ⟨.hbm, 272, rfl⟩
abbrev main_v181 : Ref sig .tc := ⟨.hbm, 273, rfl⟩
abbrev main_v182 : Ref sig .tc := ⟨.hbm, 274, rfl⟩

abbrev nD : Nat := 1
abbrev τ : Topo := Topo.v7x

variable {F : FTy → Type} [FloatOps F]
-- ==== Kernel6.lean ====
abbrev S16384x2048 : Shape := ⟨2, ![16384, 2048]⟩
abbrev S2048 : Shape := ⟨1, ![2048]⟩
abbrev S1x2048 : Shape := ⟨2, ![1, 2048]⟩
abbrev S2048x11264 : Shape := ⟨2, ![2048, 11264]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 13
  | .vmem => 17
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S2048, .f32⟩
  | .hbm, ⟨6, _⟩ => ⟨S2048x11264, .f32⟩
  | .hbm, ⟨7, _⟩ => ⟨S5632x2048, .f32⟩
  | .hbm, ⟨8, _⟩ => ⟨S1x2048, .f32⟩
  | .hbm, ⟨9, _⟩ => ⟨S1x2048, .f32⟩
  | .hbm, ⟨10, _⟩ => ⟨S2048x11264, .bf16⟩
  | .hbm, ⟨11, _⟩ => ⟨S5632x2048, .bf16⟩
  | .hbm, ⟨12, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference6Ideal.lean ====
abbrev S16384x2048 : Shape := ⟨2, ![16384, 2048]⟩
abbrev S2048 : Shape := ⟨1, ![2048]⟩
abbrev S1x2048 : Shape := ⟨2, ![1, 2048]⟩
abbrev S2048x11264 : Shape := ⟨2, ![2048, 11264]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S16384x11264 : Shape := ⟨2, ![16384, 11264]⟩
abbrev S16384x5632 : Shape := ⟨2, ![16384, 5632]⟩

abbrev nBuf : Space → Nat
  | .hbm => 48
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S2048, .f32⟩
  | .hbm, ⟨6, _⟩ => ⟨S2048x11264, .f32⟩
  | .hbm, ⟨7, _⟩ => ⟨S5632x2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x11264, .f32⟩
  | .hbm, ⟨32, _⟩ => ⟨S16384x5632, .f32⟩
  | .hbm, ⟨33, _⟩ => ⟨S16384x5632, .f32⟩
  | .hbm, ⟨34, _⟩ => ⟨S16384x5632, .f32⟩
  | .hbm, ⟨35, _⟩ => ⟨S16384x5632, .f32⟩
  | .hbm, ⟨36, _⟩ => ⟨S_, .f32⟩
  | .hbm, ⟨37, _⟩ => ⟨S16384x5632, .f32⟩
  | .hbm, ⟨38, _⟩ => ⟨S16384x5632, .f32⟩
  | .hbm, ⟨39, _⟩ => ⟨S_, .f32⟩
  | .hbm, ⟨40, _⟩ => ⟨S16384x5632, .f32⟩
  | .hbm, ⟨41, _⟩ => ⟨S16384x5632, .f32⟩
  | .hbm, ⟨42, _⟩ => ⟨S16384x5632, .f32⟩
  | .hbm, ⟨43, _⟩ => ⟨S16384x5632, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩

abbrev nD : Nat := 1
abbrev τ : Topo := Topo.v7x

variable {F : FTy → Type} [FloatOps F]
-- ==== Kernel7.lean ====
abbrev S16384x3072 : Shape := ⟨2, ![16384, 3072]⟩
abbrev S4x1024 : Shape := ⟨2, ![4, 1024]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S8x128x256 : Shape := ⟨3, ![8, 128, 256]⟩
abbrev S16384x1024 : Shape := ⟨2, ![16384, 1024]⟩
abbrev S256x1024 : Shape := ⟨2, ![256, 1024]⟩
abbrev S8x1024 : Shape := ⟨2, ![8, 1024]⟩
abbrev S272x1024 : Shape := ⟨2, ![272, 1024]⟩
abbrev S256x128 : Shape := ⟨2, ![256, 128]⟩
abbrev S1x128x256 : Shape := ⟨3, ![1, 128, 256]⟩
abbrev S128x256 : Shape := ⟨2, ![128, 256]⟩
abbrev S256x256 : Shape := ⟨2, ![256, 256]⟩

abbrev nBuf : Space → Nat
  | .hbm => 16
  | .vmem => 19
  | .smem => 0
  | _ => 0

abbrev bufTy : (tb : Table) → Fin (tcTables nBuf tb) → BufTy
  | .hbm, ⟨0, _⟩ => ⟨S16384x3072, .f32⟩
  | .hbm, ⟨1, _⟩ => ⟨S4x1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S8x128x128, .f32⟩
  | .hbm, ⟨6, _⟩ => ⟨S8x128, .f32⟩
  | .hbm, ⟨7, _⟩ => ⟨S1024, .f32⟩
  | .hbm, ⟨8, _⟩ => ⟨S1x1024, .f32⟩
  | .hbm, ⟨9, _⟩ => ⟨S8x128x256, .f32⟩
  | .hbm, ⟨10, _⟩ => ⟨S8x128x256, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S4x1024, .f32⟩
  | .local _ .vmem, ⟨7, _⟩ => ⟨S1x1024, .f32⟩
  | .local _ .vmem, ⟨8, _⟩ => ⟨S8x128x256, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S272x1024, .f32⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_72 : BitVec 32 := 0#32
  let c32_i32 : BitVec 32 := 32#32
  let v143 : BitVec 32 := Scalar.addi c0_i32_72 c32_i32
  let c1_i32 : BitVec 32 := 1#32
  ⟨c0_i32_72, v143, c1_i32⟩
def k0_mult1 (k0_t1 : Fin k0_t1_loop.trips) : BitVec 32 :=
  let c31_i32 : BitVec 32 := 31#32
  let c0_i32_72 : BitVec 32 := 0#32
  let c1_i32 : BitVec 32 := 1#32
  let arg16 : BitVec 32 := Scf.iv c0_i32_72 c1_i32 k0_t1
  let v148 : BitVec 32 := Scalar.subi c31_i32 arg16
  let c8_i32 : BitVec 32 := 8#32
  let v149 : BitVec 32 := Scalar.muli v148 c8_i32
  v149
def k0_off1 (k0_t1 : Fin k0_t1_loop.trips) (c7_i32 : BitVec 32) : Fin 2 → Nat :=
  let c31_i32 : BitVec 32 := 31#32
  let c0_i32_72 : BitVec 32 := 0#32
  let c1_i32 : BitVec 32 := 1#32
  let arg16 : BitVec 32 := Scf.iv c0_i32_72 c1_i32 k0_t1
  let v148 : BitVec 32 := Scalar.subi c31_i32 arg16
  let c8_i32 : BitVec 32 := 8#32
  let v149 : BitVec 32 := Scalar.muli v148 c8_i32
  let v150 : BitVec 32 := v149
  let v151 : BitVec 32 := Scalar.addi v150 c7_i32
  let v152 : Index := Scalar.indexCast v151
  let c0_76 : Index := 0#32
  ![v152.toNat, 0]
def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c1_i32 : BitVec 32 := 1#32
  let v1 : BitVec 32 := Scalar.addi v0 c1_i32
  let c32_i32 : BitVec 32 := 32#32
  let v2 : BitVec 32 := Scalar.muli v1 c32_i32
  let c2047_i32 : BitVec 32 := 2047#32
  let v3 : BitVec 32 := Scalar.minsi v2 c2047_i32
  let c0_i32 : BitVec 32 := 0#32
  let c0_i32_0 : BitVec 32 := 0#32
  ![v3.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference7Ideal.lean ====
abbrev S16384x3072 : Shape := ⟨2, ![16384, 3072]⟩
abbrev S4x1024 : Shape := ⟨2, ![4, 1024]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S16384x1024 : Shape := ⟨2, ![16384, 1024]⟩
abbrev S_ : Shape := ⟨0, ![]⟩
abbrev S16387x1024 : Shape := ⟨2, ![16387, 1024]⟩
abbrev S16384x8x128 : Shape := ⟨3, ![16384, 8, 128]⟩
abbrev S8x128x16384 : Shape := ⟨3, ![8, 128, 16384]⟩
abbrev S1x8x128 : Shape := ⟨3, ![1, 8, 128]⟩

abbrev nBuf : Space → Nat
  | .hbm => 130
  | .vmem => 0
  | .smem => 0
  | _ => 0

abbrev hbmTy0_0 (i : Nat) : BufTy := match i % 128 with
  | 0 => ⟨S16384x3072, .f32⟩
  | 1 => ⟨S4x1024, .f32⟩
  | 2 => ⟨S1024, .f32⟩
  | 3 => ⟨S8x128x128, .f32⟩
  | 4 => ⟨S8x128, .f32⟩
  | 5 => ⟨S8x128x128, .f32⟩
  | 6 => ⟨S8x128, .f32⟩
  | 7 => ⟨S1024, .f32⟩
  | 8 => ⟨S1x1024, .f32⟩
  | 9 => ⟨S16384x1024, .f32⟩
  | 10 => ⟨S_, .i32⟩
  | 11 => ⟨S_, .f32⟩
  | 12 => ⟨S16387x1024, .f32⟩
  | 13 => ⟨S1x1024, .f32⟩
  | 14 => ⟨S1024, .f32⟩
  | 15 => ⟨S16384x1024, .f32⟩
  | 16 => ⟨S1x1024, .f32⟩
  | 17 => ⟨S16384x1024, .f32⟩
  | 18 => ⟨S16384x1024, .f32⟩
  | 19 => ⟨S1x1024, .f32⟩
  | 20 => ⟨S16384x1024, .f32⟩
  | 21 => ⟨S16384x1024, .f32⟩
  | 22 => ⟨S1x1024, .f32⟩
  | 23 => ⟨S1024, .f32⟩
  | 24 => ⟨S16384x1024, .f32⟩
  | 25 => ⟨S1x1024, .f32⟩
  | 26 => ⟨S16384x1024, .f32⟩
  | 27 => ⟨S16384x1024, .f32⟩
  | 28 => ⟨S16384x1024, .f32⟩
  | 29 => ⟨S1x1024, .f32⟩
  | 30 => ⟨S1024, .f32⟩
  | 31 => ⟨S16384x1024, .f32⟩
  | 32 => ⟨S1x1024, .f32⟩
  | 33 => ⟨S16384x1024, .f32⟩
  | 34 => ⟨S16384x1024, .f32⟩
  | 35 => ⟨S16384x1024, .f32⟩
  | 36 => ⟨S1x1024, .f32⟩
  | 37 => ⟨S1024, .f32⟩
  | 38 => ⟨S16384x1024, .f32⟩
  | 39 => ⟨S1x1024, .f32⟩
  | 40 => ⟨S16384x1024, .f32⟩
  | 41 => ⟨S16384x1024, .f32⟩
  | 42 => ⟨S16384x1024, .f32⟩
  | 43 => ⟨S16384x8x128, .f32⟩
  | 44 => ⟨S8x128x16384, .f32⟩
  | 45 => ⟨S16384x8x128, .f32⟩
  | 46 => ⟨S1x8x128, .f32⟩
  | 47 => ⟨S16384x8x128, .f32⟩
  | 48 => ⟨S16384x8x128, .f32⟩
  | 49 => ⟨S16384x8x128, .f32⟩
  | 50 => ⟨S16384x8x128, .f32⟩
  | 51 => ⟨S_, .f32⟩
  | 52 => ⟨S16384x8x128, .f32⟩
  | 53 => ⟨S16384x8x128, .f32⟩
  | 54 => ⟨S_, .f32⟩
  | 55 => ⟨S16384x8x128, .f32⟩
  | 56 => ⟨S16384x8x128, .f32⟩
  | 57 => ⟨S16384x1024, .f32⟩
  | 58 => ⟨S8x128x16384, .f32⟩
  | 59 => ⟨S16384x8x128, .f32⟩
  | 60 => ⟨S1x8x128, .f32⟩
  | 61 => ⟨S16384x8x128, .f32⟩
  | 62 => ⟨S16384x8x128, .f32⟩
  | 63 => ⟨S16384x8x128, .f32⟩
  | 64 => ⟨S16384x8x128, .f32⟩
  | 65 => ⟨S_, .f32⟩
  | 66 => ⟨S16384x8x128, .f32⟩
  | 67 => ⟨S16384x8x128, .f32⟩
  | 68 => ⟨S_, .f32⟩
  | 69 => ⟨S16384x8x128, .f32⟩
  | 70 => ⟨S16384x8x128, .f32⟩
  | 71 => ⟨S16384x1024, .f32⟩
  | 72 => ⟨S_, .f32⟩
  | 73 => ⟨S16384x1024, .f32⟩
  | 74 => ⟨S16384x1024, .f32⟩
  | 75 => ⟨S1024, .f32⟩
  | 76 => ⟨S_, .f32⟩
  | 77 => ⟨S1024, .f32⟩
  | 78 => ⟨S1024, .f32⟩
  | 79 => ⟨S1024, .f32⟩
  | 80 => ⟨S1024, .f32⟩
  | 81 => ⟨S1024, .i1⟩
  | 82 => ⟨S1024, .f32⟩
  | 83 => ⟨S1024, .f32⟩
  | 84 => ⟨S1024, .f32⟩
  | 85 => ⟨S1024, .f32⟩
  | 86 => ⟨S1024, .f32⟩
  | 87 => ⟨S1024, .f32⟩
  | 88 => ⟨S1024, .f32⟩
  | 89 => ⟨S1024, .f32⟩
  | 90 => ⟨S1x1024, .f32⟩
  | 91 => ⟨S16384x1024, .f32⟩
  | 92 => ⟨S16384x1024, .f32⟩
  | 93 => ⟨S16384x1024, .f32⟩
  | 94 => ⟨S_, .f32⟩
  | 95 => ⟨S16384x1024, .f32⟩
  | 96 => ⟨S16384x1024, .f32⟩
  | 97 => ⟨S16384x1024, .f32⟩
  | 98 => ⟨S16384x1024, .f32⟩
  | 99 => ⟨S16384x1024, .f32⟩
  | 100 => ⟨S16384x1024, .f32⟩
  | 101 => ⟨S16384x1024, .f32⟩
  | 102 => ⟨S1024, .f32⟩
  | 103 => ⟨S_, .f32⟩
  | 104 => ⟨S16384x1024, .f32⟩
  | 105 => ⟨S_, .i32⟩
  | 106 => ⟨S16384x1024, .f32⟩
  | 107 => ⟨S16384x1024, .f32⟩
  | 108 => ⟨S_, .i32⟩
  | 109 => ⟨S1024, .f32⟩
  | 110 => ⟨S16384x1024, .f32⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S_, .i32⟩
  | 118 => ⟨S1x1024, .f32⟩
  | 119 => ⟨S1024, .f32⟩
  | 120 => ⟨S_, .i32⟩
  | 121 => ⟨S1x1024, .f32⟩
  | 122 => ⟨S1024, .f32⟩
  | 123 => ⟨S1024, .f32⟩
  | 124 => ⟨S1024, .f32⟩
  | 125 => ⟨S1x1024, .f32⟩
  | 126 => ⟨S_, .i32⟩
  | 127 => ⟨S16384x1024, .f32⟩
  | _ => ⟨S16384x3072, .f32⟩

abbrev hbmTy0_1 (i : Nat) : BufTy := match i % 128 with
  | 0 => ⟨S_, .i32⟩
  | 1 => ⟨S_, .i32⟩
  | _ => ⟨S16384x3072, .f32⟩

abbrev hbmTy (i : Nat) : BufTy := match i / 128 with
  | 0 => hbmTy0_0 i
  | 1 => hbmTy0_1 i
  | _ => ⟨S16384x3072, .f32⟩

abbrev bufTy : (tb : Table) → Fin (tcTables nBuf tb) → BufTy
  | .hbm, ⟨i, _⟩ => hbmTy i
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst : Ref sig .tc := ⟨.hbm, 51, rfl⟩
abbrev main_v40 : Ref sig .tc := ⟨.hbm, 52, rfl⟩
abbrev main_v41 : Ref sig .tc := ⟨.hbm, 53, rfl⟩
abbrev main_cst_0 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_1 : Ref sig .tc := ⟨.hbm, 65, rfl⟩
abbrev main_v52 : Ref sig .tc := ⟨.hbm, 66, rfl⟩
abbrev main_v53 : Ref sig .tc := ⟨.hbm, 67, rfl⟩
abbrev main_cst_2 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_3 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_4 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_5 : Ref sig .tc := ⟨.hbm, 103, rfl⟩
abbrev main_v73 : Ref sig .tc := ⟨.hbm, 104, rfl⟩
abbrev main_c_6 : Ref sig .tc := ⟨.hbm, 105, rfl⟩
abbrev main_v74_0 : Ref sig .tc := ⟨.hbm, 106, rfl⟩
abbrev main_v74_1 : Ref sig .tc := ⟨.hbm, 107, rfl⟩
abbrev main_v74_2 : Ref sig .tc := ⟨.hbm, 108, rfl⟩
abbrev main_v74_3 : Ref sig .tc := ⟨.hbm, 109, rfl⟩
abbrev main_v74_4 : Ref sig .tc := ⟨.hbm, 110, rfl⟩
abbrev main_while0c_c_11 : Ref sig .tc := ⟨.hbm, 111, rfl⟩
abbrev main_while0c_v75 : Ref sig .tc := ⟨.hbm, 112, rfl⟩
abbrev main_while0b_c_11 : Ref sig .tc := ⟨.hbm, 113, rfl⟩
abbrev main_while0b_v75 : Ref sig .tc := ⟨.hbm, 114, rfl⟩
abbrev main_while0b_c_12 : Ref sig .tc := ⟨.hbm, 115, rfl⟩
abbrev main_while0b_v76 : Ref sig .tc := ⟨.hbm, 116, rfl⟩
abbrev main_while0b_call2_c : Ref sig .tc := ⟨.hbm, 117, rfl⟩
abbrev main_while0b_call2_v0 : Ref sig .tc := ⟨.hbm, 118, rfl⟩
abbrev main_while0b_v77 : Ref sig .tc := ⟨.hbm, 119, rfl⟩
abbrev main_while0b_call3_c : Ref sig .tc := ⟨.hbm, 120, rfl⟩
abbrev main_while0b_call3_v0 : Ref sig .tc := ⟨.hbm, 121, rfl⟩
abbrev main_while0b_v78 : Ref sig .tc := ⟨.hbm, 122, rfl⟩
abbrev main_while0b_v79 : Ref sig .tc := ⟨.hbm, 123, rfl⟩
abbrev main_while0b_v80 : Ref sig .tc := ⟨.hbm, 124, rfl⟩
abbrev main_while0b_call4_v0 : Ref sig .tc := ⟨.hbm, 125, rfl⟩
abbrev main_while0b_call4_c : Ref sig .tc := ⟨.hbm, 126, rfl⟩
abbrev main_while0b_v81 : Ref sig .tc := ⟨.hbm, 127, rfl⟩
abbrev main_while0b_c_13 : Ref sig .tc := ⟨.hbm, 128, rfl⟩
abbrev main_while0b_v82 : Ref sig .tc := ⟨.hbm, 129, rfl⟩

abbrev nD : Nat := 1
abbrev τ : Topo := Topo.v7x

variable {F : FTy → Type} [FloatOps F]

abbrev main_while0_count : Scf.Loop 32 := ⟨0#32, 16384#32, 1#32⟩
-- ==== Kernel8.lean ====
abbrev S8x2048 : Shape := ⟨2, ![8, 2048]⟩
abbrev S2x2048x12288 : Shape := ⟨3, ![2, 2048, 12288]⟩
abbrev S2x12288 : Shape := ⟨2, ![2, 12288]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S2x1x12288, .f32⟩
  | .hbm, ⟨4, _⟩ => ⟨S2x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8x2048 : Shape := ⟨2, ![8, 2048]⟩
abbrev S2x2048x12288 : Shape := ⟨3, ![2, 2048, 12288]⟩
abbrev S2x12288 : Shape := ⟨2, ![2, 12288]⟩
abbrev S_ : Shape := ⟨0, ![]⟩
abbrev S2x12288x8 : Shape := ⟨3, ![2, 12288, 8]⟩
abbrev S2x8x12288 : Shape := ⟨3, ![2, 8, 12288]⟩
abbrev S2x1x12288 : Shape := ⟨3, ![2, 1, 12288]⟩

abbrev nBuf : Space → Nat
  | .hbm => 17
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S2x12288x8, .f32⟩
  | .hbm, ⟨13, _⟩ => ⟨S2x8x12288, .f32⟩
  | .hbm, ⟨14, _⟩ => ⟨S2x1x12288, .f32⟩
  | .hbm, ⟨15, _⟩ => ⟨S2x8x12288, .f32⟩
  | .hbm, ⟨16, _⟩ => ⟨S2x8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel9.lean ====
abbrev S256x2048 : Shape := ⟨2, ![256, 2048]⟩
abbrev S2048x9216 : Shape := ⟨2, ![2048, 9216]⟩
abbrev S6144 : Shape := ⟨1, ![6144]⟩
abbrev S2048x6144 : Shape := ⟨2, ![2048, 6144]⟩
abbrev S1x6144 : Shape := ⟨2, ![1, 6144]⟩
abbrev S256x6144 : Shape := ⟨2, ![256, 6144]⟩
abbrev S2048x1024 : Shape := ⟨2, ![2048, 1024]⟩
abbrev S1x1024 : Shape := ⟨2, ![1, 1024]⟩
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x2048, .bf16⟩
  | .hbm, ⟨1, _⟩ => ⟨S2048x9216, .f32⟩
  | .hbm, ⟨2, _⟩ => ⟨S6144, .f32⟩
  | .hbm, ⟨3, _⟩ => ⟨S2048x6144, .f32⟩
  | .hbm, ⟨4, _⟩ => ⟨S2048x6144, .bf16⟩
  | .hbm, ⟨5, _⟩ => ⟨S1x6144, .f32⟩
  | .hbm, ⟨6, _⟩ => ⟨S256x6144, .bf16⟩
  | .local _ .vmem, ⟨0, _⟩ => ⟨S256x2048, .bf16⟩
  | .local _ .vmem, ⟨1, _⟩ => ⟨S2048x1024, .bf16⟩
  | .local _ .vmem, ⟨2, _⟩ => ⟨S2048x1024, .bf16⟩
  | .local _ .vmem, ⟨3, _⟩ => ⟨S1x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S256x2048 : Shape := ⟨2, ![256, 2048]⟩
abbrev S2048x9216 : Shape := ⟨2, ![2048, 9216]⟩
abbrev S6144 : Shape := ⟨1, ![6144]⟩
abbrev S2048x6144 : Shape := ⟨2, ![2048, 6144]⟩
abbrev S256x6144 : Shape := ⟨2, ![256, 6144]⟩
abbrev S1x6144 : Shape := ⟨2, ![1, 6144]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x9216, .f32⟩
  | .hbm, ⟨2, _⟩ => ⟨S6144, .f32⟩
  | .hbm, ⟨3, _⟩ => ⟨S256x2048, .f32⟩
  | .hbm, ⟨4, _⟩ => ⟨S2048x6144, .f32⟩
  | .hbm, ⟨5, _⟩ => ⟨S256x6144, .f32⟩
  | .hbm, ⟨6, _⟩ => ⟨S1x6144, .f32⟩
  | .hbm, ⟨7, _⟩ => ⟨S256x6144, .f32⟩
  | .hbm, ⟨8, _⟩ => ⟨S256x6144, .f32⟩
  | .hbm, ⟨9, _⟩ => ⟨S256x6144, .f32⟩
  | .hbm, ⟨10, _⟩ => ⟨S256x6144, .f32⟩
  | .hbm, ⟨11, _⟩ => ⟨S_, .f32⟩
  | .hbm, ⟨12, _⟩ => ⟨S256x6144, .f32⟩
  | .hbm, ⟨13, _⟩ => ⟨S256x6144, .f32⟩
  | .hbm, ⟨14, _⟩ => ⟨S_, .f32⟩
  | .hbm, ⟨15, _⟩ => ⟨S256x6144, .f32⟩
  | .hbm, ⟨16, _⟩ => ⟨S256x6144, .f32⟩
  | .hbm, ⟨17, _⟩ => ⟨S256x6144, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel10.lean ====
abbrev S256x2048 : Shape := ⟨2, ![256, 2048]⟩
abbrev S2048 : Shape := ⟨1, ![2048]⟩
abbrev S1x2048 : Shape := ⟨2, ![1, 2048]⟩
abbrev S2048x11264 : Shape := ⟨2, ![2048, 11264]⟩
abbrev S5632x2048 : Shape := ⟨2, ![5632, 2048]⟩
abbrev S2048x512 : Shape := ⟨2, ![2048, 512]⟩
abbrev S512x2048 : Shape := ⟨2, ![512, 2048]⟩
abbrev S256 : Shape := ⟨1, ![256]⟩
abbrev S256x1 : Shape := ⟨2, ![256, 1]⟩
abbrev S256x512 : Shape := ⟨2, ![256, 512]⟩

abbrev nBuf : Space → Nat
  | .hbm => 13
  | .vmem => 15
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S2048, .f32⟩
  | .hbm, ⟨6, _⟩ => ⟨S2048x11264, .f32⟩
  | .hbm, ⟨7, _⟩ => ⟨S5632x2048, .f32⟩
  | .hbm, ⟨8, _⟩ => ⟨S1x2048, .f32⟩
  | .hbm, ⟨9, _⟩ => ⟨S1x2048, .f32⟩
  | .hbm, ⟨10, _⟩ => ⟨S2048x11264, .bf16⟩
  | .hbm, ⟨11, _⟩ => ⟨S5632x2048, .bf16⟩
  | .hbm, ⟨12, _⟩ => ⟨S256x2048, .f32⟩
  | .local _ .vmem, ⟨0, _⟩ => ⟨S256x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .vmem, ⟨11, _⟩ => ⟨S512x2048, .bf16⟩
  | .local _ .vmem, ⟨12, _⟩ => ⟨S256x2048, .f32⟩
  | .local _ .vmem, ⟨13, _⟩ => ⟨S256x2048, .bf16⟩
  | .local _ .vmem, ⟨14, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== Reference10Ideal.lean ====
abbrev S256x2048 : Shape := ⟨2, ![256, 2048]⟩
abbrev S2048 : Shape := ⟨1, ![2048]⟩
abbrev S1x2048 : Shape := ⟨2, ![1, 2048]⟩
abbrev S2048x11264 : Shape := ⟨2, ![2048, 11264]⟩
abbrev S5632x2048 : Shape := ⟨2, ![5632, 2048]⟩
abbrev S_ : Shape := ⟨0, ![]⟩
abbrev S256 : Shape := ⟨1, ![256]⟩
abbrev S256x1 : Shape := ⟨2, ![256, 1]⟩
abbrev S256x11264 : Shape := ⟨2, ![256, 11264]⟩
abbrev S256x5632 : Shape := ⟨2, ![256, 5632]⟩

abbrev nBuf : Space → Nat
  | .hbm => 48
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S2048, .f32⟩
  | .hbm, ⟨6, _⟩ => ⟨S2048x11264, .f32⟩
  | .hbm, ⟨7, _⟩ => ⟨S5632x2048, .f32⟩
  | .hbm, ⟨8, _⟩ => ⟨S256x2048, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1, .f32⟩
  | .hbm, ⟨19, _⟩ => ⟨S256x2048, .f32⟩
  | .hbm, ⟨20, _⟩ => ⟨S256x2048, .f32⟩
  | .hbm, ⟨21, _⟩ => ⟨S1x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S256x11264, .f32⟩
  | .hbm, ⟨32, _⟩ => ⟨S256x5632, .f32⟩
  | .hbm, ⟨33, _⟩ => ⟨S256x5632, .f32⟩
  | .hbm, ⟨34, _⟩ => ⟨S256x5632, .f32⟩
  | .hbm, ⟨35, _⟩ => ⟨S256x5632, .f32⟩
  | .hbm, ⟨36, _⟩ => ⟨S_, .f32⟩
  | .hbm, ⟨37, _⟩ => ⟨S256x5632, .f32⟩
  | .hbm, ⟨38, _⟩ => ⟨S256x5632, .f32⟩
  | .hbm, ⟨39, _⟩ => ⟨S_, .f32⟩
  | .hbm, ⟨40, _⟩ => ⟨S256x5632, .f32⟩
  | .hbm, ⟨41, _⟩ => ⟨S256x5632, .f32⟩
  | .hbm, ⟨42, _⟩ => ⟨S256x5632, .f32⟩
  | .hbm, ⟨43, _⟩ => ⟨S256x5632, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩

abbrev nD : Nat := 1
abbrev τ : Topo := Topo.v7x

variable {F : FTy → Type} [FloatOps F]
-- ==== Kernel11.lean ====
abbrev S256x2048 : Shape := ⟨2, ![256, 2048]⟩
abbrev S2048 : Shape := ⟨1, ![2048]⟩
abbrev S1x2048 : Shape := ⟨2, ![1, 2048]⟩
abbrev S2048x9216 : Shape := ⟨2, ![2048, 9216]⟩
abbrev S2048x3072 : Shape := ⟨2, ![2048, 3072]⟩
abbrev S256x3072 : Shape := ⟨2, ![256, 3072]⟩
abbrev S2048x1024 : Shape := ⟨2, ![2048, 1024]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 9
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S2048x9216, .f32⟩
  | .hbm, ⟨5, _⟩ => ⟨S1x2048, .f32⟩
  | .hbm, ⟨6, _⟩ => ⟨S2048x3072, .f32⟩
  | .hbm, ⟨7, _⟩ => ⟨S2048x3072, .bf16⟩
  | .hbm, ⟨8, _⟩ => ⟨S256x3072, .f32⟩
  | .hbm, ⟨9, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S2048x1024, .bf16⟩
  | .local _ .vmem, ⟨5, _⟩ => ⟨S2048x1024, .bf16⟩
  | .local _ .vmem, ⟨6, _⟩ => ⟨S256x1024, .f32⟩
  | .local _ .vmem, ⟨7, _⟩ => ⟨S256x1024, .f32⟩
  | .local _ .vmem, ⟨8, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨2, ![1, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference11Ideal.lean ====
abbrev S256x2048 : Shape := ⟨2, ![256, 2048]⟩
abbrev S2048 : Shape := ⟨1, ![2048]⟩
abbrev S1x2048 : Shape := ⟨2, ![1, 2048]⟩
abbrev S2048x9216 : Shape := ⟨2, ![2048, 9216]⟩
abbrev S_ : Shape := ⟨0, ![]⟩
abbrev S256 : Shape := ⟨1, ![256]⟩
abbrev S256x1 : Shape := ⟨2, ![256, 1]⟩
abbrev S2048x3072 : Shape := ⟨2, ![2048, 3072]⟩
abbrev S256x3072 : Shape := ⟨2, ![256, 3072]⟩

abbrev nBuf : Space → Nat
  | .hbm => 31
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S2048x9216, .f32⟩
  | .hbm, ⟨5, _⟩ => ⟨S256x2048, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x2048, .f32⟩
  | .hbm, ⟨17, _⟩ => ⟨S256x2048, .f32⟩
  | .hbm, ⟨18, _⟩ => ⟨S1x2048, .f32⟩
  | .hbm, ⟨19, _⟩ => ⟨S256x2048, .f32⟩
  | .hbm, ⟨20, _⟩ => ⟨S256x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S256x2048, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S2048x3072, .f32⟩
  | .hbm, ⟨29, _⟩ => ⟨S256x3072, .f32⟩
  | .hbm, ⟨30, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Proof.ScanRun.lean ====
/-
One call of the recurrence's kernel, run by hand: over a tile the state goes row by row through
h ↦ a · h + b, starting from the given state at the first tile and from what the tile before left in a scratch at
every other. The loop's rows are read back as one closed form, the state between tiles is a recursion over the tiles.
-/
module

public import proofs.«01_k».proof.Proof.Gen.KernelIdeal.Frame
public import proofs.«01_k».proof.Proof.Gen.KernelIdeal.Loops
public import proofs.«01_k».proof.Proof.Gen.KernelIdeal.Skeleton
public import proofs.«01_k».proof.Proof.Gen.KernelIdeal.Points
public import Idealize.ShloMosaic.Lib.Pipeline.TableIdle
public import Idealize.ShloMosaic.Lib.Ring
public import Idealize.ShloMosaic.Lib.Pipeline.Value
public import Idealize.ShloMosaic.Lib.WordCmp
public import Idealize.ShloMosaic.Lib.WritesUnit
public import Idealize.ShloMosaic.Lib.Pipeline.ValueKit.Tiles
public import Idealize.ShloMosaic.Lib.Pointwise
public import Idealize.ShloMosaic.Lib.Claim

@[expose] public section

set_option maxRecDepth 16384

noncomputable section

namespace Cert.Proof.ScanRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Rows of a tile, and the state after each of them -/

/-- Row `t` of a tile of 256 rows (modulo 256, so that the function is total). -/
def rowOf (X : Vec F S256x1024 .f32) (t : ℕ) : Vec F S1x1024 .f32 :=
  fun j => X (ix2 (⟨t % 256, Nat.mod_lt _ (by decide)⟩ : Fin 256) (⟨(j 1).val, (j 1).isLt⟩ : Fin 1024))

/-- The state after the first `t` rows of a tile: one step multiplies by the row of `A` and adds the row of `B`. -/
def hRow (A B : Vec F S256x1024 .f32) (h0 : Vec F S1x1024 .f32) : ℕ → Vec F S1x1024 .f32
  | 0 => h0
  | t + 1 => k0_pay2 (hRow A B h0 t) (rowOf A t) (rowOf B t)

/-- What the recurrence leaves in the tile: at row `t`, the state after row `t`. -/
def outTile (A B : Vec F S256x1024 .f32) (h0 : Vec F S1x1024 .f32) : Vec F S256x1024 .f32 :=
  fun y => hRow A B h0 ((y 0).val + 1) (ix2 (0 : Fin 1) (⟨(y 1).val, (y 1).isLt⟩ : Fin 1024))

theorem trips_le : k0_t1_loop.trips ≤ 32 := k0_t1_abs.2.1

theorem trips_eq : k0_t1_loop.trips = 32 := by decide +kernel

/-- A load of one row of a tile reads that row. -/
theorem readAt_row (v : View sig .tc .vmem S256x1024 .f32) (X : v.ty.Contents (Elt F)) (k : Fin k0_t1_loop.trips) (r : Fin 8)
    (inb : ∀ a, (k0_off1 k (BitVec.ofNat 32 r.val)) a + S1x1024.size a ≤ S256x1024.size a) :
    v.readAt (Elt F) (Rect.unit (s := S256x1024) (k0_off1 k (BitVec.ofNat 32 r.val)) S1x1024.size inb).toLoadRect X = rowOf (v.read (Elt F) X) (8 * k.val + r.val) := by
  have hk : k.val < 32 := Nat.lt_of_lt_of_le k.isLt trips_le
  funext j
  rw [View.readAt_eq_ld, View.ld_apply]
  unfold rowOf
  congr 1
  have h0 : (k0_off1 k (BitVec.ofNat 32 r.val)) 0 = 8 * k.val + r.val := congrFun (k0_off1_eq k r) 0
  have h1 : (k0_off1 k (BitVec.ofNat 32 r.val)) 1 = 0 := congrFun (k0_off1_eq k r) 1
  have hj : (j 0).val < 1 := (j 0).isLt
  funext a
  apply Fin.ext
  match a with
  | 0 =>
    show (k0_off1 k (BitVec.ofNat 32 r.val)) 0 + 1 * (j 0).val = (8 * k.val + r.val) % 256
    rw [h0]; have := r.isLt; omega
  | 1 =>
    show (k0_off1 k (BitVec.ofNat 32 r.val)) 1 + 1 * (j 1).val = (j 1).val
    rw [h1]; omega

/-- What a load of row `r` of trip `k` reads. -/
abbrev rdRow (v : View sig .tc .vmem S256x1024 .f32) (X : v.ty.Contents (Elt F)) (k : Fin k0_t1_loop.trips) (r : ℕ) (hr : r < 8) : Vec F S1x1024 .f32 :=
  v.readAt (Elt F) (Rect.unit (s := S256x1024) (k0_off1 k (BitVec.ofNat 32 r)) S1x1024.size (k0_off1_inb k ⟨r, hr⟩)).toLoadRect X

/-- It is the row. -/
theorem readRow (v : View sig .tc .vmem S256x1024 .f32) (X : v.ty.Contents (Elt F)) (k : Fin k0_t1_loop.trips) (r : ℕ) (hr : r < 8) :
    rdRow v X k r hr = rowOf (v.read (Elt F) X) (8 * k.val + r) :=
  readAt_row v X k ⟨r, hr⟩ _

/-- Reading after a store of one row: the row's payload there, elsewhere what was there. -/
theorem read_row1 (v : View sig .tc .vmem S256x1024 .f32) (f : v.ty.Contents (Elt F)) (k : Fin k0_t1_loop.trips) (r : ℕ) (hr : r < 8)
    (w : Vec F S1x1024 .f32) (L : List (View.Piece (Elt F) S256x1024 .f32)) (y : S256x1024.Idx) :
    v.read (Elt F) (v.writes (Elt F) f ((⟨Rect.unit (s := S256x1024) (k0_off1 k (BitVec.ofNat 32 r)) S1x1024.size (k0_off1_inb k ⟨r, hr⟩), w⟩ : View.Piece (Elt F) S256x1024 .f32) :: L)) y
      = if (y 0).val = 8 * k.val + r then w (ix2 (0 : Fin 1) (⟨(y 1).val, (y 1).isLt⟩ : Fin 1024)) else v.read (Elt F) (v.writes (Elt F) f L) y := by
  split
  · next h =>
    exact View.read_writes_cons_rows_of_mem v f _ w L y (ix2 (0 : Fin 1) (⟨(y 1).val, (y 1).isLt⟩ : Fin 1024)) (k0_off1_eq k ⟨r, hr⟩)
      (by rw [h]; rfl) rfl
  · next h =>
    exact View.read_writes_cons_rows_of_not_mem (W := 1) v f _ w L y (k0_off1_eq k ⟨r, hr⟩) rfl (by
      have hne : (y 0).val ≠ 8 * k.val + r := h
      show (y 0).val < 8 * k.val + r ∨ 8 * k.val + r + 1 ≤ (y 0).val
      omega)

section Trip

variable (𝒱 : Variants) (c : Dev nD) (bd : Option 𝒱.V) (i : grid0.Coords) (arg1 : Memref sig .tc .vmem S256x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S272x1024 .f32) (harg12 : arg12.IsWhole) (arg13 : Memref sig .tc .vmem S256x1024 .f32) (harg13 : arg13.IsWhole) (arg14 : Memref sig .tc .vmem S256x1024 .f32) (harg14 : arg14.IsWhole) (arg15 : Memref sig .tc .vmem S1x1024 .f32) (harg15 : arg15.IsWhole) (v43 : FVec F S256x1024 .f32) (v50 : FVec F S256x128 .f32) (v57 : FVec F S256x128 .f32) (v64 : FVec F S256x128 .f32) (v71 : FVec F S256x128 .f32) (v78 : FVec F S256x128 .f32) (v85 : FVec F S256x128 .f32) (v92 : FVec F S256x128 .f32) (v99 : FVec F S256x128 .f32) (v104 : FVec F S256x1024 .f32) (A : BufTy.Contents (Elt F) arg13.view.ty) (B : BufTy.Contents (Elt F) arg14.view.ty)

/-- One trip's result: the state eight rows on. -/
theorem tripR_eq (k : Fin k0_t1_loop.trips) (h0 : Vec F S1x1024 .f32) :
    tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v43 v50 v57 v64 v71 v78 v85 v92 v99 v104 A B k (hRow (arg13.view.read (Elt F) A) (arg14.view.read (Elt F) B) h0 (8 * k.val))
      = hRow (arg13.view.read (Elt F) A) (arg14.view.read (Elt F) B) h0 (8 * k.val + 8) := by
  have e : tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v43 v50 v57 v64 v71 v78 v85 v92 v99 v104 A B k (hRow (arg13.view.read (Elt F) A) (arg14.view.read (Elt F) B) h0 (8 * k.val))
      = (k0_pay2 (k0_pay2 (k0_pay2 (k0_pay2 (k0_pay2 (k0_pay2 (k0_pay2 (k0_pay2 (hRow (arg13.view.read (Elt F) A) (arg14.view.read (Elt F) B) h0 (8 * k.val)) (rdRow arg13.view A k 0 (by decide)) (rdRow arg14.view B k 0 (by decide))) (rdRow arg13.view A k 1 (by decide)) (rdRow arg14.view B k 1 (by decide))) (rdRow arg13.view A k 2 (by decide)) (rdRow arg14.view B k 2 (by decide))) (rdRow arg13.view A k 3 (by decide)) (rdRow arg14.view B k 3 (by decide))) (rdRow arg13.view A k 4 (by decide)) (rdRow arg14.view B k 4 (by decide))) (rdRow arg13.view A k 5 (by decide)) (rdRow arg14.view B k 5 (by decide))) (rdRow arg13.view A k 6 (by decide)) (rdRow arg14.view B k 6 (by decide))) (rdRow arg13.view A k 7 (by decide)) (rdRow arg14.view B k 7 (by decide))) := by
    unfold tripR_k0_t1 trip_k0_t1
    dsimp only
    rfl
  rw [e, readRow arg13.view A k 0 (by decide), readRow arg14.view B k 0 (by decide), readRow arg13.view A k 1 (by decide), readRow arg14.view B k 1 (by decide), readRow arg13.view A k 2 (by decide), readRow arg14.view B k 2 (by decide), readRow arg13.view A k 3 (by decide), readRow arg14.view B k 3 (by decide), readRow arg13.view A k 4 (by decide), readRow arg14.view B k 4 (by decide), readRow arg13.view A k 5 (by decide), readRow arg14.view B k 5 (by decide), readRow arg13.view A k 6 (by decide), readRow arg14.view B k 6 (by decide), readRow arg13.view A k 7 (by decide), readRow arg14.view B k 7 (by decide)]
  rfl

/-- One trip's stores: the eight states, each at its row. -/
theorem tripL_eq (k : Fin k0_t1_loop.trips) (h0 : Vec F S1x1024 .f32) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v43 v50 v57 v64 v71 v78 v85 v92 v99 v104 A B k (hRow (arg13.view.read (Elt F) A) (arg14.view.read (Elt F) B) h0 (8 * k.val))
      = [(⟨Rect.unit (s := S256x1024) (k0_off1 k 7#32) S1x1024.size (k0_off1_inb k ⟨7, by decide⟩), hRow (arg13.view.read (Elt F) A) (arg14.view.read (Elt F) B) h0 (8 * k.val + 8)⟩ : View.Piece (Elt F) S256x1024 .f32), (⟨Rect.unit (s := S256x1024) (k0_off1 k 6#32) S1x1024.size (k0_off1_inb k ⟨6, by decide⟩), hRow (arg13.view.read (Elt F) A) (arg14.view.read (Elt F) B) h0 (8 * k.val + 7)⟩ : View.Piece (Elt F) S256x1024 .f32), (⟨Rect.unit (s := S256x1024) (k0_off1 k 5#32) S1x1024.size (k0_off1_inb k ⟨5, by decide⟩), hRow (arg13.view.read (Elt F) A) (arg14.view.read (Elt F) B) h0 (8 * k.val + 6)⟩ : View.Piece (Elt F) S256x1024 .f32), (⟨Rect.unit (s := S256x1024) (k0_off1 k 4#32) S1x1024.size (k0_off1_inb k ⟨4, by decide⟩), hRow (arg13.view.read (Elt F) A) (arg14.view.read (Elt F) B) h0 (8 * k.val + 5)⟩ : View.Piece (Elt F) S256x1024 .f32), (⟨Rect.unit (s := S256x1024) (k0_off1 k 3#32) S1x1024.size (k0_off1_inb k ⟨3, by decide⟩), hRow (arg13.view.read (Elt F) A) (arg14.view.read (Elt F) B) h0 (8 * k.val + 4)⟩ : View.Piece (Elt F) S256x1024 .f32), (⟨Rect.unit (s := S256x1024) (k0_off1 k 2#32) S1x1024.size (k0_off1_inb k ⟨2, by decide⟩), hRow (arg13.view.read (Elt F) A) (arg14.view.read (Elt F) B) h0 (8 * k.val + 3)⟩ : View.Piece (Elt F) S256x1024 .f32), (⟨Rect.unit (s := S256x1024) (k0_off1 k 1#32) S1x1024.size (k0_off1_inb k ⟨1, by decide⟩), hRow (arg13.view.read (Elt F) A) (arg14.view.read (Elt F) B) h0 (8 * k.val + 2)⟩ : View.Piece (Elt F) S256x1024 .f32), (⟨Rect.unit (s := S256x1024) (k0_off1 k 0#32) S1x1024.size (k0_off1_inb k ⟨0, by decide⟩), hRow (arg13.view.read (Elt F) A) (arg14.view.read (Elt F) B) h0 (8 * k.val + 1)⟩ : View.Piece (Elt F) S256x1024 .f32)] := by
  have e : tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v43 v50 v57 v64 v71 v78 v85 v92 v99 v104 A B k (hRow (arg13.view.read (Elt F) A) (arg14.view.read (Elt F) B) h0 (8 * k.val))
      = [(⟨Rect.unit (s := S256x1024) (k0_off1 k 7#32) S1x1024.size (k0_off1_inb k ⟨7, by decide⟩), (k0_pay2 (k0_pay2 (k0_pay2 (k0_pay2 (k0_pay2 (k0_pay2 (k0_pay2 (k0_pay2 (hRow (arg13.view.read (Elt F) A) (arg14.view.read (Elt F) B) h0 (8 * k.val)) (rdRow arg13.view A k 0 (by decide)) (rdRow arg14.view B k 0 (by decide))) (rdRow arg13.view A k 1 (by decide)) (rdRow arg14.view B k 1 (by decide))) (rdRow arg13.view A k 2 (by decide)) (rdRow arg14.view B k 2 (by decide))) (rdRow arg13.view A k 3 (by decide)) (rdRow arg14.view B k 3 (by decide))) (rdRow arg13.view A k 4 (by decide)) (rdRow arg14.view B k 4 (by decide))) (rdRow arg13.view A k 5 (by decide)) (rdRow arg14.view B k 5 (by decide))) (rdRow arg13.view A k 6 (by decide)) (rdRow arg14.view B k 6 (by decide))) (rdRow arg13.view A k 7 (by decide)) (rdRow arg14.view B k 7 (by decide)))⟩ : View.Piece (Elt F) S256x1024 .f32), (⟨Rect.unit (s := S256x1024) (k0_off1 k 6#32) S1x1024.size (k0_off1_inb k ⟨6, by decide⟩), (k0_pay2 (k0_pay2 (k0_pay2 (k0_pay2 (k0_pay2 (k0_pay2 (k0_pay2 (hRow (arg13.view.read (Elt F) A) (arg14.view.read (Elt F) B) h0 (8 * k.val)) (rdRow arg13.view A k 0 (by decide)) (rdRow arg14.view B k 0 (by decide))) (rdRow arg13.view A k 1 (by decide)) (rdRow arg14.view B k 1 (by decide))) (rdRow arg13.view A k 2 (by decide)) (rdRow arg14.view B k 2 (by decide))) (rdRow arg13.view A k 3 (by decide)) (rdRow arg14.view B k 3 (by decide))) (rdRow arg13.view A k 4 (by decide)) (rdRow arg14.view B k 4 (by decide))) (rdRow arg13.view A k 5 (by decide)) (rdRow arg14.view B k 5 (by decide))) (rdRow arg13.view A k 6 (by decide)) (rdRow arg14.view B k 6 (by decide)))⟩ : View.Piece (Elt F) S256x1024 .f32), (⟨Rect.unit (s := S256x1024) (k0_off1 k 5#32) S1x1024.size (k0_off1_inb k ⟨5, by decide⟩), (k0_pay2 (k0_pay2 (k0_pay2 (k0_pay2 (k0_pay2 (k0_pay2 (hRow (arg13.view.read (Elt F) A) (arg14.view.read (Elt F) B) h0 (8 * k.val)) (rdRow arg13.view A k 0 (by decide)) (rdRow arg14.view B k 0 (by decide))) (rdRow arg13.view A k 1 (by decide)) (rdRow arg14.view B k 1 (by decide))) (rdRow arg13.view A k 2 (by decide)) (rdRow arg14.view B k 2 (by decide))) (rdRow arg13.view A k 3 (by decide)) (rdRow arg14.view B k 3 (by decide))) (rdRow arg13.view A k 4 (by decide)) (rdRow arg14.view B k 4 (by decide))) (rdRow arg13.view A k 5 (by decide)) (rdRow arg14.view B k 5 (by decide)))⟩ : View.Piece (Elt F) S256x1024 .f32), (⟨Rect.unit (s := S256x1024) (k0_off1 k 4#32) S1x1024.size (k0_off1_inb k ⟨4, by decide⟩), (k0_pay2 (k0_pay2 (k0_pay2 (k0_pay2 (k0_pay2 (hRow (arg13.view.read (Elt F) A) (arg14.view.read (Elt F) B) h0 (8 * k.val)) (rdRow arg13.view A k 0 (by decide)) (rdRow arg14.view B k 0 (by decide))) (rdRow arg13.view A k 1 (by decide)) (rdRow arg14.view B k 1 (by decide))) (rdRow arg13.view A k 2 (by decide)) (rdRow arg14.view B k 2 (by decide))) (rdRow arg13.view A k 3 (by decide)) (rdRow arg14.view B k 3 (by decide))) (rdRow arg13.view A k 4 (by decide)) (rdRow arg14.view B k 4 (by decide)))⟩ : View.Piece (Elt F) S256x1024 .f32), (⟨Rect.unit (s := S256x1024) (k0_off1 k 3#32) S1x1024.size (k0_off1_inb k ⟨3, by decide⟩), (k0_pay2 (k0_pay2 (k0_pay2 (k0_pay2 (hRow (arg13.view.read (Elt F) A) (arg14.view.read (Elt F) B) h0 (8 * k.val)) (rdRow arg13.view A k 0 (by decide)) (rdRow arg14.view B k 0 (by decide))) (rdRow arg13.view A k 1 (by decide)) (rdRow arg14.view B k 1 (by decide))) (rdRow arg13.view A k 2 (by decide)) (rdRow arg14.view B k 2 (by decide))) (rdRow arg13.view A k 3 (by decide)) (rdRow arg14.view B k 3 (by decide)))⟩ : View.Piece (Elt F) S256x1024 .f32), (⟨Rect.unit (s := S256x1024) (k0_off1 k 2#32) S1x1024.size (k0_off1_inb k ⟨2, by decide⟩), (k0_pay2 (k0_pay2 (k0_pay2 (hRow (arg13.view.read (Elt F) A) (arg14.view.read (Elt F) B) h0 (8 * k.val)) (rdRow arg13.view A k 0 (by decide)) (rdRow arg14.view B k 0 (by decide))) (rdRow arg13.view A k 1 (by decide)) (rdRow arg14.view B k 1 (by decide))) (rdRow arg13.view A k 2 (by decide)) (rdRow arg14.view B k 2 (by decide)))⟩ : View.Piece (Elt F) S256x1024 .f32), (⟨Rect.unit (s := S256x1024) (k0_off1 k 1#32) S1x1024.size (k0_off1_inb k ⟨1, by decide⟩), (k0_pay2 (k0_pay2 (hRow (arg13.view.read (Elt F) A) (arg14.view.read (Elt F) B) h0 (8 * k.val)) (rdRow arg13.view A k 0 (by decide)) (rdRow arg14.view B k 0 (by decide))) (rdRow arg13.view A k 1 (by decide)) (rdRow arg14.view B k 1 (by decide)))⟩ : View.Piece (Elt F) S256x1024 .f32), (⟨Rect.unit (s := S256x1024) (k0_off1 k 0#32) S1x1024.size (k0_off1_inb k ⟨0, by decide⟩), (k0_pay2 (hRow (arg13.view.read (Elt F) A) (arg14.view.read (Elt F) B) h0 (8 * k.val)) (rdRow arg13.view A k 0 (by decide)) (rdRow arg14.view B k 0 (by decide)))⟩ : View.Piece (Elt F) S256x1024 .f32)] := by
    unfold tripL_k0_t1 trip_k0_t1
    dsimp only
    rfl
  rw [e]
  simp only [readRow arg13.view A k 0 (by decide), readRow arg14.view B k 0 (by decide), readRow arg13.view A k 1 (by decide), readRow arg14.view B k 1 (by decide), readRow arg13.view A k 2 (by decide), readRow arg14.view B k 2 (by decide), readRow arg13.view A k 3 (by decide), readRow arg14.view B k 3 (by decide), readRow arg13.view A k 4 (by decide), readRow arg14.view B k 4 (by decide), readRow arg13.view A k 5 (by decide), readRow arg14.view B k 5 (by decide), readRow arg13.view A k 6 (by decide), readRow arg14.view B k 6 (by decide), readRow arg13.view A k 7 (by decide), readRow arg14.view B k 7 (by decide)]
  rfl

/-- The carried value before trip `k` is the state after `8 k` rows. -/
theorem st_fst (h0 : Vec F S1x1024 .f32) : ∀ k : ℕ, k ≤ k0_t1_loop.trips →
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v43 v50 v57 v64 v71 v78 v85 v92 v99 v104 A B h0 k).1 = hRow (arg13.view.read (Elt F) A) (arg14.view.read (Elt F) B) h0 (8 * k)
  | 0, _ => rfl
  | k + 1, hk => by
    have e := st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v43 v50 v57 v64 v71 v78 v85 v92 v99 v104 A B h0 ⟨k, hk⟩
    rw [show (⟨k, hk⟩ : Fin k0_t1_loop.trips).val + 1 = k + 1 from rfl] at e
    rw [e]
    show tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v43 v50 v57 v64 v71 v78 v85 v92 v99 v104 A B ⟨k, hk⟩ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v43 v50 v57 v64 v71 v78 v85 v92 v99 v104 A B h0 k).1 = _
    rw [st_fst h0 k (by omega)]
    exact tripR_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v43 v50 v57 v64 v71 v78 v85 v92 v99 v104 A B ⟨k, hk⟩ h0

/-- The rows stored before trip `k` read as the recurrence's tile. -/
theorem st_read (h0 : Vec F S1x1024 .f32) (v : View sig .tc .vmem S256x1024 .f32) (f : v.ty.Contents (Elt F)) : ∀ k : ℕ, k ≤ k0_t1_loop.trips →
    ∀ y : S256x1024.Idx, (y 0).val < 8 * k →
    v.read (Elt F) (v.writes (Elt F) f (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v43 v50 v57 v64 v71 v78 v85 v92 v99 v104 A B h0 k).2) y
      = outTile (arg13.view.read (Elt F) A) (arg14.view.read (Elt F) B) h0 y
  | 0, _ => fun y hy => absurd hy (Nat.not_lt_zero _)
  | k + 1, hk => fun y hy => by
    have e := st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v43 v50 v57 v64 v71 v78 v85 v92 v99 v104 A B h0 ⟨k, hk⟩
    rw [show (⟨k, hk⟩ : Fin k0_t1_loop.trips).val + 1 = k + 1 from rfl] at e
    rw [e]
    show v.read (Elt F) (v.writes (Elt F) f (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v43 v50 v57 v64 v71 v78 v85 v92 v99 v104 A B ⟨k, hk⟩ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v43 v50 v57 v64 v71 v78 v85 v92 v99 v104 A B h0 k).1
      ++ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v43 v50 v57 v64 v71 v78 v85 v92 v99 v104 A B h0 k).2)) y = _
    rw [st_fst 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v43 v50 v57 v64 v71 v78 v85 v92 v99 v104 A B h0 k (by omega)]
    have el := tripL_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v43 v50 v57 v64 v71 v78 v85 v92 v99 v104 A B ⟨k, hk⟩ h0
    rw [show (⟨k, hk⟩ : Fin k0_t1_loop.trips).val = k from rfl] at el
    rw [el]
    simp only [List.cons_append, List.nil_append]
    rw [read_row1 v f ⟨k, hk⟩ 7 (by decide), read_row1 v f ⟨k, hk⟩ 6 (by decide), read_row1 v f ⟨k, hk⟩ 5 (by decide), read_row1 v f ⟨k, hk⟩ 4 (by decide), read_row1 v f ⟨k, hk⟩ 3 (by decide), read_row1 v f ⟨k, hk⟩ 2 (by decide), read_row1 v f ⟨k, hk⟩ 1 (by decide), read_row1 v f ⟨k, hk⟩ 0 (by decide)]
    by_cases hlt : (y 0).val < 8 * k
    · rw [if_neg (by show ¬ (y 0).val = 8 * k + 7; omega), if_neg (by show ¬ (y 0).val = 8 * k + 6; omega), if_neg (by show ¬ (y 0).val = 8 * k + 5; omega), if_neg (by show ¬ (y 0).val = 8 * k + 4; omega), if_neg (by show ¬ (y 0).val = 8 * k + 3; omega), if_neg (by show ¬ (y 0).val = 8 * k + 2; omega), if_neg (by show ¬ (y 0).val = 8 * k + 1; omega), if_neg (by show ¬ (y 0).val = 8 * k + 0; omega)]
      exact st_read h0 v f k (by omega) y hlt
    · obtain ⟨r, hr, hy'⟩ : ∃ r, r < 8 ∧ (y 0).val = 8 * k + r := ⟨(y 0).val - 8 * k, by omega, by omega⟩
      unfold outTile
      rw [hy']
      interval_cases r <;> simp

/-- So the loop leaves the recurrence's tile, -/
theorem st_out (h0 : Vec F S1x1024 .f32) (v : View sig .tc .vmem S256x1024 .f32) (f : v.ty.Contents (Elt F)) :
    v.read (Elt F) (v.writes (Elt F) f (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v43 v50 v57 v64 v71 v78 v85 v92 v99 v104 A B h0 k0_t1_loop.trips).2)
      = outTile (arg13.view.read (Elt F) A) (arg14.view.read (Elt F) B) h0 := by
  funext y
  have hy : (y 0).val < 256 := (y 0).isLt
  exact st_read 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v43 v50 v57 v64 v71 v78 v85 v92 v99 v104 A B h0 v f k0_t1_loop.trips le_rfl y (by rw [trips_eq]; omega)

/-- and yields the state after the tile's last row. -/
theorem st_carry (h0 : Vec F S1x1024 .f32) :
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v43 v50 v57 v64 v71 v78 v85 v92 v99 v104 A B h0 k0_t1_loop.trips).1
      = hRow (arg13.view.read (Elt F) A) (arg14.view.read (Elt F) B) h0 256 := by
  rw [st_fst 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v43 v50 v57 v64 v71 v78 v85 v92 v99 v104 A B h0 k0_t1_loop.trips le_rfl, trips_eq]

end Trip

/-! ## What one point computes -/

/-- The tile with the eight rows before it and the eight after it, as the kernel lays them out in its scratch. -/
def xeTile (i : grid0.Coords) (x1 : Vec F S256x1024 .f32) (x2 x3 : Vec F S8x1024 .f32) : Vec F S272x1024 .f32 :=
  View.canon [(⟨Rect.unit (s := S272x1024) ![264, 0] S8x1024.size inb_S272x1024_S8x1024_264_0, k0_pay12 i x3⟩ : View.Piece (Elt F) S272x1024 .f32),
    ⟨Rect.unit (s := S272x1024) ![8, 0] S256x1024.size inb_S272x1024_S256x1024_8_0, k0_pay11 x1⟩,
    ⟨Rect.unit (s := S272x1024) ![0, 0] S8x1024.size inb_S272x1024_S8x1024_0_0, k0_pay10 i x2⟩]

/-- The 256 rows of that scratch from row `o`. -/
def xwin (o : ℕ) (h : ∀ a : Fin 2, (![o, 0] : Fin 2 → ℕ) a + S256x1024.size a ≤ S272x1024.size a) (i : grid0.Coords) (x1 : Vec F S256x1024 .f32) (x2 x3 : Vec F S8x1024 .f32) : Vec F S256x1024 .f32 :=
  View.ld (xeTile i x1 x2 x3) (Rect.unit (s := S272x1024) ![o, 0] S256x1024.size h)

/-- Row 0 of the convolution's weights. -/
def wrow0 (x4 : Vec F S4x1024 .f32) : Vec F S1x1024 .f32 := View.ld x4 (Rect.unit (s := S4x1024) ![0, 0] S1x1024.size inb_S4x1024_S1x1024_0_0)

/-- Row 1 of the convolution's weights. -/
def wrow1 (x4 : Vec F S4x1024 .f32) : Vec F S1x1024 .f32 := View.ld x4 (Rect.unit (s := S4x1024) ![1, 0] S1x1024.size inb_S4x1024_S1x1024_1_0)

/-- Row 2 of the convolution's weights. -/
def wrow2 (x4 : Vec F S4x1024 .f32) : Vec F S1x1024 .f32 := View.ld x4 (Rect.unit (s := S4x1024) ![2, 0] S1x1024.size inb_S4x1024_S1x1024_2_0)

/-- Row 3 of the convolution's weights. -/
def wrow3 (x4 : Vec F S4x1024 .f32) : Vec F S1x1024 .f32 := View.ld x4 (Rect.unit (s := S4x1024) ![3, 0] S1x1024.size inb_S4x1024_S1x1024_3_0)

/-- Head 0 of the gates' weights. -/
def head0 (x6 : Vec F S8x128x256 .bf16) : Vec F S1x128x256 .bf16 := View.ld x6 (Rect.unit (s := S8x128x256) ![0, 0, 0] S1x128x256.size inb_S8x128x256_S1x128x256_0_0_0)

/-- Head 1 of the gates' weights. -/
def head1 (x6 : Vec F S8x128x256 .bf16) : Vec F S1x128x256 .bf16 := View.ld x6 (Rect.unit (s := S8x128x256) ![1, 0, 0] S1x128x256.size inb_S8x128x256_S1x128x256_1_0_0)

/-- Head 2 of the gates' weights. -/
def head2 (x6 : Vec F S8x128x256 .bf16) : Vec F S1x128x256 .bf16 := View.ld x6 (Rect.unit (s := S8x128x256) ![2, 0, 0] S1x128x256.size inb_S8x128x256_S1x128x256_2_0_0)

/-- Head 3 of the gates' weights. -/
def head3 (x6 : Vec F S8x128x256 .bf16) : Vec F S1x128x256 .bf16 := View.ld x6 (Rect.unit (s := S8x128x256) ![3, 0, 0] S1x128x256.size inb_S8x128x256_S1x128x256_3_0_0)

/-- Head 4 of the gates' weights. -/
def head4 (x6 : Vec F S8x128x256 .bf16) : Vec F S1x128x256 .bf16 := View.ld x6 (Rect.unit (s := S8x128x256) ![4, 0, 0] S1x128x256.size inb_S8x128x256_S1x128x256_4_0_0)

/-- Head 5 of the gates' weights. -/
def head5 (x6 : Vec F S8x128x256 .bf16) : Vec F S1x128x256 .bf16 := View.ld x6 (Rect.unit (s := S8x128x256) ![5, 0, 0] S1x128x256.size inb_S8x128x256_S1x128x256_5_0_0)

/-- Head 6 of the gates' weights. -/
def head6 (x6 : Vec F S8x128x256 .bf16) : Vec F S1x128x256 .bf16 := View.ld x6 (Rect.unit (s := S8x128x256) ![6, 0, 0] S1x128x256.size inb_S8x128x256_S1x128x256_6_0_0)

/-- Head 7 of the gates' weights. -/
def head7 (x6 : Vec F S8x128x256 .bf16) : Vec F S1x128x256 .bf16 := View.ld x6 (Rect.unit (s := S8x128x256) ![7, 0, 0] S1x128x256.size inb_S8x128x256_S1x128x256_7_0_0)

/-- The convolution's first product, on its bias. -/
def v28T (i : grid0.Coords) (x1 : Vec F S256x1024 .f32) (x2 x3 : Vec F S8x1024 .f32) (x4 : Vec F S4x1024 .f32) (x5 : Vec F S1x1024 .f32) : FVec F S256x1024 .f32 := k0_pay13 x5 (wrow0 x4) (xwin 6 (by decide) i x1 x2 x3)

/-- The convolution. -/
def v43T (i : grid0.Coords) (x1 : Vec F S256x1024 .f32) (x2 x3 : Vec F S8x1024 .f32) (x4 : Vec F S4x1024 .f32) (x5 : Vec F S1x1024 .f32) : FVec F S256x1024 .f32 := k0_pay14 (v28T i x1 x2 x3 x4 x5) (wrow1 x4) (xwin 7 (by decide) i x1 x2 x3) (wrow2 x4) (xwin 8 (by decide) i x1 x2 x3) (wrow3 x4) (xwin 9 (by decide) i x1 x2 x3)

/-- The recurrence gate's argument. -/
def v104T (i : grid0.Coords) (x1 : Vec F S256x1024 .f32) (x2 x3 : Vec F S8x1024 .f32) (x4 : Vec F S4x1024 .f32) (x5 : Vec F S1x1024 .f32) (x6 : Vec F S8x128x256 .bf16) (x7 : Vec F S1x1024 .f32) : FVec F S256x1024 .f32 :=
  k0_pay35 (v43T i x1 x2 x3 x4 x5) (k0_pay16 (v28T i x1 x2 x3 x4 x5) (wrow1 x4) (xwin 7 (by decide) i x1 x2 x3) (wrow2 x4) (xwin 8 (by decide) i x1 x2 x3) (wrow3 x4) (xwin 9 (by decide) i x1 x2 x3) (head0 x6)) (k0_pay19 (v28T i x1 x2 x3 x4 x5) (wrow1 x4) (xwin 7 (by decide) i x1 x2 x3) (wrow2 x4) (xwin 8 (by decide) i x1 x2 x3) (wrow3 x4) (xwin 9 (by decide) i x1 x2 x3) (head1 x6)) (k0_pay22 (v28T i x1 x2 x3 x4 x5) (wrow1 x4) (xwin 7 (by decide) i x1 x2 x3) (wrow2 x4) (xwin 8 (by decide) i x1 x2 x3) (wrow3 x4) (xwin 9 (by decide) i x1 x2 x3) (head2 x6)) (k0_pay24 (v28T i x1 x2 x3 x4 x5) (wrow1 x4) (xwin 7 (by decide) i x1 x2 x3) (wrow2 x4) (xwin 8 (by decide) i x1 x2 x3) (wrow3 x4) (xwin 9 (by decide) i x1 x2 x3)) (head3 x6) (head4 x6) (head5 x6) (head6 x6) (head7 x6) x7

/-- The recurrence's factors. -/
def aTile (i : grid0.Coords) (x1 : Vec F S256x1024 .f32) (x2 x3 : Vec F S8x1024 .f32) (x4 : Vec F S4x1024 .f32) (x5 : Vec F S1x1024 .f32) (x6 : Vec F S8x128x256 .bf16) (x7 x8 x9 : Vec F S1x1024 .f32) : Vec F S256x1024 .f32 := k0_pay37 (v104T i x1 x2 x3 x4 x5 x6 x7) x9

/-- The recurrence's terms. -/
def bTile (i : grid0.Coords) (x1 : Vec F S256x1024 .f32) (x2 x3 : Vec F S8x1024 .f32) (x4 : Vec F S4x1024 .f32) (x5 : Vec F S1x1024 .f32) (x6 : Vec F S8x128x256 .bf16) (x7 x8 x9 : Vec F S1x1024 .f32) : Vec F S256x1024 .f32 :=
  k0_pay38 (v43T i x1 x2 x3 x4 x5) (k0_pay17 (v28T i x1 x2 x3 x4 x5) (wrow1 x4) (xwin 7 (by decide) i x1 x2 x3) (wrow2 x4) (xwin 8 (by decide) i x1 x2 x3) (wrow3 x4) (xwin 9 (by decide) i x1 x2 x3) (head0 x6)) (k0_pay20 (v28T i x1 x2 x3 x4 x5) (wrow1 x4) (xwin 7 (by decide) i x1 x2 x3) (wrow2 x4) (xwin 8 (by decide) i x1 x2 x3) (wrow3 x4) (xwin 9 (by decide) i x1 x2 x3) (head1 x6)) (k0_pay23 (v28T i x1 x2 x3 x4 x5) (wrow1 x4) (xwin 7 (by decide) i x1 x2 x3) (wrow2 x4) (xwin 8 (by decide) i x1 x2 x3) (wrow3 x4) (xwin 9 (by decide) i x1 x2 x3) (head2 x6)) (k0_pay26 (k0_pay24 (v28T i x1 x2 x3 x4 x5) (wrow1 x4) (xwin 7 (by decide) i x1 x2 x3) (wrow2 x4) (xwin 8 (by decide) i x1 x2 x3) (wrow3 x4) (xwin 9 (by decide) i x1 x2 x3)) (head3 x6))
    (k0_pay28 (v43T i x1 x2 x3 x4 x5) (head4 x6)) (k0_pay30 (v43T i x1 x2 x3 x4 x5) (head5 x6)) (k0_pay32 (v43T i x1 x2 x3 x4 x5) (head6 x6)) (k0_pay34 (v43T i x1 x2 x3 x4 x5) (head7 x6)) (v104T i x1 x2 x3 x4 x5 x6 x7) x8 x9

theorem hz : (![0, 0] : Fin 2 → Nat) = fun _ => 0 := funext fun a => by fin_cases a <;> rfl

/-- A buffer filled by one store reads as what was stored. -/
theorem read_fill (v : View sig .tc .vmem S256x1024 .f32) (f : v.ty.Contents (Elt F)) (w : Vec F S256x1024 .f32) (inb : ∀ a, (![0, 0] : Fin 2 → ℕ) a + S256x1024.size a ≤ S256x1024.size a) :
    v.read (Elt F) (v.writes (Elt F) f [(⟨Rect.unit (s := S256x1024) ![0, 0] S256x1024.size inb, w⟩ : View.Piece (Elt F) S256x1024 .f32)]) = w := by
  rw [View.read_writes_eq_canon _ _ _ (View.cover_of_tiled _ S256x1024.size (by rfl)), View.canon_unit_zero hz]

/-- The body's condition: the first tile. -/
def cond (i : grid0.Coords) : BitVec 1 := Scalar.cmpi .ne (Scalar.extui (Scalar.cmpi .eq (BitVec.ofNat 32 (i 0).val) 0#32)) 0#32

set_option maxHeartbeats 1000000 in
/-- The body at the first tile: the state starts from the given one. -/
theorem run_first (c : Dev nD) (E : Set ℕ) (i : grid0.Coords) (hc : cond i = 1#1) (arg1 : Memref sig .tc .vmem S256x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S272x1024 .f32) (harg12 : arg12.IsWhole) (arg13 : Memref sig .tc .vmem S256x1024 .f32) (harg13 : arg13.IsWhole) (arg14 : Memref sig .tc .vmem S256x1024 .f32) (harg14 : arg14.IsWhole) (arg15 : Memref sig .tc .vmem S1x1024 .f32) (harg15 : arg15.IsWhole) (x1 : Vec F S256x1024 .f32) (x2 x3 : Vec F S8x1024 .f32) (x4 : Vec F S4x1024 .f32) (x5 : Vec F S1x1024 .f32) (x6 : Vec F S8x128x256 .bf16) (x7 x8 x9 : Vec F S1x1024 .f32) (x10 : Vec F S1x1024 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outTile (aTile i x1 x2 x3 x4 x5 x6 x7 x8 x9) (bTile i x1 x2 x3 x4 x5 x6 x7 x8 x9) (k0_pay9 x10)) ∗ (∃ d, owns (c : Thread nD τ) arg12 fullShare d) ∗ (∃ d, owns (c : Thread nD τ) arg13 fullShare d) ∗ (∃ d, owns (c : Thread nD τ) arg14 fullShare d)
            ∗ owns (c : Thread nD τ) arg15 fullShare (k0_pay1 (hRow (aTile i x1 x2 x3 x4 x5 x6 x7 x8 x9) (bTile i x1 x2 x3 x4 x5 x6 x7 x8 x9) (k0_pay9 x10) 256))) -∗ K ⟨⟩))
      ⊢ wp frame (wpE (defs₀ (F := F)) Variants.none c none) E (cc0_scan_fwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  unfold cond at hc
  simp only [cc0_scan_fwd_eq_skeleton]; unfold cc0_scan_fwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, Hk⟩
  subst hf1 hf2 hf3 hf4 hf5 hf6 hf7 hf8 hf9 hf10
  sl_exec (disch := first | sl_exact hc)
  sl_step
  have ev24 : run_first.sl.v24 c i arg1 arg2 arg3 arg12 f1 f2 f3 = xwin 6 (by decide) i (arg1.view.read (Elt F) f1) (arg2.view.read (Elt F) f2) (arg3.view.read (Elt F) f3) := by
    delta run_first.sl.v24 run_first.sl.H12_3
    rw [View.readCov_eq_canon']
    simp only [View.readAt_eq_ld, View.ld_unit_zero (S := S256x1024) hz, View.ld_unit_zero (S := S8x1024) hz, View.ld_unit_zero (S := S1x1024) hz]
    rfl
  have ev30 : run_first.sl.v30 c i arg1 arg2 arg3 arg12 f1 f2 f3 = xwin 7 (by decide) i (arg1.view.read (Elt F) f1) (arg2.view.read (Elt F) f2) (arg3.view.read (Elt F) f3) := by
    delta run_first.sl.v30 run_first.sl.H12_3
    rw [View.readCov_eq_canon']
    simp only [View.readAt_eq_ld, View.ld_unit_zero (S := S256x1024) hz, View.ld_unit_zero (S := S8x1024) hz, View.ld_unit_zero (S := S1x1024) hz]
    rfl
  have ev35 : run_first.sl.v35 c i arg1 arg2 arg3 arg12 f1 f2 f3 = xwin 8 (by decide) i (arg1.view.read (Elt F) f1) (arg2.view.read (Elt F) f2) (arg3.view.read (Elt F) f3) := by
    delta run_first.sl.v35 run_first.sl.H12_3
    rw [View.readCov_eq_canon']
    simp only [View.readAt_eq_ld, View.ld_unit_zero (S := S256x1024) hz, View.ld_unit_zero (S := S8x1024) hz, View.ld_unit_zero (S := S1x1024) hz]
    rfl
  have ev40 : run_first.sl.v40 c i arg1 arg2 arg3 arg12 f1 f2 f3 = xwin 9 (by decide) i (arg1.view.read (Elt F) f1) (arg2.view.read (Elt F) f2) (arg3.view.read (Elt F) f3) := by
    delta run_first.sl.v40 run_first.sl.H12_3
    rw [View.readCov_eq_canon']
    simp only [View.readAt_eq_ld, View.ld_unit_zero (S := S256x1024) hz, View.ld_unit_zero (S := S8x1024) hz, View.ld_unit_zero (S := S1x1024) hz]
    rfl
  have er : run_first.sl.r c i arg1 arg2 arg3 arg4 arg5 arg12 f1 f2 f3 f4 f5 = v28T i (arg1.view.read (Elt F) f1) (arg2.view.read (Elt F) f2) (arg3.view.read (Elt F) f3) (arg4.view.read (Elt F) f4) (arg5.view.read (Elt F) f5) := by
    delta run_first.sl.r
    rw [ev24]
    simp only [View.readAt_eq_ld, View.ld_unit_zero (S := S256x1024) hz, View.ld_unit_zero (S := S8x1024) hz, View.ld_unit_zero (S := S1x1024) hz]
    rfl
  have er1 : run_first.sl.r_1 c i arg1 arg2 arg3 arg4 arg5 arg12 f1 f2 f3 f4 f5 = v43T i (arg1.view.read (Elt F) f1) (arg2.view.read (Elt F) f2) (arg3.view.read (Elt F) f3) (arg4.view.read (Elt F) f4) (arg5.view.read (Elt F) f5) := by
    delta run_first.sl.r_1
    rw [er, ev30, ev35, ev40]
    rfl
  have er14 : run_first.sl.r_14 c i arg1 arg2 arg3 arg4 arg5 arg6 arg7 arg12 f1 f2 f3 f4 f5 f6 f7 = v104T i (arg1.view.read (Elt F) f1) (arg2.view.read (Elt F) f2) (arg3.view.read (Elt F) f3) (arg4.view.read (Elt F) f4) (arg5.view.read (Elt F) f5) (arg6.view.read (Elt F) f6) (arg7.view.read (Elt F) f7) := by
    delta run_first.sl.r_14 run_first.sl.r_2 run_first.sl.r_4 run_first.sl.r_6 run_first.sl.r_8
    dsimp only
    simp only [er, er1, ev30, ev35, ev40, View.readAt_eq_ld, View.ld_unit_zero (S := S256x1024) hz, View.ld_unit_zero (S := S8x1024) hz, View.ld_unit_zero (S := S1x1024) hz]
    rfl
  have eA : ∀ g, arg13.view.read (Elt F) (arg13.view.writes (Elt F) g (run_first.sl.H13_1 c i arg1 arg2 arg3 arg4 arg5 arg6 arg7 arg9 arg12 f1 f2 f3 f4 f5 f6 f7 f9)) = aTile i (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) := by
    intro g
    delta run_first.sl.H13_1
    rw [read_fill, er14]
    simp only [View.readAt_eq_ld, View.ld_unit_zero (S := S256x1024) hz, View.ld_unit_zero (S := S8x1024) hz, View.ld_unit_zero (S := S1x1024) hz]
    rfl
  have eB : ∀ g, arg14.view.read (Elt F) (arg14.view.writes (Elt F) g (run_first.sl.H14_1 c i arg1 arg2 arg3 arg4 arg5 arg6 arg7 arg8 arg9 arg12 f1 f2 f3 f4 f5 f6 f7 f8 f9)) = bTile i (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) := by
    intro g
    delta run_first.sl.H14_1
    rw [read_fill, er14, er1]
    delta run_first.sl.r_3 run_first.sl.r_5 run_first.sl.r_7 run_first.sl.r_8 run_first.sl.r_9 run_first.sl.r_10 run_first.sl.r_11 run_first.sl.r_12 run_first.sl.r_13
    dsimp only
    simp only [er, er1, ev30, ev35, ev40, View.readAt_eq_ld, View.ld_unit_zero (S := S256x1024) hz, View.ld_unit_zero (S := S8x1024) hz, View.ld_unit_zero (S := S1x1024) hz]
    rfl
  have eH : run_first.sl.v141 c arg10 arg15 f10 = k0_pay9 (arg10.view.read (Elt F) f10) := by
    delta run_first.sl.v141 run_first.sl.H15_1
    rw [View.readCov_unit_zero (S := S1x1024) _ hz]
    simp only [View.readAt_eq_ld, View.ld_unit_zero (S := S256x1024) hz, View.ld_unit_zero (S := S8x1024) hz, View.ld_unit_zero (S := S1x1024) hz]
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (st_out _ _ _ _ _ _ _ _ _ _ _ _ _ _ _ _ _ _ _ _ _ _ _ _ _ _ _ _ _ _ _ _ _ _ _ _ _ _ _ _ _ _ _ _ _ _ _ arg11.view _).trans ?_
    rw [eA, eB]
    rw [eH]
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  · iexists _; isplitr
    swap; · iexact H15
    ipureintro
    delta run_first.sl.r_15
    rw [View.read_writes_eq_canon _ _ _ (View.cover_of_tiled _ S1x1024.size (by rfl)), View.canon_cons_unit_zero (S := S1x1024) hz]
    refine congrArg k0_pay1 ((st_carry _ _ _ _ _ _ _ _ _ _ _ _ _ _ _ _ _ _ _ _ _ _ _ _ _ _ _ _ _ _ _ _ _ _ _ _ _ _ _ _ _ _ _ _ _ _ _).trans ?_)
    rw [eA, eB]
    rw [eH]

set_option maxHeartbeats 1000000 in
/-- The body at a later tile: the state is the one the tile before left. -/
theorem run_rest (c : Dev nD) (E : Set ℕ) (i : grid0.Coords) (hc : ¬ cond i = 1#1) (arg1 : Memref sig .tc .vmem S256x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S272x1024 .f32) (harg12 : arg12.IsWhole) (arg13 : Memref sig .tc .vmem S256x1024 .f32) (harg13 : arg13.IsWhole) (arg14 : Memref sig .tc .vmem S256x1024 .f32) (harg14 : arg14.IsWhole) (arg15 : Memref sig .tc .vmem S1x1024 .f32) (harg15 : arg15.IsWhole) (x1 : Vec F S256x1024 .f32) (x2 x3 : Vec F S8x1024 .f32) (x4 : Vec F S4x1024 .f32) (x5 : Vec F S1x1024 .f32) (x6 : Vec F S8x128x256 .bf16) (x7 x8 x9 : Vec F S1x1024 .f32) (x10 : Vec F S1x1024 .f32) (h0 : Vec F S1x1024 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare h0
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outTile (aTile i x1 x2 x3 x4 x5 x6 x7 x8 x9) (bTile i x1 x2 x3 x4 x5 x6 x7 x8 x9) h0) ∗ (∃ d, owns (c : Thread nD τ) arg12 fullShare d) ∗ (∃ d, owns (c : Thread nD τ) arg13 fullShare d) ∗ (∃ d, owns (c : Thread nD τ) arg14 fullShare d)
            ∗ owns (c : Thread nD τ) arg15 fullShare (k0_pay1 (hRow (aTile i x1 x2 x3 x4 x5 x6 x7 x8 x9) (bTile i x1 x2 x3 x4 x5 x6 x7 x8 x9) h0 256))) -∗ K ⟨⟩))
      ⊢ wp frame (wpE (defs₀ (F := F)) Variants.none c none) E (cc0_scan_fwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  unfold cond at hc
  simp only [cc0_scan_fwd_eq_skeleton]; unfold cc0_scan_fwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, Hk⟩
  subst hf1 hf2 hf3 hf4 hf5 hf6 hf7 hf8 hf9 hf10 hf15
  sl_exec (disch := first | sl_exact hc)
  sl_step
  have ev24 : run_rest.sl.v24 c i arg1 arg2 arg3 arg12 f1 f2 f3 = xwin 6 (by decide) i (arg1.view.read (Elt F) f1) (arg2.view.read (Elt F) f2) (arg3.view.read (Elt F) f3) := by
    delta run_rest.sl.v24 run_rest.sl.H12_3
    rw [View.readCov_eq_canon']
    simp only [View.readAt_eq_ld, View.ld_unit_zero (S := S256x1024) hz, View.ld_unit_zero (S := S8x1024) hz, View.ld_unit_zero (S := S1x1024) hz]
    rfl
  have ev30 : run_rest.sl.v30 c i arg1 arg2 arg3 arg12 f1 f2 f3 = xwin 7 (by decide) i (arg1.view.read (Elt F) f1) (arg2.view.read (Elt F) f2) (arg3.view.read (Elt F) f3) := by
    delta run_rest.sl.v30 run_rest.sl.H12_3
    rw [View.readCov_eq_canon']
    simp only [View.readAt_eq_ld, View.ld_unit_zero (S := S256x1024) hz, View.ld_unit_zero (S := S8x1024) hz, View.ld_unit_zero (S := S1x1024) hz]
    rfl
  have ev35 : run_rest.sl.v35 c i arg1 arg2 arg3 arg12 f1 f2 f3 = xwin 8 (by decide) i (arg1.view.read (Elt F) f1) (arg2.view.read (Elt F) f2) (arg3.view.read (Elt F) f3) := by
    delta run_rest.sl.v35 run_rest.sl.H12_3
    rw [View.readCov_eq_canon']
    simp only [View.readAt_eq_ld, View.ld_unit_zero (S := S256x1024) hz, View.ld_unit_zero (S := S8x1024) hz, View.ld_unit_zero (S := S1x1024) hz]
    rfl
  have ev40 : run_rest.sl.v40 c i arg1 arg2 arg3 arg12 f1 f2 f3 = xwin 9 (by decide) i (arg1.view.read (Elt F) f1) (arg2.view.read (Elt F) f2) (arg3.view.read (Elt F) f3) := by
    delta run_rest.sl.v40 run_rest.sl.H12_3
    rw [View.readCov_eq_canon']
    simp only [View.readAt_eq_ld, View.ld_unit_zero (S := S256x1024) hz, View.ld_unit_zero (S := S8x1024) hz, View.ld_unit_zero (S := S1x1024) hz]
    rfl
  have er : run_rest.sl.r c i arg1 arg2 arg3 arg4 arg5 arg12 f1 f2 f3 f4 f5 = v28T i (arg1.view.read (Elt F) f1) (arg2.view.read (Elt F) f2) (arg3.view.read (Elt F) f3) (arg4.view.read (Elt F) f4) (arg5.view.read (Elt F) f5) := by
    delta run_rest.sl.r
    rw [ev24]
    simp only [View.readAt_eq_ld, View.ld_unit_zero (S := S256x1024) hz, View.ld_unit_zero (S := S8x1024) hz, View.ld_unit_zero (S := S1x1024) hz]
    rfl
  have er1 : run_rest.sl.r_1 c i arg1 arg2 arg3 arg4 arg5 arg12 f1 f2 f3 f4 f5 = v43T i (arg1.view.read (Elt F) f1) (arg2.view.read (Elt F) f2) (arg3.view.read (Elt F) f3) (arg4.view.read (Elt F) f4) (arg5.view.read (Elt F) f5) := by
    delta run_rest.sl.r_1
    rw [er, ev30, ev35, ev40]
    rfl
  have er14 : run_rest.sl.r_14 c i arg1 arg2 arg3 arg4 arg5 arg6 arg7 arg12 f1 f2 f3 f4 f5 f6 f7 = v104T i (arg1.view.read (Elt F) f1) (arg2.view.read (Elt F) f2) (arg3.view.read (Elt F) f3) (arg4.view.read (Elt F) f4) (arg5.view.read (Elt F) f5) (arg6.view.read (Elt F) f6) (arg7.view.read (Elt F) f7) := by
    delta run_rest.sl.r_14 run_rest.sl.r_2 run_rest.sl.r_4 run_rest.sl.r_6 run_rest.sl.r_8
    dsimp only
    simp only [er, er1, ev30, ev35, ev40, View.readAt_eq_ld, View.ld_unit_zero (S := S256x1024) hz, View.ld_unit_zero (S := S8x1024) hz, View.ld_unit_zero (S := S1x1024) hz]
    rfl
  have eA : ∀ g, arg13.view.read (Elt F) (arg13.view.writes (Elt F) g (run_rest.sl.H13_1 c i arg1 arg2 arg3 arg4 arg5 arg6 arg7 arg9 arg12 f1 f2 f3 f4 f5 f6 f7 f9)) = aTile i (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) := by
    intro g
    delta run_rest.sl.H13_1
    rw [read_fill, er14]
    simp only [View.readAt_eq_ld, View.ld_unit_zero (S := S256x1024) hz, View.ld_unit_zero (S := S8x1024) hz, View.ld_unit_zero (S := S1x1024) hz]
    rfl
  have eB : ∀ g, arg14.view.read (Elt F) (arg14.view.writes (Elt F) g (run_rest.sl.H14_1 c i arg1 arg2 arg3 arg4 arg5 arg6 arg7 arg8 arg9 arg12 f1 f2 f3 f4 f5 f6 f7 f8 f9)) = bTile i (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) := by
    intro g
    delta run_rest.sl.H14_1
    rw [read_fill, er14, er1]
    delta run_rest.sl.r_3 run_rest.sl.r_5 run_rest.sl.r_7 run_rest.sl.r_8 run_rest.sl.r_9 run_rest.sl.r_10 run_rest.sl.r_11 run_rest.sl.r_12 run_rest.sl.r_13
    dsimp only
    simp only [er, er1, ev30, ev35, ev40, View.readAt_eq_ld, View.ld_unit_zero (S := S256x1024) hz, View.ld_unit_zero (S := S8x1024) hz, View.ld_unit_zero (S := S1x1024) hz]
    rfl
  have eH : View.readAt (Elt F) arg15.view (Rect.unit (s := S1x1024) ![0, 0] S1x1024.size inb_S1x1024_S1x1024_0_0).toLoadRect f15 = arg15.view.read (Elt F) f15 := by
    rw [View.readAt_eq_ld, View.ld_unit_zero (S := S1x1024) hz]
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (st_out _ _ _ _ _ _ _ _ _ _ _ _ _ _ _ _ _ _ _ _ _ _ _ _ _ _ _ _ _ _ _ _ _ _ _ _ _ _ _ _ _ _ _ _ _ _ _ arg11.view _).trans ?_
    rw [eA, eB]
    exact congrArg (fun h => outTile (aTile i (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9)) (bTile i (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9)) h) eH
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  · iexists _; isplitr
    swap; · iexact H15
    ipureintro
    delta run_rest.sl.r_15
    rw [View.read_writes_eq_canon _ _ _ (View.cover_of_tiled _ S1x1024.size (by rfl)), View.canon_cons_unit_zero (S := S1x1024) hz]
    refine congrArg k0_pay1 ((st_carry _ _ _ _ _ _ _ _ _ _ _ _ _ _ _ _ _ _ _ _ _ _ _ _ _ _ _ _ _ _ _ _ _ _ _ _ _ _ _ _ _ _ _ _ _ _ _).trans ?_)
    rw [eA, eB]
    exact congrArg (fun h => hRow (aTile i (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9)) (bTile i (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9)) h 256) eH

/-! ## The carried state, tile by tile -/

variable (m : (ℓ : Loc nD τ sig) → Buf (Elt F) ℓ) (ρ : Dev nD → PrngReg)

/-- The body's condition holds exactly at the first tile. -/
theorem first_iff : ∀ t : Fin cfg0.N, cond (grid0.coords t) = 1#1 ↔ t.val = 0 := by decide +kernel

/-- The recurrence's factors at tile `t`. -/
def aAt (c : Dev nD) (t : Fin cfg0.N) : Vec F S256x1024 .f32 := aTile (grid0.coords t) (iblk m c 0 t) (iblk m c 1 t) (iblk m c 2 t) (iblk m c 3 t) (iblk m c 4 t) (iblk m c 5 t) (iblk m c 6 t) (iblk m c 7 t) (iblk m c 8 t)

/-- The recurrence's terms at tile `t`. -/
def bAt (c : Dev nD) (t : Fin cfg0.N) : Vec F S256x1024 .f32 := bTile (grid0.coords t) (iblk m c 0 t) (iblk m c 1 t) (iblk m c 2 t) (iblk m c 3 t) (iblk m c 4 t) (iblk m c 5 t) (iblk m c 6 t) (iblk m c 7 t) (iblk m c 8 t)

/-- The state after the first `n` tiles. -/
def carry (c : Dev nD) : ℕ → Vec F S1x1024 .f32
  | 0 => k0_pay9 (iblk m c 9 ⟨0, by decide⟩)
  | n + 1 => if h : n < cfg0.N then k0_pay1 (hRow (aAt m c ⟨n, h⟩) (bAt m c ⟨n, h⟩) (carry c n) 256) else carry c n

theorem carry_succ (c : Dev nD) (t : Fin cfg0.N) : carry m c (t.val + 1) = k0_pay1 (hRow (aAt m c t) (bAt m c t) (carry m c t.val) 256) := by
  show (if h : t.val < cfg0.N then _ else _) = _
  rw [dif_pos t.isLt]

theorem carry_first (c : Dev nD) (t : Fin cfg0.N) (h : t.val = 0) : carry m c t.val = k0_pay9 (iblk m c 9 t) := by
  obtain ⟨n, hn⟩ := t
  dsimp only at h
  subst h
  rfl

/-- What tile `t` leaves in the output's buffer. -/
def outAt (c : Dev nD) (t : Fin cfg0.N) : Vec F S256x1024 .f32 := outTile (aAt m c t) (bAt m c t) (carry m c t.val)

/-! ## The pipeline's proof data -/

/-- The four scratches. -/
abbrev scM0_0 : Memref sig .tc .vmem S272x1024 .f32 := Memref.whole cc0_scratch0
abbrev scM0_1 : Memref sig .tc .vmem S256x1024 .f32 := Memref.whole cc0_scratch1
abbrev scM0_2 : Memref sig .tc .vmem S256x1024 .f32 := Memref.whole cc0_scratch2
abbrev scM0_3 : Memref sig .tc .vmem S1x1024 .f32 := Memref.whole cc0_scratch3

theorem PhiA0_eq (c : Dev nD) : (Pipeline.ΦA spec0 c : sProp 𝕄)
    = iprop(iprop((∃ d, owns (c : Thread nD τ) scM0_0 fullShare d) ∗ (∃ d, owns (c : Thread nD τ) scM0_1 fullShare d) ∗ (∃ d, owns (c : Thread nD τ) scM0_2 fullShare d)
        ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- Between points: before the first the scratches at anything; after `n` tiles the last one at the state after them. -/
def PhiS (c : Dev nD) : (n : ℕ) → n ≤ cfg0.N → sProp 𝕄
  | 0, _ => Pipeline.ΦA spec0 c
  | n + 1, _ => iprop(iprop((∃ d, owns (c : Thread nD τ) scM0_0 fullShare d) ∗ (∃ d, owns (c : Thread nD τ) scM0_1 fullShare d) ∗ (∃ d, owns (c : Thread nD τ) scM0_2 fullShare d)
        ∗ owns (c : Thread nD τ) scM0_3 fullShare (carry m c (n + 1))) ∗ (∃ r, prngReg c r))

theorem PhiS_zero (c : Dev nD) (n : ℕ) (hn : n ≤ cfg0.N) (h : n = 0) : PhiS m c n hn = Pipeline.ΦA spec0 c := by subst h; rfl

theorem PhiS_pos (c : Dev nD) (n : ℕ) (hn : n ≤ cfg0.N) (h : n ≠ 0) : PhiS m c n hn
    = iprop(iprop((∃ d, owns (c : Thread nD τ) scM0_0 fullShare d) ∗ (∃ d, owns (c : Thread nD τ) scM0_1 fullShare d) ∗ (∃ d, owns (c : Thread nD τ) scM0_2 fullShare d)
        ∗ owns (c : Thread nD τ) scM0_3 fullShare (carry m c n)) ∗ (∃ r, prngReg c r)) := by
  cases n with
  | zero => exact absurd rfl h
  | succ n => rfl

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = PhiS m c (t.val + 1) t.isLt from rfl, PhiS_pos m c (t.val + 1) t.isLt (Nat.succ_ne_zero _), PhiS_castSucc,
    show (dats m 0 c).owesAt () t.succ = (dats m 0 c).owesAt () t.castSucc from rfl,
    after_0, after_1, after_2, after_3, after_4, after_5, after_6, after_7, after_8, after_9, after_10]
  by_cases h : t.val = 0
  · rw [PhiS_zero m c t.val _ h, PhiA0_eq]
    iintro ⟨⟨⟨⟨%s0, HS0⟩, ⟨%s1, HS1⟩, ⟨%s2, HS2⟩, ⟨%s3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_first c Set.univ (grid0.coords t) ((first_iff t).mpr h) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexists _; iexact HS0
    isplitl [HS1]; · iexists _; iexact HS1
    isplitl [HS2]; · iexists _; iexact HS2
    isplitl [HS3]; · iexists _; iexact HS3
    iintro ⟨H0, H1, H2, H3, H4, H5, H6, H7, H8, H9, H10, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        rw [carry_succ]; rw [carry_first m c t h]; iexact HS3
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    rw [outAt, carry_first m c t h]; iexact H10
  · rw [PhiS_pos m c t.val _ h]
    iintro ⟨⟨⟨⟨%s0, HS0⟩, ⟨%s1, HS1⟩, ⟨%s2, HS2⟩, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_rest c Set.univ (grid0.coords t) (fun e => h ((first_iff t).mp e)) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (carry m c t.val) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexists _; iexact HS0
    isplitl [HS1]; · iexists _; iexact HS1
    isplitl [HS2]; · iexists _; iexact HS2
    isplitl [HS3]; · iexact HS3
    iintro ⟨H0, H1, H2, H3, H4, H5, H6, H7, H8, H9, H10, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        rw [carry_succ]; iexact HS3
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots is the body at `t`. -/
theorem row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The run and the frame -/

theorem hin (c : Dev nD) : Pipeline.ΦA spec0 c ⊢ (dats (F := F) m 0 c).Φ 0 := by
  rw [show (dats m 0 c).Φ 0 = PhiS m c 0 (Nat.zero_le _) from rfl, PhiS_zero m c 0 _ rfl]
  try exact Idealize.SL.BI.Entails.refl _

theorem hout (c : Dev nD) : (dats (F := F) m 0 c).Φ (Fin.last cfg0.N) ⊢ Pipeline.ΦA spec0 c := by
  rw [show (dats m 0 c).Φ (Fin.last cfg0.N) = PhiS m c cfg0.N (le_refl _) from rfl, PhiS_pos m c cfg0.N _ (by decide), PhiA0_eq]
  iintro ⟨⟨H0, H1, H2, H3⟩, Hg⟩
  isplitl [H0 H1 H2 H3]
  · isplitl [H0]; · iexact H0
    isplitl [H1]; · iexact H1
    isplitl [H2]; · iexact H2
    iexists _; iexact H3
  · iexact Hg

set_option backward.isDefEq.respectTransparency.types false in
set_option maxHeartbeats 800000 in
/-- The launch: every array ends at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every argument array ends as it started and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.Proof.ScanRun

end
-- ==== Proof.ScanRunBits.lean ====
/-
The frame of the forward recurrence's kernel as printed. Idealization applied no rule, so the printed program is the
idealized one at every type of floats, and the run by hand of the idealized one, at bits, is the printed one's.
-/
module

public import proofs.«01_k».proof.Proof.ScanRun
public import proofs.«01_k».proof.Proof.Gen.Kernel.Frame

@[expose] public section

set_option maxRecDepth 65536

noncomputable section

namespace Cert.Proof.ScanRunBits

open Cert.Kernel Cert.Kernel.Gen
open Idealize.ShloMosaic Idealize.ShloMosaic.TcCoe
open Idealize.SL.Sem

variable {F : FTy → Type} [FloatOps F]

/-- The two kernels' bodies are one program. -/
theorem body_same : cc0_scan_fwd (F := F) = Cert.KernelIdeal.cc0_scan_fwd (F := F) := rfl

/-- So are their body tables, -/
theorem table_same : defs₀ (F := F) = Cert.KernelIdeal.defs₀ (F := F) := by
  unfold defs₀ Cert.KernelIdeal.defs₀
  refine congrArg (Defs.onTc (τ := τ)) ?_
  funext l x
  match l, x with
  | 0, (t, s) => rfl

/-- with the pipeline's region, -/
theorem defs_same : defs (F := F) = Cert.KernelIdeal.defs (F := F) :=
  congrArg (Pipeline.defs (pcfgs (F := F))) table_same

/-- and the programs that call them. -/
theorem main_same : main (F := F) = Cert.KernelIdeal.main (F := F) := rfl

variable (m : (ℓ : Loc nD τ sig) → Buf (Elt Bits) ℓ) (ρ : Dev nD → PrngReg)

/-- The frame: every argument array ends as it started and every counter at zero. -/
theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  rw [defs_same, main_same]
  exact Cert.Proof.ScanRun.frame (F := Bits) m ρ

end Cert.Proof.ScanRunBits

end
-- ==== Proof.ScanRef.lean ====
/-
The reference of the recurrence: its loop over the sequence read back as a recursion over the rows, its result's rows
the states of that recursion; and what it computes before the loop, read at an index.
-/
module

public import proofs.«01_k».proof.Proof.Gen.ReferenceIdeal.Run
public import proofs.«01_k».proof.Proof.Gen.ReferenceIdeal.Step
public import Idealize.ShloMosaic.Lib.MatmulPlain
public import Idealize.ShloMosaic.Lib.IdealHost
public import Idealize.ShloMosaic.Lib.Pointwise
public import Idealize.ShloMosaic.Lib.DynamicIndex
public import Idealize.ShloMosaic.Lib.StableHlo.ReadAt

@[expose] public section

set_option maxRecDepth 16384

noncomputable section

namespace Cert.Proof.ScanRef

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

theorem ix2_ext {n k : Nat} {i : (⟨2, ![n, k]⟩ : Shape).Idx} {a : Fin n} {b : Fin k} (h0 : (i 0).val = a.val) (h1 : (i 1).val = b.val) : i = ix2 a b :=
  funext fun x => Fin.ext (by match x with | ⟨0, _⟩ => exact h0 | ⟨1, _⟩ => exact h1)

theorem ix1_ext {n : Nat} {i : (⟨1, ![n]⟩ : Shape).Idx} {a : Fin n} (h0 : (i 0).val = a.val) : i = ix1 a :=
  funext fun x => Fin.ext (by match x with | ⟨0, _⟩ => exact h0)

section loop

variable {F : FTy → Type} [FloatOps F]

/-- The states: row by row h ↦ a · h + b (past the last row nothing happens). -/
def hAt (A B : Vec F S16384x1024 .f32) (h : Vec F S1024 .f32) : ℕ → Vec F S1024 .f32
  | 0 => h
  | t + 1 => if ht : t < 16384 then
      addf (mulf (fun j => A (ix2 ⟨t, ht⟩ (j 0))) (hAt A B h t)) (fun j => B (ix2 ⟨t, ht⟩ (j 0)))
    else hAt A B h t

theorem hAt_succ (A B : Vec F S16384x1024 .f32) (h : Vec F S1024 .f32) (t : ℕ) (ht : t < 16384) :
    hAt A B h (t + 1) = addf (mulf (fun j => A (ix2 ⟨t, ht⟩ (j 0))) (hAt A B h t)) (fun j => B (ix2 ⟨t, ht⟩ (j 0))) := by
  show (if ht : t < 16384 then _ else _) = _
  rw [dif_pos ht]

/-- The word a row's number is, read signed. -/
theorem toInt_row (t : ℕ) (ht : t < 16384) : (BitVec.ofNat 32 t).toInt = (t : Int) := by
  rw [BitVec.toInt_eq_toNat_of_lt] <;> rw [BitVec.toNat_ofNat, Nat.mod_eq_of_lt (by omega)]
  omega

/-- The two starts of a row's slice, as a loop's trip computes them. -/
abbrev starts (n : (⟨S_, .i32⟩ : BufTy).Contents (Elt F)) : Fin 2 → Int :=
  fun k => (((![n, constantI S_ 32 0#32] : Fin 2 → (⟨S_, .i32⟩ : BufTy).Contents (Elt F))) k (Shape.Idx.first h_S_)).toInt

theorem starts_eq (t : ℕ) (ht : t < 16384) : ∀ k, starts (F := F) (constantI S_ 32 (BitVec.ofNat 32 t)) k = ((![t, 0] : Fin 2 → ℕ) k : Int) := by
  intro k
  match k with
  | ⟨0, _⟩ => exact toInt_row t ht
  | ⟨1, _⟩ => rfl

/-- A row of an array, as the loop slices it. -/
theorem slice_row (A : Vec F S16384x1024 .f32) (t : ℕ) (ht : t < 16384) :
    shapeCast S1024 (Host.dynamicSlice S1x1024 A (starts (F := F) (constantI S_ 32 (BitVec.ofNat 32 t))) sliceFits_S16384x1024_S1x1024) shapeCasts_S1x1024_S1024
      = fun j => A (ix2 ⟨t, ht⟩ (j 0)) := by
  have hoff : S16384x1024.Slices ![t, 0] S1x1024 := ⟨rfl, fun a => by match a with | ⟨0, _⟩ => (show t + 1 ≤ 16384; omega) | ⟨1, _⟩ => (show 0 + 1024 ≤ 1024; omega)⟩
  rw [Host.dynamicSlice_eq_extractStridedSlice S1x1024 A _ ![t, 0] sliceFits_S16384x1024_S1x1024 hoff (starts_eq t ht)]
  funext j
  rw [eq_ix1 j]
  pointwise

/-- An array with one row replaced, as the loop writes it. -/
theorem update_row (X : Vec F S16384x1024 .f32) (r : Vec F S1024 .f32) (t : ℕ) (ht : t < 16384) (y : S16384x1024.Idx) :
    Host.dynamicUpdateSlice X (broadcastInDim S1x1024 ![1] bcast_S1024_S1x1024_1 r) (starts (F := F) (constantI S_ 32 (BitVec.ofNat 32 t))) updateFits_S16384x1024_S1x1024 y
      = if (y 0).val = t then r (ix1 (y 1)) else X y := by
  have c0 : Host.clampedStart S16384x1024 S1x1024 updateFits_S16384x1024_S1x1024.1 (starts (F := F) (constantI S_ 32 (BitVec.ofNat 32 t))) 0 = t :=
    Host.clampedStart_of_le _ _ 0 t (starts_eq t ht 0) (by show t + 1 ≤ 16384; omega)
  have c1 : Host.clampedStart S16384x1024 S1x1024 updateFits_S16384x1024_S1x1024.1 (starts (F := F) (constantI S_ 32 (BitVec.ofNat 32 t))) 1 = 0 :=
    Host.clampedStart_of_le _ _ 1 0 (starts_eq t ht 1) (by show 0 + 1024 ≤ 1024; omega)
  rw [Host.dynamicUpdateSlice_apply]
  by_cases h : (y 0).val = t
  · rw [if_pos h, dif_pos]
    · refine congrArg r (ix1_ext ?_)
      show (y 1).val - Host.clampedStart S16384x1024 S1x1024 updateFits_S16384x1024_S1x1024.1 _ 1 = (y 1).val
      rw [c1]; rfl
    · intro a
      match a with
      | ⟨0, _⟩ => exact ⟨by rw [show (⟨0, by decide⟩ : Fin S16384x1024.rank) = 0 from rfl, c0]; omega, by rw [show (⟨0, by decide⟩ : Fin S16384x1024.rank) = 0 from rfl, c0]; show (y 0).val < t + 1; omega⟩
      | ⟨1, _⟩ => exact ⟨by rw [show (⟨1, by decide⟩ : Fin S16384x1024.rank) = 1 from rfl, c1]; omega, by rw [show (⟨1, by decide⟩ : Fin S16384x1024.rank) = 1 from rfl, c1]; show (y 1).val < 0 + 1024; exact lt_of_lt_of_eq (y 1).isLt rfl⟩
  · rw [if_neg h, dif_neg]
    intro hin
    have h0 := hin 0
    rw [c0] at h0
    have : (y 0).val < t + 1 := h0.2
    omega

/-- Before trip `k`: the two arrays, the trip's number, the state after `k` rows, and the rows written so far. -/
structure Holds (A B : Vec F S16384x1024 .f32) (h : Vec F S1024 .f32) (k : ℕ) (V : Valuation τ sig (Elt F)) : Prop where
  a : V (Proc.devRef .tc main_v74_0) = A
  b : V (Proc.devRef .tc main_v74_1) = B
  n : V (Proc.devRef .tc main_v74_2) = constantI S_ 32 (BitVec.ofNat 32 k)
  s : V (Proc.devRef .tc main_v74_3) = hAt A B h k
  o : ∀ y : S16384x1024.Idx, (y 0).val < k → (V (Proc.devRef .tc main_v74_4) : Vec F S16384x1024 .f32) y = hAt A B h ((y 0).val + 1) (ix1 (y 1))

variable {A B : Vec F S16384x1024 .f32} {h : Vec F S1024 .f32} {k : ℕ} {V : Valuation τ sig (Elt F)}

/-- The state a trip computes. -/
theorem next_state (H : Holds A B h k V) (hk : k < 16384) : res_main_while0b_v78 V = hAt A B h (k + 1) := by
  rw [hAt_succ A B h k hk, ← slice_row A k hk, ← slice_row B k hk, ← H.s, ← H.a, ← H.b, ← H.n]
  unfold res_main_while0b_v78
  rfl

/-- One trip. -/
theorem holds_step (H : Holds A B h k V) (hk : k < 16384) : Holds A B h (k + 1) (STEP V) where
  a := (STEP_main_v74_0 V).trans H.a
  b := (STEP_main_v74_1 V).trans H.b
  n := by
    rw [STEP_main_v74_2]
    unfold Value.step_main_v74_2
    rw [H.n]
    funext i
    show BitVec.ofNat 32 k + 1#32 = BitVec.ofNat 32 (k + 1)
    simp only [BitVec.ofNat_add]
  s := by
    rw [STEP_main_v74_3]
    unfold Value.step_main_v74_3
    exact next_state H hk
  o := fun y hy => by
    rw [STEP_main_v74_4]
    unfold Value.step_main_v74_4
    have e := update_row (V (Proc.devRef .tc main_v74_4)) (res_main_while0b_v78 V) k hk y
    rw [← H.n] at e
    refine Eq.trans e ?_
    by_cases hyk : (y 0).val = k
    · rw [if_pos hyk, next_state H hk, hyk]
    · rw [if_neg hyk]
      exact H.o y (by omega)

/-- All the trips up to number `k`. -/
theorem holds_iter (H : Holds A B h 0 V) : ∀ k, k ≤ 16384 → Holds A B h k (STEP^[k] V)
  | 0, _ => H
  | k + 1, hk => by
    rw [Function.iterate_succ_apply']
    exact holds_step (holds_iter H k (by omega)) (by omega)

/-- The array of all the states. -/
def states (A B : Vec F S16384x1024 .f32) (h : Vec F S1024 .f32) : Vec F S16384x1024 .f32 := fun y => hAt A B h ((y 0).val + 1) (ix1 (y 1))

variable (m : (ℓ : Loc nD τ sig) → Buf (Elt F) ℓ) (ρ : Dev nD → PrngReg)

set_option maxRecDepth 65536 in
set_option maxHeartbeats 1000000 in
/-- What the operations before the loop leave it. -/
theorem entry_holds (c : Dev nD) : Holds (A_main_v64 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (A_main_v71 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (A_main_v72 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) 0 (entryContents preI m c) := by
  constructor
  case o => exact fun y hy => absurd hy (Nat.not_lt_zero _)
  all_goals (simp only [entryContents, afterL_cons, afterL_nil]; after_reads_simp)
  all_goals rfl

/-- The reference's result. -/
theorem run_states : θ_run (defs (F := F)) (onTc (τ := τ) (main (F := F))) ⟨m, fun _ => 0, ρ⟩ fun r => ∀ c : Dev nD,
    r.2.mem ((c.tc : Thread nD τ).loc main_v74_4) = states (A_main_v64 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (A_main_v71 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (A_main_v72 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  (θ_run defs _ _).mono (fun r hr c => ⟨(hr c).1.trans (funext fun y => (holds_iter (entry_holds m c) 16384 le_rfl).o y (y 0).isLt), (hr c).2⟩) (Value.run m ρ)

end loop

section values

variable (x0 : Vec Ideal S16384x3072 .f32) (x1 : Vec Ideal S4x1024 .f32) (x2 : Vec Ideal S1024 .f32) (x3 : Vec Ideal S8x128x128 .f32)
  (x4 : Vec Ideal S8x128 .f32) (x5 : Vec Ideal S8x128x128 .f32) (x6 : Vec Ideal S8x128 .f32) (x7 : Vec Ideal S1024 .f32) (x8 : Vec Ideal S1x1024 .f32)

/-- The sequence with two zero rows in front and zero rows behind. -/
def px (n : ℕ) (c : Fin 1024) : EReal := if h : 2 ≤ n ∧ n - 2 < 16384 then x0 (ix2 ⟨n - 2, by omega⟩ ⟨c.val, by omega⟩) else 0

/-- The convolution at a row and a column. -/
def xc (l : ℕ) (c : Fin 1024) : EReal :=
  (((x2 (ix1 c) + x1 (ix2 0 c) * px x0 l c) + x1 (ix2 1 c) * px x0 (1 + l) c) + x1 (ix2 2 c) * px x0 (2 + l) c) + x1 (ix2 3 c) * px x0 (3 + l) c

/-- Column `c`'s head, its place in the head, and a head's column. -/
abbrev hd (c : Fin 1024) : Fin 8 := ⟨c.val / 128, by omega⟩
abbrev pl (c : Fin 1024) : Fin 128 := ⟨c.val % 128, by omega⟩
abbrev col (h : Fin 8) (j : Fin 128) : Fin 1024 := ⟨h.val * 128 + j.val, by omega⟩

/-- A gate's argument: the head's rows through the head's matrix, and its bias. -/
def gate (w : Vec Ideal S8x128x128 .f32) (b : Vec Ideal S8x128 .f32) (l : ℕ) (c : Fin 1024) : EReal :=
  (∑ i : Fin 128, xc x0 x1 x2 l (col (hd c) i) * w (ix3 (hd c) i (pl c))) + b (ix2 (hd c) (pl c))

/-- The softplus of minus the decay's parameter. -/
def sp (c : Fin 1024) : EReal := max (-x7 (ix1 c)) 0 + Ideal.log1p (Ideal.exp (-max (-x7 (ix1 c)) (- -x7 (ix1 c))))

/-- The logarithm of a row's factor. -/
def loga (l : ℕ) (c : Fin 1024) : EReal := Ideal.ofBits .f32 0xC1000000#32 * Ideal.logistic (gate x0 x1 x2 x3 x4 l c) * sp x7 c

set_option maxHeartbeats 1000000 in
theorem pad_apply (n : Fin 16387) (c : Fin 1024) : A_main_v1 (F := Ideal) x0 x1 x2 x3 x4 x5 x6 x7 x8 (ix2 n c) = px x0 n.val c := by
  unfold A_main_v1 A_main_v0 K_main_call0_v0 K_main_c px
  pointwise
  have e : (FloatOps.sitofp (F := Ideal) FTy.f32 0#32 : EReal) = 0 := by
    show (((0#32 : BitVec 32).toInt : ℝ) : EReal) = 0
    norm_num
  rw [e]

theorem conv_apply (l : Fin 16384) (c : Fin 1024) : A_main_v31 (F := Ideal) x0 x1 x2 x3 x4 x5 x6 x7 x8 (ix2 l c) = xc x0 x1 x2 l.val c := by
  simp only [A_main_v2, A_main_v3, A_main_v4, A_main_v5, A_main_v6, A_main_v7, A_main_v8, A_main_v9, A_main_v10, A_main_v11, A_main_v12, A_main_v13, A_main_v14, A_main_v15, A_main_v16, A_main_v17, A_main_v18, A_main_v19, A_main_v20, A_main_v21, A_main_v22, A_main_v23, A_main_v24, A_main_v25, A_main_v26, A_main_v27, A_main_v28, A_main_v29, A_main_v30, A_main_v31]
  pointwise
  simp only [pad_apply]
  rfl

theorem gate_r (l : Fin 16384) (h : Fin 8) (j : Fin 128) : A_main_v37 (F := Ideal) x0 x1 x2 x3 x4 x5 x6 x7 x8 (ix3 l h j) = gate x0 x1 x2 x3 x4 l.val (col h j) := by
  simp only [A_main_v32, A_main_v33, A_main_v34, A_main_v35, A_main_v36, A_main_v37]
  pointwise
  have e1 : hd (col h j) = h := Fin.ext (by show (h.val * 128 + j.val) / 128 = h.val; omega)
  have e2 : pl (col h j) = j := Fin.ext (by show (h.val * 128 + j.val) % 128 = j.val; omega)
  unfold gate
  rw [e1, e2]
  refine congrArg (· + x4 (ix2 h j)) (Finset.sum_congr rfl fun i _ => ?_)
  rw [mul_comm]
  exact congrArg (· * x3 (ix3 h i j)) (conv_apply x0 x1 x2 x3 x4 x5 x6 x7 x8 l (col h i))

theorem loga_apply (l : Fin 16384) (c : Fin 1024) : A_main_v63 (F := Ideal) x0 x1 x2 x3 x4 x5 x6 x7 x8 (ix2 l c) = loga x0 x1 x2 x3 x4 x7 l.val c := by
  unfold loga
  simp only [A_main_v63, A_main_v62, A_main_v61, A_main_v60, A_main_v59, A_main_v58, A_main_v44, A_main_v43, A_main_v41, A_main_v39, A_main_v38, A_main_call1_v1, A_main_call1_v3, A_main_call1_v4, A_main_call1_v6, A_main_call1_v7, A_main_call1_v8, A_main_call1_v9, A_main_call1_v10, A_main_call1_v11, K_main_v57, K_main_cst_3, K_main_v42, K_main_v40, K_main_cst, K_main_cst_0, K_main_call1_v0, K_main_call1_v2, K_main_call1_v5, K_main_call1_cst]
  pointwise
  have e : A_main_v37 x0 x1 x2 x3 x4 x5 x6 x7 x8 (ix3 l (hd c) (pl c)) = gate x0 x1 x2 x3 x4 l.val c :=
    (gate_r x0 x1 x2 x3 x4 x5 x6 x7 x8 l (hd c) (pl c)).trans (congrArg (gate x0 x1 x2 x3 x4 l.val) (Fin.ext (by show c.val / 128 * 128 + c.val % 128 = c.val; omega)))
  rw [e, if_neg (not_not_intro rfl)]
  rfl

theorem gate_i (l : Fin 16384) (h : Fin 8) (j : Fin 128) : A_main_v49 (F := Ideal) x0 x1 x2 x3 x4 x5 x6 x7 x8 (ix3 l h j) = gate x0 x1 x2 x5 x6 l.val (col h j) := by
  simp only [A_main_v32, A_main_v45, A_main_v46, A_main_v47, A_main_v48, A_main_v49]
  pointwise
  have e1 : hd (col h j) = h := Fin.ext (by show (h.val * 128 + j.val) / 128 = h.val; omega)
  have e2 : pl (col h j) = j := Fin.ext (by show (h.val * 128 + j.val) % 128 = j.val; omega)
  unfold gate
  rw [e1, e2]
  refine congrArg (· + x6 (ix2 h j)) (Finset.sum_congr rfl fun i _ => ?_)
  rw [mul_comm]
  exact congrArg (· * x5 (ix3 h i j)) (conv_apply x0 x1 x2 x3 x4 x5 x6 x7 x8 l (col h i))

/-- The recurrence's factor at a row and a column. -/
theorem a_apply (l : Fin 16384) (c : Fin 1024) : A_main_v64 (F := Ideal) x0 x1 x2 x3 x4 x5 x6 x7 x8 (ix2 l c) = Ideal.exp (loga x0 x1 x2 x3 x4 x7 l.val c) := by
  unfold A_main_v64
  pointwise
  rw [loga_apply]

/-- The constant two. -/
theorem ofBits_two : Ideal.ofBits .f32 0x40000000#32 = 2 := by
  rw [show (2 : EReal) = ((2 : ℝ) : EReal) from rfl]
  simp [Ideal.ofBits, Ideal.ieee, -EReal.coe_mul]; norm_num

/-- `1 - e^L · e^L` is the negated `e^(2L) - 1`, at every extended real. -/
theorem one_sub_sq (L : EReal) : 1 - Ideal.exp L * Ideal.exp L = -(Ideal.exp (2 * L) - 1) := by
  induction L with
  | bot =>
    rw [show (2 : EReal) * ⊥ = ⊥ from EReal.coe_mul_bot_of_pos (by norm_num : (0 : ℝ) < 2)]
    show (1 : EReal) - 0 * 0 = -(0 - 1)
    norm_num
  | top =>
    rw [show (2 : EReal) * ⊤ = ⊤ from EReal.coe_mul_top_of_pos (by norm_num : (0 : ℝ) < 2)]
    show (1 : EReal) - ⊤ * ⊤ = -(⊤ - 1)
    rw [EReal.top_mul_top]
    rfl
  | coe r =>
    show (1 : EReal) - (Real.exp r : EReal) * (Real.exp r : EReal) = -(Ideal.exp (2 * (r : EReal)) - 1)
    rw [show (2 : EReal) * (r : EReal) = ((2 * r : ℝ) : EReal) from (EReal.coe_mul 2 r).symm]
    show (1 : EReal) - (Real.exp r : EReal) * (Real.exp r : EReal) = -((Real.exp (2 * r) : EReal) - 1)
    rw [two_mul, Real.exp_add]
    have : (1 : EReal) = ((1 : ℝ) : EReal) := rfl
    rw [this, ← EReal.coe_mul, ← EReal.coe_sub, ← EReal.coe_sub, ← EReal.coe_neg]
    congr 1
    ring

/-- The recurrence's term at a row and a column. -/
theorem b_apply (l : Fin 16384) (c : Fin 1024) : A_main_v71 (F := Ideal) x0 x1 x2 x3 x4 x5 x6 x7 x8 (ix2 l c)
    = Ideal.sqrt (1 - Ideal.exp (loga x0 x1 x2 x3 x4 x7 l.val c) * Ideal.exp (loga x0 x1 x2 x3 x4 x7 l.val c))
        * (Ideal.logistic (gate x0 x1 x2 x5 x6 l.val c) * xc x0 x1 x2 l.val c) := by
  rw [one_sub_sq]
  simp only [A_main_v71, A_main_v70, A_main_v69, A_main_v68, A_main_v67, A_main_v66, A_main_v56, A_main_v55, A_main_v53, A_main_v51, A_main_v50, K_main_v65, K_main_cst_4, K_main_v54, K_main_v52, K_main_cst_1, K_main_cst_2]
  pointwise
  have e : A_main_v49 x0 x1 x2 x3 x4 x5 x6 x7 x8 (ix3 l (hd c) (pl c)) = gate x0 x1 x2 x5 x6 l.val c :=
    (gate_i x0 x1 x2 x3 x4 x5 x6 x7 x8 l (hd c) (pl c)).trans (congrArg (gate x0 x1 x2 x5 x6 l.val) (Fin.ext (by show c.val / 128 * 128 + c.val % 128 = c.val; omega)))
  rw [e, loga_apply, conv_apply, show Ideal.ofBits .f32 1073741824#32 = 2 from ofBits_two]
  rfl

/-- The recurrence's start at a column. -/
theorem h0_apply (c : Fin 1024) : A_main_v72 (F := Ideal) x0 x1 x2 x3 x4 x5 x6 x7 x8 (ix1 c) = x8 (ix2 0 c) := by
  unfold A_main_v72
  pointwise

end values

end Cert.Proof.ScanRef

end
-- ==== Proof.Scan.lean ====
/-
The value of the recurrence's kernel: over a tile the halo'd rows are the zero-padded sequence's, the factors and the
terms the reference's at the tile's rows, the states the reference's recursion; so the result is the reference's at
every index.
-/
module

public import proofs.«01_k».proof.Defs
public import proofs.«01_k».proof.Proof.ScanRun
public import proofs.«01_k».proof.Proof.ScanRef
public import Idealize.ShloMosaic.Lib.MatmulPlain
public import Idealize.ShloMosaic.Lib.IdealHost
public import Idealize.ShloMosaic.Lib.Pointwise
public import Idealize.ShloMosaic.Lib.StableHlo.ReadAt

@[expose] public section

set_option maxRecDepth 16384

noncomputable section

namespace Cert.Proof.Scan

open Cert.KernelIdeal Cert.KernelIdeal.Gen Cert.Proof.ScanRun Idealize.ShloMosaic Idealize.ShloMosaic.TcCoe Idealize.SL.Sem
open Cert.Proof.ScanRef (ix2_ext ix1_ext px xc gate sp loga hd pl col)

/-- A selection by whether a tile's number is a given one. -/
theorem sel_eq (n k : ℕ) (hn : n < 64) (hk : k < 64) (a b : EReal) :
    Scalar.select (Scalar.cmpi .eq (BitVec.ofNat 32 n) (BitVec.ofNat 32 k)) a b = if n = k then a else b := by
  have h : ∀ n k : Fin 64, Scalar.cmpi .eq (BitVec.ofNat 32 n.val) (BitVec.ofNat 32 k.val) = if n = k then 1#1 else 0#1 := by decide +kernel
  rw [show Scalar.cmpi .eq (BitVec.ofNat 32 n) (BitVec.ofNat 32 k) = _ from h ⟨n, hn⟩ ⟨k, hk⟩]
  by_cases e : n = k
  · simp [e, Scalar.select]
  · simp [e, Scalar.select]

/-- Eight pieces of 128 columns, side by side, read at a column: the column's piece at the column's place in it. -/
theorem eight (P : Fin 8 → Fin 128 → EReal) (c : Fin 1024) {f0 f1 f2 f3 f4 f5 f6 f7 : Fin 128 → EReal}
    (e0 : ∀ j, f0 j = P 0 j) (e1 : ∀ j, f1 j = P 1 j) (e2 : ∀ j, f2 j = P 2 j) (e3 : ∀ j, f3 j = P 3 j) (e4 : ∀ j, f4 j = P 4 j) (e5 : ∀ j, f5 j = P 5 j) (e6 : ∀ j, f6 j = P 6 j) (e7 : ∀ j, f7 j = P 7 j) :
    (if h0 : c.val < 128 then f0 ⟨c.val, h0⟩ else if h1 : c.val - 128 < 128 then f1 ⟨c.val - 128, h1⟩ else if h2 : c.val - 128 - 128 < 128 then f2 ⟨c.val - 128 - 128, h2⟩ else if h3 : c.val - 128 - 128 - 128 < 128 then f3 ⟨c.val - 128 - 128 - 128, h3⟩ else if h4 : c.val - 128 - 128 - 128 - 128 < 128 then f4 ⟨c.val - 128 - 128 - 128 - 128, h4⟩ else if h5 : c.val - 128 - 128 - 128 - 128 - 128 < 128 then f5 ⟨c.val - 128 - 128 - 128 - 128 - 128, h5⟩ else if h6 : c.val - 128 - 128 - 128 - 128 - 128 - 128 < 128 then f6 ⟨c.val - 128 - 128 - 128 - 128 - 128 - 128, h6⟩ else f7 ⟨c.val - 128 - 128 - 128 - 128 - 128 - 128 - 128, by omega⟩) = P (hd c) (pl c) := by
  by_cases h0 : c.val < 128
  · rw [dif_pos h0, e0]; exact congrArg₂ P (Fin.ext (show 0 = c.val / 128 by omega)) (Fin.ext (show c.val = c.val % 128 by omega))
  · rw [dif_neg h0]
    by_cases h1 : c.val - 128 < 128
    · rw [dif_pos h1, e1]; exact congrArg₂ P (Fin.ext (show 1 = c.val / 128 by omega)) (Fin.ext (show c.val - 128 = c.val % 128 by omega))
    · rw [dif_neg h1]
      by_cases h2 : c.val - 128 - 128 < 128
      · rw [dif_pos h2, e2]; exact congrArg₂ P (Fin.ext (show 2 = c.val / 128 by omega)) (Fin.ext (show c.val - 128 - 128 = c.val % 128 by omega))
      · rw [dif_neg h2]
        by_cases h3 : c.val - 128 - 128 - 128 < 128
        · rw [dif_pos h3, e3]; exact congrArg₂ P (Fin.ext (show 3 = c.val / 128 by omega)) (Fin.ext (show c.val - 128 - 128 - 128 = c.val % 128 by omega))
        · rw [dif_neg h3]
          by_cases h4 : c.val - 128 - 128 - 128 - 128 < 128
          · rw [dif_pos h4, e4]; exact congrArg₂ P (Fin.ext (show 4 = c.val / 128 by omega)) (Fin.ext (show c.val - 128 - 128 - 128 - 128 = c.val % 128 by omega))
          · rw [dif_neg h4]
            by_cases h5 : c.val - 128 - 128 - 128 - 128 - 128 < 128
            · rw [dif_pos h5, e5]; exact congrArg₂ P (Fin.ext (show 5 = c.val / 128 by omega)) (Fin.ext (show c.val - 128 - 128 - 128 - 128 - 128 = c.val % 128 by omega))
            · rw [dif_neg h5]
              by_cases h6 : c.val - 128 - 128 - 128 - 128 - 128 - 128 < 128
              · rw [dif_pos h6, e6]; exact congrArg₂ P (Fin.ext (show 6 = c.val / 128 by omega)) (Fin.ext (show c.val - 128 - 128 - 128 - 128 - 128 - 128 = c.val % 128 by omega))
              · rw [dif_neg h6]
                rw [e7]
                exact congrArg₂ P (Fin.ext (show 7 = c.val / 128 by omega)) (Fin.ext (show c.val - 128 - 128 - 128 - 128 - 128 - 128 - 128 = c.val % 128 by omega))

section payloads

variable (x0 : Vec Ideal S16384x3072 .f32) (x1 : Vec Ideal S4x1024 .f32) (x2 : Vec Ideal S1024 .f32) (x3 : Vec Ideal S8x128x128 .f32)
  (x4 : Vec Ideal S8x128 .f32) (x5 : Vec Ideal S8x128x128 .f32) (x6 : Vec Ideal S8x128 .f32) (x7 : Vec Ideal S1024 .f32) (x8 : Vec Ideal S1x1024 .f32)

/-- What the ten input blocks at tile `T` are of the arguments. -/
structure Blocks (i : grid0.Coords) (T : ℕ) (b1 : Vec Ideal S256x1024 .f32) (b2 b3 : Vec Ideal S8x1024 .f32) (b4 : Vec Ideal S4x1024 .f32)
    (b5 : Vec Ideal S1x1024 .f32) (b6 : Vec Ideal S8x128x256 .bf16) (b7 b8 b9 : Vec Ideal S1x1024 .f32) : Prop where
  i0 : (i 0).val = T
  hT : T < 64
  p1 : ∀ (r : Fin 256) (c : Fin 1024), b1 (ix2 r c) = x0 (ix2 ⟨256 * T + r.val, by omega⟩ ⟨c.val, by omega⟩)
  p2 : ∀ (r : Fin 8) (c : Fin 1024) (h : 0 < T), b2 (ix2 r c) = x0 (ix2 ⟨256 * T - 8 + r.val, by omega⟩ ⟨c.val, by omega⟩)
  p3 : ∀ (r : Fin 8) (c : Fin 1024) (h : T < 63), b3 (ix2 r c) = x0 (ix2 ⟨256 * T + 256 + r.val, by omega⟩ ⟨c.val, by omega⟩)
  p4 : b4 = x1
  p5 : ∀ c : Fin 1024, b5 (ix2 0 c) = x2 (ix1 c)
  p6a : ∀ (h : Fin 8) (a j : Fin 128), b6 (ix3 h a ⟨j.val, by omega⟩) = x3 (ix3 h a j)
  p6x : ∀ (h : Fin 8) (a j : Fin 128), b6 (ix3 h a ⟨128 + j.val, by omega⟩) = x5 (ix3 h a j)
  p7 : ∀ c : Fin 1024, b7 (ix2 0 c) = x4 (ix2 (hd c) (pl c))
  p8 : ∀ c : Fin 1024, b8 (ix2 0 c) = x6 (ix2 (hd c) (pl c))
  p9 : ∀ c : Fin 1024, b9 (ix2 0 c) = x7 (ix1 c)

/-- A head's product. -/
def prod8 (w : Vec Ideal S8x128x128 .f32) (l : ℕ) (h : Fin 8) (j : Fin 128) : EReal := ∑ q : Fin 128, xc x0 x1 x2 l (Cert.Proof.ScanRef.col h q) * w (ix3 h q j)

variable {x0 x1 x2 x3 x4 x5 x6 x7} {i : grid0.Coords} {T : ℕ} {b1 : Vec Ideal S256x1024 .f32} {b2 b3 : Vec Ideal S8x1024 .f32} {b4 : Vec Ideal S4x1024 .f32}
    {b5 : Vec Ideal S1x1024 .f32} {b6 : Vec Ideal S8x128x256 .bf16} {b7 b8 b9 : Vec Ideal S1x1024 .f32}
  (B : Blocks x0 x1 x2 x3 x4 x5 x6 x7 i T b1 b2 b3 b4 b5 b6 b7 b8 b9)
include B

/-- The halo'd rows are the padded sequence's. -/
theorem xe_apply (y : S272x1024.Idx) : xeTile i b1 b2 b3 y = px x0 (256 * T + (y 0).val - 6) (y 1) := by
  have hT := B.hT
  have i0 := B.i0
  have hy0 : (y 0).val < 272 := (y 0).isLt
  have hy1 : (y 1).val < 1024 := (y 1).isLt
  unfold xeTile
  refine View.canon_apply_of_pieces (Val := Elt Ideal) (e := .f32) (fun y : S272x1024.Idx => px x0 (256 * T + (y 0).val - 6) (y 1)) _ ?_ y ?_
  · intro p hp
    simp only [List.mem_cons, List.not_mem_nil, or_false] at hp
    rcases hp with rfl | rfl | rfl
    · intro x
      obtain ⟨r, k, rfl⟩ : ∃ (r : Fin 8) (k : Fin 1024), x = ix2 r k := ⟨x 0, x 1, ix2_ext rfl rfl⟩
      show k0_pay12 i b3 (ix2 r k) = px x0 (256 * T + (264 + 1 * r.val) - 6) (⟨0 + 1 * k.val, _⟩)
      unfold k0_pay12
      pointwise
      refine (sel_eq (i 0).val 63 (by omega) (by decide) _ _).trans ?_
      unfold px
      by_cases h : T = 63
      · rw [if_pos (by omega), dif_neg (by omega)]
      · rw [if_neg (by omega), dif_pos ⟨by omega, by omega⟩, B.p3 r k (by omega)]
        exact congrArg x0 (ix2_ext (show 256 * T + 256 + r.val = 256 * T + (264 + r.val) - 6 - 2 by omega) rfl)
    · intro x
      obtain ⟨r, k, rfl⟩ : ∃ (r : Fin 256) (k : Fin 1024), x = ix2 r k := ⟨x 0, x 1, ix2_ext rfl rfl⟩
      show k0_pay11 b1 (ix2 r k) = px x0 (256 * T + (8 + 1 * r.val) - 6) (⟨0 + 1 * k.val, _⟩)
      unfold k0_pay11
      pointwise
      rw [B.p1 r k]
      unfold px
      rw [dif_pos ⟨by omega, by omega⟩]
      exact congrArg x0 (ix2_ext (show 256 * T + r.val = 256 * T + (8 + r.val) - 6 - 2 by omega) rfl)
    · intro x
      obtain ⟨r, k, rfl⟩ : ∃ (r : Fin 8) (k : Fin 1024), x = ix2 r k := ⟨x 0, x 1, ix2_ext rfl rfl⟩
      show k0_pay10 i b2 (ix2 r k) = px x0 (256 * T + (0 + 1 * r.val) - 6) (⟨0 + 1 * k.val, _⟩)
      unfold k0_pay10
      pointwise
      refine (sel_eq (i 0).val 0 (by omega) (by decide) _ _).trans ?_
      unfold px
      by_cases h : T = 0
      · rw [if_pos (by omega), dif_neg (by omega)]
      · rw [if_neg (by omega), dif_pos ⟨by omega, by omega⟩, B.p2 r k (by omega)]
        exact congrArg x0 (ix2_ext (show 256 * T - 8 + r.val = 256 * T + r.val - 6 - 2 by omega) rfl)
  · simp only [List.mem_cons, List.not_mem_nil, or_false, exists_eq_or_imp, exists_eq_left, Rect.mem_set_unit]
    by_cases h1 : 264 ≤ (y 0).val
    · refine Or.inl fun a => ?_
      match a with
      | ⟨0, _⟩ => exact ⟨h1, show (y 0).val < 264 + 8 by omega⟩
      | ⟨1, _⟩ => exact ⟨Nat.zero_le _, show (y 1).val < 0 + 1024 by omega⟩
    · by_cases h2 : 8 ≤ (y 0).val
      · refine Or.inr (Or.inl fun a => ?_)
        match a with
        | ⟨0, _⟩ => exact ⟨h2, show (y 0).val < 8 + 256 by omega⟩
        | ⟨1, _⟩ => exact ⟨Nat.zero_le _, show (y 1).val < 0 + 1024 by omega⟩
      · refine Or.inr (Or.inr fun a => ?_)
        match a with
        | ⟨0, _⟩ => exact ⟨Nat.zero_le _, show (y 0).val < 0 + 8 by omega⟩
        | ⟨1, _⟩ => exact ⟨Nat.zero_le _, show (y 1).val < 0 + 1024 by omega⟩

/-- Four windows of them, a row apart. -/
theorem xwin_apply (k : Fin 4) (h) (r : Fin 256) (c : Fin 1024) : xwin (6 + k.val) h i b1 b2 b3 (ix2 r c) = px x0 (k.val + (256 * T + r.val)) c := by
  refine (xe_apply B _).trans ?_
  show px x0 (256 * T + (6 + k.val + 1 * r.val) - 6) (⟨0 + 1 * c.val, _⟩) = _
  rw [show 256 * T + (6 + k.val + 1 * r.val) - 6 = k.val + (256 * T + r.val) by omega]
  exact congrArg (px x0 _) (Fin.ext (show 0 + 1 * c.val = c.val by omega))

/-- The convolution of a tile is the sequence's at the tile's rows. -/
theorem conv_apply (r : Fin 256) (c : Fin 1024) : v43T i b1 b2 b3 b4 b5 (ix2 r c) = xc x0 x1 x2 (256 * T + r.val) c := by
  have w0 := xwin_apply B 0 (by decide) r c
  have w1 := xwin_apply B 1 (by decide) r c
  have w2 := xwin_apply B 2 (by decide) r c
  have w3 := xwin_apply B 3 (by decide) r c
  unfold v43T v28T k0_pay14 k0_pay13 wrow0 wrow1 wrow2 wrow3
  pointwise
  rw [show xwin 6 v28T._proof_1 i b1 b2 b3 (ix2 r c) = _ from w0, show xwin 7 v43T._proof_1 i b1 b2 b3 (ix2 r c) = _ from w1,
    show xwin 8 v43T._proof_2 i b1 b2 b3 (ix2 r c) = _ from w2, show xwin 9 v43T._proof_3 i b1 b2 b3 (ix2 r c) = _ from w3, B.p4, B.p5]
  unfold xc
  rw [show (0 : Fin 4).val + (256 * T + r.val) = 256 * T + r.val from Nat.zero_add _]
  rfl

/-- Head 0 of the recurrence gate. -/
theorem headR0 (r : Fin 256) (j : Fin 128) : k0_pay16 (v28T i b1 b2 b3 b4 b5) (wrow1 b4) (xwin 7 (by decide) i b1 b2 b3) (wrow2 b4) (xwin 8 (by decide) i b1 b2 b3) (wrow3 b4) (xwin 9 (by decide) i b1 b2 b3) (head0 b6) (ix2 r j) = prod8 x0 x1 x2 x3 (256 * T + r.val) 0 j := by
  unfold k0_pay16 k0_pay15 head0
  rw [show k0_pay14 (v28T i b1 b2 b3 b4 b5) (wrow1 b4) (xwin 7 (by decide) i b1 b2 b3) (wrow2 b4) (xwin 8 (by decide) i b1 b2 b3) (wrow3 b4) (xwin 9 (by decide) i b1 b2 b3) = (v43T i b1 b2 b3 b4 b5) from rfl]
  pointwise
  show _ = ∑ q : Fin 128, _
  refine Finset.sum_congr rfl fun q _ => ?_
  rw [conv_apply B, B.p6a]
  exact congrArg (fun c => xc x0 x1 x2 (256 * T + r.val) c * x3 (ix3 0 q j)) (Fin.ext (show q.val = 0 * 128 + q.val by omega))

/-- Head 0 of the input gate. -/
theorem headX0 (r : Fin 256) (j : Fin 128) : k0_pay17 (v28T i b1 b2 b3 b4 b5) (wrow1 b4) (xwin 7 (by decide) i b1 b2 b3) (wrow2 b4) (xwin 8 (by decide) i b1 b2 b3) (wrow3 b4) (xwin 9 (by decide) i b1 b2 b3) (head0 b6) (ix2 r j) = prod8 x0 x1 x2 x5 (256 * T + r.val) 0 j := by
  unfold k0_pay17 k0_pay15 head0
  rw [show k0_pay14 (v28T i b1 b2 b3 b4 b5) (wrow1 b4) (xwin 7 (by decide) i b1 b2 b3) (wrow2 b4) (xwin 8 (by decide) i b1 b2 b3) (wrow3 b4) (xwin 9 (by decide) i b1 b2 b3) = (v43T i b1 b2 b3 b4 b5) from rfl]
  pointwise
  show _ = ∑ q : Fin 128, _
  refine Finset.sum_congr rfl fun q _ => ?_
  rw [conv_apply B, B.p6x]
  exact congrArg (fun c => xc x0 x1 x2 (256 * T + r.val) c * x5 (ix3 0 q j)) (Fin.ext (show q.val = 0 * 128 + q.val by omega))

/-- Head 1 of the recurrence gate. -/
theorem headR1 (r : Fin 256) (j : Fin 128) : k0_pay19 (v28T i b1 b2 b3 b4 b5) (wrow1 b4) (xwin 7 (by decide) i b1 b2 b3) (wrow2 b4) (xwin 8 (by decide) i b1 b2 b3) (wrow3 b4) (xwin 9 (by decide) i b1 b2 b3) (head1 b6) (ix2 r j) = prod8 x0 x1 x2 x3 (256 * T + r.val) 1 j := by
  unfold k0_pay19 k0_pay18 head1
  rw [show k0_pay14 (v28T i b1 b2 b3 b4 b5) (wrow1 b4) (xwin 7 (by decide) i b1 b2 b3) (wrow2 b4) (xwin 8 (by decide) i b1 b2 b3) (wrow3 b4) (xwin 9 (by decide) i b1 b2 b3) = (v43T i b1 b2 b3 b4 b5) from rfl]
  pointwise
  show _ = ∑ q : Fin 128, _
  refine Finset.sum_congr rfl fun q _ => ?_
  rw [conv_apply B, B.p6a]
  exact congrArg (fun c => xc x0 x1 x2 (256 * T + r.val) c * x3 (ix3 1 q j)) (Fin.ext (show 128 + q.val = 1 * 128 + q.val by omega))

/-- Head 1 of the input gate. -/
theorem headX1 (r : Fin 256) (j : Fin 128) : k0_pay20 (v28T i b1 b2 b3 b4 b5) (wrow1 b4) (xwin 7 (by decide) i b1 b2 b3) (wrow2 b4) (xwin 8 (by decide) i b1 b2 b3) (wrow3 b4) (xwin 9 (by decide) i b1 b2 b3) (head1 b6) (ix2 r j) = prod8 x0 x1 x2 x5 (256 * T + r.val) 1 j := by
  unfold k0_pay20 k0_pay18 head1
  rw [show k0_pay14 (v28T i b1 b2 b3 b4 b5) (wrow1 b4) (xwin 7 (by decide) i b1 b2 b3) (wrow2 b4) (xwin 8 (by decide) i b1 b2 b3) (wrow3 b4) (xwin 9 (by decide) i b1 b2 b3) = (v43T i b1 b2 b3 b4 b5) from rfl]
  pointwise
  show _ = ∑ q : Fin 128, _
  refine Finset.sum_congr rfl fun q _ => ?_
  rw [conv_apply B, B.p6x]
  exact congrArg (fun c => xc x0 x1 x2 (256 * T + r.val) c * x5 (ix3 1 q j)) (Fin.ext (show 128 + q.val = 1 * 128 + q.val by omega))

/-- Head 2 of the recurrence gate. -/
theorem headR2 (r : Fin 256) (j : Fin 128) : k0_pay22 (v28T i b1 b2 b3 b4 b5) (wrow1 b4) (xwin 7 (by decide) i b1 b2 b3) (wrow2 b4) (xwin 8 (by decide) i b1 b2 b3) (wrow3 b4) (xwin 9 (by decide) i b1 b2 b3) (head2 b6) (ix2 r j) = prod8 x0 x1 x2 x3 (256 * T + r.val) 2 j := by
  unfold k0_pay22 k0_pay21 head2
  rw [show k0_pay14 (v28T i b1 b2 b3 b4 b5) (wrow1 b4) (xwin 7 (by decide) i b1 b2 b3) (wrow2 b4) (xwin 8 (by decide) i b1 b2 b3) (wrow3 b4) (xwin 9 (by decide) i b1 b2 b3) = (v43T i b1 b2 b3 b4 b5) from rfl]
  pointwise
  show _ = ∑ q : Fin 128, _
  refine Finset.sum_congr rfl fun q _ => ?_
  rw [conv_apply B, B.p6a]
  exact congrArg (fun c => xc x0 x1 x2 (256 * T + r.val) c * x3 (ix3 2 q j)) (Fin.ext (show 256 + q.val = 2 * 128 + q.val by omega))

/-- Head 2 of the input gate. -/
theorem headX2 (r : Fin 256) (j : Fin 128) : k0_pay23 (v28T i b1 b2 b3 b4 b5) (wrow1 b4) (xwin 7 (by decide) i b1 b2 b3) (wrow2 b4) (xwin 8 (by decide) i b1 b2 b3) (wrow3 b4) (xwin 9 (by decide) i b1 b2 b3) (head2 b6) (ix2 r j) = prod8 x0 x1 x2 x5 (256 * T + r.val) 2 j := by
  unfold k0_pay23 k0_pay21 head2
  rw [show k0_pay14 (v28T i b1 b2 b3 b4 b5) (wrow1 b4) (xwin 7 (by decide) i b1 b2 b3) (wrow2 b4) (xwin 8 (by decide) i b1 b2 b3) (wrow3 b4) (xwin 9 (by decide) i b1 b2 b3) = (v43T i b1 b2 b3 b4 b5) from rfl]
  pointwise
  show _ = ∑ q : Fin 128, _
  refine Finset.sum_congr rfl fun q _ => ?_
  rw [conv_apply B, B.p6x]
  exact congrArg (fun c => xc x0 x1 x2 (256 * T + r.val) c * x5 (ix3 2 q j)) (Fin.ext (show 256 + q.val = 2 * 128 + q.val by omega))

/-- Head 3 of the recurrence gate. -/
theorem headR3 (r : Fin 256) (j : Fin 128) : k0_pay25 (k0_pay24 (v28T i b1 b2 b3 b4 b5) (wrow1 b4) (xwin 7 (by decide) i b1 b2 b3) (wrow2 b4) (xwin 8 (by decide) i b1 b2 b3) (wrow3 b4) (xwin 9 (by decide) i b1 b2 b3)) (head3 b6) (ix2 r (⟨j.val, by omega⟩ : Fin 256)) = prod8 x0 x1 x2 x3 (256 * T + r.val) 3 j := by
  unfold k0_pay25 k0_pay24 head3
  rw [show k0_pay14 (v28T i b1 b2 b3 b4 b5) (wrow1 b4) (xwin 7 (by decide) i b1 b2 b3) (wrow2 b4) (xwin 8 (by decide) i b1 b2 b3) (wrow3 b4) (xwin 9 (by decide) i b1 b2 b3) = (v43T i b1 b2 b3 b4 b5) from rfl]
  pointwise
  show _ = ∑ q : Fin 128, _
  refine Finset.sum_congr rfl fun q _ => ?_
  rw [conv_apply B, B.p6a]
  exact congrArg (fun c => xc x0 x1 x2 (256 * T + r.val) c * x3 (ix3 3 q j)) (Fin.ext (show 384 + q.val = 3 * 128 + q.val by omega))

/-- Head 3 of the input gate. -/
theorem headX3 (r : Fin 256) (j : Fin 128) : k0_pay26 (k0_pay24 (v28T i b1 b2 b3 b4 b5) (wrow1 b4) (xwin 7 (by decide) i b1 b2 b3) (wrow2 b4) (xwin 8 (by decide) i b1 b2 b3) (wrow3 b4) (xwin 9 (by decide) i b1 b2 b3)) (head3 b6) (ix2 r j) = prod8 x0 x1 x2 x5 (256 * T + r.val) 3 j := by
  unfold k0_pay26 k0_pay24 k0_pay25 head3
  rw [show k0_pay14 (v28T i b1 b2 b3 b4 b5) (wrow1 b4) (xwin 7 (by decide) i b1 b2 b3) (wrow2 b4) (xwin 8 (by decide) i b1 b2 b3) (wrow3 b4) (xwin 9 (by decide) i b1 b2 b3) = (v43T i b1 b2 b3 b4 b5) from rfl]
  pointwise
  show _ = ∑ q : Fin 128, _
  refine Finset.sum_congr rfl fun q _ => ?_
  rw [conv_apply B, B.p6x]
  exact congrArg (fun c => xc x0 x1 x2 (256 * T + r.val) c * x5 (ix3 3 q j)) (Fin.ext (show 384 + q.val = 3 * 128 + q.val by omega))

/-- Head 4 of the recurrence gate. -/
theorem headR4 (r : Fin 256) (j : Fin 128) : k0_pay27 (v43T i b1 b2 b3 b4 b5) (head4 b6) (ix2 r (⟨j.val, by omega⟩ : Fin 256)) = prod8 x0 x1 x2 x3 (256 * T + r.val) 4 j := by
  unfold k0_pay27 head4
  pointwise
  show _ = ∑ q : Fin 128, _
  refine Finset.sum_congr rfl fun q _ => ?_
  rw [conv_apply B, B.p6a]
  exact congrArg (fun c => xc x0 x1 x2 (256 * T + r.val) c * x3 (ix3 4 q j)) (Fin.ext (show 512 + q.val = 4 * 128 + q.val by omega))

/-- Head 4 of the input gate. -/
theorem headX4 (r : Fin 256) (j : Fin 128) : k0_pay28 (v43T i b1 b2 b3 b4 b5) (head4 b6) (ix2 r j) = prod8 x0 x1 x2 x5 (256 * T + r.val) 4 j := by
  unfold k0_pay28 k0_pay27 head4
  pointwise
  show _ = ∑ q : Fin 128, _
  refine Finset.sum_congr rfl fun q _ => ?_
  rw [conv_apply B, B.p6x]
  exact congrArg (fun c => xc x0 x1 x2 (256 * T + r.val) c * x5 (ix3 4 q j)) (Fin.ext (show 512 + q.val = 4 * 128 + q.val by omega))

/-- Head 5 of the recurrence gate. -/
theorem headR5 (r : Fin 256) (j : Fin 128) : k0_pay29 (v43T i b1 b2 b3 b4 b5) (head5 b6) (ix2 r (⟨j.val, by omega⟩ : Fin 256)) = prod8 x0 x1 x2 x3 (256 * T + r.val) 5 j := by
  unfold k0_pay29 head5
  pointwise
  show _ = ∑ q : Fin 128, _
  refine Finset.sum_congr rfl fun q _ => ?_
  rw [conv_apply B, B.p6a]
  exact congrArg (fun c => xc x0 x1 x2 (256 * T + r.val) c * x3 (ix3 5 q j)) (Fin.ext (show 640 + q.val = 5 * 128 + q.val by omega))

/-- Head 5 of the input gate. -/
theorem headX5 (r : Fin 256) (j : Fin 128) : k0_pay30 (v43T i b1 b2 b3 b4 b5) (head5 b6) (ix2 r j) = prod8 x0 x1 x2 x5 (256 * T + r.val) 5 j := by
  unfold k0_pay30 k0_pay29 head5
  pointwise
  show _ = ∑ q : Fin 128, _
  refine Finset.sum_congr rfl fun q _ => ?_
  rw [conv_apply B, B.p6x]
  exact congrArg (fun c => xc x0 x1 x2 (256 * T + r.val) c * x5 (ix3 5 q j)) (Fin.ext (show 640 + q.val = 5 * 128 + q.val by omega))

/-- Head 6 of the recurrence gate. -/
theorem headR6 (r : Fin 256) (j : Fin 128) : k0_pay31 (v43T i b1 b2 b3 b4 b5) (head6 b6) (ix2 r (⟨j.val, by omega⟩ : Fin 256)) = prod8 x0 x1 x2 x3 (256 * T + r.val) 6 j := by
  unfold k0_pay31 head6
  pointwise
  show _ = ∑ q : Fin 128, _
  refine Finset.sum_congr rfl fun q _ => ?_
  rw [conv_apply B, B.p6a]
  exact congrArg (fun c => xc x0 x1 x2 (256 * T + r.val) c * x3 (ix3 6 q j)) (Fin.ext (show 768 + q.val = 6 * 128 + q.val by omega))

/-- Head 6 of the input gate. -/
theorem headX6 (r : Fin 256) (j : Fin 128) : k0_pay32 (v43T i b1 b2 b3 b4 b5) (head6 b6) (ix2 r j) = prod8 x0 x1 x2 x5 (256 * T + r.val) 6 j := by
  unfold k0_pay32 k0_pay31 head6
  pointwise
  show _ = ∑ q : Fin 128, _
  refine Finset.sum_congr rfl fun q _ => ?_
  rw [conv_apply B, B.p6x]
  exact congrArg (fun c => xc x0 x1 x2 (256 * T + r.val) c * x5 (ix3 6 q j)) (Fin.ext (show 768 + q.val = 6 * 128 + q.val by omega))

/-- Head 7 of the recurrence gate. -/
theorem headR7 (r : Fin 256) (j : Fin 128) : k0_pay33 (v43T i b1 b2 b3 b4 b5) (head7 b6) (ix2 r (⟨j.val, by omega⟩ : Fin 256)) = prod8 x0 x1 x2 x3 (256 * T + r.val) 7 j := by
  unfold k0_pay33 head7
  pointwise
  show _ = ∑ q : Fin 128, _
  refine Finset.sum_congr rfl fun q _ => ?_
  rw [conv_apply B, B.p6a]
  exact congrArg (fun c => xc x0 x1 x2 (256 * T + r.val) c * x3 (ix3 7 q j)) (Fin.ext (show 896 + q.val = 7 * 128 + q.val by omega))

/-- Head 7 of the input gate. -/
theorem headX7 (r : Fin 256) (j : Fin 128) : k0_pay34 (v43T i b1 b2 b3 b4 b5) (head7 b6) (ix2 r j) = prod8 x0 x1 x2 x5 (256 * T + r.val) 7 j := by
  unfold k0_pay34 k0_pay33 head7
  pointwise
  show _ = ∑ q : Fin 128, _
  refine Finset.sum_congr rfl fun q _ => ?_
  rw [conv_apply B, B.p6x]
  exact congrArg (fun c => xc x0 x1 x2 (256 * T + r.val) c * x5 (ix3 7 q j)) (Fin.ext (show 896 + q.val = 7 * 128 + q.val by omega))

/-- The recurrence gate's argument over a tile. -/
theorem v104_apply (r : Fin 256) (c : Fin 1024) : v104T i b1 b2 b3 b4 b5 b6 b7 (ix2 r c) = gate x0 x1 x2 x3 x4 (256 * T + r.val) c := by
  unfold v104T k0_pay35
  pointwise
  rw [B.p7]
  show _ = prod8 x0 x1 x2 x3 (256 * T + r.val) (hd c) (pl c) + _
  have e := eight (prod8 x0 x1 x2 x3 (256 * T + r.val)) c (headR0 B r) (headR1 B r) (headR2 B r) (headR3 B r) (headR4 B r) (headR5 B r) (headR6 B r) (headR7 B r)
  exact congrArg (· + x4 (ix2 (hd c) (pl c))) e

/-- The softplus over a tile. -/
theorem sp_apply (c : Fin 1024) : max (0 - b9 (ix2 0 c)) 0 + Ideal.log1p (Ideal.exp (0 - FloatOps.absf (F := Ideal) (φ := .f32) (0 - b9 (ix2 0 c)))) = sp x7 c := by
  rw [B.p9]
  show max (0 - x7 (ix1 c)) 0 + Ideal.log1p (Ideal.exp (0 - max (0 - x7 (ix1 c)) (-(0 - x7 (ix1 c))))) = _
  simp only [zero_sub]
  rfl

/-- The factors over a tile. -/
theorem a_apply (r : Fin 256) (c : Fin 1024) : aTile i b1 b2 b3 b4 b5 b6 b7 b8 b9 (ix2 r c) = Ideal.exp (loga x0 x1 x2 x3 x4 x7 (256 * T + r.val) c) := by
  unfold aTile k0_pay37 k0_pay36
  pointwise
  rw [v104_apply B, sp_apply B]
  rfl

/-- The terms over a tile. -/
theorem b_apply (r : Fin 256) (c : Fin 1024) : bTile i b1 b2 b3 b4 b5 b6 b7 b8 b9 (ix2 r c)
    = Ideal.sqrt (1 - Ideal.exp (loga x0 x1 x2 x3 x4 x7 (256 * T + r.val) c) * Ideal.exp (loga x0 x1 x2 x3 x4 x7 (256 * T + r.val) c))
      * (Ideal.logistic (gate x0 x1 x2 x5 x6 (256 * T + r.val) c) * xc x0 x1 x2 (256 * T + r.val) c) := by
  unfold bTile k0_pay38 k0_pay36
  pointwise
  rw [v104_apply B, sp_apply B, conv_apply B, B.p8]
  have e := eight (prod8 x0 x1 x2 x5 (256 * T + r.val)) c (headX0 B r) (headX1 B r) (headX2 B r) (headX3 B r) (headX4 B r) (headX5 B r) (headX6 B r) (headX7 B r)
  have e' := congrArg (fun z => Ideal.logistic (z + x6 (ix2 (hd c) (pl c)))) e
  exact congrArg (fun z => Ideal.sqrt (1 - Ideal.exp (loga x0 x1 x2 x3 x4 x7 (256 * T + r.val) c) * Ideal.exp (loga x0 x1 x2 x3 x4 x7 (256 * T + r.val) c)) * (z * xc x0 x1 x2 (256 * T + r.val) c)) e'

end payloads

variable (m : (ℓ : Loc nD τ sig) → Buf (Elt Ideal) ℓ) (ρ : Dev nD → PrngReg)

/-- The windows' block indices at a grid point: the tile, its neighbours of eight rows clamped to the array, the
parameters whole. -/
theorem idx_facts : ∀ t : Fin cfg0.N, (win0_0.index t (0 : Fin 2) = t.val ∧ win0_0.index t (1 : Fin 2) = 0)
    ∧ (win0_1.index t (0 : Fin 2) = 32 * t.val - 1 ∧ win0_1.index t (1 : Fin 2) = 0)
    ∧ (win0_2.index t (0 : Fin 2) = min (32 * (t.val + 1)) 2047 ∧ win0_2.index t (1 : Fin 2) = 0)
    ∧ (win0_10.index t (0 : Fin 2) = t.val ∧ win0_10.index t (1 : Fin 2) = 0) ∧ (grid0.coords t 0).val = t.val :=
  (by decide +kernel : ∀ t : Fin grid0.N, _)

/-- The parameters are staged whole. -/
theorem idx_par : ∀ t : Fin cfg0.N, (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = 0 ∧ win0_5.index t (1 : Fin 3) = 0 ∧ win0_5.index t (2 : Fin 3) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ win0_9.index t (0 : Fin 2) = 0 ∧ win0_9.index t (1 : Fin 2) = 0 :=
  (by decide +kernel : ∀ t : Fin grid0.N, _)

abbrev a0 (c : Dev nD) : Vec Ideal S16384x3072 .f32 := m ((c : Thread nD τ).loc main_arg0)
abbrev a1 (c : Dev nD) : Vec Ideal S4x1024 .f32 := m ((c : Thread nD τ).loc main_arg1)
abbrev a2 (c : Dev nD) : Vec Ideal S1024 .f32 := m ((c : Thread nD τ).loc main_arg2)
abbrev a3 (c : Dev nD) : Vec Ideal S8x128x128 .f32 := m ((c : Thread nD τ).loc main_arg3)
abbrev a4 (c : Dev nD) : Vec Ideal S8x128 .f32 := m ((c : Thread nD τ).loc main_arg4)
abbrev a5 (c : Dev nD) : Vec Ideal S8x128x128 .f32 := m ((c : Thread nD τ).loc main_arg5)
abbrev a6 (c : Dev nD) : Vec Ideal S8x128 .f32 := m ((c : Thread nD τ).loc main_arg6)
abbrev a7 (c : Dev nD) : Vec Ideal S1024 .f32 := m ((c : Thread nD τ).loc main_arg7)
abbrev a8 (c : Dev nD) : Vec Ideal S1x1024 .f32 := m ((c : Thread nD τ).loc main_arg8)

/-- An index of three coordinates is known by its coordinates. -/
theorem ix3_ext {n k l : Nat} {i : (⟨3, ![n, k, l]⟩ : Shape).Idx} {a : Fin n} {b : Fin k} {d : Fin l} (h0 : (i 0).val = a.val) (h1 : (i 1).val = b.val) (h2 : (i 2).val = d.val) :
    i = ix3 a b d :=
  funext fun x => Fin.ext (by match x with | ⟨0, _⟩ => exact h0 | ⟨1, _⟩ => exact h1 | ⟨2, _⟩ => exact h2)

theorem V_v1a (c : Dev nD) (h : Fin 8) (q j : Fin 128) : V m c main_v1 (ix3 h q ⟨j.val, by omega⟩) = a3 m c (ix3 h q j) := by
  unfold V
  after_reads_at
  pointwise
  rfl
theorem V_v1x (c : Dev nD) (h : Fin 8) (q j : Fin 128) : V m c main_v1 (ix3 h q ⟨128 + j.val, by omega⟩) = a5 m c (ix3 h q j) := by
  unfold V
  after_reads_at
  pointwise
  rfl
theorem V_v2 (c : Dev nD) (k : Fin 1024) : V m c main_v2 (ix2 0 k) = a2 m c (ix1 k) := by
  unfold V
  after_reads_at
theorem V_v3 (c : Dev nD) (k : Fin 1024) : V m c main_v3 (ix2 0 k) = a4 m c (ix2 (hd k) (pl k)) := by
  unfold V
  after_reads_at
theorem V_v4 (c : Dev nD) (k : Fin 1024) : V m c main_v4 (ix2 0 k) = a6 m c (ix2 (hd k) (pl k)) := by
  unfold V
  after_reads_at
theorem V_v5 (c : Dev nD) (k : Fin 1024) : V m c main_v5 (ix2 0 k) = a7 m c (ix1 k) := by
  unfold V
  after_reads_at

theorem blk0 (c : Dev nD) (t : Fin cfg0.N) (r : Fin 256) (k : Fin 1024) (R : Fin 16384) (hR : R.val = 256 * t.val + r.val) :
    iblk m c 0 t (ix2 r k) = a0 m c (ix2 R ⟨k.val, by omega⟩) := by
  obtain ⟨⟨e0, e1⟩, -⟩ := idx_facts t
  show V m c main_arg0 (((cfg0.win 0).blk t).view.emb (ix2 r k)) = _
  rw [V_main_arg0]
  refine congrArg _ (ix2_ext ?_ ?_)
  · show win0_0.index t (0 : Fin 2) * 256 + 1 * r.val = R.val; omega
  · show win0_0.index t (1 : Fin 2) * 1024 + 1 * k.val = k.val; omega
theorem blk1 (c : Dev nD) (t : Fin cfg0.N) (r : Fin 8) (k : Fin 1024) (R : Fin 16384) (h : 0 < t.val) (hR : R.val = 256 * t.val - 8 + r.val) :
    iblk m c 1 t (ix2 r k) = a0 m c (ix2 R ⟨k.val, by omega⟩) := by
  obtain ⟨-, ⟨e0, e1⟩, -⟩ := idx_facts t
  show V m c main_arg0 (((cfg0.win 1).blk t).view.emb (ix2 r k)) = _
  rw [V_main_arg0]
  refine congrArg _ (ix2_ext ?_ ?_)
  · show win0_1.index t (0 : Fin 2) * 8 + 1 * r.val = R.val; omega
  · show win0_1.index t (1 : Fin 2) * 1024 + 1 * k.val = k.val; omega
theorem blk2 (c : Dev nD) (t : Fin cfg0.N) (r : Fin 8) (k : Fin 1024) (R : Fin 16384) (h : t.val < 63) (hR : R.val = 256 * t.val + 256 + r.val) :
    iblk m c 2 t (ix2 r k) = a0 m c (ix2 R ⟨k.val, by omega⟩) := by
  obtain ⟨-, -, ⟨e0, e1⟩, -⟩ := idx_facts t
  show V m c main_arg0 (((cfg0.win 2).blk t).view.emb (ix2 r k)) = _
  rw [V_main_arg0]
  refine congrArg _ (ix2_ext ?_ ?_)
  · show win0_2.index t (0 : Fin 2) * 8 + 1 * r.val = R.val; omega
  · show win0_2.index t (1 : Fin 2) * 1024 + 1 * k.val = k.val; omega
theorem blk3 (c : Dev nD) (t : Fin cfg0.N) : iblk m c 3 t = a1 m c := by
  obtain ⟨⟨e0, e1⟩, -⟩ := idx_par t
  funext y
  show V m c main_arg1 (((cfg0.win 3).blk t).view.emb y) = _
  rw [V_main_arg1]
  refine congrArg _ (funext fun a => Fin.ext ?_)
  match a with
  | ⟨0, _⟩ => show win0_3.index t (0 : Fin 2) * 4 + 1 * (y 0).val = (y 0).val; omega
  | ⟨1, _⟩ => show win0_3.index t (1 : Fin 2) * 1024 + 1 * (y 1).val = (y 1).val; omega
theorem blk5 (c : Dev nD) (t : Fin cfg0.N) (h : Fin 8) (q : Fin 128) (j : Fin 256) : iblk m c 5 t (ix3 h q j) = V m c main_v1 (ix3 h q j) := by
  obtain ⟨-, -, ⟨e0, e1, e2⟩, -⟩ := idx_par t
  show V m c main_v1 (((cfg0.win 5).blk t).view.emb (ix3 h q j)) = _
  refine congrArg _ (ix3_ext ?_ ?_ ?_)
  · show win0_5.index t (0 : Fin 3) * 8 + 1 * h.val = h.val; omega
  · show win0_5.index t (1 : Fin 3) * 128 + 1 * q.val = q.val; omega
  · show win0_5.index t (2 : Fin 3) * 256 + 1 * j.val = j.val; omega
theorem blk4 (c : Dev nD) (t : Fin cfg0.N) (k : Fin 1024) : iblk m c 4 t (ix2 0 k) = V m c main_v2 (ix2 0 k) := by
  obtain ⟨-, ⟨e0, e1⟩, -⟩ := idx_par t
  show V m c main_v2 (((cfg0.win 4).blk t).view.emb (ix2 0 k)) = _
  refine congrArg _ (ix2_ext ?_ ?_)
  · show win0_4.index t (0 : Fin 2) * 1 + 1 * (0 : Fin 1).val = (0 : Fin 1).val; omega
  · show win0_4.index t (1 : Fin 2) * 1024 + 1 * k.val = k.val; omega
theorem blk6 (c : Dev nD) (t : Fin cfg0.N) (k : Fin 1024) : iblk m c 6 t (ix2 0 k) = V m c main_v3 (ix2 0 k) := by
  obtain ⟨-, -, -, ⟨e0, e1⟩, -⟩ := idx_par t
  show V m c main_v3 (((cfg0.win 6).blk t).view.emb (ix2 0 k)) = _
  refine congrArg _ (ix2_ext ?_ ?_)
  · show win0_6.index t (0 : Fin 2) * 1 + 1 * (0 : Fin 1).val = (0 : Fin 1).val; omega
  · show win0_6.index t (1 : Fin 2) * 1024 + 1 * k.val = k.val; omega
theorem blk7 (c : Dev nD) (t : Fin cfg0.N) (k : Fin 1024) : iblk m c 7 t (ix2 0 k) = V m c main_v4 (ix2 0 k) := by
  obtain ⟨-, -, -, -, ⟨e0, e1⟩, -⟩ := idx_par t
  show V m c main_v4 (((cfg0.win 7).blk t).view.emb (ix2 0 k)) = _
  refine congrArg _ (ix2_ext ?_ ?_)
  · show win0_7.index t (0 : Fin 2) * 1 + 1 * (0 : Fin 1).val = (0 : Fin 1).val; omega
  · show win0_7.index t (1 : Fin 2) * 1024 + 1 * k.val = k.val; omega
theorem blk8 (c : Dev nD) (t : Fin cfg0.N) (k : Fin 1024) : iblk m c 8 t (ix2 0 k) = V m c main_v5 (ix2 0 k) := by
  obtain ⟨-, -, -, -, -, ⟨e0, e1⟩, -⟩ := idx_par t
  show V m c main_v5 (((cfg0.win 8).blk t).view.emb (ix2 0 k)) = _
  refine congrArg _ (ix2_ext ?_ ?_)
  · show win0_8.index t (0 : Fin 2) * 1 + 1 * (0 : Fin 1).val = (0 : Fin 1).val; omega
  · show win0_8.index t (1 : Fin 2) * 1024 + 1 * k.val = k.val; omega
theorem blk9 (c : Dev nD) (t : Fin cfg0.N) (k : Fin 1024) : iblk m c 9 t (ix2 0 k) = V m c main_arg8 (ix2 0 k) := by
  obtain ⟨-, -, -, -, -, -, e0, e1⟩ := idx_par t
  show V m c main_arg8 (((cfg0.win 9).blk t).view.emb (ix2 0 k)) = _
  refine congrArg _ (ix2_ext ?_ ?_)
  · show win0_9.index t (0 : Fin 2) * 1 + 1 * (0 : Fin 1).val = (0 : Fin 1).val; omega
  · show win0_9.index t (1 : Fin 2) * 1024 + 1 * k.val = k.val; omega

/-- The blocks at tile `t`. -/
theorem blocks (c : Dev nD) (t : Fin cfg0.N) : Blocks (a0 m c) (a1 m c) (a2 m c) (a3 m c) (a4 m c) (a5 m c) (a6 m c) (a7 m c) (grid0.coords t) t.val
    (iblk m c 0 t) (iblk m c 1 t) (iblk m c 2 t) (iblk m c 3 t) (iblk m c 4 t) (iblk m c 5 t) (iblk m c 6 t) (iblk m c 7 t) (iblk m c 8 t) where
  i0 := (idx_facts t).2.2.2.2
  hT := lt_of_lt_of_eq t.isLt (show cfg0.N = 64 from N_0)
  p1 r k := blk0 m c t r k _ rfl
  p2 r k h := blk1 m c t r k _ h rfl
  p3 r k h := blk2 m c t r k _ h rfl
  p4 := blk3 m c t
  p5 k := (blk4 m c t k).trans (V_v2 m c k)
  p6a h q j := (blk5 m c t h q _).trans (V_v1a m c h q j)
  p6x h q j := (blk5 m c t h q _).trans (V_v1x m c h q j)
  p7 k := (blk6 m c t k).trans (V_v3 m c k)
  p8 k := (blk7 m c t k).trans (V_v4 m c k)
  p9 k := (blk8 m c t k).trans (V_v5 m c k)

/-- The reference's factors, terms, first state and states over the arguments as launched. -/
abbrev RA (c : Dev nD) : Vec Ideal S16384x1024 .f32 := Cert.ReferenceIdeal.Step.A_main_v64 (F := Ideal) (a0 m c) (a1 m c) (a2 m c) (a3 m c) (a4 m c) (a5 m c) (a6 m c) (a7 m c) (a8 m c)
abbrev RB (c : Dev nD) : Vec Ideal S16384x1024 .f32 := Cert.ReferenceIdeal.Step.A_main_v71 (F := Ideal) (a0 m c) (a1 m c) (a2 m c) (a3 m c) (a4 m c) (a5 m c) (a6 m c) (a7 m c) (a8 m c)
abbrev RH (c : Dev nD) : Vec Ideal S1024 .f32 := Cert.ReferenceIdeal.Step.A_main_v72 (F := Ideal) (a0 m c) (a1 m c) (a2 m c) (a3 m c) (a4 m c) (a5 m c) (a6 m c) (a7 m c) (a8 m c)
abbrev RS (c : Dev nD) : Vec Ideal S16384x1024 .f32 := Cert.Proof.ScanRef.states (RA m c) (RB m c) (RH m c)

/-- The tile's factors and terms are the reference's rows. -/
theorem aAt_eq (c : Dev nD) (t : Fin cfg0.N) (r : Fin 256) (k : Fin 1024) (R : Fin 16384) (hR : R.val = 256 * t.val + r.val) : aAt m c t (ix2 r k) = RA m c (ix2 R k) :=
  (a_apply (blocks m c t) r k).trans (by rw [← hR]; exact (Cert.Proof.ScanRef.a_apply (a0 m c) (a1 m c) (a2 m c) (a3 m c) (a4 m c) (a5 m c) (a6 m c) (a7 m c) (a8 m c) R k).symm)
theorem bAt_eq (c : Dev nD) (t : Fin cfg0.N) (r : Fin 256) (k : Fin 1024) (R : Fin 16384) (hR : R.val = 256 * t.val + r.val) : bAt m c t (ix2 r k) = RB m c (ix2 R k) :=
  (b_apply (blocks m c t) r k).trans (by rw [← hR]; exact (Cert.Proof.ScanRef.b_apply (a0 m c) (a1 m c) (a2 m c) (a3 m c) (a4 m c) (a5 m c) (a6 m c) (a7 m c) (a8 m c) R k).symm)

/-- The reference's state before row `n`. -/
abbrev RT (c : Dev nD) (n : ℕ) : Vec Ideal S1024 .f32 := Cert.Proof.ScanRef.hAt (RA m c) (RB m c) (RH m c) n

/-- Within a tile that starts from the reference's state, the states are the reference's. -/
theorem hRow_eq (c : Dev nD) (t : Fin cfg0.N) (h0 : Vec Ideal S1x1024 .f32) (e : ∀ k : Fin 1024, h0 (ix2 0 k) = RT m c (256 * t.val) (ix1 k)) :
    ∀ s : ℕ, s ≤ 256 → ∀ k : Fin 1024, hRow (aAt m c t) (bAt m c t) h0 s (ix2 0 k) = RT m c (256 * t.val + s) (ix1 k)
  | 0, _, k => e k
  | s + 1, hs, k => by
      have hN : t.val < 64 := lt_of_lt_of_eq t.isLt (show cfg0.N = 64 from N_0)
      have ih := hRow_eq c t h0 e s (by omega) k
      have er : (⟨s % 256, Nat.mod_lt _ (by decide)⟩ : Fin 256) = ⟨s, by omega⟩ := Fin.ext (Nat.mod_eq_of_lt (by omega))
      show aAt m c t (ix2 ⟨s % 256, _⟩ ⟨k.val, _⟩) * hRow (aAt m c t) (bAt m c t) h0 s (ix2 0 k) + bAt m c t (ix2 ⟨s % 256, _⟩ ⟨k.val, _⟩) = _
      rw [er, ih, aAt_eq m c t _ _ ⟨256 * t.val + s, by omega⟩ rfl, bAt_eq m c t _ _ ⟨256 * t.val + s, by omega⟩ rfl]
      exact (congrFun (Cert.Proof.ScanRef.hAt_succ (RA m c) (RB m c) (RH m c) (256 * t.val + s) (by omega)) (ix1 k)).symm

/-- The state carried into tile `n` is the reference's before the tile's first row. -/
theorem carry_eq (c : Dev nD) : ∀ n : ℕ, n < 64 → ∀ k : Fin 1024, carry m c n (ix2 0 k) = RT m c (256 * n) (ix1 k)
  | 0, _, k => by
      have e := Cert.Proof.ScanRef.h0_apply (a0 m c) (a1 m c) (a2 m c) (a3 m c) (a4 m c) (a5 m c) (a6 m c) (a7 m c) (a8 m c) k
      refine Eq.trans ?_ e.symm
      show k0_pay9 (iblk m c 9 ⟨0, _⟩) (ix2 0 k) = _
      unfold k0_pay9
      pointwise
      exact (blk9 m c _ k).trans (congrFun (V_main_arg8 m c) _)
  | n + 1, hn, k => by
      have hN : cfg0.N = 64 := N_0
      have e := carry_succ m c ⟨n, by omega⟩
      have ih := hRow_eq m c ⟨n, by omega⟩ (carry m c n) (carry_eq c n (by omega)) 256 le_rfl k
      rw [show carry m c (n + 1) = _ from e]
      unfold k0_pay1
      pointwise
      exact ih

/-- What a point writes back is its block of the reference's states. -/
theorem flushed10_eq (c : Dev nD) (t : Fin cfg0.N) :
    (dats m 0 c).flushed 10 t = ((cfg0.win 10).blk t).view.read (Elt Ideal) (RS m c) := by
  have hN : t.val < 64 := lt_of_lt_of_eq t.isLt (show cfg0.N = 64 from N_0)
  obtain ⟨-, -, -, ⟨e0, e1⟩, -⟩ := idx_facts t
  show (cfg0.win 10).cut (grid0.coords t) ((dats m 0 c).after 10 t) = _
  rw [after_10]
  funext y
  have hr : (y 0).val < 256 := (y 0).isLt
  have hc : (y 1).val < 1024 := (y 1).isLt
  show hRow (aAt m c t) (bAt m c t) (carry m c t.val) ((y 0).val + 1) (ix2 0 (⟨(y 1).val, hc⟩ : Fin 1024)) = RS m c (((cfg0.win 10).blk t).view.emb y)
  have he : ((cfg0.win 10).blk t).view.emb y = ix2 (⟨256 * t.val + (y 0).val, by omega⟩ : Fin 16384) (⟨(y 1).val, hc⟩ : Fin 1024) := by
    refine ix2_ext ?_ ?_
    · show win0_10.index t (0 : Fin 2) * 256 + 1 * (y 0).val = 256 * t.val + (y 0).val; omega
    · show win0_10.index t (1 : Fin 2) * 1024 + 1 * (y 1).val = (y 1).val; omega
  rw [he]
  exact hRow_eq m c t _ (carry_eq m c t.val hN) ((y 0).val + 1) (by omega) _

/-- Every index of the result is in some tile's block. -/
theorem covered10 (i : main_v6.ty.Idx) : ∃ t : Fin cfg0.N, (cfg0.win 10).flush t = true ∧ i ∈ ((cfg0.win 10).blk t).view.set := by
  have hr : (i 0).val < 16384 := (i 0).isLt
  have hc : (i 1).val < 1024 := (i 1).isLt
  have hN : cfg0.N = 64 := N_0
  obtain ⟨t, ht⟩ : ∃ t : Fin cfg0.N, t.val = (i 0).val / 256 := ⟨⟨_, by omega⟩, rfl⟩
  obtain ⟨-, -, -, ⟨e0, e1⟩, -⟩ := idx_facts t
  refine ⟨t, flush0_10 t, ?_⟩
  show i ∈ ((View.whole main_v6).slice (win0_10.rect t)).set
  rw [View.set_slice_whole, Rect.mem_set_unit]
  intro a
  match a with
  | ⟨0, _⟩ => show win0_10.index t (0 : Fin 2) * 256 ≤ (i 0).val ∧ (i 0).val < win0_10.index t (0 : Fin 2) * 256 + 256; omega
  | ⟨1, _⟩ => show win0_10.index t (1 : Fin 2) * 1024 ≤ (i 1).val ∧ (i 1).val < win0_10.index t (1 : Fin 2) * 1024 + 1024; omega

/-- The result array after the run is the reference's. -/
theorem final10 (c : Dev nD) : (dats m 0 c).arrAt 10 cfg0.N = RS m c :=
  (dats m 0 c).arrAt_eq_of_cover 10 (RS m c) (fun t _ => flushed10_eq m c t) covered10

/-- The run of the kernel with its result named. -/
theorem run : θ_run defs (onTc (τ := τ) (main (F := Ideal))) ⟨m, fun _ => 0, ρ⟩ fun r => ∀ c : Dev nD,
      r.2.mem ((c : Thread nD τ).loc main_v6) = RS m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h.1 c).1 10).trans (final10 m c), h.2 c⟩)
    (θ_run_and (run_main m ρ) (frame_of m ρ (dats m) (A_eq m) (run_main m ρ)))

/-- The kernel and the reference, from memories that agree on the arguments, both run and end with equal results. -/
theorem algebraic : Cert.algebraic_KernelIdeal_ReferenceIdeal := fun m ρ m' ρ' _ hag =>
  ⟨fun c => RS m c, run m ρ, (θ_run _ _ _).mono
    (fun _ h c => by
      obtain ⟨h0, h1, h2, h3, h4, h5, h6, h7, h8⟩ := hag c
      exact ⟨(h c).1.trans (by rw [h0, h1, h2, h3, h4, h5, h6, h7, h8]), (h c).2⟩)
    (Cert.Proof.ScanRef.run_states m' ρ')⟩

end Cert.Proof.Scan

end
-- ==== Proof.FfnBody.lean ====
/- The feed-forward half of the block, `_ffn`: what its body leaves in the two scratches and in the output block, as
   the pure functions of the blocks it reads. At the first step of a row tile it stores the modulated norm and the
   product of step 0; at the later steps it adds a product; at the last it stores the normalised sum. -/
module

public import proofs.«01_k».proof.Proof.Gen.Kernel2Ideal.Value
public import Idealize.ShloMosaic.Lib.MatmulPlain
public import Idealize.ShloMosaic.Lib.IdealHost
public import Idealize.ShloMosaic.Lib.Pointwise

@[expose] public section

set_option maxRecDepth 16384

noncomputable section

namespace Cert.Proof.Ffn

open Cert.Kernel2Ideal Cert.Kernel2Ideal.Gen Cert.Kernel2Ideal.Value Idealize.ShloMosaic Idealize.ShloMosaic.TcCoe Idealize.SL.Sem

variable {F : FTy → Type} [FloatOps F]

theorem hz : (![0, 0] : Fin 2 → Nat) = fun _ => 0 := funext fun a => by fin_cases a <;> rfl

/-- The first step of a row tile stores the modulated norm of the rows. -/
theorem scrA0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S512x2048 .f32) (harg13 : arg13.IsWhole) (hc0 : cond0_0 i) (hc1 : ¬cond0_1 i)
    (x0 : Vec F S512x2048 .f32) (x1 : Vec F S1x2048 .f32) (x2 : Vec F S1x2048 .f32) (x3 : Vec F S1x2048 .f32) (x4 : Vec F S1x2048 .f32) (x5 : Vec F S1x2048 .f32) (x6 : Vec F S2048x512 .bf16) (x7 : Vec F S2048x512 .bf16) (x8 : Vec F S512x2048 .bf16) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = k0_pay1 x0 x1 x2 x3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x2048) hz, View.ld_unit_zero (S := S1x2048) hz, View.ld_unit_zero (S := S2048x512) hz]

/-- The first step of a row tile leaves in the accumulator the product of step 0 added to zero. -/
theorem scrA1 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S512x2048 .f32) (harg13 : arg13.IsWhole) (hc0 : cond0_0 i) (hc1 : ¬cond0_1 i)
    (x0 : Vec F S512x2048 .f32) (x1 : Vec F S1x2048 .f32) (x2 : Vec F S1x2048 .f32) (x3 : Vec F S1x2048 .f32) (x4 : Vec F S1x2048 .f32) (x5 : Vec F S1x2048 .f32) (x6 : Vec F S2048x512 .bf16) (x7 : Vec F S2048x512 .bf16) (x8 : Vec F S512x2048 .bf16) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = k0_pay3 (k0_pay1 x0 x1 x2 x3) x6 x7 k0_pay2 x8 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  sl_unfold_words
  rw [View.canon_cons_unit_zero (S := S512x2048) hz]
  simp only [View.readCov_unit_zero (S := S512x2048) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x2048) hz, View.ld_unit_zero (S := S1x2048) hz, View.ld_unit_zero (S := S2048x512) hz]

/-- A middle step adds its product to the accumulator. -/
theorem scrB1 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S512x2048 .f32) (harg13 : arg13.IsWhole) (hc0 : ¬cond0_0 i) (hc1 : ¬cond0_1 i)
    (x0 : Vec F S512x2048 .f32) (x1 : Vec F S1x2048 .f32) (x2 : Vec F S1x2048 .f32) (x3 : Vec F S1x2048 .f32) (x4 : Vec F S1x2048 .f32) (x5 : Vec F S1x2048 .f32) (x6 : Vec F S2048x512 .bf16) (x7 : Vec F S2048x512 .bf16) (x8 : Vec F S512x2048 .bf16) (xs0 : Vec F S512x2048 .bf16) (xs1 : Vec F S512x2048 .f32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay3 xs0 x6 x7 xs1 x8 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x2048) hz, View.ld_unit_zero (S := S1x2048) hz, View.ld_unit_zero (S := S2048x512) hz]

/-- The last step adds its product to the accumulator. -/
theorem scrC1 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S512x2048 .f32) (harg13 : arg13.IsWhole) (hc0 : ¬cond0_0 i) (hc1 : cond0_1 i)
    (x0 : Vec F S512x2048 .f32) (x1 : Vec F S1x2048 .f32) (x2 : Vec F S1x2048 .f32) (x3 : Vec F S1x2048 .f32) (x4 : Vec F S1x2048 .f32) (x5 : Vec F S1x2048 .f32) (x6 : Vec F S2048x512 .bf16) (x7 : Vec F S2048x512 .bf16) (x8 : Vec F S512x2048 .bf16) (xs0 : Vec F S512x2048 .bf16) (xs1 : Vec F S512x2048 .f32) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay3 xs0 x6 x7 xs1 x8 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x2048) hz, View.ld_unit_zero (S := S1x2048) hz, View.ld_unit_zero (S := S2048x512) hz]

/-- The last step stores the normalised sum of the residual and the finished accumulator. -/
theorem outC9 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S512x2048 .f32) (harg13 : arg13.IsWhole) (hc0 : ¬cond0_0 i) (hc1 : cond0_1 i)
    (x0 : Vec F S512x2048 .f32) (x1 : Vec F S1x2048 .f32) (x2 : Vec F S1x2048 .f32) (x3 : Vec F S1x2048 .f32) (x4 : Vec F S1x2048 .f32) (x5 : Vec F S1x2048 .f32) (x6 : Vec F S2048x512 .bf16) (x7 : Vec F S2048x512 .bf16) (x8 : Vec F S512x2048 .bf16) (xs0 : Vec F S512x2048 .bf16) (xs1 : Vec F S512x2048 .f32) :
    out0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay4 x0 x4 (k0_pay3 xs0 x6 x7 xs1 x8) x5 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  dsimp only
  sl_unfold_words
  rw [View.canon_unit_zero hz]
  simp only [View.readCov_unit_zero (S := S512x2048) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x2048) hz, View.ld_unit_zero (S := S1x2048) hz, View.ld_unit_zero (S := S2048x512) hz]

end Cert.Proof.Ffn

end
-- ==== Proof.FfnValue.lean ====
/- The feed-forward half of the block, `_ffn`: its payloads read at an index beside the reference's arrays. -/
module

public import proofs.«01_k».proof.Defs
public import proofs.«01_k».proof.Proof.FfnBody
public import proofs.«01_k».proof.Proof.Gen.Reference2Ideal.Read
public import Idealize.ShloMosaic.Lib.StableHlo.ReadAt

@[expose] public section

set_option maxRecDepth 16384

noncomputable section

namespace Cert.Proof.Ffn

open Cert.Kernel2Ideal Cert.Kernel2Ideal.Gen Cert.Kernel2Ideal.Value Idealize.ShloMosaic Idealize.ShloMosaic.TcCoe Idealize.SL.Sem

section payloads
open Cert.Reference2Ideal.Read

/-- An index of two coordinates is known by its coordinates. -/
theorem ix2_ext {n k : Nat} {i : (⟨2, ![n, k]⟩ : Shape).Idx} {a : Fin n} {b : Fin k} (h0 : (i 0).val = a.val) (h1 : (i 1).val = b.val) : i = ix2 a b :=
  funext fun x => Fin.ext (by match x with | ⟨0, _⟩ => exact h0 | ⟨1, _⟩ => exact h1)

variable (x0 : Vec Ideal S16384x2048 .f32) (x1 : Vec Ideal S2048 .f32) (x2 x3 x4 : Vec Ideal S1x2048 .f32) (x5 : Vec Ideal S2048 .f32)
  (x6 : Vec Ideal S2048x11264 .f32) (x7 : Vec Ideal S5632x2048 .f32)

/-- The norm stored at a row and a column, over blocks that hold the reference's rows. -/
theorem pay1_apply (X : Vec Ideal S512x2048 .f32) (G : Vec Ideal S1x2048 .f32)
    (r : Fin 512) (R : Fin 16384) (hX : ∀ k : Fin 2048, X (ix2 r k) = x0 (ix2 R k)) (hG : ∀ k : Fin 2048, G (ix2 0 k) = x1 (ix1 k)) (k : Fin 2048) :
    k0_pay1 X G x2 x3 (ix2 r k) = val_main_v18 (F := Ideal) x0 x1 x2 x3 (ix2 R k) := by
  unfold k0_pay1
  simp only [val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, val_main_cst_2_apply]
  pointwise
  have e1 : ∀ x : Fin 2048, idx_main_v1 (idx_main_v2 (idx_main_v8 (ix2 R k))) x = ix2 R x := fun x => ix2_ext rfl rfl
  have e2 : idx_main_v10 (idx_main_v11 (ix2 R k)) = ix1 k := funext fun a => by match a with | ⟨0, _⟩ => rfl
  have e3 : idx_main_v15 (ix2 R k) = ix2 0 k := ix2_ext rfl rfl
  have e4 : idx_main_v17 (ix2 R k) = ix2 0 k := ix2_ext rfl rfl
  simp only [e1, e2, e3, e4, hX, hG]

/-- One step's product added to the accumulator, over blocks that hold the reference's norm and weights. -/
theorem pay3_apply (H : Vec Ideal S512x2048 .bf16) (Wg Wu : Vec Ideal S2048x512 .bf16) (A : Vec Ideal S512x2048 .f32) (Wo : Vec Ideal S512x2048 .bf16)
    (r : Fin 512) (R : Fin 16384) (j : Fin 2048) (s : Fin 11)
    (hH : ∀ q : Fin 2048, H (ix2 r q) = val_main_v18 (F := Ideal) x0 x1 x2 x3 (ix2 R q))
    (hg : ∀ (q : Fin 2048) (k : Fin 512), Wg (ix2 q k) = x6 (ix2 q ⟨s.val * 512 + k.val, by omega⟩))
    (hu : ∀ (q : Fin 2048) (k : Fin 512), Wu (ix2 q k) = x6 (ix2 q ⟨5632 + (s.val * 512 + k.val), by omega⟩))
    (ho : ∀ (k : Fin 512), Wo (ix2 k j) = x7 (ix2 ⟨s.val * 512 + k.val, by omega⟩ j)) :
    k0_pay3 H Wg Wu A Wo (ix2 r j) = A (ix2 r j) + ∑ k : Fin 512, val_main_v23 (F := Ideal) x0 x1 x2 x3 x6 (ix2 R ⟨s.val * 512 + k.val, by omega⟩) * x7 (ix2 ⟨s.val * 512 + k.val, by omega⟩ j) := by
  unfold k0_pay3
  simp only [val_main_v23_apply, val_main_v22_apply, val_main_call0_v5_apply, val_main_call0_v4_apply, val_main_call0_v3_apply, val_main_call0_v2_apply, val_main_call0_v1_apply, val_main_call0_v0_apply, val_main_v21_apply, val_main_v20_apply, val_main_v19_apply, val_main_call0_cst_apply, val_main_call0_cst_0_apply]
  pointwise
  have e1 : ∀ (K : Fin 5632) (q : Fin 2048), lidx_main_v19 (idx_main_v20 (ix2 R K)) q = ix2 R q := fun K q => ix2_ext rfl rfl
  have e2 : ∀ (K : Fin 5632) (q : Fin 2048), ridx_main_v19 (idx_main_v20 (ix2 R K)) q = ix2 q ⟨K.val, by omega⟩ := fun K q => ix2_ext rfl rfl
  have e3 : ∀ (K : Fin 5632) (q : Fin 2048), lidx_main_v19 (idx_main_v21 (ix2 R K)) q = ix2 R q := fun K q => ix2_ext rfl rfl
  have e4 : ∀ (K : Fin 5632) (q : Fin 2048), ridx_main_v19 (idx_main_v21 (ix2 R K)) q = ix2 q ⟨5632 + K.val, by omega⟩ := fun K q => ix2_ext rfl rfl
  simp only [e1, e2, e3, e4, hH, hg, hu, ho, Ideal.logistic]

/-- The last step's output at a row and a column, over an accumulator that holds the whole product. -/
theorem pay4_apply (X A : Vec Ideal S512x2048 .f32) (G : Vec Ideal S1x2048 .f32)
    (r : Fin 512) (R : Fin 16384) (hX : ∀ k : Fin 2048, X (ix2 r k) = x0 (ix2 R k)) (hG : ∀ k : Fin 2048, G (ix2 0 k) = x5 (ix1 k))
    (hA : ∀ k : Fin 2048, A (ix2 r k) = val_main_v24 (F := Ideal) x0 x1 x2 x3 x6 x7 (ix2 R k)) (k : Fin 2048) :
    k0_pay4 X x4 A G (ix2 r k) = val_main_v40 (F := Ideal) x0 x1 x2 x3 x4 x5 x6 x7 (ix2 R k) := by
  unfold k0_pay4
  simp only [val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_cst_3_apply, val_main_cst_4_apply, val_main_cst_5_apply]
  pointwise
  have e1 : ∀ x : Fin 2048, idx_main_v29 (idx_main_v30 (idx_main_v36 (ix2 R k))) x = ix2 R x := fun x => ix2_ext rfl rfl
  have e2 : idx_main_v38 (idx_main_v39 (ix2 R k)) = ix1 k := funext fun a => by match a with | ⟨0, _⟩ => rfl
  have e3 : ∀ x : Fin 2048, idx_main_v25 (ix2 R x) = ix2 0 x := fun x => ix2_ext rfl rfl
  simp only [e1, e2, e3, hX, hG, hA]

/-- The eleven steps' products together are the reference's product. -/
theorem sum_steps (f : Fin 5632 → EReal) : ∑ s : Fin 11, ∑ k : Fin 512, f ⟨s.val * 512 + k.val, by omega⟩ = ∑ K : Fin 5632, f K := by
  rw [← Finset.sum_product', Finset.univ_product_univ]
  refine (Equiv.sum_comp (finProdFinEquiv (m := 11) (n := 512)) (fun K => f K)).symm.trans ?_ |>.symm
  refine Finset.sum_congr rfl fun p _ => congrArg f (Fin.ext ?_)
  show p.2.val + 512 * p.1.val = p.1.val * 512 + p.2.val
  omega

/-- The reference's product as the sum over the eleven steps. -/
theorem v24_steps (R : Fin 16384) (j : Fin 2048) :
    val_main_v24 (F := Ideal) x0 x1 x2 x3 x6 x7 (ix2 R j) = ∑ s : Fin 11, ∑ k : Fin 512, val_main_v23 (F := Ideal) x0 x1 x2 x3 x6 (ix2 R ⟨s.val * 512 + k.val, by omega⟩) * x7 (ix2 ⟨s.val * 512 + k.val, by omega⟩ j) := by
  rw [val_main_v24_apply, sum_steps (fun K => val_main_v23 (F := Ideal) x0 x1 x2 x3 x6 (ix2 R K) * x7 (ix2 K j))]
  refine Finset.sum_congr rfl fun K _ => ?_
  rw [show lidx_main_v24 (ix2 R j) K = ix2 R K from ix2_ext rfl rfl, show ridx_main_v24 (ix2 R j) K = ix2 K j from ix2_ext rfl rfl]

end payloads

variable (m : (ℓ : Loc nD τ sig) → Buf (Elt Ideal) ℓ) (ρ : Dev nD → PrngReg)

/-- The index maps over the grid: the row tile is `t / 11`, the step `t % 11`. -/
theorem idx_facts : ∀ t : Fin cfg0.N, (win0_0.index t (0 : Fin 2) = t.val / 11 ∧ win0_0.index t (1 : Fin 2) = 0)
    ∧ (win0_6.index t (0 : Fin 2) = 0 ∧ win0_6.index t (1 : Fin 2) = t.val % 11) ∧ (win0_7.index t (0 : Fin 2) = 0 ∧ win0_7.index t (1 : Fin 2) = t.val % 11 + 11)
    ∧ (win0_8.index t (0 : Fin 2) = t.val % 11 ∧ win0_8.index t (1 : Fin 2) = 0) ∧ (win0_9.index t (0 : Fin 2) = t.val / 11 ∧ win0_9.index t (1 : Fin 2) = 0) :=
  (by decide +kernel : ∀ t : Fin grid0.N, _)

/-- The index maps of the row vectors: always the one block. -/
theorem idx_vec : ∀ t : Fin cfg0.N, (win0_1.index t (0 : Fin 2) = 0 ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0) ∧ (win0_4.index t (0 : Fin 2) = 0 ∧ win0_4.index t (1 : Fin 2) = 0) ∧ (win0_5.index t (0 : Fin 2) = 0 ∧ win0_5.index t (1 : Fin 2) = 0) :=
  (by decide +kernel : ∀ t : Fin grid0.N, _)

abbrev a0 (c : Dev nD) : Vec Ideal S16384x2048 .f32 := m ((c : Thread nD τ).loc main_arg0)
abbrev a1 (c : Dev nD) : Vec Ideal S2048 .f32 := m ((c : Thread nD τ).loc main_arg1)
abbrev a2 (c : Dev nD) : Vec Ideal S1x2048 .f32 := m ((c : Thread nD τ).loc main_arg2)
abbrev a3 (c : Dev nD) : Vec Ideal S1x2048 .f32 := m ((c : Thread nD τ).loc main_arg3)
abbrev a4 (c : Dev nD) : Vec Ideal S1x2048 .f32 := m ((c : Thread nD τ).loc main_arg4)
abbrev a5 (c : Dev nD) : Vec Ideal S2048 .f32 := m ((c : Thread nD τ).loc main_arg5)
abbrev a6 (c : Dev nD) : Vec Ideal S2048x11264 .f32 := m ((c : Thread nD τ).loc main_arg6)
abbrev a7 (c : Dev nD) : Vec Ideal S5632x2048 .f32 := m ((c : Thread nD τ).loc main_arg7)

theorem V_v0 (c : Dev nD) (k : Fin 2048) : V m c main_v0 (ix2 0 k) = a1 m c (ix1 k) := by
  unfold V
  after_reads_at
theorem V_v1 (c : Dev nD) (k : Fin 2048) : V m c main_v1 (ix2 0 k) = a5 m c (ix1 k) := by
  unfold V
  after_reads_at
theorem V_v2 (c : Dev nD) (i : S2048x11264.Idx) : V m c main_v2 i = a6 m c i := by
  unfold V
  after_reads_at
theorem V_v3 (c : Dev nD) (i : S5632x2048.Idx) : V m c main_v3 i = a7 m c i := by
  unfold V
  after_reads_at

theorem blk0 (c : Dev nD) (t : Fin cfg0.N) (r : Fin 512) (k : Fin 2048) (R : Fin 16384) (hR : R.val = t.val / 11 * 512 + r.val) :
    iblk m c 0 t (ix2 r k) = a0 m c (ix2 R k) := by
  obtain ⟨⟨e0, e1⟩, -⟩ := idx_facts t
  show V m c main_arg0 (((cfg0.win 0).blk t).view.emb (ix2 r k)) = _
  rw [V_main_arg0]
  refine congrArg (a0 m c) (ix2_ext ?_ ?_)
  · show win0_0.index t (0 : Fin 2) * 512 + 1 * r.val = R.val; omega
  · show win0_0.index t (1 : Fin 2) * 2048 + 1 * k.val = k.val; omega

theorem blk1 (c : Dev nD) (t : Fin cfg0.N) (k : Fin 2048) : iblk m c 1 t (ix2 0 k) = a1 m c (ix1 k) := by
  obtain ⟨⟨e0, e1⟩, -⟩ := idx_vec t
  rw [← V_v0]
  refine congrArg (V m c main_v0) (ix2_ext ?_ ?_)
  · show win0_1.index t (0 : Fin 2) * 1 + 1 * 0 = 0; omega
  · show win0_1.index t (1 : Fin 2) * 2048 + 1 * k.val = k.val; omega

theorem blk5 (c : Dev nD) (t : Fin cfg0.N) (k : Fin 2048) : iblk m c 5 t (ix2 0 k) = a5 m c (ix1 k) := by
  obtain ⟨-, -, -, -, ⟨e0, e1⟩⟩ := idx_vec t
  rw [← V_v1]
  refine congrArg (V m c main_v1) (ix2_ext ?_ ?_)
  · show win0_5.index t (0 : Fin 2) * 1 + 1 * 0 = 0; omega
  · show win0_5.index t (1 : Fin 2) * 2048 + 1 * k.val = k.val; omega

theorem blk2 (c : Dev nD) (t : Fin cfg0.N) : iblk m c 2 t = a2 m c := by
  obtain ⟨-, ⟨e0, e1⟩, -⟩ := idx_vec t
  funext i
  have h0 : (i 0).val < 1 := (i 0).isLt
  show V m c main_arg2 (((cfg0.win 2).blk t).view.emb i) = _
  rw [V_main_arg2]
  refine congrArg (a2 m c) (funext fun a => Fin.ext ?_)
  match a with
  | ⟨0, _⟩ => show win0_2.index t (0 : Fin 2) * 1 + 1 * (i 0).val = (i 0).val; omega
  | ⟨1, _⟩ => show win0_2.index t (1 : Fin 2) * 2048 + 1 * (i 1).val = (i 1).val; omega

theorem blk3 (c : Dev nD) (t : Fin cfg0.N) : iblk m c 3 t = a3 m c := by
  obtain ⟨-, -, ⟨e0, e1⟩, -⟩ := idx_vec t
  funext i
  have h0 : (i 0).val < 1 := (i 0).isLt
  show V m c main_arg3 (((cfg0.win 3).blk t).view.emb i) = _
  rw [V_main_arg3]
  refine congrArg (a3 m c) (funext fun a => Fin.ext ?_)
  match a with
  | ⟨0, _⟩ => show win0_3.index t (0 : Fin 2) * 1 + 1 * (i 0).val = (i 0).val; omega
  | ⟨1, _⟩ => show win0_3.index t (1 : Fin 2) * 2048 + 1 * (i 1).val = (i 1).val; omega

theorem blk4 (c : Dev nD) (t : Fin cfg0.N) : iblk m c 4 t = a4 m c := by
  obtain ⟨-, -, -, ⟨e0, e1⟩, -⟩ := idx_vec t
  funext i
  have h0 : (i 0).val < 1 := (i 0).isLt
  show V m c main_arg4 (((cfg0.win 4).blk t).view.emb i) = _
  rw [V_main_arg4]
  refine congrArg (a4 m c) (funext fun a => Fin.ext ?_)
  match a with
  | ⟨0, _⟩ => show win0_4.index t (0 : Fin 2) * 1 + 1 * (i 0).val = (i 0).val; omega
  | ⟨1, _⟩ => show win0_4.index t (1 : Fin 2) * 2048 + 1 * (i 1).val = (i 1).val; omega

theorem blk6 (c : Dev nD) (t : Fin cfg0.N) (q : Fin 2048) (k : Fin 512) (J : Fin 11264) (hJ : J.val = t.val % 11 * 512 + k.val) :
    iblk m c 6 t (ix2 q k) = a6 m c (ix2 q J) := by
  obtain ⟨-, ⟨e0, e1⟩, -⟩ := idx_facts t
  rw [← V_v2]
  refine congrArg (V m c main_v2) (ix2_ext ?_ ?_)
  · show win0_6.index t (0 : Fin 2) * 2048 + 1 * q.val = q.val; omega
  · show win0_6.index t (1 : Fin 2) * 512 + 1 * k.val = J.val; omega

theorem blk7 (c : Dev nD) (t : Fin cfg0.N) (q : Fin 2048) (k : Fin 512) (J : Fin 11264) (hJ : J.val = 5632 + (t.val % 11 * 512 + k.val)) :
    iblk m c 7 t (ix2 q k) = a6 m c (ix2 q J) := by
  obtain ⟨-, -, ⟨e0, e1⟩, -⟩ := idx_facts t
  rw [← V_v2]
  refine congrArg (V m c main_v2) (ix2_ext ?_ ?_)
  · show win0_7.index t (0 : Fin 2) * 2048 + 1 * q.val = q.val; omega
  · show win0_7.index t (1 : Fin 2) * 512 + 1 * k.val = J.val; omega

theorem blk8 (c : Dev nD) (t : Fin cfg0.N) (k : Fin 512) (j : Fin 2048) (J : Fin 5632) (hJ : J.val = t.val % 11 * 512 + k.val) :
    iblk m c 8 t (ix2 k j) = a7 m c (ix2 J j) := by
  obtain ⟨-, -, -, ⟨e0, e1⟩, -⟩ := idx_facts t
  rw [← V_v3]
  refine congrArg (V m c main_v3) (ix2_ext ?_ ?_)
  · show win0_8.index t (0 : Fin 2) * 512 + 1 * k.val = J.val; omega
  · show win0_8.index t (1 : Fin 2) * 2048 + 1 * j.val = j.val; omega

/-- The reference's modulated norm, over the arguments as launched. -/
abbrev Nrm (c : Dev nD) : Vec Ideal S16384x2048 .f32 := Cert.Reference2Ideal.Read.val_main_v18 (F := Ideal) (a0 m c) (a1 m c) (a2 m c) (a3 m c)
/-- The part of the reference's second product that step `s` adds, at a row and a column. -/
def step (c : Dev nD) (R : Fin 16384) (j : Fin 2048) (s : Nat) : EReal :=
  if hs : s < 11 then ∑ k : Fin 512, Cert.Reference2Ideal.Read.val_main_v23 (F := Ideal) (a0 m c) (a1 m c) (a2 m c) (a3 m c) (a6 m c) (ix2 R ⟨s * 512 + k.val, by omega⟩) * a7 m c (ix2 ⟨s * 512 + k.val, by omega⟩ j) else 0

/-- The payload of a point adds the point's step. -/
theorem pay3_step (c : Dev nD) (t : Fin cfg0.N) (H : Vec Ideal S512x2048 .bf16) (A : Vec Ideal S512x2048 .f32) (r : Fin 512) (j : Fin 2048)
    (R : Fin 16384) (hH : ∀ q : Fin 2048, H (ix2 r q) = Nrm m c (ix2 R q)) :
    k0_pay3 H (iblk m c 6 t) (iblk m c 7 t) A (iblk m c 8 t) (ix2 r j) = A (ix2 r j) + step m c R j (t.val % 11) := by
  have hs : t.val % 11 < 11 := Nat.mod_lt _ (by decide)
  unfold step
  rw [dif_pos hs]
  exact pay3_apply (a0 m c) (a1 m c) (a2 m c) (a3 m c) (a6 m c) (a7 m c) H (iblk m c 6 t) (iblk m c 7 t) A (iblk m c 8 t) r R j ⟨t.val % 11, hs⟩ hH
    (fun q k => blk6 m c t q k _ rfl) (fun q k => blk7 m c t q k _ rfl) (fun k => blk8 m c t k j _ rfl)

/-- What the scratches hold after point `n`: the norm of the row tile, and the sum of the steps so far. -/
theorem scratch_eq (c : Dev nD) : ∀ (n : Nat) (hn : n < cfg0.N) (r : Fin 512) (R : Fin 16384), R.val = n / 11 * 512 + r.val →
    (∀ q : Fin 2048, (outsAt0 m c n hn).2.1 (ix2 r q) = Nrm m c (ix2 R q))
    ∧ ∀ j : Fin 2048, (outsAt0 m c n hn).2.2 (ix2 r j) = ∑ s ∈ Finset.range (n % 11 + 1), step m c R j s := by
  have hA : ∀ (t : Fin cfg0.N), t.val % 11 = 0 → ∀ (r : Fin 512) (R : Fin 16384), R.val = t.val / 11 * 512 + r.val →
      (∀ q : Fin 2048, (outsAt0 m c t.val t.isLt).2.1 (ix2 r q) = Nrm m c (ix2 R q))
      ∧ ∀ j : Fin 2048, (outsAt0 m c t.val t.isLt).2.2 (ix2 r j) = ∑ s ∈ Finset.range (t.val % 11 + 1), step m c R j s := by
    intro t h0 r R hR
    have hN : ∀ q : Fin 2048, k0_pay1 (iblk m c 0 t) (iblk m c 1 t) (iblk m c 2 t) (iblk m c 3 t) (ix2 r q) = Nrm m c (ix2 R q) := by
      intro q
      rw [blk2, blk3]
      exact pay1_apply (a0 m c) (a1 m c) (a2 m c) (a3 m c) _ _ r R (fun k => blk0 m c t r k R hR) (fun k => blk1 m c t k) q
    rw [outsAt0_A m c t h0 (by omega)]
    dsimp only
    rw [scrA0, scrA1]
    refine ⟨hN, fun j => ?_⟩
    rw [pay3_step m c t _ _ r j R hN, h0, Finset.sum_range_one]
    unfold k0_pay2
    pointwise
  intro n
  induction n with
  | zero => exact fun hn => hA ⟨0, hn⟩ rfl
  | succ n ih =>
    intro hn r R hR
    by_cases h0 : (n + 1) % 11 = 0
    · exact hA ⟨n + 1, hn⟩ h0 r R hR
    obtain ⟨i0, i1⟩ := ih (Nat.lt_of_succ_lt hn) r R (by omega)
    have key : ∀ j : Fin 2048, k0_pay3 (outsAt0 m c n (Nat.lt_of_succ_lt hn)).2.1 (iblk m c 6 ⟨n + 1, hn⟩) (iblk m c 7 ⟨n + 1, hn⟩) (outsAt0 m c n (Nat.lt_of_succ_lt hn)).2.2 (iblk m c 8 ⟨n + 1, hn⟩) (ix2 r j)
        = ∑ s ∈ Finset.range ((n + 1) % 11 + 1), step m c R j s := by
      intro j
      rw [pay3_step m c ⟨n + 1, hn⟩ _ _ r j R i0, i1 j, show (n + 1) % 11 = n % 11 + 1 from by omega, Finset.sum_range_succ _ (n % 11 + 1)]
    by_cases h1 : (n + 1) % 11 = 10
    · rw [outsAt0_C m c ⟨n + 1, hn⟩ h0 h1]
      dsimp only
      rw [scrC1]
      exact ⟨i0, key⟩
    · rw [outsAt0_B m c ⟨n + 1, hn⟩ h0 h1]
      dsimp only
      rw [scrB1]
      exact ⟨i0, key⟩

/-- The reference's result over the arguments as launched. -/
abbrev RV (c : Dev nD) : Vec Ideal S16384x2048 .f32 :=
  Cert.Reference2Ideal.Read.val_main_v40 (F := Ideal) (a0 m c) (a1 m c) (a2 m c) (a3 m c) (a4 m c) (a5 m c) (a6 m c) (a7 m c)

/-- What the last step of a row tile leaves in the output block. -/
theorem out_eq (c : Dev nD) (t : Fin cfg0.N) (h1 : t.val % 11 = 10) (r : Fin 512) (R : Fin 16384) (hR : R.val = t.val / 11 * 512 + r.val) (j : Fin 2048) :
    (outsAt0 m c t.val t.isLt).1 (ix2 r j) = RV m c (ix2 R j) := by
  obtain ⟨i0, i1⟩ := scratch_eq m c (t.val - 1) (Nat.lt_of_le_of_lt (Nat.sub_le _ _) t.isLt) r R (by omega)
  rw [outsAt0_C m c t (by omega) h1]
  dsimp only
  rw [outC9, blk4]
  refine pay4_apply (a0 m c) (a1 m c) (a2 m c) (a3 m c) (a4 m c) (a5 m c) (a6 m c) (a7 m c) _ _ _ r R (fun k => blk0 m c t r k R hR) (fun k => blk5 m c t k) (fun k => ?_) j
  rw [pay3_step m c t _ _ r k R i0, i1 k, h1, show (t.val - 1) % 11 + 1 = 10 from by omega, ← Finset.sum_range_succ, v24_steps, Finset.sum_range]
  exact Finset.sum_congr rfl fun s _ => by unfold step; rw [dif_pos s.isLt]

/-- What a row tile's last point writes back is its block of the reference's result. -/
theorem flushed_eq (c : Dev nD) (t : Fin cfg0.N) (hf : (cfg0.win 9).flush t = true) :
    (dats m 0 c).flushed 9 t = ((cfg0.win 9).blk t).view.read (Elt Ideal) (RV m c) := by
  have hN : t.val < 352 := lt_of_lt_of_eq t.isLt (show cfg0.N = 352 from N_0)
  obtain ⟨-, -, -, -, e0, e1⟩ := idx_facts t
  rw [flushed9]
  funext y
  have hr : (y 0).val < 512 := (y 0).isLt
  have hc : (y 1).val < 2048 := (y 1).isLt
  have hy : y = ix2 (⟨(y 0).val, hr⟩ : Fin 512) (⟨(y 1).val, hc⟩ : Fin 2048) := ix2_ext rfl rfl
  show (outsAt0 m c t.val t.isLt).1 y = RV m c (((cfg0.win 9).blk t).view.emb y)
  have he : ((cfg0.win 9).blk t).view.emb y = ix2 (⟨t.val / 11 * 512 + (y 0).val, by omega⟩ : Fin 16384) (⟨(y 1).val, hc⟩ : Fin 2048) := by
    refine ix2_ext ?_ ?_
    · show win0_9.index t (0 : Fin 2) * 512 + 1 * (y 0).val = t.val / 11 * 512 + (y 0).val; omega
    · show win0_9.index t (1 : Fin 2) * 2048 + 1 * (y 1).val = (y 1).val; omega
  rw [he]
  exact (congrArg (outsAt0 m c t.val t.isLt).1 hy).trans (out_eq m c t ((flush0_9 t).mp hf) _ _ rfl _)

/-- Every index of the result array is in the block of its row tile's last point. -/
theorem covered (i : main_v4.ty.Idx) : ∃ t : Fin cfg0.N, (cfg0.win 9).flush t = true ∧ i ∈ ((cfg0.win 9).blk t).view.set := by
  have hr : (i 0).val < 16384 := (i 0).isLt
  have hc : (i 1).val < 2048 := (i 1).isLt
  have hN : cfg0.N = 352 := N_0
  obtain ⟨t, ht⟩ : ∃ t : Fin cfg0.N, t.val = (i 0).val / 512 * 11 + 10 := ⟨⟨_, by omega⟩, rfl⟩
  obtain ⟨-, -, -, -, e0, e1⟩ := idx_facts t
  refine ⟨t, (flush0_9 t).mpr (by omega), ?_⟩
  show i ∈ ((View.whole main_v4).slice (win0_9.rect t)).set
  rw [View.set_slice_whole, Rect.mem_set_unit]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 2048 ≤ (i 1).val ∧ (i 1).val < win0_9.index t (1 : Fin 2) * 2048 + 2048; omega

/-- The result array after the run is the reference's. -/
theorem final (c : Dev nD) : (dats m 0 c).arrAt 9 cfg0.N = RV m c :=
  (dats m 0 c).arrAt_eq_of_cover 9 (RV m c) (fun t hf => flushed_eq m c t hf) covered

/-- The kernel and the reference, from memories that agree on the arguments, both run and end with equal results. -/
theorem algebraic : Cert.algebraic_Kernel2Ideal_Reference2Ideal := fun m ρ m' ρ' _ hag =>
  ⟨fun c => RV m c, (θ_run defs _ _).mono (fun r h c => ⟨(h c).1.trans (final m c), (h c).2⟩) (run_blocks m ρ), (θ_run _ _ _).mono
    (fun _ h c => ⟨(h c).1.trans (by
      obtain ⟨h0, h1, h2, h3, h4, h5, h6, h7⟩ := hag c
      rw [Cert.Reference2Ideal.Read.val_main_v40_eq, h0, h1, h2, h3, h4, h5, h6, h7]), (h c).2⟩)
    (Cert.Reference2Ideal.Value.run m' ρ')⟩

end Cert.Proof.Ffn

end
-- ==== Proof.ProjARun.lean ====
/-
The run of the input projection's kernel (`Kernel3Ideal`): the adaptive RMS norm followed by the projection of the plain
half, with every output named.

The grid walks 16 row tiles times 3 column blocks.  At the first point of a row tile the body stores the normalised
row tile into its second output's buffer; at all three points it reads that buffer back and stores the product with
the current weight column block into the first output's buffer.  So the second output's buffer holds the normalised
rows of the tile from the tile's first point to its last, where the pipeline writes it back.  The file proves this
point by point, for any number type, and hence that the launch ends with both output arrays written by these
blocks, every argument unchanged and every semaphore counter at zero.
-/
module

public import proofs.«01_k».proof.Proof.Gen.Kernel3Ideal.Frame
public import proofs.«01_k».proof.Proof.Gen.Kernel3Ideal.Skeleton
public import proofs.«01_k».proof.Proof.Gen.Kernel3Ideal.Points
public import Idealize.ShloMosaic.Lib.Pipeline.TableIdle
public import Idealize.ShloMosaic.Lib.Ring
public import Idealize.ShloMosaic.Lib.Pipeline.Value
public import Idealize.ShloMosaic.Lib.WordCmp
public import Idealize.ShloMosaic.Lib.Claim

@[expose] public section

set_option maxRecDepth 16384

noncomputable section

namespace Cert.Proof.ProjARun

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where each point is -/

/-- The body's condition holds exactly at the first point of each row tile. -/
theorem first_iff : ∀ t : Fin cfg0.N, k0_cond1 (grid0.coords t) = 1#1 ↔ t.val % 3 = 0 := by decide +kernel

/-- The second output is stored at the first point of a row tile. -/
theorem idle_first : ∀ t : Fin cfg0.N, t.val % 3 = 0 → cfg0.idle 6 (grid0.coords t) = false := by decide +kernel

/-- The second output is left alone at the other points. -/
theorem idle_rest : ∀ t : Fin cfg0.N, t.val % 3 ≠ 0 → cfg0.idle 6 (grid0.coords t) = true := by decide +kernel

/-- The second output is not written back at the middle point of a row tile. -/
theorem flush_mid : ∀ t : Fin cfg0.N, t.val % 3 = 1 → (cfg0.win 6).flush t = false := by decide +kernel

/-- The second output is written back at the last point of a row tile. -/
theorem flush_last : ∀ t : Fin cfg0.N, t.val % 3 = 2 → (cfg0.win 6).flush t = true := by decide +kernel

/-- The second output's buffer is fresh exactly at the first point of a row tile. -/
theorem fresh_eq (t : Fin cfg0.N) : cfg0.fresh 6 t.val = decide (t.val % 3 = 0) :=
  Cfg.fresh_tab cfg0 6 (fun n => decide (n % 3 = 0)) rfl (by decide +kernel) t.val (Nat.le_of_lt t.isLt)

/-- The first point of the row tile of a point. -/
def base (t : Fin cfg0.N) : Fin cfg0.N := ⟨t.val - t.val % 3, Nat.lt_of_le_of_lt (Nat.sub_le _ _) t.isLt⟩

theorem base_first (t : Fin cfg0.N) (h : t.val % 3 = 0) : base t = t := Fin.ext (by unfold base; dsimp only; omega)

theorem base_pred (t : Fin cfg0.N) (h : t.val % 3 ≠ 0) (h' : t.val - 1 < cfg0.N) : base ⟨t.val - 1, h'⟩ = base t :=
  Fin.ext (by unfold base; dsimp only; omega)

/-! ## The body -/

theorem hz : (![0, 0] : Fin 2 → Nat) = fun _ => 0 := funext fun a => by fin_cases a <;> rfl

set_option maxHeartbeats 1000000 in
/-- The body at the first point of a row tile: it leaves the normalised rows in the second output's buffer and their
    product with the weight block in the first's. -/
theorem run_first (c : Dev nD) (E : Set ℕ) (i : grid0.Coords) (hc : k0_cond1 i = 1#1)
    (arg2 : Memref sig .tc .vmem S1024x2048 .f32) (harg2 : arg2.IsWhole) (arg3 : Memref sig .tc .vmem S1x2048 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S2048x1024 .bf16) (harg6 : arg6.IsWhole) (arg7 : Memref sig .tc .vmem S1024x1024 .f32) (harg7 : arg7.IsWhole)
    (arg8 : Memref sig .tc .vmem S1024x2048 .bf16) (harg8 : arg8.IsWhole)
    (x0 : Vec F S1024x2048 .f32) (x1 x2 x3 : Vec F S1x2048 .f32) (x4 : Vec F S2048x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k0_pay2 (k0_pay1 x0 x1 x2 x3) x4)
            ∗ owns (c : Thread nD τ) arg8 fullShare (k0_pay1 x0 x1 x2 x3)) -∗ K ⟨⟩))
      ⊢ wp frame (wpE (defs₀ (F := F)) Variants.none c none) E (cc0_proj_a i arg2 harg2 arg3 harg3 arg4 harg4 arg5 harg5 arg6 harg6 arg7 harg7 arg8 harg8) K := by
  simp only [cc0_proj_a_eq_skeleton]; unfold cc0_proj_a_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [View.read_writes_eq_canon _ _ _ (View.cover_of_tiled _ S1024x1024.size (by rfl)), View.canon_unit_zero hz]
    simp only [View.readCov_unit_zero (S := S1024x2048) _ hz]
    simp only [View.readAt_eq_ld, View.ld_unit_zero (S := S1024x2048) hz, View.ld_unit_zero (S := S1x2048) hz, View.ld_unit_zero (S := S2048x1024) hz]
  · iexists _; isplitr
    swap; · iexact H6
    ipureintro
    sl_unfold_words
    rw [View.read_writes_eq_canon _ _ _ (View.cover_of_tiled _ S1024x2048.size (by rfl)), View.canon_unit_zero hz]
    simp only [View.readAt_eq_ld, View.ld_unit_zero (S := S1024x2048) hz, View.ld_unit_zero (S := S1x2048) hz, View.ld_unit_zero (S := S2048x1024) hz]

set_option maxHeartbeats 1000000 in
/-- The body at the other points of a row tile: it reads the second output's buffer, keeps it, and leaves its product
    with the weight block in the first output's buffer. -/
theorem run_rest (c : Dev nD) (E : Set ℕ) (i : grid0.Coords) (hc : ¬ k0_cond1 i = 1#1)
    (arg2 : Memref sig .tc .vmem S1024x2048 .f32) (harg2 : arg2.IsWhole) (arg3 : Memref sig .tc .vmem S1x2048 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S2048x1024 .bf16) (harg6 : arg6.IsWhole) (arg7 : Memref sig .tc .vmem S1024x1024 .f32) (harg7 : arg7.IsWhole)
    (arg8 : Memref sig .tc .vmem S1024x2048 .bf16) (harg8 : arg8.IsWhole)
    (x0 : Vec F S1024x2048 .f32) (x1 x2 x3 : Vec F S1x2048 .f32) (x4 : Vec F S2048x1024 .bf16) (u : Vec F S1024x2048 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare u
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k0_pay2 u x4)
            ∗ owns (c : Thread nD τ) arg8 fullShare u) -∗ K ⟨⟩))
      ⊢ wp frame (wpE (defs₀ (F := F)) Variants.none c none) E (cc0_proj_a i arg2 harg2 arg3 harg3 arg4 harg4 arg5 harg5 arg6 harg6 arg7 harg7 arg8 harg8) K := by
  simp only [cc0_proj_a_eq_skeleton]; unfold cc0_proj_a_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0 hf1 hf2 hf3 hf4 hf6
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [View.read_writes_eq_canon _ _ _ (View.cover_of_tiled _ S1024x1024.size (by rfl)), View.canon_unit_zero hz]
    simp only [View.readAt_eq_ld, View.ld_unit_zero (S := S1024x2048) hz, View.ld_unit_zero (S := S2048x1024) hz]
  · iexists f6; isplitr; · ipureintro; rfl
    iexact H6

/-! ## The pipeline's proof data -/

/-- The normalised rows of the row tile of point `t`. -/
def uAt (c : Dev nD) (t : Fin cfg0.N) : Vec F S1024x2048 .bf16 :=
  k0_pay1 (iblk m c 0 (base t)) (iblk m c 1 (base t)) (iblk m c 2 (base t)) (iblk m c 3 (base t))

/-- The proof data on core `c`: each input's buffer at its block, the first output's at the product, the second's at
    the normalised rows of the row tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (uAt m c t) (iblk m c 4 t)
    | ⟨6, _⟩ => uAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = k0_pay2 (uAt m c t) (iblk m c 4 t) := by dsimp only [dats]
theorem after_6 (c : Dev nD) (t : Fin cfg0.N) : (dats m 0 c).after 6 t = uAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The normalised rows do not change inside a row tile. -/
theorem uAt_pred (c : Dev nD) (t : Fin cfg0.N) (h : t.val % 3 ≠ 0) (h' : t.val - 1 < cfg0.N) :
    uAt m c ⟨t.val - 1, h'⟩ = uAt m c t := by
  unfold uAt; rw [base_pred t h h']

/-- Past the first point of a row tile the body finds the normalised rows in the second output's buffer. -/
theorem before_6 (c : Dev nD) (t : Fin cfg0.N) (h : t.val % 3 ≠ 0) (d) : (dats m 0 c).before 6 t d = uAt m c t := by
  rw [(dats m 0 c).before_out_traj 6 rfl (fun _ _ => rfl) (fun t ht _ hf => ?_) t.val t rfl d]
  · rw [fresh_eq, if_neg (by simpa using h), after_6, uAt_pred m c t h]
  · rw [fresh_eq] at hf
    rw [after_6, after_6, uAt_pred m c t (by simpa using hf)]

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t)

/-- Handing the second output's buffer back at the normalised rows meets the post at every point. -/
theorem leaves_6 (c : Dev nD) (t : Fin cfg0.N) :
    owns (c : Thread nD τ) (st0_6 t) fullShare (uAt m c t) ⊢ ((dats m 0 c).leavesExact 6 t : sProp 𝕄) := by
  by_cases h0 : t.val % 3 = 0
  · unfold Dat.leavesExact; rw [idle_first t h0, after_6]
  · by_cases h1 : t.val % 3 = 1
    · rw [Dat.leavesExact_idle (dats m 0 c) 6 t (idle_rest t h0) (flush_mid t h1)]
      iintro H
      iexists uAt m c t
      rw [before_6 m c t h0]
      iexact H
    · unfold Dat.leavesExact; rw [idle_rest t h0, flush_last t (by omega), after_6]

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  have e6 := leaves_6 m c t
  by_cases h : t.val % 3 = 0
  · have hu : uAt m c t = k0_pay1 (iblk m c 0 t) (iblk m c 1 t) (iblk m c 2 t) (iblk m c 3 t) := by
      unfold uAt; rw [base_first t h]
    rw [hu] at e6 ⊢
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_first c Set.univ (grid0.coords t) ((first_iff t).mpr h) _ _ _ _ _ _ _ _ _ _ _ _ _ _ (iblk m c 0 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply e6; iexact H6
  · simp only [before_6 m c t h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_rest c Set.univ (grid0.coords t) (fun e => h ((first_iff t).mp e)) _ _ _ _ _ _ _ _ _ _ _ _ _ _ (iblk m c 0 t) (iblk m c 1 t) (iblk m c 2 t) (iblk m c 3 t) (iblk m c 4 t) (uAt m c t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply e6; iexact H6

/-- The body table's row at point `t`'s slots is the body at `t`. -/
theorem row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The run and the frame -/

set_option backward.isDefEq.respectTransparency.types false in
set_option maxHeartbeats 800000 in
/-- The launch: every array ends at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every argument array ends as it started and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Proof.ProjARun

end
-- ==== Proof.ProjA.lean ====
/-
The value of the input projection's kernel: its second result is the adaptive RMS norm of the residual stream, its
first the product of that norm with the plain half of the weights, both equal at every index to the reference's
arrays.
-/
module

public import proofs.«01_k».proof.Defs
public import proofs.«01_k».proof.Proof.ProjARun
public import proofs.«01_k».proof.Proof.Gen.Reference3Ideal.Read
public import Idealize.ShloMosaic.Lib.MatmulPlain
public import Idealize.ShloMosaic.Lib.IdealHost
public import Idealize.ShloMosaic.Lib.Pointwise
public import Idealize.ShloMosaic.Lib.StableHlo.ReadAt

@[expose] public section

set_option maxRecDepth 16384

noncomputable section

namespace Cert.Proof.ProjA

open Cert.Kernel3Ideal Cert.Kernel3Ideal.Gen Cert.Proof.ProjARun Idealize.ShloMosaic Idealize.ShloMosaic.TcCoe Idealize.SL.Sem

/-- An index of two coordinates is known by its coordinates. -/
theorem ix2_ext {n k : Nat} {i : (⟨2, ![n, k]⟩ : Shape).Idx} {a : Fin n} {b : Fin k} (h0 : (i 0).val = a.val) (h1 : (i 1).val = b.val) : i = ix2 a b :=
  funext fun x => Fin.ext (by match x with | ⟨0, _⟩ => exact h0 | ⟨1, _⟩ => exact h1)

section payloads
open Cert.Reference3Ideal.Read

variable (x0 : Vec Ideal S16384x2048 .f32) (x1 : Vec Ideal S2048 .f32) (x2 x3 : Vec Ideal S1x2048 .f32) (x4 : Vec Ideal S2048x9216 .f32)

/-- The norm stored at a row and a column, over blocks that hold the reference's rows. -/
theorem pay1_apply (X : Vec Ideal S1024x2048 .f32) (G : Vec Ideal S1x2048 .f32)
    (r : Fin 1024) (R : Fin 16384) (hX : ∀ k : Fin 2048, X (ix2 r k) = x0 (ix2 R k)) (hG : ∀ k : Fin 2048, G (ix2 0 k) = x1 (ix1 k)) (k : Fin 2048) :
    k0_pay1 X G x2 x3 (ix2 r k) = val_main_v18 (F := Ideal) x0 x1 x2 x3 (ix2 R k) := by
  unfold k0_pay1
  simp only [val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, val_main_cst_2_apply]
  pointwise
  have e1 : ∀ x : Fin 2048, idx_main_v1 (idx_main_v2 (idx_main_v8 (ix2 R k))) x = ix2 R x := fun x => ix2_ext rfl rfl
  have e2 : idx_main_v10 (idx_main_v11 (ix2 R k)) = ix1 k := funext fun a => by match a with | ⟨0, _⟩ => rfl
  have e3 : idx_main_v15 (ix2 R k) = ix2 0 k := ix2_ext rfl rfl
  have e4 : idx_main_v17 (ix2 R k) = ix2 0 k := ix2_ext rfl rfl
  simp only [e1, e2, e3, e4, hX, hG]

/-- The product stored at a row and a column, over blocks that hold the reference's norm and weights. -/
theorem pay2_apply (U : Vec Ideal S1024x2048 .bf16) (W : Vec Ideal S2048x1024 .bf16)
    (r : Fin 1024) (R : Fin 16384) (j : Fin 1024) (J : Fin 3072)
    (hU : ∀ q : Fin 2048, U (ix2 r q) = val_main_v18 (F := Ideal) x0 x1 x2 x3 (ix2 R q))
    (hW : ∀ q : Fin 2048, W (ix2 q j) = x4 (ix2 q ⟨J.val, by omega⟩)) :
    k0_pay2 U W (ix2 r j) = val_main_v20 (F := Ideal) x0 x1 x2 x3 x4 (ix2 R J) := by
  unfold k0_pay2
  simp only [val_main_v20_apply, val_main_v19_apply]
  pointwise
  have e1 : ∀ q : Fin 2048, lidx_main_v20 (ix2 R J) q = ix2 R q := fun q => ix2_ext rfl rfl
  have e2 : ∀ q : Fin 2048, idx_main_v19 (ridx_main_v20 (ix2 R J) q) = ix2 q ⟨J.val, by omega⟩ := fun q => ix2_ext rfl rfl
  simp only [e1, e2, hU, hW]

end payloads

variable (m : (ℓ : Loc nD τ sig) → Buf (Elt Ideal) ℓ) (ρ : Dev nD → PrngReg)

/-- The windows' block indices at a grid point: the row tile is the quotient by three, the column block the remainder. -/
theorem idx_facts : ∀ t : Fin cfg0.N, (win0_0.index t (0 : Fin 2) = t.val / 3 ∧ win0_0.index t (1 : Fin 2) = 0)
    ∧ (win0_4.index t (0 : Fin 2) = 0 ∧ win0_4.index t (1 : Fin 2) = t.val % 3)
    ∧ (win0_5.index t (0 : Fin 2) = t.val / 3 ∧ win0_5.index t (1 : Fin 2) = t.val % 3)
    ∧ win0_6.index t (0 : Fin 2) = t.val / 3 ∧ win0_6.index t (1 : Fin 2) = 0 :=
  (by decide +kernel : ∀ t : Fin grid0.N, _)

/-- The three row vectors are staged whole. -/
theorem idx_vec : ∀ t : Fin cfg0.N, (win0_1.index t (0 : Fin 2) = 0 ∧ win0_1.index t (1 : Fin 2) = 0)
    ∧ (win0_2.index t (0 : Fin 2) = 0 ∧ win0_2.index t (1 : Fin 2) = 0)
    ∧ win0_3.index t (0 : Fin 2) = 0 ∧ win0_3.index t (1 : Fin 2) = 0 :=
  (by decide +kernel : ∀ t : Fin grid0.N, _)

abbrev a0 (c : Dev nD) : Vec Ideal S16384x2048 .f32 := m ((c : Thread nD τ).loc main_arg0)
abbrev a1 (c : Dev nD) : Vec Ideal S2048 .f32 := m ((c : Thread nD τ).loc main_arg1)
abbrev a2 (c : Dev nD) : Vec Ideal S1x2048 .f32 := m ((c : Thread nD τ).loc main_arg2)
abbrev a3 (c : Dev nD) : Vec Ideal S1x2048 .f32 := m ((c : Thread nD τ).loc main_arg3)
abbrev a4 (c : Dev nD) : Vec Ideal S2048x9216 .f32 := m ((c : Thread nD τ).loc main_arg4)

theorem V_v0 (c : Dev nD) (k : Fin 2048) : V m c main_v0 (ix2 0 k) = a1 m c (ix1 k) := by
  unfold V
  after_reads_at

theorem V_v2 (c : Dev nD) (i : S2048x3072.Idx) : V m c main_v2 i = a4 m c (ix2 (i 0) (⟨(i 1).val, by have := (i 1).isLt; change (i 1).val < 3072 at this; omega⟩ : Fin 9216)) := by
  unfold V
  after_reads_at

theorem blk0 (c : Dev nD) (t : Fin cfg0.N) (r : Fin 1024) (k : Fin 2048) (R : Fin 16384) (hR : R.val = t.val / 3 * 1024 + r.val) :
    iblk m c 0 t (ix2 r k) = a0 m c (ix2 R k) := by
  obtain ⟨⟨e0, e1⟩, -⟩ := idx_facts t
  show V m c main_arg0 (((cfg0.win 0).blk t).view.emb (ix2 r k)) = _
  rw [V_main_arg0]
  refine congrArg _ (ix2_ext ?_ ?_)
  · show win0_0.index t (0 : Fin 2) * 1024 + 1 * r.val = R.val; omega
  · show win0_0.index t (1 : Fin 2) * 2048 + 1 * k.val = k.val; omega

theorem blk1 (c : Dev nD) (t : Fin cfg0.N) (k : Fin 2048) : iblk m c 1 t (ix2 0 k) = a1 m c (ix1 k) := by
  obtain ⟨⟨e0, e1⟩, -⟩ := idx_vec t
  rw [← V_v0 m c k]
  show V m c main_v0 (((cfg0.win 1).blk t).view.emb (ix2 0 k)) = _
  refine congrArg _ (ix2_ext ?_ ?_)
  · show win0_1.index t (0 : Fin 2) * 1 + 1 * (0 : Fin 1).val = (0 : Fin 1).val; omega
  · show win0_1.index t (1 : Fin 2) * 2048 + 1 * k.val = k.val; omega

theorem blk2 (c : Dev nD) (t : Fin cfg0.N) : iblk m c 2 t = a2 m c := by
  obtain ⟨-, ⟨e0, e1⟩, -⟩ := idx_vec t
  funext y
  show V m c main_arg2 (((cfg0.win 2).blk t).view.emb y) = _
  rw [V_main_arg2]
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 2048 + 1 * (y 1).val = (y 1).val; omega

theorem blk3 (c : Dev nD) (t : Fin cfg0.N) : iblk m c 3 t = a3 m c := by
  obtain ⟨-, -, e0, e1⟩ := idx_vec t
  funext y
  show V m c main_arg3 (((cfg0.win 3).blk t).view.emb y) = _
  rw [V_main_arg3]
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 2048 + 1 * (y 1).val = (y 1).val; omega

theorem blk4 (c : Dev nD) (t : Fin cfg0.N) (q : Fin 2048) (j : Fin 1024) (J : Fin 9216) (hJ : J.val = t.val % 3 * 1024 + j.val) :
    iblk m c 4 t (ix2 q j) = a4 m c (ix2 q J) := by
  obtain ⟨-, ⟨e0, e1⟩, -⟩ := idx_facts t
  show V m c main_v2 (((cfg0.win 4).blk t).view.emb (ix2 q j)) = _
  rw [V_v2]
  refine congrArg _ (ix2_ext ?_ ?_)
  · show win0_4.index t (0 : Fin 2) * 2048 + 1 * q.val = q.val; omega
  · show win0_4.index t (1 : Fin 2) * 1024 + 1 * j.val = J.val; omega

/-- The reference's results over the arguments as launched. -/
abbrev RU (c : Dev nD) : Vec Ideal S16384x2048 .bf16 :=
  Cert.Reference3Ideal.Read.val_main_v21 (F := Ideal) (a0 m c) (a1 m c) (a2 m c) (a3 m c)
abbrev RP (c : Dev nD) : Vec Ideal S16384x3072 .f32 :=
  Cert.Reference3Ideal.Read.val_main_v20 (F := Ideal) (a0 m c) (a1 m c) (a2 m c) (a3 m c) (a4 m c)

/-- The rows held in the second output's buffer are the reference's norm. -/
theorem uAt_eq (c : Dev nD) (t : Fin cfg0.N) (r : Fin 1024) (R : Fin 16384) (hR : R.val = t.val / 3 * 1024 + r.val) (k : Fin 2048) :
    uAt m c t (ix2 r k) = Cert.Reference3Ideal.Read.val_main_v18 (F := Ideal) (a0 m c) (a1 m c) (a2 m c) (a3 m c) (ix2 R k) := by
  unfold uAt
  rw [blk2, blk3]
  exact pay1_apply (a0 m c) (a1 m c) (a2 m c) (a3 m c) _ _ r R
    (fun k => blk0 m c (base t) r k R (by unfold base; dsimp only; omega)) (fun k => blk1 m c _ k) k

/-- What a row tile's last point writes back of the second result is its block of the reference's. -/
theorem flushed6_eq (c : Dev nD) (t : Fin cfg0.N) :
    (dats m 0 c).flushed 6 t = ((cfg0.win 6).blk t).view.read (Elt Ideal) (RU m c) := by
  have hN : t.val < 48 := lt_of_lt_of_eq t.isLt (show cfg0.N = 48 from N_0)
  obtain ⟨-, -, -, e0, e1⟩ := idx_facts t
  show (cfg0.win 6).cut (grid0.coords t) ((dats m 0 c).after 6 t) = _
  rw [after_6]
  funext y
  have hr : (y 0).val < 1024 := (y 0).isLt
  have hc : (y 1).val < 2048 := (y 1).isLt
  have hy : y = ix2 (⟨(y 0).val, hr⟩ : Fin 1024) (⟨(y 1).val, hc⟩ : Fin 2048) := ix2_ext rfl rfl
  show uAt m c t y = RU m c (((cfg0.win 6).blk t).view.emb y)
  have he : ((cfg0.win 6).blk t).view.emb y = ix2 (⟨t.val / 3 * 1024 + (y 0).val, by omega⟩ : Fin 16384) (⟨(y 1).val, hc⟩ : Fin 2048) := by
    refine ix2_ext ?_ ?_
    · show win0_6.index t (0 : Fin 2) * 1024 + 1 * (y 0).val = t.val / 3 * 1024 + (y 0).val; omega
    · show win0_6.index t (1 : Fin 2) * 2048 + 1 * (y 1).val = (y 1).val; omega
  rw [he]
  refine (congrArg (uAt m c t) hy).trans ?_
  exact (uAt_eq m c t _ _ rfl _).trans rfl

/-- What a point writes back of the first result is its block of the reference's. -/
theorem flushed5_eq (c : Dev nD) (t : Fin cfg0.N) :
    (dats m 0 c).flushed 5 t = ((cfg0.win 5).blk t).view.read (Elt Ideal) (RP m c) := by
  have hN : t.val < 48 := lt_of_lt_of_eq t.isLt (show cfg0.N = 48 from N_0)
  obtain ⟨-, -, ⟨e0, e1⟩, -⟩ := idx_facts t
  show (cfg0.win 5).cut (grid0.coords t) ((dats m 0 c).after 5 t) = _
  rw [after_5]
  funext y
  have hr : (y 0).val < 1024 := (y 0).isLt
  have hc : (y 1).val < 1024 := (y 1).isLt
  have hy : y = ix2 (⟨(y 0).val, hr⟩ : Fin 1024) (⟨(y 1).val, hc⟩ : Fin 1024) := ix2_ext rfl rfl
  show k0_pay2 (uAt m c t) (iblk m c 4 t) y = RP m c (((cfg0.win 5).blk t).view.emb y)
  have he : ((cfg0.win 5).blk t).view.emb y = ix2 (⟨t.val / 3 * 1024 + (y 0).val, by omega⟩ : Fin 16384) (⟨t.val % 3 * 1024 + (y 1).val, by omega⟩ : Fin 3072) := by
    refine ix2_ext ?_ ?_
    · show win0_5.index t (0 : Fin 2) * 1024 + 1 * (y 0).val = t.val / 3 * 1024 + (y 0).val; omega
    · show win0_5.index t (1 : Fin 2) * 1024 + 1 * (y 1).val = t.val % 3 * 1024 + (y 1).val; omega
  rw [he]
  refine (congrArg (k0_pay2 (uAt m c t) (iblk m c 4 t)) hy).trans ?_
  exact pay2_apply (a0 m c) (a1 m c) (a2 m c) (a3 m c) (a4 m c) _ _ _ _ _ _
    (fun q => uAt_eq m c t _ _ rfl q) (fun q => blk4 m c t q _ _ rfl)

/-- Every index of the first result is in some point's block. -/
theorem covered5 (i : main_v3_0.ty.Idx) : ∃ t : Fin cfg0.N, (cfg0.win 5).flush t = true ∧ i ∈ ((cfg0.win 5).blk t).view.set := by
  have hr : (i 0).val < 16384 := (i 0).isLt
  have hc : (i 1).val < 3072 := (i 1).isLt
  have hN : cfg0.N = 48 := N_0
  obtain ⟨t, ht⟩ : ∃ t : Fin cfg0.N, t.val = (i 0).val / 1024 * 3 + (i 1).val / 1024 := ⟨⟨_, by omega⟩, rfl⟩
  obtain ⟨-, -, ⟨e0, e1⟩, -⟩ := idx_facts t
  refine ⟨t, flush0_5 t, ?_⟩
  show i ∈ ((View.whole main_v3_0).slice (win0_5.rect t)).set
  rw [View.set_slice_whole, Rect.mem_set_unit]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- Every index of the second result is in the block of its row tile's last point. -/
theorem covered6 (i : main_v3_1.ty.Idx) : ∃ t : Fin cfg0.N, (cfg0.win 6).flush t = true ∧ i ∈ ((cfg0.win 6).blk t).view.set := by
  have hr : (i 0).val < 16384 := (i 0).isLt
  have hc : (i 1).val < 2048 := (i 1).isLt
  have hN : cfg0.N = 48 := N_0
  obtain ⟨t, ht⟩ : ∃ t : Fin cfg0.N, t.val = (i 0).val / 1024 * 3 + 2 := ⟨⟨_, by omega⟩, rfl⟩
  obtain ⟨-, -, -, e0, e1⟩ := idx_facts t
  refine ⟨t, (flush0_6 t).mpr (by omega), ?_⟩
  show i ∈ ((View.whole main_v3_1).slice (win0_6.rect t)).set
  rw [View.set_slice_whole, Rect.mem_set_unit]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 2048 ≤ (i 1).val ∧ (i 1).val < win0_6.index t (1 : Fin 2) * 2048 + 2048; omega

/-- The result arrays after the run are the reference's. -/
theorem final5 (c : Dev nD) : (dats m 0 c).arrAt 5 cfg0.N = RP m c :=
  (dats m 0 c).arrAt_eq_of_cover 5 (RP m c) (fun t _ => flushed5_eq m c t) covered5
theorem final6 (c : Dev nD) : (dats m 0 c).arrAt 6 cfg0.N = RU m c :=
  (dats m 0 c).arrAt_eq_of_cover 6 (RU m c) (fun t _ => flushed6_eq m c t) covered6

/-- The run of the kernel with its results named. -/
theorem run : θ_run defs (onTc (τ := τ) (main (F := Ideal))) ⟨m, fun _ => 0, ρ⟩ fun r => ∀ c : Dev nD,
      r.2.mem ((c : Thread nD τ).loc main_v3_0) = RP m c
      ∧ r.2.mem ((c : Thread nD τ).loc main_v3_1) = RU m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 5).trans (final5 m c), ((h.1 c).1 6).trans (final6 m c), h.2 c⟩)
    (θ_run_and (run_main m ρ) (frame_of m ρ (dats m) (A_eq m) (run_main m ρ)))

/-- The kernel and the reference, from memories that agree on the arguments, both run and end with equal results. -/
theorem algebraic : Cert.algebraic_Kernel3Ideal_Reference3Ideal := fun m ρ m' ρ' _ hag =>
  ⟨fun c => RP m c, fun c => RU m c, run m ρ, (θ_run _ _ _).mono
    (fun _ h c => by
      obtain ⟨h0, h1, h2, h3, h4⟩ := hag c
      exact ⟨(h c).1.trans (by rw [Cert.Reference3Ideal.Read.val_main_v20_eq, h0, h1, h2, h3, h4]),
        (h c).2.1.trans (by rw [Cert.Reference3Ideal.Read.val_main_v21_eq, h0, h1, h2, h3]), (h c).2.2⟩)
    (Cert.Reference3Ideal.Value.run m' ρ')⟩

end Cert.Proof.ProjA

end
-- ==== Proof.ProjB.lean ====
/- The gate product of the block, `proj_b`: what each grid point writes back is its tile of the reference's value, read
   element by element; so the whole array after the run is the reference's. -/
module

public import proofs.«01_k».proof.Proof.Gen.Kernel4Ideal.Value
public import proofs.«01_k».proof.Proof.Gen.Reference4Ideal.Read
public import proofs.«01_k».proof.Defs
public import Idealize.ShloMosaic.Lib.IdealHost
public import Idealize.ShloMosaic.Lib.StableHlo.ReadAt
public import Idealize.ShloMosaic.Lib.Pointwise

@[expose] public section

set_option maxRecDepth 16384

noncomputable section

namespace Cert.Proof.ProjB

open Cert.Kernel4Ideal Cert.Kernel4Ideal.Gen Cert.Kernel4Ideal.Value Idealize.ShloMosaic Idealize.ShloMosaic.TcCoe Idealize.SL.Sem

/-- The reference's value at row `r` and column `c`: the logistic of the row's product with the gate's columns of the
    weight, plus the gate's bias. -/
def G (u : S16384x2048.Idx → EReal) (w : S2048x9216.Idx → EReal) (b : S6144.Idx → EReal) (r : Fin 16384) (c : Fin 6144) : EReal :=
  Ideal.logistic ((∑ k : Fin 2048, u (ix2 r k) * w (ix2 k (⟨3072 + c.val, by omega⟩ : Fin 9216))) + b (ix1 c))

/-- The reference's result read at an index. -/
theorem ref_apply (u : S16384x2048.Idx → EReal) (w : S2048x9216.Idx → EReal) (b : S6144.Idx → EReal) (r : Fin 16384) (c : Fin 6144) :
    Cert.Reference4Ideal.Read.val_main_v12 (F := Ideal) u w b (ix2 r c) = G u w b r c := by
  rw [Cert.Reference4Ideal.Read.val_main_v12_apply, Cert.Reference4Ideal.Read.val_main_v11_apply,
    Cert.Reference4Ideal.Read.val_main_v10_apply, Cert.Reference4Ideal.Read.val_main_v9_apply,
    Cert.Reference4Ideal.Read.val_main_v8_apply, Cert.Reference4Ideal.Read.val_main_v7_apply,
    Cert.Reference4Ideal.Read.val_main_v6_apply, Cert.Reference4Ideal.Read.val_main_v5_apply,
    Cert.Reference4Ideal.Read.val_main_v4_apply, Cert.Reference4Ideal.Read.val_main_v3_apply,
    Cert.Reference4Ideal.Read.val_main_v2_apply]
  simp only [Cert.Reference4Ideal.Read.val_main_v1_apply, Cert.Reference4Ideal.Read.val_main_v0_apply,
    Cert.Reference4Ideal.Read.val_main_cst_apply, Cert.Reference4Ideal.Read.val_main_cst_0_apply]
  pointwise
  unfold G Ideal.logistic
  have el : ∀ k : Fin 2048, Cert.Reference4Ideal.Read.lidx_main_v2 (ix2 r c) k = ix2 r k := fun k =>
    funext fun a => by match a with | ⟨0, _⟩ => rfl | ⟨1, _⟩ => rfl
  have er : ∀ k : Fin 2048, Cert.Reference4Ideal.Read.idx_main_v1 (Cert.Reference4Ideal.Read.ridx_main_v2 (ix2 r c) k) = ix2 k ⟨3072 + c.val, by omega⟩ := fun k =>
    funext fun a => by match a with | ⟨0, _⟩ => rfl | ⟨1, _⟩ => rfl
  have eb : Cert.Reference4Ideal.Read.idx_main_v3 (Cert.Reference4Ideal.Read.idx_main_v4 (ix2 r c)) = ix1 c :=
    funext fun a => by match a with | ⟨0, _⟩ => rfl
  simp only [el, er, eb]

theorem hz : (![0, 0] : Fin 2 → Nat) = fun _ => 0 := funext fun a => by fin_cases a <;> rfl

/-- The body's output block read at a row and a column. -/
theorem out_apply (x0 : Vec Ideal S1024x2048 .bf16) (x1 : Vec Ideal S2048x1024 .bf16) (x2 : Vec Ideal S1x1024 .f32) (r c : Fin 1024) :
    out0_3 x0 x1 x2 (ix2 r c) = Ideal.logistic ((∑ k : Fin 2048, x0 (ix2 r k) * x1 (ix2 k c)) + x2 (ix2 0 c)) := by
  unfold out0_3
  rw [View.canon_unit_zero hz, View.ld_unit_zero hz, View.ld_unit_zero hz, View.ld_unit_zero hz]
  unfold k0_pay1
  pointwise

variable (m : (ℓ : Loc nD τ sig) → Buf (Elt Ideal) ℓ) (ρ : Dev nD → PrngReg)

/-- The windows' block indices at a grid point: the row tile is the quotient by six, the column tile the remainder. -/
theorem idx_facts : ∀ t : Fin cfg0.N, win0_0.index t (0 : Fin 2) = t.val / 6 ∧ win0_0.index t (1 : Fin 2) = 0
    ∧ win0_1.index t (0 : Fin 2) = 0 ∧ win0_1.index t (1 : Fin 2) = t.val % 6
    ∧ win0_2.index t (0 : Fin 2) = 0 ∧ win0_2.index t (1 : Fin 2) = t.val % 6
    ∧ win0_3.index t (0 : Fin 2) = t.val / 6 ∧ win0_3.index t (1 : Fin 2) = t.val % 6 :=
  (by decide +kernel : ∀ t : Fin grid0.N, _)

theorem V_v1 (c : Dev nD) (i : S2048x6144.Idx) : V m c main_v1 i = m ((c : Thread nD τ).loc main_arg1) (ix2 (i 0) (⟨3072 + (i 1).val, by have := (i 1).isLt; change (i 1).val < 6144 at this; omega⟩ : Fin 9216)) := by
  unfold V
  after_reads_at

theorem V_v2 (c : Dev nD) (i : S1x6144.Idx) : V m c main_v2 i = m ((c : Thread nD τ).loc main_arg2) (ix1 (i 1)) := by
  unfold V
  after_reads_at

/-- The input windows' blocks read at an index of the block. -/
theorem iblk0_apply (c : Dev nD) (t : Fin cfg0.N) (r : Fin 1024) (k : Fin 2048) (R : Fin 16384) (hR : R.val = t.val / 6 * 1024 + r.val) :
    iblk m c 0 t (ix2 r k) = m ((c : Thread nD τ).loc main_arg0) (ix2 R k) := by
  obtain ⟨e0, e1, -⟩ := idx_facts t
  show V m c main_arg0 (((cfg0.win 0).blk t).view.emb (ix2 r k)) = _
  rw [V_main_arg0]
  refine congrArg _ (funext fun a => Fin.ext ?_)
  match a with
  | ⟨0, _⟩ => show win0_0.index t (0 : Fin 2) * 1024 + 1 * r.val = R.val; omega
  | ⟨1, _⟩ => show win0_0.index t (1 : Fin 2) * 2048 + 1 * k.val = k.val; omega

theorem iblk1_apply (c : Dev nD) (t : Fin cfg0.N) (k : Fin 2048) (j : Fin 1024) (J : Fin 9216) (hJ : J.val = 3072 + (t.val % 6 * 1024 + j.val)) :
    iblk m c 1 t (ix2 k j) = m ((c : Thread nD τ).loc main_arg1) (ix2 k J) := by
  obtain ⟨-, -, e0, e1, -⟩ := idx_facts t
  show V m c main_v1 (((cfg0.win 1).blk t).view.emb (ix2 k j)) = _
  rw [V_v1]
  refine congrArg _ (funext fun a => Fin.ext ?_)
  match a with
  | ⟨0, _⟩ => show win0_1.index t (0 : Fin 2) * 2048 + 1 * k.val = k.val; omega
  | ⟨1, _⟩ => show 3072 + (win0_1.index t (1 : Fin 2) * 1024 + 1 * j.val) = J.val; omega

theorem iblk2_apply (c : Dev nD) (t : Fin cfg0.N) (j : Fin 1024) (J : Fin 6144) (hJ : J.val = t.val % 6 * 1024 + j.val) :
    iblk m c 2 t (ix2 0 j) = m ((c : Thread nD τ).loc main_arg2) (ix1 J) := by
  obtain ⟨-, -, -, -, e0, e1, -⟩ := idx_facts t
  show V m c main_v2 (((cfg0.win 2).blk t).view.emb (ix2 0 j)) = _
  rw [V_v2]
  refine congrArg _ (funext fun a => Fin.ext ?_)
  match a with
  | ⟨0, _⟩ => show win0_2.index t (1 : Fin 2) * 1024 + 1 * j.val = J.val; omega

/-- The reference's result over the arguments as launched. -/
abbrev RV (c : Dev nD) : Vec Ideal S16384x6144 .bf16 :=
  Cert.Reference4Ideal.Read.val_main_v12 (F := Ideal) (m ((c : Thread nD τ).loc main_arg0)) (m ((c : Thread nD τ).loc main_arg1)) (m ((c : Thread nD τ).loc main_arg2))

/-- What a grid point writes back is its block of the reference's result. -/
theorem flushed_eq (c : Dev nD) (t : Fin cfg0.N) :
    (dats m 0 c).flushed 3 t = ((cfg0.win 3).blk t).view.read (Elt Ideal) (RV m c) := by
  have hN : t.val < 96 := lt_of_lt_of_eq t.isLt (show cfg0.N = 96 from N_0)
  obtain ⟨-, -, -, -, -, -, e0, e1⟩ := idx_facts t
  rw [flushed3]
  funext y
  have hr : (y 0).val < 1024 := (y 0).isLt
  have hc : (y 1).val < 1024 := (y 1).isLt
  have hy : y = ix2 (⟨(y 0).val, hr⟩ : Fin 1024) (⟨(y 1).val, hc⟩ : Fin 1024) := funext fun a => by match a with | ⟨0, _⟩ => rfl | ⟨1, _⟩ => rfl
  show out0_3 _ _ _ y = RV m c (((cfg0.win 3).blk t).view.emb y)
  have he : ((cfg0.win 3).blk t).view.emb y = ix2 (⟨t.val / 6 * 1024 + (y 0).val, by omega⟩ : Fin 16384) (⟨t.val % 6 * 1024 + (y 1).val, by omega⟩ : Fin 6144) := by
    funext a; apply Fin.ext
    match a with
    | ⟨0, _⟩ => show win0_3.index t (0 : Fin 2) * 1024 + 1 * (y 0).val = t.val / 6 * 1024 + (y 0).val; omega
    | ⟨1, _⟩ => show win0_3.index t (1 : Fin 2) * 1024 + 1 * (y 1).val = t.val % 6 * 1024 + (y 1).val; omega
  rw [he, show RV m c (ix2 _ _) = _ from ref_apply _ _ _ _ _]
  refine (congrArg (out0_3 _ _ _) hy).trans ?_
  rw [out_apply, iblk2_apply m c t ⟨(y 1).val, hc⟩ ⟨t.val % 6 * 1024 + (y 1).val, by omega⟩ rfl]
  unfold G
  refine congrArg (fun z => Ideal.logistic (z + _)) (Finset.sum_congr rfl fun k _ => ?_)
  rw [iblk0_apply m c t ⟨(y 0).val, hr⟩ k ⟨t.val / 6 * 1024 + (y 0).val, by omega⟩ rfl,
    iblk1_apply m c t k ⟨(y 1).val, hc⟩ ⟨3072 + (t.val % 6 * 1024 + (y 1).val), by omega⟩ rfl]

/-- Every index of the result array is in some point's block. -/
theorem covered (i : main_v3.ty.Idx) : ∃ t : Fin cfg0.N, (cfg0.win 3).flush t = true ∧ i ∈ ((cfg0.win 3).blk t).view.set := by
  have hr : (i 0).val < 16384 := (i 0).isLt
  have hc : (i 1).val < 6144 := (i 1).isLt
  have hN : cfg0.N = 96 := N_0
  obtain ⟨t, ht⟩ : ∃ t : Fin cfg0.N, t.val = (i 0).val / 1024 * 6 + (i 1).val / 1024 := ⟨⟨_, by omega⟩, rfl⟩
  obtain ⟨-, -, -, -, -, -, e0, e1⟩ := idx_facts t
  refine ⟨t, flush0_3 t, ?_⟩
  show i ∈ ((View.whole main_v3).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The result array after the run is the reference's. -/
theorem final (c : Dev nD) : (dats m 0 c).arrAt 3 cfg0.N = RV m c :=
  (dats m 0 c).arrAt_eq_of_cover 3 (RV m c) (fun t _ => flushed_eq m c t) covered

/-- The run of the kernel with its result named. -/
theorem run : θ_run defs (onTc (τ := τ) (main (F := Ideal))) ⟨m, fun _ => 0, ρ⟩ fun r => ∀ c : Dev nD,
      r.2.mem ((c : Thread nD τ).loc main_v3) = RV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

/-- The kernel and the reference, from memories that agree on the arguments, both run and end with equal results. -/
theorem algebraic : Cert.algebraic_Kernel4Ideal_Reference4Ideal := fun m ρ m' ρ' _ hag =>
  ⟨fun c => RV m c, run m ρ, (θ_run _ _ _).mono
    (fun _ h c => ⟨(h c).1.trans (by rw [Cert.Reference4Ideal.Read.val_main_v12_eq, (hag c).1, (hag c).2.1, (hag c).2.2]), (h c).2⟩)
    (Cert.Reference4Ideal.Value.run m' ρ')⟩

end Cert.Proof.ProjB

end
-- ==== Proof.MergeTables.lean ====
/- The tables of the block's last call, `merge`: the masks and the reciprocal counts that the program computes from
   positions, as plain statements about positions; and a mask's row summed against a function is the sum over the
   window's shifts. -/
module

public import proofs.«01_k».proof.Proof.Gen.Kernel5Ideal.Value
public import Idealize.ShloMosaic.Lib.IdealHost
public import Idealize.ShloMosaic.Lib.StableHlo.ReadAt
public import Idealize.ShloMosaic.Lib.Pointwise

@[expose] public section

set_option maxRecDepth 16384

noncomputable section

namespace Cert.Proof.Merge

open Cert.Kernel5Ideal Cert.Kernel5Ideal.Gen Cert.Kernel5Ideal.Value Idealize.ShloMosaic Idealize.ShloMosaic.TcCoe Idealize.SL.Sem

/-- A position's word divided by 64 and its remainder. -/
theorem line_eq : ∀ i : Fin 256, IntOp.divsi ArithUnit.host (BitVec.ofNat 32 i.val) 64#32 = BitVec.ofNat 32 (i.val / 64) := by
  decide +kernel

theorem pos_eq : ∀ i : Fin 256, IntOp.remsi ArithUnit.host (BitVec.ofNat 32 i.val) 64#32 = BitVec.ofNat 32 (i.val % 64) := by
  decide +kernel

theorem cmp_line : ∀ a b : Fin 4, IntOp.cmpi CmpIPredicate.eq (BitVec.ofNat 32 a.val) (BitVec.ofNat 32 b.val) = BitVec.ofBool (decide (a.val = b.val)) := by
  decide +kernel

theorem cmp_lo : ∀ a b : Fin 64, IntOp.cmpi CmpIPredicate.sge (BitVec.ofNat 32 a.val) (BitVec.ofNat 32 b.val) = BitVec.ofBool (decide (b.val ≤ a.val)) := by
  decide +kernel

theorem cmp_hi : ∀ (a : Fin 64) (b : Fin 65), IntOp.cmpi CmpIPredicate.slt (BitVec.ofNat 32 a.val) (BitVec.ofNat 32 b.val) = BitVec.ofBool (decide (a.val < b.val)) := by
  decide +kernel

/-- The window's lower end at a position, as a word; then its upper end. -/
def lo (h : BitVec 32) (p : BitVec 32) : BitVec 32 := IntOp.maxsi (IntOp.subi p h) 0#32

def hi (h w : BitVec 32) (p : BitVec 32) : BitVec 32 := IntOp.minsi (IntOp.addi (IntOp.subi p h) w) 64#32

/-- What a window of width `w` that begins `h` before its token has for ends, for each of the four windows. -/
structure Ends (h w : Nat) : Prop where
  half : h + h = w
  small : 0 < h ∧ w ≤ 16
  lo_eq : ∀ p : Fin 64, lo (BitVec.ofNat 32 h) (BitVec.ofNat 32 p.val) = BitVec.ofNat 32 (p.val - h)
  hi_eq : ∀ p : Fin 64, hi (BitVec.ofNat 32 h) (BitVec.ofNat 32 w) (BitVec.ofNat 32 p.val) = BitVec.ofNat 32 (min (p.val + h) 64)

theorem ends2 : Ends 1 2 := ⟨rfl, by decide, by decide +kernel, by decide +kernel⟩
theorem ends4 : Ends 2 4 := ⟨rfl, by decide, by decide +kernel, by decide +kernel⟩
theorem ends8 : Ends 4 8 := ⟨rfl, by decide, by decide +kernel, by decide +kernel⟩
theorem ends16 : Ends 8 16 := ⟨rfl, by decide, by decide +kernel, by decide +kernel⟩

/-- A mask's entry as the program computes it. -/
def mask (h w : BitVec 32) (i j : Fin 256) : EReal :=
  FloatOps.uitofp (F := Ideal) FTy.bf16
    (IntOp.andi
      (IntOp.andi
        (IntOp.cmpi CmpIPredicate.eq (IntOp.divsi ArithUnit.host (BitVec.ofNat 32 i.val) 64#32)
          (IntOp.divsi ArithUnit.host (BitVec.ofNat 32 j.val) 64#32))
        (IntOp.cmpi CmpIPredicate.sge (IntOp.remsi ArithUnit.host (BitVec.ofNat 32 j.val) 64#32)
          (lo h (IntOp.remsi ArithUnit.host (BitVec.ofNat 32 i.val) 64#32))))
      (IntOp.cmpi CmpIPredicate.slt (IntOp.remsi ArithUnit.host (BitVec.ofNat 32 j.val) 64#32)
        (hi h w (IntOp.remsi ArithUnit.host (BitVec.ofNat 32 i.val) 64#32))))

theorem bits_and (a b c : Bool) : FloatOps.uitofp (F := Ideal) FTy.bf16 (IntOp.andi (IntOp.andi (BitVec.ofBool a) (BitVec.ofBool b)) (BitVec.ofBool c))
    = (if a = true ∧ b = true ∧ c = true then (1 : EReal) else 0) := by
  show (((IntOp.andi (IntOp.andi (BitVec.ofBool a) (BitVec.ofBool b)) (BitVec.ofBool c)).toNat : ℝ) : EReal) = _
  cases a <;> cases b <;> cases c <;> simp [IntOp.andi]

/-- A mask's entry: one exactly where the two positions lie on one row and the column's lies in the row's window. -/
theorem mask_eq {h w : Nat} (e : Ends h w) (i j : Fin 256) : mask (BitVec.ofNat 32 h) (BitVec.ofNat 32 w) i j
    = if i.val / 64 = j.val / 64 ∧ i.val % 64 ≤ j.val % 64 + h ∧ j.val % 64 < i.val % 64 + h then (1 : EReal) else 0 := by
  have hi' : i.val % 64 < 64 := Nat.mod_lt _ (by decide)
  have hj' : j.val % 64 < 64 := Nat.mod_lt _ (by decide)
  unfold mask
  rw [line_eq, line_eq, pos_eq, pos_eq, e.lo_eq ⟨i.val % 64, hi'⟩, e.hi_eq ⟨i.val % 64, hi'⟩,
    cmp_line ⟨i.val / 64, by omega⟩ ⟨j.val / 64, by omega⟩,
    cmp_lo ⟨j.val % 64, hj'⟩ ⟨i.val % 64 - h, by omega⟩, cmp_hi ⟨j.val % 64, hj'⟩ ⟨min (i.val % 64 + h) 64, by omega⟩, bits_and]
  simp only [decide_eq_true_eq]
  refine if_congr ?_ rfl rfl
  have := e.small
  omega

/-- A term of the window's sum: the token `k` after the window's begin, zero outside the row. -/
def term (h : Nat) (f : Fin 256 → EReal) (i : Fin 256) (k : Nat) : EReal :=
  if c : h ≤ i.val % 64 + k ∧ i.val % 64 + k - h < 64 then f ⟨i.val / 64 * 64 + (i.val % 64 + k - h), by omega⟩ else 0

/-- A mask's row summed against a function is the function summed over the window. -/
theorem mask_sum {h w : Nat} (e : Ends h w) (f : Fin 256 → EReal) (i : Fin 256) :
    (∑ j : Fin 256, mask (BitVec.ofNat 32 h) (BitVec.ofNat 32 w) i j * f j) = ∑ k ∈ Finset.range w, term h f i k := by
  have hw := e.half
  simp only [mask_eq e, ite_mul, one_mul, zero_mul, ← Finset.sum_filter]
  unfold term
  have : ∀ k ∈ Finset.range w, (if c : h ≤ i.val % 64 + k ∧ i.val % 64 + k - h < 64 then f ⟨i.val / 64 * 64 + (i.val % 64 + k - h), by omega⟩ else 0)
      = if h ≤ i.val % 64 + k ∧ i.val % 64 + k - h < 64 then f ⟨(i.val / 64 * 64 + (i.val % 64 + k - h)) % 256, Nat.mod_lt _ (by decide)⟩ else 0 := by
    intro k _
    by_cases c : h ≤ i.val % 64 + k ∧ i.val % 64 + k - h < 64
    · rw [dif_pos c, if_pos c]
      refine congrArg f (Fin.ext ?_)
      show i.val / 64 * 64 + (i.val % 64 + k - h) = (i.val / 64 * 64 + (i.val % 64 + k - h)) % 256
      omega
    · rw [dif_neg c, if_neg c]
  rw [Finset.sum_congr rfl this, ← Finset.sum_filter]
  refine Finset.sum_nbij' (fun j => j.val % 64 + h - i.val % 64) (fun k => ⟨(i.val / 64 * 64 + (i.val % 64 + k - h)) % 256, Nat.mod_lt _ (by decide)⟩) ?_ ?_ ?_ ?_ ?_
  · intro j hj
    simp only [Finset.mem_filter, Finset.mem_univ, true_and, Finset.mem_range] at hj ⊢
    omega
  · intro k hk
    simp only [Finset.mem_filter, Finset.mem_univ, true_and, Finset.mem_range] at hk ⊢
    omega
  · intro j hj
    simp only [Finset.mem_filter, Finset.mem_univ, true_and] at hj
    refine Fin.ext ?_
    show (i.val / 64 * 64 + (i.val % 64 + (j.val % 64 + h - i.val % 64) - h)) % 256 = j.val
    omega
  · intro k hk
    simp only [Finset.mem_filter, Finset.mem_range] at hk
    show (i.val / 64 * 64 + (i.val % 64 + k - h)) % 256 % 64 + h - i.val % 64 = k
    omega
  · intro j hj
    simp only [Finset.mem_filter, Finset.mem_univ, true_and] at hj
    refine congrArg f (Fin.ext ?_)
    show j.val = (i.val / 64 * 64 + (i.val % 64 + (j.val % 64 + h - i.val % 64) - h)) % 256
    omega

/-- The count of a window's tokens as the program computes it. -/
def count (h w : BitVec 32) (p : BitVec 32) : EReal := FloatOps.sitofp (F := Ideal) FTy.f32 (IntOp.subi (hi h w p) (lo h p))

theorem count_ne {h w : Nat} (e : Ends h w) (p : Fin 64) : count (BitVec.ofNat 32 h) (BitVec.ofNat 32 w) (BitVec.ofNat 32 p.val) ≠ 0 := by
  unfold count
  rw [e.lo_eq, e.hi_eq]
  have hs := e.small
  show (((IntOp.subi (BitVec.ofNat 32 (min (p.val + h) 64)) (BitVec.ofNat 32 (p.val - h))).toInt : ℝ) : EReal) ≠ 0
  have : IntOp.subi (BitVec.ofNat 32 (min (p.val + h) 64)) (BitVec.ofNat 32 (p.val - h)) ≠ 0#32 := by
    intro hc
    have := congrArg BitVec.toNat hc
    simp only [IntOp.subi, BitVec.toNat_sub, BitVec.toNat_ofNat] at this
    omega
  intro h0
  rw [EReal.coe_eq_zero, Int.cast_eq_zero] at h0
  exact this (BitVec.eq_of_toInt_eq (by simpa using h0))

variable (m : (ℓ : Loc nD τ sig) → Buf (Elt Ideal) ℓ)

/-- Each window's mask read at an entry, and the stack of the four read at an entry. -/
theorem V32_eq (c : Dev nD) (i j : Fin 256) : V m c main_v32 (ix2 i j) = mask 1#32 2#32 i j := by
  unfold V; after_reads_at; rfl

theorem V145_0 (c : Dev nD) (i j : Fin 256) : V m c main_v145 (ix3 0 i j) = V m c main_v32 (ix2 i j) := by
  conv => lhs; unfold V
  after_reads_at
  rfl

theorem V66_eq (c : Dev nD) (i j : Fin 256) : V m c main_v66 (ix2 i j) = mask 2#32 4#32 i j := by
  unfold V; after_reads_at; rfl

theorem V145_1 (c : Dev nD) (i j : Fin 256) : V m c main_v145 (ix3 1 i j) = V m c main_v66 (ix2 i j) := by
  conv => lhs; unfold V
  after_reads_at
  rfl

theorem V100_eq (c : Dev nD) (i j : Fin 256) : V m c main_v100 (ix2 i j) = mask 4#32 8#32 i j := by
  unfold V; after_reads_at; rfl

theorem V145_2 (c : Dev nD) (i j : Fin 256) : V m c main_v145 (ix3 2 i j) = V m c main_v100 (ix2 i j) := by
  conv => lhs; unfold V
  after_reads_at
  rfl

theorem V134_eq (c : Dev nD) (i j : Fin 256) : V m c main_v134 (ix2 i j) = mask 8#32 16#32 i j := by
  unfold V; after_reads_at; rfl

theorem V145_3 (c : Dev nD) (i j : Fin 256) : V m c main_v145 (ix3 3 i j) = V m c main_v134 (ix2 i j) := by
  conv => lhs; unfold V
  after_reads_at
  rfl

/-- The reciprocal counts read at a position and a channel, for each window. -/
theorem V38_eq (c : Dev nD) (i : Fin 256) (j : Fin 128) : V m c main_v38 (ix2 i j) = Ideal.div 1 (count 1#32 2#32 (IntOp.remsi ArithUnit.host (BitVec.ofNat 32 i.val) 64#32)) := by
  unfold V; after_reads_at; rfl
theorem V72_eq (c : Dev nD) (i : Fin 256) (j : Fin 128) : V m c main_v72 (ix2 i j) = Ideal.div 1 (count 2#32 4#32 (IntOp.remsi ArithUnit.host (BitVec.ofNat 32 i.val) 64#32)) := by
  unfold V; after_reads_at; rfl
theorem V106_eq (c : Dev nD) (i : Fin 256) (j : Fin 128) : V m c main_v106 (ix2 i j) = Ideal.div 1 (count 4#32 8#32 (IntOp.remsi ArithUnit.host (BitVec.ofNat 32 i.val) 64#32)) := by
  unfold V; after_reads_at; rfl
theorem V140_eq (c : Dev nD) (i : Fin 256) (j : Fin 128) : V m c main_v140 (ix2 i j) = Ideal.div 1 (count 8#32 16#32 (IntOp.remsi ArithUnit.host (BitVec.ofNat 32 i.val) 64#32)) := by
  unfold V; after_reads_at; rfl

/-- The joined reciprocal counts read in each of their parts. -/
theorem V146_0 (c : Dev nD) (i : Fin 256) (j : Fin 128) : V m c main_v146 (ix2 i (⟨j.val, by omega⟩ : Fin 512)) = V m c main_v38 (ix2 i j) := by
  conv => lhs; unfold V
  after_reads_at
  refine Eq.trans (b := V m c main_v38 (ix2 i j)) ?_ ?_
  · conv => rhs; unfold V
    after_reads_at
  · unfold V; after_reads_at

theorem V146_1 (c : Dev nD) (i : Fin 256) (j : Fin 128) : V m c main_v146 (ix2 i (⟨128 + j.val, by omega⟩ : Fin 512)) = V m c main_v72 (ix2 i j) := by
  conv => lhs; unfold V
  after_reads_at
  refine Eq.trans (b := V m c main_v72 (ix2 i j)) ?_ ?_
  · conv => rhs; unfold V
    after_reads_at
  · unfold V; after_reads_at

theorem V146_2 (c : Dev nD) (i : Fin 256) (j : Fin 128) : V m c main_v146 (ix2 i (⟨256 + j.val, by omega⟩ : Fin 512)) = V m c main_v106 (ix2 i j) := by
  conv => lhs; unfold V
  after_reads_at
  refine (dif_neg (show ¬ 256 + j.val < 128 by omega)).trans ?_
  refine (dif_neg (show ¬ 256 + j.val - 128 < 128 by omega)).trans ?_
  refine (dif_pos (show 256 + j.val - 128 - 128 < 128 by omega)).trans ?_
  have hj : (⟨256 + j.val - 128 - 128, by omega⟩ : Fin 128) = j := Fin.ext (by show 256 + j.val - 128 - 128 = j.val; omega)
  refine Eq.trans (b := V m c main_v106 (ix2 i ⟨256 + j.val - 128 - 128, by omega⟩)) ?_ ?_
  · conv => rhs; unfold V
    after_reads_at
  · rw [hj]; unfold V; after_reads_at

theorem V146_3 (c : Dev nD) (i : Fin 256) (j : Fin 128) : V m c main_v146 (ix2 i (⟨384 + j.val, by omega⟩ : Fin 512)) = V m c main_v140 (ix2 i j) := by
  conv => lhs; unfold V
  after_reads_at
  refine (dif_neg (show ¬ 384 + j.val < 128 by omega)).trans ?_
  refine (dif_neg (show ¬ 384 + j.val - 128 < 128 by omega)).trans ?_
  refine (dif_neg (show ¬ 384 + j.val - 128 - 128 < 128 by omega)).trans ?_
  have hj : (⟨384 + j.val - 128 - 128 - 128, by omega⟩ : Fin 128) = j := Fin.ext (by show 384 + j.val - 128 - 128 - 128 = j.val; omega)
  refine Eq.trans (b := V m c main_v140 (ix2 i ⟨384 + j.val - 128 - 128 - 128, by omega⟩)) ?_ ?_
  · conv => rhs; unfold V
    after_reads_at
  · rw [hj]; unfold V; after_reads_at

end Cert.Proof.Merge

end
-- ==== Proof.MergeRef.lean ====
/- The reference of the block's last call, `merge`, read at an index: the four pooled groups as a window's sum over its
   count minus the token, and the result as one expression in the arguments. -/
module

public import proofs.«01_k».proof.Proof.Gen.Reference5Ideal.Read
public import proofs.«01_k».proof.Proof.MergeTables

@[expose] public section

set_option maxRecDepth 16384

noncomputable section

namespace Cert.Proof.Merge

open Cert.Reference5Ideal Cert.Reference5Ideal.Gen Cert.Reference5Ideal.Read Idealize.ShloMosaic Idealize.ShloMosaic.TcCoe Idealize.SL.Sem

/-- A term of the window's sum in the array: the token `k` after the begin of the window of position `p` of row `q`,
    in channel `c` of the pooling branch; zero outside the row. -/
def rterm (h : Nat) (x : S16384x3072.Idx → EReal) (q : Fin 256) (p : Fin 64) (c : Fin 512) (k : Nat) : EReal :=
  if d : h ≤ p.val + k ∧ p.val + k - h < 64 then x (ix2 (⟨q.val * 64 + (p.val + k - h), by omega⟩ : Fin 16384) (⟨2048 + c.val, by omega⟩ : Fin 3072)) else 0

/-- An array read at two equal places. -/
theorem at_eq (x : S16384x3072.Idx → EReal) {a a' b b' : Nat} {ha : a < 16384} {ha' : a' < 16384} {hb : b < 3072} {hb' : b' < 3072}
    (e : a = a') (f : b = b') : x (ix2 (⟨a, ha⟩ : Fin 16384) (⟨b, hb⟩ : Fin 3072)) = x (ix2 (⟨a', ha'⟩ : Fin 16384) (⟨b', hb'⟩ : Fin 3072)) := by
  subst e; subst f; rfl

theorem zero_word : FloatOps.sitofp (F := Ideal) FTy.f32 (0#32 : BitVec 32) = (0 : EReal) := by
  show (((0#32 : BitVec 32).toInt : ℝ) : EReal) = 0
  simp

/-- Clipping a window's ends to the row on both sides gives the same count as clipping each end on its own side. -/
theorem clip_2 : ∀ p : Fin 64, IntOp.subi (IntOp.minsi 64#32 (IntOp.maxsi 0#32 (IntOp.addi (IntOp.subi (BitVec.ofNat 32 p.val) 1#32) 2#32)))
    (IntOp.minsi 64#32 (IntOp.maxsi 0#32 (IntOp.subi (BitVec.ofNat 32 p.val) 1#32))) = IntOp.subi (hi 1#32 2#32 (BitVec.ofNat 32 p.val)) (lo 1#32 (BitVec.ofNat 32 p.val)) := by
  decide +kernel

theorem clip_4 : ∀ p : Fin 64, IntOp.subi (IntOp.minsi 64#32 (IntOp.maxsi 0#32 (IntOp.addi (IntOp.subi (BitVec.ofNat 32 p.val) 2#32) 4#32)))
    (IntOp.minsi 64#32 (IntOp.maxsi 0#32 (IntOp.subi (BitVec.ofNat 32 p.val) 2#32))) = IntOp.subi (hi 2#32 4#32 (BitVec.ofNat 32 p.val)) (lo 2#32 (BitVec.ofNat 32 p.val)) := by
  decide +kernel

theorem clip_8 : ∀ p : Fin 64, IntOp.subi (IntOp.minsi 64#32 (IntOp.maxsi 0#32 (IntOp.addi (IntOp.subi (BitVec.ofNat 32 p.val) 4#32) 8#32)))
    (IntOp.minsi 64#32 (IntOp.maxsi 0#32 (IntOp.subi (BitVec.ofNat 32 p.val) 4#32))) = IntOp.subi (hi 4#32 8#32 (BitVec.ofNat 32 p.val)) (lo 4#32 (BitVec.ofNat 32 p.val)) := by
  decide +kernel

theorem clip_16 : ∀ p : Fin 64, IntOp.subi (IntOp.minsi 64#32 (IntOp.maxsi 0#32 (IntOp.addi (IntOp.subi (BitVec.ofNat 32 p.val) 8#32) 16#32)))
    (IntOp.minsi 64#32 (IntOp.maxsi 0#32 (IntOp.subi (BitVec.ofNat 32 p.val) 8#32))) = IntOp.subi (hi 8#32 16#32 (BitVec.ofNat 32 p.val)) (lo 8#32 (BitVec.ofNat 32 p.val)) := by
  decide +kernel

/-- The shifted slices of the padded groups are the window's terms. -/
theorem at_v23 (x : S16384x3072.Idx → EReal) (q : Fin 256) (p : Fin 64) (c : Fin 128) :
    val_main_v23 (F := Ideal) x (ix3 q p c) = rterm 1 x q p ⟨0 + c.val, by omega⟩ 0 := by
  simp only [val_main_v23, val_main_v22, val_main_v21, val_main_v20, val_main_v18, val_main_v1]
  pointwise
  unfold rterm
  split_ifs <;> first | (exfalso; omega) | exact at_eq x (by omega) (by show _ = 2048 + (0 + c.val); omega) | exact zero_word | rfl

theorem at_v24 (x : S16384x3072.Idx → EReal) (q : Fin 256) (p : Fin 64) (c : Fin 128) :
    val_main_v24 (F := Ideal) x (ix3 q p c) = rterm 1 x q p ⟨0 + c.val, by omega⟩ 1 := by
  simp only [val_main_v24, val_main_v22, val_main_v21, val_main_v20, val_main_v18, val_main_v1]
  pointwise
  unfold rterm
  split_ifs <;> first | (exfalso; omega) | exact at_eq x (by omega) (by show _ = 2048 + (0 + c.val); omega) | exact zero_word | rfl

/-- The count of window 2, as the reference computes it. -/
theorem count_42 (q : Fin 256) (p : Fin 64) (c : Fin 128) : val_main_v38 (F := Ideal) (ix3 q p c) = count 1#32 2#32 (BitVec.ofNat 32 p.val) := by
  simp only [val_main_v38, val_main_v37, val_main_v36, val_main_v35, val_main_v34, val_main_v33, val_main_call2_v4, val_main_call2_v3, val_main_call2_v2, val_main_call2_v1, val_main_call2_v0, val_main_c_9, val_main_c_8, val_main_v32, val_main_v31, val_main_c_7, val_main_v30, val_main_v29, val_main_c_6, val_main_v28, val_main_call1_v4, val_main_call1_v3, val_main_call1_v2, val_main_call1_v1, val_main_call1_v0, val_main_c_5, val_main_c_4, val_main_v27, val_main_v26, val_main_c_3, val_main_v19, id]
  pointwise
  exact congrArg (FloatOps.sitofp (F := Ideal) FTy.f32) (clip_2 p)

/-- The group pooled with window 2. -/
theorem pool_42 (x : S16384x3072.Idx → EReal) (q : Fin 256) (p : Fin 64) (c : Fin 128) :
    val_main_v42 (F := Ideal) x (ix3 q p c) = Ideal.div (∑ k ∈ Finset.range 2, rterm 1 x q p ⟨0 + c.val, by omega⟩ k) (count 1#32 2#32 (BitVec.ofNat 32 p.val))
      - x (ix2 (⟨q.val * 64 + p.val, by omega⟩ : Fin 16384) (⟨2048 + (0 + c.val), by omega⟩ : Fin 3072)) := by
  simp only [val_main_v42, val_main_v39, val_main_v25, val_main_v41, val_main_v40, val_main_v18, val_main_v1]
  pointwise
  simp only [count_42, at_v23, at_v24, Finset.sum_range_succ, Finset.sum_range_zero, zero_add]
  try exact congrArg (fun z => _ - z) (at_eq x (by omega) (by omega))

theorem at_v46 (x : S16384x3072.Idx → EReal) (q : Fin 256) (p : Fin 64) (c : Fin 128) :
    val_main_v46 (F := Ideal) x (ix3 q p c) = rterm 2 x q p ⟨128 + c.val, by omega⟩ 0 := by
  simp only [val_main_v46, val_main_v45, val_main_v44, val_main_v43, val_main_v18, val_main_v1]
  pointwise
  unfold rterm
  split_ifs <;> first | (exfalso; omega) | exact at_eq x (by omega) (by show _ = 2048 + (128 + c.val); omega) | exact zero_word | rfl

theorem at_v47 (x : S16384x3072.Idx → EReal) (q : Fin 256) (p : Fin 64) (c : Fin 128) :
    val_main_v47 (F := Ideal) x (ix3 q p c) = rterm 2 x q p ⟨128 + c.val, by omega⟩ 1 := by
  simp only [val_main_v47, val_main_v45, val_main_v44, val_main_v43, val_main_v18, val_main_v1]
  pointwise
  unfold rterm
  split_ifs <;> first | (exfalso; omega) | exact at_eq x (by omega) (by show _ = 2048 + (128 + c.val); omega) | exact zero_word | rfl

theorem at_v49 (x : S16384x3072.Idx → EReal) (q : Fin 256) (p : Fin 64) (c : Fin 128) :
    val_main_v49 (F := Ideal) x (ix3 q p c) = rterm 2 x q p ⟨128 + c.val, by omega⟩ 2 := by
  simp only [val_main_v49, val_main_v45, val_main_v44, val_main_v43, val_main_v18, val_main_v1]
  pointwise
  unfold rterm
  split_ifs <;> first | (exfalso; omega) | exact at_eq x (by omega) (by show _ = 2048 + (128 + c.val); omega) | exact zero_word | rfl

theorem at_v51 (x : S16384x3072.Idx → EReal) (q : Fin 256) (p : Fin 64) (c : Fin 128) :
    val_main_v51 (F := Ideal) x (ix3 q p c) = rterm 2 x q p ⟨128 + c.val, by omega⟩ 3 := by
  simp only [val_main_v51, val_main_v45, val_main_v44, val_main_v43, val_main_v18, val_main_v1]
  pointwise
  unfold rterm
  split_ifs <;> first | (exfalso; omega) | exact at_eq x (by omega) (by show _ = 2048 + (128 + c.val); omega) | exact zero_word | rfl

/-- The count of window 4, as the reference computes it. -/
theorem count_69 (q : Fin 256) (p : Fin 64) (c : Fin 128) : val_main_v65 (F := Ideal) (ix3 q p c) = count 2#32 4#32 (BitVec.ofNat 32 p.val) := by
  simp only [val_main_v65, val_main_v64, val_main_v63, val_main_v62, val_main_v61, val_main_v60, val_main_call5_v4, val_main_call5_v3, val_main_call5_v2, val_main_call5_v1, val_main_call5_v0, val_main_c_17, val_main_c_16, val_main_v59, val_main_v58, val_main_c_15, val_main_v57, val_main_v56, val_main_c_14, val_main_v55, val_main_call4_v4, val_main_call4_v3, val_main_call4_v2, val_main_call4_v1, val_main_call4_v0, val_main_c_13, val_main_c_12, val_main_v54, val_main_v53, val_main_c_11, val_main_v19, id]
  pointwise
  exact congrArg (FloatOps.sitofp (F := Ideal) FTy.f32) (clip_4 p)

/-- The group pooled with window 4. -/
theorem pool_69 (x : S16384x3072.Idx → EReal) (q : Fin 256) (p : Fin 64) (c : Fin 128) :
    val_main_v69 (F := Ideal) x (ix3 q p c) = Ideal.div (∑ k ∈ Finset.range 4, rterm 2 x q p ⟨128 + c.val, by omega⟩ k) (count 2#32 4#32 (BitVec.ofNat 32 p.val))
      - x (ix2 (⟨q.val * 64 + p.val, by omega⟩ : Fin 16384) (⟨2048 + (128 + c.val), by omega⟩ : Fin 3072)) := by
  simp only [val_main_v69, val_main_v66, val_main_v52, val_main_v50, val_main_v48, val_main_v68, val_main_v67, val_main_v18, val_main_v1]
  pointwise
  simp only [count_69, at_v46, at_v47, at_v49, at_v51, Finset.sum_range_succ, Finset.sum_range_zero, zero_add]
  try exact congrArg (fun z => _ - z) (at_eq x (by omega) (by omega))

theorem at_v73 (x : S16384x3072.Idx → EReal) (q : Fin 256) (p : Fin 64) (c : Fin 128) :
    val_main_v73 (F := Ideal) x (ix3 q p c) = rterm 4 x q p ⟨256 + c.val, by omega⟩ 0 := by
  simp only [val_main_v73, val_main_v72, val_main_v71, val_main_v70, val_main_v18, val_main_v1]
  pointwise
  unfold rterm
  split_ifs <;> first | (exfalso; omega) | exact at_eq x (by omega) (by show _ = 2048 + (256 + c.val); omega) | exact zero_word | rfl

theorem at_v74 (x : S16384x3072.Idx → EReal) (q : Fin 256) (p : Fin 64) (c : Fin 128) :
    val_main_v74 (F := Ideal) x (ix3 q p c) = rterm 4 x q p ⟨256 + c.val, by omega⟩ 1 := by
  simp only [val_main_v74, val_main_v72, val_main_v71, val_main_v70, val_main_v18, val_main_v1]
  pointwise
  unfold rterm
  split_ifs <;> first | (exfalso; omega) | exact at_eq x (by omega) (by show _ = 2048 + (256 + c.val); omega) | exact zero_word | rfl

theorem at_v76 (x : S16384x3072.Idx → EReal) (q : Fin 256) (p : Fin 64) (c : Fin 128) :
    val_main_v76 (F := Ideal) x (ix3 q p c) = rterm 4 x q p ⟨256 + c.val, by omega⟩ 2 := by
  simp only [val_main_v76, val_main_v72, val_main_v71, val_main_v70, val_main_v18, val_main_v1]
  pointwise
  unfold rterm
  split_ifs <;> first | (exfalso; omega) | exact at_eq x (by omega) (by show _ = 2048 + (256 + c.val); omega) | exact zero_word | rfl

theorem at_v78 (x : S16384x3072.Idx → EReal) (q : Fin 256) (p : Fin 64) (c : Fin 128) :
    val_main_v78 (F := Ideal) x (ix3 q p c) = rterm 4 x q p ⟨256 + c.val, by omega⟩ 3 := by
  simp only [val_main_v78, val_main_v72, val_main_v71, val_main_v70, val_main_v18, val_main_v1]
  pointwise
  unfold rterm
  split_ifs <;> first | (exfalso; omega) | exact at_eq x (by omega) (by show _ = 2048 + (256 + c.val); omega) | exact zero_word | rfl

theorem at_v80 (x : S16384x3072.Idx → EReal) (q : Fin 256) (p : Fin 64) (c : Fin 128) :
    val_main_v80 (F := Ideal) x (ix3 q p c) = rterm 4 x q p ⟨256 + c.val, by omega⟩ 4 := by
  simp only [val_main_v80, val_main_v72, val_main_v71, val_main_v70, val_main_v18, val_main_v1]
  pointwise
  unfold rterm
  split_ifs <;> first | (exfalso; omega) | exact at_eq x (by omega) (by show _ = 2048 + (256 + c.val); omega) | exact zero_word | rfl

theorem at_v82 (x : S16384x3072.Idx → EReal) (q : Fin 256) (p : Fin 64) (c : Fin 128) :
    val_main_v82 (F := Ideal) x (ix3 q p c) = rterm 4 x q p ⟨256 + c.val, by omega⟩ 5 := by
  simp only [val_main_v82, val_main_v72, val_main_v71, val_main_v70, val_main_v18, val_main_v1]
  pointwise
  unfold rterm
  split_ifs <;> first | (exfalso; omega) | exact at_eq x (by omega) (by show _ = 2048 + (256 + c.val); omega) | exact zero_word | rfl

theorem at_v84 (x : S16384x3072.Idx → EReal) (q : Fin 256) (p : Fin 64) (c : Fin 128) :
    val_main_v84 (F := Ideal) x (ix3 q p c) = rterm 4 x q p ⟨256 + c.val, by omega⟩ 6 := by
  simp only [val_main_v84, val_main_v72, val_main_v71, val_main_v70, val_main_v18, val_main_v1]
  pointwise
  unfold rterm
  split_ifs <;> first | (exfalso; omega) | exact at_eq x (by omega) (by show _ = 2048 + (256 + c.val); omega) | exact zero_word | rfl

theorem at_v86 (x : S16384x3072.Idx → EReal) (q : Fin 256) (p : Fin 64) (c : Fin 128) :
    val_main_v86 (F := Ideal) x (ix3 q p c) = rterm 4 x q p ⟨256 + c.val, by omega⟩ 7 := by
  simp only [val_main_v86, val_main_v72, val_main_v71, val_main_v70, val_main_v18, val_main_v1]
  pointwise
  unfold rterm
  split_ifs <;> first | (exfalso; omega) | exact at_eq x (by omega) (by show _ = 2048 + (256 + c.val); omega) | exact zero_word | rfl

/-- The count of window 8, as the reference computes it. -/
theorem count_104 (q : Fin 256) (p : Fin 64) (c : Fin 128) : val_main_v100 (F := Ideal) (ix3 q p c) = count 4#32 8#32 (BitVec.ofNat 32 p.val) := by
  simp only [val_main_v100, val_main_v99, val_main_v98, val_main_v97, val_main_v96, val_main_v95, val_main_call8_v4, val_main_call8_v3, val_main_call8_v2, val_main_call8_v1, val_main_call8_v0, val_main_c_25, val_main_c_24, val_main_v94, val_main_v93, val_main_c_23, val_main_v92, val_main_v91, val_main_c_22, val_main_v90, val_main_call7_v4, val_main_call7_v3, val_main_call7_v2, val_main_call7_v1, val_main_call7_v0, val_main_c_21, val_main_c_20, val_main_v89, val_main_v88, val_main_c_19, val_main_v19, id]
  pointwise
  exact congrArg (FloatOps.sitofp (F := Ideal) FTy.f32) (clip_8 p)

/-- The group pooled with window 8. -/
theorem pool_104 (x : S16384x3072.Idx → EReal) (q : Fin 256) (p : Fin 64) (c : Fin 128) :
    val_main_v104 (F := Ideal) x (ix3 q p c) = Ideal.div (∑ k ∈ Finset.range 8, rterm 4 x q p ⟨256 + c.val, by omega⟩ k) (count 4#32 8#32 (BitVec.ofNat 32 p.val))
      - x (ix2 (⟨q.val * 64 + p.val, by omega⟩ : Fin 16384) (⟨2048 + (256 + c.val), by omega⟩ : Fin 3072)) := by
  simp only [val_main_v104, val_main_v101, val_main_v87, val_main_v85, val_main_v83, val_main_v81, val_main_v79, val_main_v77, val_main_v75, val_main_v103, val_main_v102, val_main_v18, val_main_v1]
  pointwise
  simp only [count_104, at_v73, at_v74, at_v76, at_v78, at_v80, at_v82, at_v84, at_v86, Finset.sum_range_succ, Finset.sum_range_zero, zero_add]
  try exact congrArg (fun z => _ - z) (at_eq x (by omega) (by omega))

theorem at_v108 (x : S16384x3072.Idx → EReal) (q : Fin 256) (p : Fin 64) (c : Fin 128) :
    val_main_v108 (F := Ideal) x (ix3 q p c) = rterm 8 x q p ⟨384 + c.val, by omega⟩ 0 := by
  simp only [val_main_v108, val_main_v107, val_main_v106, val_main_v105, val_main_v18, val_main_v1]
  pointwise
  unfold rterm
  split_ifs <;> first | (exfalso; omega) | exact at_eq x (by omega) (by show _ = 2048 + (384 + c.val); omega) | exact zero_word | rfl

theorem at_v109 (x : S16384x3072.Idx → EReal) (q : Fin 256) (p : Fin 64) (c : Fin 128) :
    val_main_v109 (F := Ideal) x (ix3 q p c) = rterm 8 x q p ⟨384 + c.val, by omega⟩ 1 := by
  simp only [val_main_v109, val_main_v107, val_main_v106, val_main_v105, val_main_v18, val_main_v1]
  pointwise
  unfold rterm
  split_ifs <;> first | (exfalso; omega) | exact at_eq x (by omega) (by show _ = 2048 + (384 + c.val); omega) | exact zero_word | rfl

theorem at_v111 (x : S16384x3072.Idx → EReal) (q : Fin 256) (p : Fin 64) (c : Fin 128) :
    val_main_v111 (F := Ideal) x (ix3 q p c) = rterm 8 x q p ⟨384 + c.val, by omega⟩ 2 := by
  simp only [val_main_v111, val_main_v107, val_main_v106, val_main_v105, val_main_v18, val_main_v1]
  pointwise
  unfold rterm
  split_ifs <;> first | (exfalso; omega) | exact at_eq x (by omega) (by show _ = 2048 + (384 + c.val); omega) | exact zero_word | rfl

theorem at_v113 (x : S16384x3072.Idx → EReal) (q : Fin 256) (p : Fin 64) (c : Fin 128) :
    val_main_v113 (F := Ideal) x (ix3 q p c) = rterm 8 x q p ⟨384 + c.val, by omega⟩ 3 := by
  simp only [val_main_v113, val_main_v107, val_main_v106, val_main_v105, val_main_v18, val_main_v1]
  pointwise
  unfold rterm
  split_ifs <;> first | (exfalso; omega) | exact at_eq x (by omega) (by show _ = 2048 + (384 + c.val); omega) | exact zero_word | rfl

theorem at_v115 (x : S16384x3072.Idx → EReal) (q : Fin 256) (p : Fin 64) (c : Fin 128) :
    val_main_v115 (F := Ideal) x (ix3 q p c) = rterm 8 x q p ⟨384 + c.val, by omega⟩ 4 := by
  simp only [val_main_v115, val_main_v107, val_main_v106, val_main_v105, val_main_v18, val_main_v1]
  pointwise
  unfold rterm
  split_ifs <;> first | (exfalso; omega) | exact at_eq x (by omega) (by show _ = 2048 + (384 + c.val); omega) | exact zero_word | rfl

theorem at_v117 (x : S16384x3072.Idx → EReal) (q : Fin 256) (p : Fin 64) (c : Fin 128) :
    val_main_v117 (F := Ideal) x (ix3 q p c) = rterm 8 x q p ⟨384 + c.val, by omega⟩ 5 := by
  simp only [val_main_v117, val_main_v107, val_main_v106, val_main_v105, val_main_v18, val_main_v1]
  pointwise
  unfold rterm
  split_ifs <;> first | (exfalso; omega) | exact at_eq x (by omega) (by show _ = 2048 + (384 + c.val); omega) | exact zero_word | rfl

theorem at_v119 (x : S16384x3072.Idx → EReal) (q : Fin 256) (p : Fin 64) (c : Fin 128) :
    val_main_v119 (F := Ideal) x (ix3 q p c) = rterm 8 x q p ⟨384 + c.val, by omega⟩ 6 := by
  simp only [val_main_v119, val_main_v107, val_main_v106, val_main_v105, val_main_v18, val_main_v1]
  pointwise
  unfold rterm
  split_ifs <;> first | (exfalso; omega) | exact at_eq x (by omega) (by show _ = 2048 + (384 + c.val); omega) | exact zero_word | rfl

theorem at_v121 (x : S16384x3072.Idx → EReal) (q : Fin 256) (p : Fin 64) (c : Fin 128) :
    val_main_v121 (F := Ideal) x (ix3 q p c) = rterm 8 x q p ⟨384 + c.val, by omega⟩ 7 := by
  simp only [val_main_v121, val_main_v107, val_main_v106, val_main_v105, val_main_v18, val_main_v1]
  pointwise
  unfold rterm
  split_ifs <;> first | (exfalso; omega) | exact at_eq x (by omega) (by show _ = 2048 + (384 + c.val); omega) | exact zero_word | rfl

theorem at_v123 (x : S16384x3072.Idx → EReal) (q : Fin 256) (p : Fin 64) (c : Fin 128) :
    val_main_v123 (F := Ideal) x (ix3 q p c) = rterm 8 x q p ⟨384 + c.val, by omega⟩ 8 := by
  simp only [val_main_v123, val_main_v107, val_main_v106, val_main_v105, val_main_v18, val_main_v1]
  pointwise
  unfold rterm
  split_ifs <;> first | (exfalso; omega) | exact at_eq x (by omega) (by show _ = 2048 + (384 + c.val); omega) | exact zero_word | rfl

theorem at_v125 (x : S16384x3072.Idx → EReal) (q : Fin 256) (p : Fin 64) (c : Fin 128) :
    val_main_v125 (F := Ideal) x (ix3 q p c) = rterm 8 x q p ⟨384 + c.val, by omega⟩ 9 := by
  simp only [val_main_v125, val_main_v107, val_main_v106, val_main_v105, val_main_v18, val_main_v1]
  pointwise
  unfold rterm
  split_ifs <;> first | (exfalso; omega) | exact at_eq x (by omega) (by show _ = 2048 + (384 + c.val); omega) | exact zero_word | rfl

theorem at_v127 (x : S16384x3072.Idx → EReal) (q : Fin 256) (p : Fin 64) (c : Fin 128) :
    val_main_v127 (F := Ideal) x (ix3 q p c) = rterm 8 x q p ⟨384 + c.val, by omega⟩ 10 := by
  simp only [val_main_v127, val_main_v107, val_main_v106, val_main_v105, val_main_v18, val_main_v1]
  pointwise
  unfold rterm
  split_ifs <;> first | (exfalso; omega) | exact at_eq x (by omega) (by show _ = 2048 + (384 + c.val); omega) | exact zero_word | rfl

theorem at_v129 (x : S16384x3072.Idx → EReal) (q : Fin 256) (p : Fin 64) (c : Fin 128) :
    val_main_v129 (F := Ideal) x (ix3 q p c) = rterm 8 x q p ⟨384 + c.val, by omega⟩ 11 := by
  simp only [val_main_v129, val_main_v107, val_main_v106, val_main_v105, val_main_v18, val_main_v1]
  pointwise
  unfold rterm
  split_ifs <;> first | (exfalso; omega) | exact at_eq x (by omega) (by show _ = 2048 + (384 + c.val); omega) | exact zero_word | rfl

theorem at_v131 (x : S16384x3072.Idx → EReal) (q : Fin 256) (p : Fin 64) (c : Fin 128) :
    val_main_v131 (F := Ideal) x (ix3 q p c) = rterm 8 x q p ⟨384 + c.val, by omega⟩ 12 := by
  simp only [val_main_v131, val_main_v107, val_main_v106, val_main_v105, val_main_v18, val_main_v1]
  pointwise
  unfold rterm
  split_ifs <;> first | (exfalso; omega) | exact at_eq x (by omega) (by show _ = 2048 + (384 + c.val); omega) | exact zero_word | rfl

theorem at_v133 (x : S16384x3072.Idx → EReal) (q : Fin 256) (p : Fin 64) (c : Fin 128) :
    val_main_v133 (F := Ideal) x (ix3 q p c) = rterm 8 x q p ⟨384 + c.val, by omega⟩ 13 := by
  simp only [val_main_v133, val_main_v107, val_main_v106, val_main_v105, val_main_v18, val_main_v1]
  pointwise
  unfold rterm
  split_ifs <;> first | (exfalso; omega) | exact at_eq x (by omega) (by show _ = 2048 + (384 + c.val); omega) | exact zero_word | rfl

theorem at_v135 (x : S16384x3072.Idx → EReal) (q : Fin 256) (p : Fin 64) (c : Fin 128) :
    val_main_v135 (F := Ideal) x (ix3 q p c) = rterm 8 x q p ⟨384 + c.val, by omega⟩ 14 := by
  simp only [val_main_v135, val_main_v107, val_main_v106, val_main_v105, val_main_v18, val_main_v1]
  pointwise
  unfold rterm
  split_ifs <;> first | (exfalso; omega) | exact at_eq x (by omega) (by show _ = 2048 + (384 + c.val); omega) | exact zero_word | rfl

theorem at_v137 (x : S16384x3072.Idx → EReal) (q : Fin 256) (p : Fin 64) (c : Fin 128) :
    val_main_v137 (F := Ideal) x (ix3 q p c) = rterm 8 x q p ⟨384 + c.val, by omega⟩ 15 := by
  simp only [val_main_v137, val_main_v107, val_main_v106, val_main_v105, val_main_v18, val_main_v1]
  pointwise
  unfold rterm
  split_ifs <;> first | (exfalso; omega) | exact at_eq x (by omega) (by show _ = 2048 + (384 + c.val); omega) | exact zero_word | rfl

/-- The count of window 16, as the reference computes it. -/
theorem count_155 (q : Fin 256) (p : Fin 64) (c : Fin 128) : val_main_v151 (F := Ideal) (ix3 q p c) = count 8#32 16#32 (BitVec.ofNat 32 p.val) := by
  simp only [val_main_v151, val_main_v150, val_main_v149, val_main_v148, val_main_v147, val_main_v146, val_main_call11_v4, val_main_call11_v3, val_main_call11_v2, val_main_call11_v1, val_main_call11_v0, val_main_c_33, val_main_c_32, val_main_v145, val_main_v144, val_main_c_31, val_main_v143, val_main_v142, val_main_c_30, val_main_v141, val_main_call10_v4, val_main_call10_v3, val_main_call10_v2, val_main_call10_v1, val_main_call10_v0, val_main_c_29, val_main_c_28, val_main_v140, val_main_v139, val_main_c_27, val_main_v19, id]
  pointwise
  exact congrArg (FloatOps.sitofp (F := Ideal) FTy.f32) (clip_16 p)

/-- The group pooled with window 16. -/
theorem pool_155 (x : S16384x3072.Idx → EReal) (q : Fin 256) (p : Fin 64) (c : Fin 128) :
    val_main_v155 (F := Ideal) x (ix3 q p c) = Ideal.div (∑ k ∈ Finset.range 16, rterm 8 x q p ⟨384 + c.val, by omega⟩ k) (count 8#32 16#32 (BitVec.ofNat 32 p.val))
      - x (ix2 (⟨q.val * 64 + p.val, by omega⟩ : Fin 16384) (⟨2048 + (384 + c.val), by omega⟩ : Fin 3072)) := by
  simp only [val_main_v155, val_main_v152, val_main_v138, val_main_v136, val_main_v134, val_main_v132, val_main_v130, val_main_v128, val_main_v126, val_main_v124, val_main_v122, val_main_v120, val_main_v118, val_main_v116, val_main_v114, val_main_v112, val_main_v110, val_main_v154, val_main_v153, val_main_v18, val_main_v1]
  pointwise
  simp only [count_155, at_v108, at_v109, at_v111, at_v113, at_v115, at_v117, at_v119, at_v121, at_v123, at_v125, at_v127, at_v129, at_v131, at_v133, at_v135, at_v137, Finset.sum_range_succ, Finset.sum_range_zero, zero_add]
  try exact congrArg (fun z => _ - z) (at_eq x (by omega) (by omega))

/-- The four pooled groups side by side, read in each group. -/
theorem group_0 (x : S16384x3072.Idx → EReal) (l : Fin 16384) (c : Fin 128) :
    val_main_v161 (F := Ideal) x (ix3 l 0 c) = val_main_v42 (F := Ideal) x (ix3 (⟨l.val / 64, by omega⟩ : Fin 256) (⟨l.val % 64, by omega⟩ : Fin 64) c) := by
  simp only [val_main_v161, val_main_v160, val_main_v159, val_main_v158, val_main_v157, val_main_v156]
  pointwise

theorem group_1 (x : S16384x3072.Idx → EReal) (l : Fin 16384) (c : Fin 128) :
    val_main_v161 (F := Ideal) x (ix3 l 1 c) = val_main_v69 (F := Ideal) x (ix3 (⟨l.val / 64, by omega⟩ : Fin 256) (⟨l.val % 64, by omega⟩ : Fin 64) c) := by
  simp only [val_main_v161, val_main_v160, val_main_v159, val_main_v158, val_main_v157, val_main_v156]
  pointwise

theorem group_2 (x : S16384x3072.Idx → EReal) (l : Fin 16384) (c : Fin 128) :
    val_main_v161 (F := Ideal) x (ix3 l 2 c) = val_main_v104 (F := Ideal) x (ix3 (⟨l.val / 64, by omega⟩ : Fin 256) (⟨l.val % 64, by omega⟩ : Fin 64) c) := by
  simp only [val_main_v161, val_main_v160, val_main_v159, val_main_v158, val_main_v157, val_main_v156]
  pointwise

theorem group_3 (x : S16384x3072.Idx → EReal) (l : Fin 16384) (c : Fin 128) :
    val_main_v161 (F := Ideal) x (ix3 l 3 c) = val_main_v155 (F := Ideal) x (ix3 (⟨l.val / 64, by omega⟩ : Fin 256) (⟨l.val % 64, by omega⟩ : Fin 64) c) := by
  simp only [val_main_v161, val_main_v160, val_main_v159, val_main_v158, val_main_v157, val_main_v156]
  pointwise

/-- The pooling branch's product at a row and a column. -/
theorem pool_out (x : S16384x3072.Idx → EReal) (x8 : S4x128x512.Idx → EReal) (l : Fin 16384) (k : Fin 2048) :
    val_main_v164 (F := Ideal) x x8 (ix2 l k) = ∑ j : Fin 128, x8 (ix3 (⟨k.val / 512, by omega⟩ : Fin 4) j (⟨k.val % 512, by omega⟩ : Fin 512))
      * val_main_v161 (F := Ideal) x (ix3 l (⟨k.val / 512, by omega⟩ : Fin 4) j) := by
  simp only [val_main_v164, val_main_v163, val_main_v162]
  pointwise

/-- The reference's gelu at a value. -/
def gelu (y : EReal) : EReal :=
  y * (Ideal.ofBits FTy.f32 0x3F000000#32 * (1 + Ideal.tanh (Ideal.ofBits FTy.f32 0x3F4C422A#32 * (y + Ideal.ofBits FTy.f32 0x3D372713#32 * (y * y * y)))))

/-- The three branches weighted by their gates and added, at a row and a column. -/
theorem merged (x0 x1 : S16384x1024.Idx → EReal) (x2 : S16384x3072.Idx → EReal) (x3 : S16384x1024.Idx → EReal) (x4 : S16384x6144.Idx → EReal)
    (x7 : S1024x2048.Idx → EReal) (x8 : S4x128x512.Idx → EReal) (x9 : S2048.Idx → EReal) (x10 : S1024x2048.Idx → EReal) (r : Fin 16384) (k : Fin 2048) :
    val_main_v178 (F := Ideal) x0 x1 x2 x3 x4 x7 x8 x9 x10 (ix2 r k)
      = x4 (ix2 r (⟨k.val, by omega⟩ : Fin 6144)) * (∑ j : Fin 1024, (x0 (ix2 r j) + x1 (ix2 r j)) * gelu (x2 (ix2 r (⟨1024 + j.val, by omega⟩ : Fin 3072))) * x7 (ix2 j k))
        + x4 (ix2 r (⟨2048 + k.val, by omega⟩ : Fin 6144)) * (val_main_v164 (F := Ideal) x2 x8 (ix2 r k) * x9 (ix1 k))
        + x4 (ix2 r (⟨4096 + k.val, by omega⟩ : Fin 6144)) * ∑ j : Fin 1024, x3 (ix2 r j) * x10 (ix2 j k) := by
  simp only [val_main_v178, val_main_v177, val_main_v176, val_main_v175, val_main_v174, val_main_v173, val_main_v172, val_main_v171, val_main_v170, val_main_v169, val_main_v168, val_main_v167, val_main_v166, val_main_v165, val_main_v17, val_main_v16, val_main_v15, val_main_v14, val_main_v13, val_main_v12, val_main_v11, val_main_v10, val_main_v9, val_main_v8, val_main_v7, val_main_v6, val_main_v5, val_main_v4, val_main_v3, val_main_v2, val_main_v0, val_main_cst, val_main_cst_0, val_main_cst_1, val_main_cst_2]
  unfold gelu
  pointwise

/-- The result at a row and a column. -/
theorem ref_apply (x0 x1 : S16384x1024.Idx → EReal) (x2 : S16384x3072.Idx → EReal) (x3 : S16384x1024.Idx → EReal) (x4 : S16384x6144.Idx → EReal) (x5 : S16384x2048.Idx → EReal) (x6 : S1x2048.Idx → EReal) (x7 : S1024x2048.Idx → EReal) (x8 : S4x128x512.Idx → EReal) (x9 : S2048.Idx → EReal) (x10 : S1024x2048.Idx → EReal) (x11 : S2048x2048.Idx → EReal) (r : Fin 16384) (k : Fin 2048) :
    val_main_v182 (F := Ideal) x0 x1 x2 x3 x4 x5 x6 x7 x8 x9 x10 x11 (ix2 r k)
      = x5 (ix2 r k) + x6 (ix2 0 k) * ∑ j : Fin 2048, val_main_v178 (F := Ideal) x0 x1 x2 x3 x4 x7 x8 x9 x10 (ix2 r j) * x11 (ix2 j k) := by
  simp only [val_main_v182, val_main_v181, val_main_v180, val_main_v179]
  pointwise

end Cert.Proof.Merge

end
-- ==== Proof.Merge.lean ====
/- The block's last call, `merge`: what each grid point writes back is its tile of the reference's value, read element by
   element, where the pooling branch's activations are finite; so the whole array after the run is the reference's. -/
module

public import proofs.«01_k».proof.Proof.MergeRef
public import proofs.«01_k».proof.Defs

@[expose] public section

set_option maxRecDepth 16384

noncomputable section

namespace Cert.Proof.Merge

open Cert.Kernel5Ideal Cert.Kernel5Ideal.Gen Cert.Kernel5Ideal.Value Idealize.ShloMosaic Idealize.ShloMosaic.TcCoe Idealize.SL.Sem

/-! ## The body's block, element by element -/

/-- The first product: the summed states times the gelu, against the output projection. -/
theorem lru_apply (v0 v14 v15 : Vec Ideal S256x1024 .f32) (v19 : Vec Ideal S1024x2048 .bf16) (r : Fin 256) (c : Fin 2048) :
    k0_pay2 v0 v14 v15 v19 (ix2 r c) = ∑ j : Fin 1024, (v14 (ix2 r j) + v15 (ix2 r j)) * gelu (v0 (ix2 r j)) * v19 (ix2 j c) := by
  unfold k0_pay2
  pointwise
  refine Finset.sum_congr rfl fun j _ => congrArg (fun z => (v14 (ix2 r j) + v15 (ix2 r j)) * z * v19 (ix2 j c)) (?_ : _ = gelu (v0 (ix2 r j)))
  unfold gelu
  rw [mul_comm (Ideal.ofBits FTy.f32 _) (v0 (ix2 r j)), mul_assoc]

theorem four_apply (v22 : Vec Ideal S256x1024 .f32) (v24 : Vec Ideal S1024x2048 .bf16) (r : Fin 256) (c : Fin 2048) :
    k0_pay3 v22 v24 (ix2 r c) = ∑ j : Fin 1024, v22 (ix2 r j) * v24 (ix2 j c) := by
  unfold k0_pay3
  pointwise

/-- A group's window sum, by the mask against both halves of the value, over its count. -/
def wsum (mk : Vec Ideal S1x256x256 .bf16) (xg ic : Vec Ideal S256x128 .f32) (r : Fin 256) (j : Fin 128) : EReal :=
  ((∑ i : Fin 256, mk (ix3 0 r i) * xg (ix2 i j)) + ∑ i : Fin 256, mk (ix3 0 r i) * (xg (ix2 i j) - xg (ix2 i j))) * ic (ix2 r j)

theorem pool0_apply (xg ic : Vec Ideal S256x128 .f32) (mk : Vec Ideal S1x256x256 .bf16) (w : Vec Ideal S1x128x512 .bf16) (r : Fin 256) (c : Fin 512) :
    k0_pay7 xg (k0_pay5 xg) (k0_pay6 xg mk) mk ic w (ix2 r c) = ∑ j : Fin 128, (wsum mk xg ic r j - xg (ix2 r j)) * w (ix3 0 j c) := by
  unfold k0_pay7 k0_pay6 k0_pay5 k0_pay4 wsum
  pointwise

theorem pool1_apply (xg ic : Vec Ideal S256x128 .f32) (mk : Vec Ideal S1x256x256 .bf16) (w : Vec Ideal S1x128x512 .bf16) (r : Fin 256) (c : Fin 512) :
    k0_pay8 xg mk mk ic w (ix2 r c) = ∑ j : Fin 128, (wsum mk xg ic r j - xg (ix2 r j)) * w (ix3 0 j c) := by
  unfold k0_pay8 wsum
  pointwise

theorem pool2_apply (xg ic : Vec Ideal S256x128 .f32) (mk : Vec Ideal S1x256x256 .bf16) (w : Vec Ideal S1x128x512 .bf16) (r : Fin 256) (c : Fin 512) :
    k0_pay9 xg mk mk ic w (ix2 r c) = ∑ j : Fin 128, (wsum mk xg ic r j - xg (ix2 r j)) * w (ix3 0 j c) := by
  unfold k0_pay9 wsum
  pointwise

theorem pool3_apply (xg ic : Vec Ideal S256x128 .f32) (mk : Vec Ideal S1x256x256 .bf16) (r : Fin 256) (j : Fin 128) :
    k0_pay10 xg mk mk ic (ix2 r j) = wsum mk xg ic r j := by
  unfold k0_pay10 wsum
  pointwise

/-- The four groups' products side by side. -/
def side (p0 p1 p2 p3 : Fin 512 → EReal) (x : Fin 2048) : EReal :=
  if h : x.val < 512 then p0 ⟨x.val, h⟩ else if h : x.val - 512 < 512 then p1 ⟨x.val - 512, h⟩ else
    if h : x.val - 512 - 512 < 512 then p2 ⟨x.val - 512 - 512, h⟩ else p3 ⟨x.val - 512 - 512 - 512, by omega⟩

/-- The last payload: the three branches weighted by their gates, added, projected, and added to the residual. -/
theorem last_apply (v21 v25 : FVec Ideal S256x2048 .f32) (v45 v65 v85 : FVec Ideal S256x512 .f32) (v86 : Vec Ideal S256x128 .f32) (v100 : FVec Ideal S256x128 .f32) (v103 : Vec Ideal S1x128x512 .bf16) (v107 : Vec Ideal S1x2048 .f32) (v111 v114 v118 : Vec Ideal S256x2048 .bf16) (v123 : Vec Ideal S2048x2048 .bf16) (v126 : Vec Ideal S256x2048 .f32) (v127 : Vec Ideal S1x2048 .f32) (r : Fin 256) (c : Fin 2048) :
    k0_pay1 v21 v25 v45 v65 v85 v86 v100 v103 v107 v111 v114 v118 v123 v126 v127 (ix2 r c)
      = v126 (ix2 r c) + v127 (ix2 0 c) * ∑ x : Fin 2048, (v111 (ix2 r x) * v21 (ix2 r x)
        + v114 (ix2 r x) * (side (fun o => v45 (ix2 r o)) (fun o => v65 (ix2 r o)) (fun o => v85 (ix2 r o))
            (fun o => ∑ j : Fin 128, (v100 (ix2 r j) - v86 (ix2 r j)) * v103 (ix3 0 j o)) x * v107 (ix2 0 x))
        + v118 (ix2 r x) * v25 (ix2 r x)) * v123 (ix2 x c) := by
  unfold k0_pay1 side
  pointwise

/-! ## The parts of the staged blocks that the body reads -/

theorem hz : (![0, 0] : Fin 2 → Nat) = fun _ => 0 := funext fun a => by fin_cases a <;> rfl

theorem ldx_0 (x : Vec Ideal S256x512 .f32) (i : Fin 256) (j : Fin 128) : View.ld x r0_2 (ix2 i j) = x (ix2 i (⟨j.val, by omega⟩ : Fin 512)) :=
  congrArg x (funext fun a => Fin.ext (by
    match a with
    | ⟨0, _⟩ => show 0 + 1 * i.val = i.val; omega
    | ⟨1, _⟩ => show 0 + 1 * j.val = j.val; omega))

theorem ldx_1 (x : Vec Ideal S256x512 .f32) (i : Fin 256) (j : Fin 128) : View.ld x r0_5 (ix2 i j) = x (ix2 i (⟨128 + j.val, by omega⟩ : Fin 512)) :=
  congrArg x (funext fun a => Fin.ext (by
    match a with
    | ⟨0, _⟩ => show 0 + 1 * i.val = i.val; omega
    | ⟨1, _⟩ => show 128 + 1 * j.val = 128 + j.val; omega))

theorem ldx_2 (x : Vec Ideal S256x512 .f32) (i : Fin 256) (j : Fin 128) : View.ld x r0_8 (ix2 i j) = x (ix2 i (⟨256 + j.val, by omega⟩ : Fin 512)) :=
  congrArg x (funext fun a => Fin.ext (by
    match a with
    | ⟨0, _⟩ => show 0 + 1 * i.val = i.val; omega
    | ⟨1, _⟩ => show 256 + 1 * j.val = 256 + j.val; omega))

theorem ldx_3 (x : Vec Ideal S256x512 .f32) (i : Fin 256) (j : Fin 128) : View.ld x r0_11 (ix2 i j) = x (ix2 i (⟨384 + j.val, by omega⟩ : Fin 512)) :=
  congrArg x (funext fun a => Fin.ext (by
    match a with
    | ⟨0, _⟩ => show 0 + 1 * i.val = i.val; omega
    | ⟨1, _⟩ => show 384 + 1 * j.val = 384 + j.val; omega))

theorem ldm_0 (x : Vec Ideal S4x256x256 .bf16) (i j : Fin 256) : View.ld x r0_3 (ix3 0 i j) = x (ix3 0 i j) :=
  congrArg x (funext fun a => Fin.ext (by
    match a with
    | ⟨0, _⟩ => rfl
    | ⟨1, _⟩ => show 0 + 1 * i.val = i.val; omega
    | ⟨2, _⟩ => show 0 + 1 * j.val = j.val; omega))

theorem ldm_1 (x : Vec Ideal S4x256x256 .bf16) (i j : Fin 256) : View.ld x r0_6 (ix3 0 i j) = x (ix3 1 i j) :=
  congrArg x (funext fun a => Fin.ext (by
    match a with
    | ⟨0, _⟩ => rfl
    | ⟨1, _⟩ => show 0 + 1 * i.val = i.val; omega
    | ⟨2, _⟩ => show 0 + 1 * j.val = j.val; omega))

theorem ldm_2 (x : Vec Ideal S4x256x256 .bf16) (i j : Fin 256) : View.ld x r0_9 (ix3 0 i j) = x (ix3 2 i j) :=
  congrArg x (funext fun a => Fin.ext (by
    match a with
    | ⟨0, _⟩ => rfl
    | ⟨1, _⟩ => show 0 + 1 * i.val = i.val; omega
    | ⟨2, _⟩ => show 0 + 1 * j.val = j.val; omega))

theorem ldm_3 (x : Vec Ideal S4x256x256 .bf16) (i j : Fin 256) : View.ld x r0_12 (ix3 0 i j) = x (ix3 3 i j) :=
  congrArg x (funext fun a => Fin.ext (by
    match a with
    | ⟨0, _⟩ => rfl
    | ⟨1, _⟩ => show 0 + 1 * i.val = i.val; omega
    | ⟨2, _⟩ => show 0 + 1 * j.val = j.val; omega))

theorem ldw_0 (x : Vec Ideal S4x128x512 .bf16) (i : Fin 128) (j : Fin 512) : View.ld x r0_4 (ix3 0 i j) = x (ix3 0 i j) :=
  congrArg x (funext fun a => Fin.ext (by
    match a with
    | ⟨0, _⟩ => rfl
    | ⟨1, _⟩ => show 0 + 1 * i.val = i.val; omega
    | ⟨2, _⟩ => show 0 + 1 * j.val = j.val; omega))

theorem ldw_1 (x : Vec Ideal S4x128x512 .bf16) (i : Fin 128) (j : Fin 512) : View.ld x r0_7 (ix3 0 i j) = x (ix3 1 i j) :=
  congrArg x (funext fun a => Fin.ext (by
    match a with
    | ⟨0, _⟩ => rfl
    | ⟨1, _⟩ => show 0 + 1 * i.val = i.val; omega
    | ⟨2, _⟩ => show 0 + 1 * j.val = j.val; omega))

theorem ldw_2 (x : Vec Ideal S4x128x512 .bf16) (i : Fin 128) (j : Fin 512) : View.ld x r0_10 (ix3 0 i j) = x (ix3 2 i j) :=
  congrArg x (funext fun a => Fin.ext (by
    match a with
    | ⟨0, _⟩ => rfl
    | ⟨1, _⟩ => show 0 + 1 * i.val = i.val; omega
    | ⟨2, _⟩ => show 0 + 1 * j.val = j.val; omega))

theorem ldw_3 (x : Vec Ideal S4x128x512 .bf16) (i : Fin 128) (j : Fin 512) : View.ld x r0_13 (ix3 0 i j) = x (ix3 3 i j) :=
  congrArg x (funext fun a => Fin.ext (by
    match a with
    | ⟨0, _⟩ => rfl
    | ⟨1, _⟩ => show 0 + 1 * i.val = i.val; omega
    | ⟨2, _⟩ => show 0 + 1 * j.val = j.val; omega))

theorem ldg_0 (x : Vec Ideal S256x6144 .bf16) (i : Fin 256) (j : Fin 2048) : View.ld x r0_15 (ix2 i j) = x (ix2 i (⟨j.val, by omega⟩ : Fin 6144)) :=
  congrArg x (funext fun a => Fin.ext (by
    match a with
    | ⟨0, _⟩ => show 0 + 1 * i.val = i.val; omega
    | ⟨1, _⟩ => show 0 + 1 * j.val = j.val; omega))

theorem ldg_1 (x : Vec Ideal S256x6144 .bf16) (i : Fin 256) (j : Fin 2048) : View.ld x r0_16 (ix2 i j) = x (ix2 i (⟨2048 + j.val, by omega⟩ : Fin 6144)) :=
  congrArg x (funext fun a => Fin.ext (by
    match a with
    | ⟨0, _⟩ => show 0 + 1 * i.val = i.val; omega
    | ⟨1, _⟩ => show 2048 + 1 * j.val = 2048 + j.val; omega))

theorem ldg_2 (x : Vec Ideal S256x6144 .bf16) (i : Fin 256) (j : Fin 2048) : View.ld x r0_17 (ix2 i j) = x (ix2 i (⟨4096 + j.val, by omega⟩ : Fin 6144)) :=
  congrArg x (funext fun a => Fin.ext (by
    match a with
    | ⟨0, _⟩ => show 0 + 1 * i.val = i.val; omega
    | ⟨1, _⟩ => show 4096 + 1 * j.val = 4096 + j.val; omega))

theorem whole_0 (x : Vec Ideal S256x1024 .f32) : View.ld x r0_0 = x := View.ld_unit_zero hz _ x

theorem whole_1 (x : Vec Ideal S1024x2048 .bf16) : View.ld x r0_1 = x := View.ld_unit_zero hz _ x

theorem whole_14 (x : Vec Ideal S1x2048 .f32) : View.ld x r0_14 = x := View.ld_unit_zero hz _ x

theorem whole_18 (x : Vec Ideal S2048x2048 .bf16) : View.ld x r0_18 = x := View.ld_unit_zero hz _ x

theorem whole_19 (x : Vec Ideal S256x2048 .f32) : View.ld x r0_19 = x := View.ld_unit_zero hz _ x

/-- The body's output block read at a row and a column. -/
theorem out_apply (x0 x1 x2 : Vec Ideal S256x1024 .f32) (x3 : Vec Ideal S256x512 .f32) (x4 : Vec Ideal S256x1024 .f32) (x5 : Vec Ideal S256x6144 .bf16) (x6 : Vec Ideal S256x2048 .f32) (x7 : Vec Ideal S1x2048 .f32) (x8 : Vec Ideal S1024x2048 .bf16) (x9 : Vec Ideal S4x256x256 .bf16) (x10 : Vec Ideal S256x512 .f32) (x11 : Vec Ideal S4x128x512 .bf16) (x12 : Vec Ideal S1x2048 .f32) (x13 : Vec Ideal S1024x2048 .bf16) (x14 : Vec Ideal S2048x2048 .bf16) (r : Fin 256) (c : Fin 2048) :
    out0_15 x0 x1 x2 x3 x4 x5 x6 x7 x8 x9 x10 x11 x12 x13 x14 (ix2 r c)
      = x6 (ix2 r c) + x7 (ix2 0 c) * ∑ x : Fin 2048, (x5 (ix2 r (⟨x.val, by omega⟩ : Fin 6144)) * (∑ j : Fin 1024, (x0 (ix2 r j) + x1 (ix2 r j)) * gelu (x2 (ix2 r j)) * x8 (ix2 j x))
        + x5 (ix2 r (⟨2048 + x.val, by omega⟩ : Fin 6144)) * (side
            (fun o => ∑ j : Fin 128, (wsum (View.ld x9 r0_3) (View.ld x3 r0_2) (View.ld x10 r0_2) r j - View.ld x3 r0_2 (ix2 r j)) * View.ld x11 r0_4 (ix3 0 j o))
            (fun o => ∑ j : Fin 128, (wsum (View.ld x9 r0_6) (View.ld x3 r0_5) (View.ld x10 r0_5) r j - View.ld x3 r0_5 (ix2 r j)) * View.ld x11 r0_7 (ix3 0 j o))
            (fun o => ∑ j : Fin 128, (wsum (View.ld x9 r0_9) (View.ld x3 r0_8) (View.ld x10 r0_8) r j - View.ld x3 r0_8 (ix2 r j)) * View.ld x11 r0_10 (ix3 0 j o))
            (fun o => ∑ j : Fin 128, (wsum (View.ld x9 r0_12) (View.ld x3 r0_11) (View.ld x10 r0_11) r j - View.ld x3 r0_11 (ix2 r j)) * View.ld x11 r0_13 (ix3 0 j o)) x * x12 (ix2 0 x))
        + x5 (ix2 r (⟨4096 + x.val, by omega⟩ : Fin 6144)) * ∑ j : Fin 1024, x4 (ix2 r j) * x13 (ix2 j x)) * x14 (ix2 x c) := by
  unfold out0_15
  rw [View.canon_unit_zero hz]
  simp only [last_apply, lru_apply, four_apply, pool0_apply, pool1_apply, pool2_apply, pool3_apply]
  rw [whole_19 x6, whole_14 x7, whole_0 x0, whole_0 x1, whole_0 x2, whole_0 x4, whole_1 x8, whole_1 x13, whole_14 x12, whole_18 x14]
  exact congrArg (fun s => _ + _ * s) (Finset.sum_congr rfl fun x _ => by rw [ldg_0, ldg_1, ldg_2])

/-! ## A group's pooled value -/

variable (m : (ℓ : Loc nD τ sig) → Buf (Elt Ideal) ℓ) (ρ : Dev nD → PrngReg)

/-- A finite value less itself is zero. -/
theorem sub_self' {x : EReal} (h : max x (-x) < ⊤) : x - x = 0 := by
  induction x with
  | bot => simp at h
  | top => simp at h
  | coe a => rw [← EReal.coe_sub, sub_self, EReal.coe_zero]

/-- The mask's sum over both halves of finite values, times the reciprocal count, is the window's sum over its count. -/
theorem wsum_eq {h w : Nat} (e : Ends h w) (mk : Vec Ideal S1x256x256 .bf16) (xg ic : Vec Ideal S256x128 .f32) (X : S16384x3072.Idx → EReal) (T : Nat) (hT : T < 64)
    (c : Fin 512) (r : Fin 256) (j : Fin 128)
    (hmk : ∀ i : Fin 256, mk (ix3 0 r i) = mask (BitVec.ofNat 32 h) (BitVec.ofNat 32 w) r i)
    (hxg : ∀ i : Fin 256, xg (ix2 i j) = X (ix2 (⟨T * 256 + i.val, by omega⟩ : Fin 16384) (⟨2048 + c.val, by omega⟩ : Fin 3072)))
    (hic : ic (ix2 r j) = Ideal.div 1 (count (BitVec.ofNat 32 h) (BitVec.ofNat 32 w) (IntOp.remsi ArithUnit.host (BitVec.ofNat 32 r.val) 64#32)))
    (hf : ∀ i : Fin 256, max (xg (ix2 i j)) (-(xg (ix2 i j))) < ⊤)
    (q : Fin 256) (p : Fin 64) (hq : q.val = (T * 256 + r.val) / 64) (hp : p.val = (T * 256 + r.val) % 64) :
    wsum mk xg ic r j = Ideal.div (∑ k ∈ Finset.range w, rterm h X q p c k) (count (BitVec.ofNat 32 h) (BitVec.ofNat 32 w) (BitVec.ofNat 32 p.val)) := by
  have hpr : p.val = r.val % 64 := by omega
  unfold wsum
  have z : (∑ i : Fin 256, mk (ix3 0 r i) * (xg (ix2 i j) - xg (ix2 i j))) = 0 :=
    Finset.sum_eq_zero fun i _ => by rw [sub_self' (hf i), mul_zero]
  rw [z, add_zero, hic, pos_eq, ← hpr, Ideal.mul_one_div (count_ne e p)]
  refine congrArg (fun s => Ideal.div s _) ?_
  simp only [hmk]
  rw [mask_sum e (fun i => xg (ix2 i j)) r]
  refine Finset.sum_congr rfl fun k _ => ?_
  unfold term rterm
  simp only [hpr]
  split_ifs with d
  · rw [hxg]
    refine at_eq X ?_ rfl
    show T * 256 + (r.val / 64 * 64 + (r.val % 64 + k - h)) = q.val * 64 + (r.val % 64 + k - h)
    omega
  · rfl

/-! ## The staged blocks -/

/-- The windows' block indices at a grid point: the row tile is the point, the tables and weights stay. -/
theorem idx_facts : ∀ t : Fin cfg0.N, win0_0.index t (0 : Fin 2) = t.val ∧ win0_0.index t (1 : Fin 2) = 0 ∧ win0_1.index t (0 : Fin 2) = t.val ∧ win0_1.index t (1 : Fin 2) = 0 ∧ win0_2.index t (0 : Fin 2) = t.val ∧ win0_2.index t (1 : Fin 2) = 1 ∧ win0_3.index t (0 : Fin 2) = t.val ∧ win0_3.index t (1 : Fin 2) = 4 ∧ win0_4.index t (0 : Fin 2) = t.val ∧ win0_4.index t (1 : Fin 2) = 0 ∧ win0_5.index t (0 : Fin 2) = t.val ∧ win0_5.index t (1 : Fin 2) = 0 ∧ win0_6.index t (0 : Fin 2) = t.val ∧ win0_6.index t (1 : Fin 2) = 0 ∧ win0_7.index t (0 : Fin 2) = 0 ∧ win0_7.index t (1 : Fin 2) = 0 ∧ win0_8.index t (0 : Fin 2) = 0 ∧ win0_8.index t (1 : Fin 2) = 0 ∧ win0_9.index t (0 : Fin 3) = 0 ∧ win0_9.index t (1 : Fin 3) = 0 ∧ win0_9.index t (2 : Fin 3) = 0 ∧ win0_10.index t (0 : Fin 2) = 0 ∧ win0_10.index t (1 : Fin 2) = 0 ∧ win0_11.index t (0 : Fin 3) = 0 ∧ win0_11.index t (1 : Fin 3) = 0 ∧ win0_11.index t (2 : Fin 3) = 0 ∧ win0_12.index t (0 : Fin 2) = 0 ∧ win0_12.index t (1 : Fin 2) = 0 ∧ win0_13.index t (0 : Fin 2) = 0 ∧ win0_13.index t (1 : Fin 2) = 0 ∧ win0_14.index t (0 : Fin 2) = 0 ∧ win0_14.index t (1 : Fin 2) = 0 ∧ win0_15.index t (0 : Fin 2) = t.val ∧ win0_15.index t (1 : Fin 2) = 0 :=
  (by decide +kernel : ∀ t : Fin grid0.N, _)

theorem blk0 (c : Dev nD) (t : Fin cfg0.N) (r : Fin 256) (k : Fin 1024) (R : Fin 16384) (hR : R.val = t.val * 256 + r.val) :
    iblk m c 0 t (ix2 r k) = m ((c : Thread nD τ).loc main_arg0) (ix2 R k) := by
  obtain ⟨e0, e1, -⟩ := idx_facts t
  show V m c main_arg0 (((cfg0.win 0).blk t).view.emb (ix2 r k)) = _
  rw [V_main_arg0]
  refine congrArg _ (funext fun a => Fin.ext ?_)
  match a with
  | ⟨0, _⟩ => show win0_0.index t (0 : Fin 2) * 256 + 1 * r.val = R.val; omega
  | ⟨1, _⟩ => show win0_0.index t (1 : Fin 2) * 1024 + 1 * k.val = k.val; omega

theorem blk1 (c : Dev nD) (t : Fin cfg0.N) (r : Fin 256) (k : Fin 1024) (R : Fin 16384) (hR : R.val = t.val * 256 + r.val) :
    iblk m c 1 t (ix2 r k) = m ((c : Thread nD τ).loc main_arg1) (ix2 R k) := by
  obtain ⟨-, -, e0, e1, -⟩ := idx_facts t
  show V m c main_arg1 (((cfg0.win 1).blk t).view.emb (ix2 r k)) = _
  rw [V_main_arg1]
  refine congrArg _ (funext fun a => Fin.ext ?_)
  match a with
  | ⟨0, _⟩ => show win0_1.index t (0 : Fin 2) * 256 + 1 * r.val = R.val; omega
  | ⟨1, _⟩ => show win0_1.index t (1 : Fin 2) * 1024 + 1 * k.val = k.val; omega

theorem blk2 (c : Dev nD) (t : Fin cfg0.N) (r : Fin 256) (k : Fin 1024) (R : Fin 16384) (hR : R.val = t.val * 256 + r.val) :
    iblk m c 2 t (ix2 r k) = m ((c : Thread nD τ).loc main_arg2) (ix2 R (⟨1024 + k.val, by omega⟩ : Fin 3072)) := by
  obtain ⟨-, -, -, -, e0, e1, -⟩ := idx_facts t
  show V m c main_arg2 (((cfg0.win 2).blk t).view.emb (ix2 r k)) = _
  rw [V_main_arg2]
  refine congrArg _ (funext fun a => Fin.ext ?_)
  match a with
  | ⟨0, _⟩ => show win0_2.index t (0 : Fin 2) * 256 + 1 * r.val = R.val; omega
  | ⟨1, _⟩ => show win0_2.index t (1 : Fin 2) * 1024 + 1 * k.val = 1024 + k.val; omega

theorem blk3 (c : Dev nD) (t : Fin cfg0.N) (r : Fin 256) (k : Fin 512) (R : Fin 16384) (hR : R.val = t.val * 256 + r.val) :
    iblk m c 3 t (ix2 r k) = m ((c : Thread nD τ).loc main_arg2) (ix2 R (⟨2048 + k.val, by omega⟩ : Fin 3072)) := by
  obtain ⟨-, -, -, -, -, -, e0, e1, -⟩ := idx_facts t
  show V m c main_arg2 (((cfg0.win 3).blk t).view.emb (ix2 r k)) = _
  rw [V_main_arg2]
  refine congrArg _ (funext fun a => Fin.ext ?_)
  match a with
  | ⟨0, _⟩ => show win0_3.index t (0 : Fin 2) * 256 + 1 * r.val = R.val; omega
  | ⟨1, _⟩ => show win0_3.index t (1 : Fin 2) * 512 + 1 * k.val = 2048 + k.val; omega

theorem blk4 (c : Dev nD) (t : Fin cfg0.N) (r : Fin 256) (k : Fin 1024) (R : Fin 16384) (hR : R.val = t.val * 256 + r.val) :
    iblk m c 4 t (ix2 r k) = m ((c : Thread nD τ).loc main_arg3) (ix2 R k) := by
  obtain ⟨-, -, -, -, -, -, -, -, e0, e1, -⟩ := idx_facts t
  show V m c main_arg3 (((cfg0.win 4).blk t).view.emb (ix2 r k)) = _
  rw [V_main_arg3]
  refine congrArg _ (funext fun a => Fin.ext ?_)
  match a with
  | ⟨0, _⟩ => show win0_4.index t (0 : Fin 2) * 256 + 1 * r.val = R.val; omega
  | ⟨1, _⟩ => show win0_4.index t (1 : Fin 2) * 1024 + 1 * k.val = k.val; omega

theorem blk5 (c : Dev nD) (t : Fin cfg0.N) (r : Fin 256) (k : Fin 6144) (R : Fin 16384) (hR : R.val = t.val * 256 + r.val) :
    iblk m c 5 t (ix2 r k) = m ((c : Thread nD τ).loc main_arg4) (ix2 R k) := by
  obtain ⟨-, -, -, -, -, -, -, -, -, -, e0, e1, -⟩ := idx_facts t
  show V m c main_arg4 (((cfg0.win 5).blk t).view.emb (ix2 r k)) = _
  rw [V_main_arg4]
  refine congrArg _ (funext fun a => Fin.ext ?_)
  match a with
  | ⟨0, _⟩ => show win0_5.index t (0 : Fin 2) * 256 + 1 * r.val = R.val; omega
  | ⟨1, _⟩ => show win0_5.index t (1 : Fin 2) * 6144 + 1 * k.val = k.val; omega

theorem blk6 (c : Dev nD) (t : Fin cfg0.N) (r : Fin 256) (k : Fin 2048) (R : Fin 16384) (hR : R.val = t.val * 256 + r.val) :
    iblk m c 6 t (ix2 r k) = m ((c : Thread nD τ).loc main_arg5) (ix2 R k) := by
  obtain ⟨-, -, -, -, -, -, -, -, -, -, -, -, e0, e1, -⟩ := idx_facts t
  show V m c main_arg5 (((cfg0.win 6).blk t).view.emb (ix2 r k)) = _
  rw [V_main_arg5]
  refine congrArg _ (funext fun a => Fin.ext ?_)
  match a with
  | ⟨0, _⟩ => show win0_6.index t (0 : Fin 2) * 256 + 1 * r.val = R.val; omega
  | ⟨1, _⟩ => show win0_6.index t (1 : Fin 2) * 2048 + 1 * k.val = k.val; omega

theorem blk7 (c : Dev nD) (t : Fin cfg0.N) (a : Fin 1) (b : Fin 2048) :
    iblk m c 7 t (ix2 a b) = V m c main_arg6 (ix2 a b) := by
  obtain ⟨-, -, -, -, -, -, -, -, -, -, -, -, -, -, e0, e1, -⟩ := idx_facts t
  show V m c main_arg6 (((cfg0.win 7).blk t).view.emb (ix2 a b)) = _
  refine congrArg _ (funext fun q => Fin.ext ?_)
  match q with
  | ⟨0, _⟩ => show win0_7.index t (0 : Fin 2) * 1 + 1 * a.val = a.val; omega
  | ⟨1, _⟩ => show win0_7.index t (1 : Fin 2) * 2048 + 1 * b.val = b.val; omega

theorem blk8 (c : Dev nD) (t : Fin cfg0.N) (a : Fin 1024) (b : Fin 2048) :
    iblk m c 8 t (ix2 a b) = V m c main_v147 (ix2 a b) := by
  obtain ⟨-, -, -, -, -, -, -, -, -, -, -, -, -, -, -, -, e0, e1, -⟩ := idx_facts t
  show V m c main_v147 (((cfg0.win 8).blk t).view.emb (ix2 a b)) = _
  refine congrArg _ (funext fun q => Fin.ext ?_)
  match q with
  | ⟨0, _⟩ => show win0_8.index t (0 : Fin 2) * 1024 + 1 * a.val = a.val; omega
  | ⟨1, _⟩ => show win0_8.index t (1 : Fin 2) * 2048 + 1 * b.val = b.val; omega

theorem blk9 (c : Dev nD) (t : Fin cfg0.N) (a : Fin 4) (b : Fin 256) (d : Fin 256) :
    iblk m c 9 t (ix3 a b d) = V m c main_v145 (ix3 a b d) := by
  obtain ⟨-, -, -, -, -, -, -, -, -, -, -, -, -, -, -, -, -, -, e0, e1, e2, -⟩ := idx_facts t
  show V m c main_v145 (((cfg0.win 9).blk t).view.emb (ix3 a b d)) = _
  refine congrArg _ (funext fun q => Fin.ext ?_)
  match q with
  | ⟨0, _⟩ => show win0_9.index t (0 : Fin 3) * 4 + 1 * a.val = a.val; omega
  | ⟨1, _⟩ => show win0_9.index t (1 : Fin 3) * 256 + 1 * b.val = b.val; omega
  | ⟨2, _⟩ => show win0_9.index t (2 : Fin 3) * 256 + 1 * d.val = d.val; omega

theorem blk10 (c : Dev nD) (t : Fin cfg0.N) (a : Fin 256) (b : Fin 512) :
    iblk m c 10 t (ix2 a b) = V m c main_v146 (ix2 a b) := by
  obtain ⟨-, -, -, -, -, -, -, -, -, -, -, -, -, -, -, -, -, -, -, -, -, e0, e1, -⟩ := idx_facts t
  show V m c main_v146 (((cfg0.win 10).blk t).view.emb (ix2 a b)) = _
  refine congrArg _ (funext fun q => Fin.ext ?_)
  match q with
  | ⟨0, _⟩ => show win0_10.index t (0 : Fin 2) * 256 + 1 * a.val = a.val; omega
  | ⟨1, _⟩ => show win0_10.index t (1 : Fin 2) * 512 + 1 * b.val = b.val; omega

theorem blk11 (c : Dev nD) (t : Fin cfg0.N) (a : Fin 4) (b : Fin 128) (d : Fin 512) :
    iblk m c 11 t (ix3 a b d) = V m c main_v148 (ix3 a b d) := by
  obtain ⟨-, -, -, -, -, -, -, -, -, -, -, -, -, -, -, -, -, -, -, -, -, -, -, e0, e1, e2, -⟩ := idx_facts t
  show V m c main_v148 (((cfg0.win 11).blk t).view.emb (ix3 a b d)) = _
  refine congrArg _ (funext fun q => Fin.ext ?_)
  match q with
  | ⟨0, _⟩ => show win0_11.index t (0 : Fin 3) * 4 + 1 * a.val = a.val; omega
  | ⟨1, _⟩ => show win0_11.index t (1 : Fin 3) * 128 + 1 * b.val = b.val; omega
  | ⟨2, _⟩ => show win0_11.index t (2 : Fin 3) * 512 + 1 * d.val = d.val; omega

theorem blk12 (c : Dev nD) (t : Fin cfg0.N) (a : Fin 1) (b : Fin 2048) :
    iblk m c 12 t (ix2 a b) = V m c main_v149 (ix2 a b) := by
  obtain ⟨-, -, -, -, -, -, -, -, -, -, -, -, -, -, -, -, -, -, -, -, -, -, -, -, -, -, e0, e1, -⟩ := idx_facts t
  show V m c main_v149 (((cfg0.win 12).blk t).view.emb (ix2 a b)) = _
  refine congrArg _ (funext fun q => Fin.ext ?_)
  match q with
  | ⟨0, _⟩ => show win0_12.index t (0 : Fin 2) * 1 + 1 * a.val = a.val; omega
  | ⟨1, _⟩ => show win0_12.index t (1 : Fin 2) * 2048 + 1 * b.val = b.val; omega

theorem blk13 (c : Dev nD) (t : Fin cfg0.N) (a : Fin 1024) (b : Fin 2048) :
    iblk m c 13 t (ix2 a b) = V m c main_arg10 (ix2 a b) := by
  obtain ⟨-, -, -, -, -, -, -, -, -, -, -, -, -, -, -, -, -, -, -, -, -, -, -, -, -, -, -, -, e0, e1, -⟩ := idx_facts t
  show V m c main_arg10 (((cfg0.win 13).blk t).view.emb (ix2 a b)) = _
  refine congrArg _ (funext fun q => Fin.ext ?_)
  match q with
  | ⟨0, _⟩ => show win0_13.index t (0 : Fin 2) * 1024 + 1 * a.val = a.val; omega
  | ⟨1, _⟩ => show win0_13.index t (1 : Fin 2) * 2048 + 1 * b.val = b.val; omega

theorem blk14 (c : Dev nD) (t : Fin cfg0.N) (a : Fin 2048) (b : Fin 2048) :
    iblk m c 14 t (ix2 a b) = V m c main_v150 (ix2 a b) := by
  obtain ⟨-, -, -, -, -, -, -, -, -, -, -, -, -, -, -, -, -, -, -, -, -, -, -, -, -, -, -, -, -, -, e0, e1, -⟩ := idx_facts t
  show V m c main_v150 (((cfg0.win 14).blk t).view.emb (ix2 a b)) = _
  refine congrArg _ (funext fun q => Fin.ext ?_)
  match q with
  | ⟨0, _⟩ => show win0_14.index t (0 : Fin 2) * 2048 + 1 * a.val = a.val; omega
  | ⟨1, _⟩ => show win0_14.index t (1 : Fin 2) * 2048 + 1 * b.val = b.val; omega

theorem V147_eq (c : Dev nD) (a : Fin 1024) (b : Fin 2048) :
    V m c main_v147 (ix2 a b) = m ((c : Thread nD τ).loc main_arg7) (ix2 a b) := by
  unfold V; after_reads_at

theorem V148_eq (c : Dev nD) (a : Fin 4) (b : Fin 128) (d : Fin 512) :
    V m c main_v148 (ix3 a b d) = m ((c : Thread nD τ).loc main_arg8) (ix3 a b d) := by
  unfold V; after_reads_at

theorem V150_eq (c : Dev nD) (a : Fin 2048) (b : Fin 2048) :
    V m c main_v150 (ix2 a b) = m ((c : Thread nD τ).loc main_arg11) (ix2 a b) := by
  unfold V; after_reads_at

theorem V149_eq (c : Dev nD) (b : Fin 2048) : V m c main_v149 (ix2 0 b) = m ((c : Thread nD τ).loc main_arg9) (ix1 b) := by
  unfold V; after_reads_at

/-! ## The groups' pooled values over the staged blocks -/

/-- The pooling branch of the argument is finite. -/
def Finite (c : Dev nD) : Prop := ∀ (r : Fin 16384) (k : Fin 512),
  max (α := EReal) (m ((c : Thread nD τ).loc main_arg2) (ix2 r (⟨2048 + k.val, by omega⟩ : Fin 3072)))
    (Neg.neg (α := EReal) (m ((c : Thread nD τ).loc main_arg2) (ix2 r (⟨2048 + k.val, by omega⟩ : Fin 3072)))) < ⊤

theorem pooled_0 (c : Dev nD) (hf : Finite m c) (t : Fin cfg0.N) (ht : t.val < 64) (r : Fin 256) (j : Fin 128) (R : Fin 16384) (hR : R.val = t.val * 256 + r.val) :
    wsum (View.ld (iblk m c 9 t) r0_3) (View.ld (iblk m c 3 t) r0_2) (View.ld (iblk m c 10 t) r0_2) r j - View.ld (iblk m c 3 t) r0_2 (ix2 r j)
      = Cert.Reference5Ideal.Read.val_main_v161 (F := Ideal) (m ((c : Thread nD τ).loc main_arg2)) (ix3 R 0 j) := by
  have hx : ∀ (i : Fin 256) (I : Fin 16384) (hI : I.val = t.val * 256 + i.val), View.ld (iblk m c 3 t) r0_2 (ix2 i j)
      = m ((c : Thread nD τ).loc main_arg2) (ix2 I (⟨2048 + (0 + j.val), by omega⟩ : Fin 3072)) := fun i I hI =>
    (ldx_0 _ i j).trans ((blk3 m c t i ⟨j.val, by omega⟩ I hI).trans (congrArg _ (funext fun a => Fin.ext (by
      match a with
      | ⟨0, _⟩ => rfl
      | ⟨1, _⟩ => show 2048 + (j.val) = 2048 + (0 + j.val); omega))))
  rw [group_0, pool_42, wsum_eq ends2 (View.ld (iblk m c 9 t) r0_3) (View.ld (iblk m c 3 t) r0_2) (View.ld (iblk m c 10 t) r0_2) (m ((c : Thread nD τ).loc main_arg2)) t.val ht
      ⟨0 + j.val, by omega⟩ r j ?_ ?_ ?_ ?_ ⟨R.val / 64, by omega⟩ ⟨R.val % 64, by omega⟩ (by show R.val / 64 = _; rw [hR]) (by show R.val % 64 = _; rw [hR])]
  · refine congrArg (fun z => _ - z) ((hx r R hR).trans ?_)
    exact at_eq (m ((c : Thread nD τ).loc main_arg2)) (by show R.val = R.val / 64 * 64 + R.val % 64; omega) rfl
  · exact fun i => (ldm_0 _ r i).trans ((blk9 m c t 0 r i).trans ((V145_0 m c r i).trans (V32_eq m c r i)))
  · exact fun i => hx i _ rfl
  · exact (ldx_0 _ r j).trans ((blk10 m c t r _).trans ((V146_0 m c r j).trans (V38_eq m c r j)))
  · intro i
    rw [hx i ⟨t.val * 256 + i.val, by omega⟩ rfl]
    exact hf _ ⟨0 + j.val, by omega⟩

theorem pooled_1 (c : Dev nD) (hf : Finite m c) (t : Fin cfg0.N) (ht : t.val < 64) (r : Fin 256) (j : Fin 128) (R : Fin 16384) (hR : R.val = t.val * 256 + r.val) :
    wsum (View.ld (iblk m c 9 t) r0_6) (View.ld (iblk m c 3 t) r0_5) (View.ld (iblk m c 10 t) r0_5) r j - View.ld (iblk m c 3 t) r0_5 (ix2 r j)
      = Cert.Reference5Ideal.Read.val_main_v161 (F := Ideal) (m ((c : Thread nD τ).loc main_arg2)) (ix3 R 1 j) := by
  have hx : ∀ (i : Fin 256) (I : Fin 16384) (hI : I.val = t.val * 256 + i.val), View.ld (iblk m c 3 t) r0_5 (ix2 i j)
      = m ((c : Thread nD τ).loc main_arg2) (ix2 I (⟨2048 + (128 + j.val), by omega⟩ : Fin 3072)) := fun i I hI =>
    (ldx_1 _ i j).trans ((blk3 m c t i ⟨128 + j.val, by omega⟩ I hI).trans (congrArg _ (funext fun a => Fin.ext (by
      match a with
      | ⟨0, _⟩ => rfl
      | ⟨1, _⟩ => show 2048 + (128 + j.val) = 2048 + (128 + j.val); omega))))
  rw [group_1, pool_69, wsum_eq ends4 (View.ld (iblk m c 9 t) r0_6) (View.ld (iblk m c 3 t) r0_5) (View.ld (iblk m c 10 t) r0_5) (m ((c : Thread nD τ).loc main_arg2)) t.val ht
      ⟨128 + j.val, by omega⟩ r j ?_ ?_ ?_ ?_ ⟨R.val / 64, by omega⟩ ⟨R.val % 64, by omega⟩ (by show R.val / 64 = _; rw [hR]) (by show R.val % 64 = _; rw [hR])]
  · refine congrArg (fun z => _ - z) ((hx r R hR).trans ?_)
    exact at_eq (m ((c : Thread nD τ).loc main_arg2)) (by show R.val = R.val / 64 * 64 + R.val % 64; omega) rfl
  · exact fun i => (ldm_1 _ r i).trans ((blk9 m c t 1 r i).trans ((V145_1 m c r i).trans (V66_eq m c r i)))
  · exact fun i => hx i _ rfl
  · exact (ldx_1 _ r j).trans ((blk10 m c t r _).trans ((V146_1 m c r j).trans (V72_eq m c r j)))
  · intro i
    rw [hx i ⟨t.val * 256 + i.val, by omega⟩ rfl]
    exact hf _ ⟨128 + j.val, by omega⟩

theorem pooled_2 (c : Dev nD) (hf : Finite m c) (t : Fin cfg0.N) (ht : t.val < 64) (r : Fin 256) (j : Fin 128) (R : Fin 16384) (hR : R.val = t.val * 256 + r.val) :
    wsum (View.ld (iblk m c 9 t) r0_9) (View.ld (iblk m c 3 t) r0_8) (View.ld (iblk m c 10 t) r0_8) r j - View.ld (iblk m c 3 t) r0_8 (ix2 r j)
      = Cert.Reference5Ideal.Read.val_main_v161 (F := Ideal) (m ((c : Thread nD τ).loc main_arg2)) (ix3 R 2 j) := by
  have hx : ∀ (i : Fin 256) (I : Fin 16384) (hI : I.val = t.val * 256 + i.val), View.ld (iblk m c 3 t) r0_8 (ix2 i j)
      = m ((c : Thread nD τ).loc main_arg2) (ix2 I (⟨2048 + (256 + j.val), by omega⟩ : Fin 3072)) := fun i I hI =>
    (ldx_2 _ i j).trans ((blk3 m c t i ⟨256 + j.val, by omega⟩ I hI).trans (congrArg _ (funext fun a => Fin.ext (by
      match a with
      | ⟨0, _⟩ => rfl
      | ⟨1, _⟩ => show 2048 + (256 + j.val) = 2048 + (256 + j.val); omega))))
  rw [group_2, pool_104, wsum_eq ends8 (View.ld (iblk m c 9 t) r0_9) (View.ld (iblk m c 3 t) r0_8) (View.ld (iblk m c 10 t) r0_8) (m ((c : Thread nD τ).loc main_arg2)) t.val ht
      ⟨256 + j.val, by omega⟩ r j ?_ ?_ ?_ ?_ ⟨R.val / 64, by omega⟩ ⟨R.val % 64, by omega⟩ (by show R.val / 64 = _; rw [hR]) (by show R.val % 64 = _; rw [hR])]
  · refine congrArg (fun z => _ - z) ((hx r R hR).trans ?_)
    exact at_eq (m ((c : Thread nD τ).loc main_arg2)) (by show R.val = R.val / 64 * 64 + R.val % 64; omega) rfl
  · exact fun i => (ldm_2 _ r i).trans ((blk9 m c t 2 r i).trans ((V145_2 m c r i).trans (V100_eq m c r i)))
  · exact fun i => hx i _ rfl
  · exact (ldx_2 _ r j).trans ((blk10 m c t r _).trans ((V146_2 m c r j).trans (V106_eq m c r j)))
  · intro i
    rw [hx i ⟨t.val * 256 + i.val, by omega⟩ rfl]
    exact hf _ ⟨256 + j.val, by omega⟩

theorem pooled_3 (c : Dev nD) (hf : Finite m c) (t : Fin cfg0.N) (ht : t.val < 64) (r : Fin 256) (j : Fin 128) (R : Fin 16384) (hR : R.val = t.val * 256 + r.val) :
    wsum (View.ld (iblk m c 9 t) r0_12) (View.ld (iblk m c 3 t) r0_11) (View.ld (iblk m c 10 t) r0_11) r j - View.ld (iblk m c 3 t) r0_11 (ix2 r j)
      = Cert.Reference5Ideal.Read.val_main_v161 (F := Ideal) (m ((c : Thread nD τ).loc main_arg2)) (ix3 R 3 j) := by
  have hx : ∀ (i : Fin 256) (I : Fin 16384) (hI : I.val = t.val * 256 + i.val), View.ld (iblk m c 3 t) r0_11 (ix2 i j)
      = m ((c : Thread nD τ).loc main_arg2) (ix2 I (⟨2048 + (384 + j.val), by omega⟩ : Fin 3072)) := fun i I hI =>
    (ldx_3 _ i j).trans ((blk3 m c t i ⟨384 + j.val, by omega⟩ I hI).trans (congrArg _ (funext fun a => Fin.ext (by
      match a with
      | ⟨0, _⟩ => rfl
      | ⟨1, _⟩ => show 2048 + (384 + j.val) = 2048 + (384 + j.val); omega))))
  rw [group_3, pool_155, wsum_eq ends16 (View.ld (iblk m c 9 t) r0_12) (View.ld (iblk m c 3 t) r0_11) (View.ld (iblk m c 10 t) r0_11) (m ((c : Thread nD τ).loc main_arg2)) t.val ht
      ⟨384 + j.val, by omega⟩ r j ?_ ?_ ?_ ?_ ⟨R.val / 64, by omega⟩ ⟨R.val % 64, by omega⟩ (by show R.val / 64 = _; rw [hR]) (by show R.val % 64 = _; rw [hR])]
  · refine congrArg (fun z => _ - z) ((hx r R hR).trans ?_)
    exact at_eq (m ((c : Thread nD τ).loc main_arg2)) (by show R.val = R.val / 64 * 64 + R.val % 64; omega) rfl
  · exact fun i => (ldm_3 _ r i).trans ((blk9 m c t 3 r i).trans ((V145_3 m c r i).trans (V134_eq m c r i)))
  · exact fun i => hx i _ rfl
  · exact (ldx_3 _ r j).trans ((blk10 m c t r _).trans ((V146_3 m c r j).trans (V140_eq m c r j)))
  · intro i
    rw [hx i ⟨t.val * 256 + i.val, by omega⟩ rfl]
    exact hf _ ⟨384 + j.val, by omega⟩

/-- One group's product is the reference's at the column of the joined array that the group's column is. -/
theorem group_out (X : S16384x3072.Idx → EReal) (W : S4x128x512.Idx → EReal) (R : Fin 16384) (g : Fin 4) (o : Fin 512) (x : Fin 2048) (hx : x.val = 512 * g.val + o.val)
    (P : Fin 128 → EReal) (hP : ∀ j, P j = Cert.Reference5Ideal.Read.val_main_v161 (F := Ideal) X (ix3 R g j)) (Q : Fin 128 → EReal) (hQ : ∀ j, Q j = W (ix3 g j o)) :
    (∑ j : Fin 128, P j * Q j) = Cert.Reference5Ideal.Read.val_main_v164 (F := Ideal) X W (ix2 R x) := by
  have eg : (⟨x.val / 512, by omega⟩ : Fin 4) = g := Fin.ext (by show x.val / 512 = g.val; omega)
  have eo : (⟨x.val % 512, by omega⟩ : Fin 512) = o := Fin.ext (by show x.val % 512 = o.val; omega)
  rw [pool_out, eg, eo]
  exact Finset.sum_congr rfl fun j _ => by rw [hP, hQ, mul_comm]

/-- The four groups' products side by side are the reference's pooling product. -/
theorem side_eq (c : Dev nD) (hf : Finite m c) (t : Fin cfg0.N) (ht : t.val < 64) (r : Fin 256) (R : Fin 16384) (hR : R.val = t.val * 256 + r.val) (x : Fin 2048) :
    side
      (fun o => ∑ j : Fin 128, (wsum (View.ld (iblk m c 9 t) r0_3) (View.ld (iblk m c 3 t) r0_2) (View.ld (iblk m c 10 t) r0_2) r j - View.ld (iblk m c 3 t) r0_2 (ix2 r j)) * View.ld (iblk m c 11 t) r0_4 (ix3 0 j o))
      (fun o => ∑ j : Fin 128, (wsum (View.ld (iblk m c 9 t) r0_6) (View.ld (iblk m c 3 t) r0_5) (View.ld (iblk m c 10 t) r0_5) r j - View.ld (iblk m c 3 t) r0_5 (ix2 r j)) * View.ld (iblk m c 11 t) r0_7 (ix3 0 j o))
      (fun o => ∑ j : Fin 128, (wsum (View.ld (iblk m c 9 t) r0_9) (View.ld (iblk m c 3 t) r0_8) (View.ld (iblk m c 10 t) r0_8) r j - View.ld (iblk m c 3 t) r0_8 (ix2 r j)) * View.ld (iblk m c 11 t) r0_10 (ix3 0 j o))
      (fun o => ∑ j : Fin 128, (wsum (View.ld (iblk m c 9 t) r0_12) (View.ld (iblk m c 3 t) r0_11) (View.ld (iblk m c 10 t) r0_11) r j - View.ld (iblk m c 3 t) r0_11 (ix2 r j)) * View.ld (iblk m c 11 t) r0_13 (ix3 0 j o))
      x = Cert.Reference5Ideal.Read.val_main_v164 (F := Ideal) (m ((c : Thread nD τ).loc main_arg2)) (m ((c : Thread nD τ).loc main_arg8)) (ix2 R x) := by
  unfold side
  split_ifs with h0 h1 h2
  · exact group_out _ _ R 0 ⟨x.val, by omega⟩ x (by show x.val = 512 * 0 + (x.val); omega) _ (fun j => pooled_0 m c hf t ht r j R hR) _ (fun j => (ldw_0 _ j _).trans <| (blk11 m c t 0 j _).trans (V148_eq m c 0 j _))
  · exact group_out _ _ R 1 ⟨x.val - 512, by omega⟩ x (by show x.val = 512 * 1 + (x.val - 512); omega) _ (fun j => pooled_1 m c hf t ht r j R hR) _ (fun j => (ldw_1 _ j _).trans <| (blk11 m c t 1 j _).trans (V148_eq m c 1 j _))
  · exact group_out _ _ R 2 ⟨x.val - 512 - 512, by omega⟩ x (by show x.val = 512 * 2 + (x.val - 512 - 512); omega) _ (fun j => pooled_2 m c hf t ht r j R hR) _ (fun j => (ldw_2 _ j _).trans <| (blk11 m c t 2 j _).trans (V148_eq m c 2 j _))
  · exact group_out _ _ R 3 ⟨x.val - 512 - 512 - 512, by omega⟩ x (by show x.val = 512 * 3 + (x.val - 512 - 512 - 512); omega) _ (fun j => pooled_3 m c hf t ht r j R hR) _ (fun j => (ldw_3 _ j _).trans <| (blk11 m c t 3 j _).trans (V148_eq m c 3 j _))

/-! ## The result array -/

/-- The reference's result over the arguments as launched. -/
abbrev RV (c : Dev nD) : Vec Ideal S16384x2048 .f32 :=
  Cert.Reference5Ideal.Read.val_main_v182 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- A tile's element is the reference's when the blocks read are the arguments' at that row. -/
theorem tile_of (x0 : Vec Ideal S256x1024 .f32) (x1 : Vec Ideal S256x1024 .f32) (x2 : Vec Ideal S256x1024 .f32) (x3 : Vec Ideal S256x512 .f32) (x4 : Vec Ideal S256x1024 .f32) (x5 : Vec Ideal S256x6144 .bf16) (x6 : Vec Ideal S256x2048 .f32) (x7 : Vec Ideal S1x2048 .f32) (x8 : Vec Ideal S1024x2048 .bf16) (x9 : Vec Ideal S4x256x256 .bf16) (x10 : Vec Ideal S256x512 .f32) (x11 : Vec Ideal S4x128x512 .bf16) (x12 : Vec Ideal S1x2048 .f32) (x13 : Vec Ideal S1024x2048 .bf16) (x14 : Vec Ideal S2048x2048 .bf16)
    (A0 : S16384x1024.Idx → EReal) (A1 : S16384x1024.Idx → EReal) (A2 : S16384x3072.Idx → EReal) (A3 : S16384x1024.Idx → EReal) (A4 : S16384x6144.Idx → EReal) (A5 : S16384x2048.Idx → EReal) (A6 : S1x2048.Idx → EReal) (A7 : S1024x2048.Idx → EReal) (A8 : S4x128x512.Idx → EReal) (A9 : S2048.Idx → EReal) (A10 : S1024x2048.Idx → EReal) (A11 : S2048x2048.Idx → EReal) (r : Fin 256) (k : Fin 2048) (R : Fin 16384)
    (h0 : ∀ j, x0 (ix2 r j) = A0 (ix2 R j)) (h1 : ∀ j, x1 (ix2 r j) = A1 (ix2 R j)) (h2 : ∀ j : Fin 1024, x2 (ix2 r j) = A2 (ix2 R (⟨1024 + j.val, by omega⟩ : Fin 3072)))
    (h4 : ∀ j, x4 (ix2 r j) = A3 (ix2 R j)) (h5 : ∀ j, x5 (ix2 r j) = A4 (ix2 R j)) (h6 : x6 (ix2 r k) = A5 (ix2 R k)) (h7 : x7 (ix2 0 k) = A6 (ix2 0 k))
    (h8 : ∀ i j, x8 (ix2 i j) = A7 (ix2 i j)) (h12 : ∀ j, x12 (ix2 0 j) = A9 (ix1 j)) (h13 : ∀ i j, x13 (ix2 i j) = A10 (ix2 i j)) (h14 : ∀ i j, x14 (ix2 i j) = A11 (ix2 i j))
    (hs : ∀ x, side
        (fun o => ∑ j : Fin 128, (wsum (View.ld x9 r0_3) (View.ld x3 r0_2) (View.ld x10 r0_2) r j - View.ld x3 r0_2 (ix2 r j)) * View.ld x11 r0_4 (ix3 0 j o))
        (fun o => ∑ j : Fin 128, (wsum (View.ld x9 r0_6) (View.ld x3 r0_5) (View.ld x10 r0_5) r j - View.ld x3 r0_5 (ix2 r j)) * View.ld x11 r0_7 (ix3 0 j o))
        (fun o => ∑ j : Fin 128, (wsum (View.ld x9 r0_9) (View.ld x3 r0_8) (View.ld x10 r0_8) r j - View.ld x3 r0_8 (ix2 r j)) * View.ld x11 r0_10 (ix3 0 j o))
        (fun o => ∑ j : Fin 128, (wsum (View.ld x9 r0_12) (View.ld x3 r0_11) (View.ld x10 r0_11) r j - View.ld x3 r0_11 (ix2 r j)) * View.ld x11 r0_13 (ix3 0 j o))
        x = Cert.Reference5Ideal.Read.val_main_v164 (F := Ideal) A2 A8 (ix2 R x)) :
    out0_15 x0 x1 x2 x3 x4 x5 x6 x7 x8 x9 x10 x11 x12 x13 x14 (ix2 r k) = Cert.Reference5Ideal.Read.val_main_v182 (F := Ideal) A0 A1 A2 A3 A4 A5 A6 A7 A8 A9 A10 A11 (ix2 R k) := by
  rw [out_apply, ref_apply, h6, h7]
  simp only [merged, hs, h0, h1, h2, h4, h5, h8, h12, h13, h14]

/-- What a grid point writes back is its block of the reference's result. -/
theorem flushed_eq (c : Dev nD) (hf : Finite m c) (t : Fin cfg0.N) :
    (dats m 0 c).flushed 15 t = ((cfg0.win 15).blk t).view.read (Elt Ideal) (RV m c) := by
  have hN : t.val < 64 := lt_of_lt_of_eq t.isLt (show cfg0.N = 64 from N_0)
  obtain ⟨-, -, -, -, -, -, -, -, -, -, -, -, -, -, -, -, -, -, -, -, -, -, -, -, -, -, -, -, -, -, -, -, e0, e1⟩ := idx_facts t
  rw [flushed15]
  funext y
  have hr : (y 0).val < 256 := (y 0).isLt
  have hc : (y 1).val < 2048 := (y 1).isLt
  have hy : y = ix2 (⟨(y 0).val, hr⟩ : Fin 256) (⟨(y 1).val, hc⟩ : Fin 2048) := funext fun a => by match a with | ⟨0, _⟩ => rfl | ⟨1, _⟩ => rfl
  show out0_15 _ _ _ _ _ _ _ _ _ _ _ _ _ _ _ y = RV m c (((cfg0.win 15).blk t).view.emb y)
  have he : ((cfg0.win 15).blk t).view.emb y = ix2 (⟨t.val * 256 + (y 0).val, by omega⟩ : Fin 16384) (⟨(y 1).val, hc⟩ : Fin 2048) := by
    funext a; apply Fin.ext
    match a with
    | ⟨0, _⟩ => show win0_15.index t (0 : Fin 2) * 256 + 1 * (y 0).val = t.val * 256 + (y 0).val; omega
    | ⟨1, _⟩ => show win0_15.index t (1 : Fin 2) * 2048 + 1 * (y 1).val = (y 1).val; omega
  rw [he]
  exact (congrArg (out0_15 _ _ _ _ _ _ _ _ _ _ _ _ _ _ _) hy).trans (tile_of _ _ _ _ _ _ _ _ _ _ _ _ _ _ _ _ _ _ _ _ _ _ _ _ _ _ _ _ _ _
    (fun j => blk0 m c t _ j _ rfl) (fun j => blk1 m c t _ j _ rfl) (fun j => blk2 m c t _ j _ rfl) (fun j => blk4 m c t _ j _ rfl) (fun j => blk5 m c t _ j _ rfl)
    (blk6 m c t _ _ _ rfl) ((blk7 m c t 0 _).trans (congrFun (V_main_arg6 m c) _)) (fun i j => (blk8 m c t i j).trans (V147_eq m c i j))
    (fun j => (blk12 m c t 0 j).trans (V149_eq m c j)) (fun i j => (blk13 m c t i j).trans (congrFun (V_main_arg10 m c) _))
    (fun i j => (blk14 m c t i j).trans (V150_eq m c i j)) (fun x => side_eq m c hf t hN _ _ rfl x))

/-- Every index of the result array is in some point's block. -/
theorem covered (i : main_v151.ty.Idx) : ∃ t : Fin cfg0.N, (cfg0.win 15).flush t = true ∧ i ∈ ((cfg0.win 15).blk t).view.set := by
  have hr : (i 0).val < 16384 := (i 0).isLt
  have hc : (i 1).val < 2048 := (i 1).isLt
  have hN : cfg0.N = 64 := N_0
  obtain ⟨t, ht⟩ : ∃ t : Fin cfg0.N, t.val = (i 0).val / 256 := ⟨⟨_, by omega⟩, rfl⟩
  obtain ⟨-, -, -, -, -, -, -, -, -, -, -, -, -, -, -, -, -, -, -, -, -, -, -, -, -, -, -, -, -, -, -, -, e0, e1⟩ := idx_facts t
  refine ⟨t, flush0_15 t, ?_⟩
  show i ∈ ((View.whole main_v151).slice (win0_15.rect t)).set
  rw [View.set_slice_whole, Rect.mem_set_unit]
  intro a
  match a with
  | ⟨0, _⟩ => show win0_15.index t (0 : Fin 2) * 256 ≤ (i 0).val ∧ (i 0).val < win0_15.index t (0 : Fin 2) * 256 + 256; omega
  | ⟨1, _⟩ => show win0_15.index t (1 : Fin 2) * 2048 ≤ (i 1).val ∧ (i 1).val < win0_15.index t (1 : Fin 2) * 2048 + 2048; omega

/-- The result array after the run is the reference's. -/
theorem final (c : Dev nD) (hf : Finite m c) : (dats m 0 c).arrAt 15 cfg0.N = RV m c :=
  (dats m 0 c).arrAt_eq_of_cover 15 (RV m c) (fun t _ => flushed_eq m c hf t) covered

/-- The run of the kernel with its result named. -/
theorem run (hf : ∀ c : Dev nD, Finite m c) : θ_run defs (onTc (τ := τ) (main (F := Ideal))) ⟨m, fun _ => 0, ρ⟩ fun r => ∀ c : Dev nD,
      r.2.mem ((c : Thread nD τ).loc main_v151) = RV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c (hf c)), (h c).2⟩) (run_blocks m ρ)

/-- The precondition read at an index: the pooling branch's activations are finite. -/
theorem finite_of_pre [Cert.Pre_pool_finite.Facts] (h : Cert.Pre_Kernel5Ideal_pool_finite m) (c : Dev nD) : Finite m c := fun r k => by
  have e := congrFun (h c) (ix2 r k)
  unfold Cert.Pre_pool_finite.fn at e
  pointwise at e
  have top : Ideal.ofBits .f32 0x7F800000#32 = ⊤ := by simp [Ideal.ofBits, Ideal.ieee]
  rw [top] at e
  by_contra n
  exact absurd ((congrArg BitVec.ofBool (decide_eq_false n)).symm.trans e) (by decide)

/-- The kernel and the reference, from memories that agree on the arguments and whose pooling activations are finite, both
    run and end with equal results. -/
theorem algebraic [Cert.Pre_pool_finite.Facts] : Cert.algebraic_Kernel5Ideal_Reference5Ideal_pre_pool_finite := fun m ρ m' ρ' hpre hag =>
  ⟨fun c => RV m c, run m ρ (finite_of_pre m hpre), (θ_run _ _ _).mono
    (fun _ h c => ⟨(h c).1.trans (by
      obtain ⟨a0, a1, a2, a3, a4, a5, a6, a7, a8, a9, a10, a11⟩ := hag c
      rw [Cert.Reference5Ideal.Read.val_main_v182_eq,
        show StableHlo.launchContents m' c (Proc.tc.devRef Cert.Reference5Ideal.main_arg0) = _ from a0,
        show StableHlo.launchContents m' c (Proc.tc.devRef Cert.Reference5Ideal.main_arg1) = _ from a1,
        show StableHlo.launchContents m' c (Proc.tc.devRef Cert.Reference5Ideal.main_arg2) = _ from a2,
        show StableHlo.launchContents m' c (Proc.tc.devRef Cert.Reference5Ideal.main_arg3) = _ from a3,
        show StableHlo.launchContents m' c (Proc.tc.devRef Cert.Reference5Ideal.main_arg4) = _ from a4,
        show StableHlo.launchContents m' c (Proc.tc.devRef Cert.Reference5Ideal.main_arg5) = _ from a5,
        show StableHlo.launchContents m' c (Proc.tc.devRef Cert.Reference5Ideal.main_arg6) = _ from a6,
        show StableHlo.launchContents m' c (Proc.tc.devRef Cert.Reference5Ideal.main_arg7) = _ from a7,
        show StableHlo.launchContents m' c (Proc.tc.devRef Cert.Reference5Ideal.main_arg8) = _ from a8,
        show StableHlo.launchContents m' c (Proc.tc.devRef Cert.Reference5Ideal.main_arg9) = _ from a9,
        show StableHlo.launchContents m' c (Proc.tc.devRef Cert.Reference5Ideal.main_arg10) = _ from a10,
        show StableHlo.launchContents m' c (Proc.tc.devRef Cert.Reference5Ideal.main_arg11) = _ from a11]), (h c).2⟩)
    (Cert.Reference5Ideal.Value.run m' ρ')⟩

end Cert.Proof.Merge

end
-- ==== Proof.FfnInnerBody.lean ====
/- The feed-forward half of the block, `_ffn` without the final norm: what its body leaves in the two scratches and in the output block, as
   the pure functions of the blocks it reads. At the first step of a row tile it stores the modulated norm and the
   product of step 0; at the later steps it adds a product; at the last it stores the sum with the residual. -/
module

public import proofs.«01_k».proof.Proof.Gen.Kernel6Ideal.Value
public import Idealize.ShloMosaic.Lib.MatmulPlain
public import Idealize.ShloMosaic.Lib.IdealHost
public import Idealize.ShloMosaic.Lib.Pointwise

@[expose] public section

set_option maxRecDepth 16384

noncomputable section

namespace Cert.Proof.FfnInner

open Cert.Kernel6Ideal Cert.Kernel6Ideal.Gen Cert.Kernel6Ideal.Value Idealize.ShloMosaic Idealize.ShloMosaic.TcCoe Idealize.SL.Sem

variable {F : FTy → Type} [FloatOps F]

theorem hz : (![0, 0] : Fin 2 → Nat) = fun _ => 0 := funext fun a => by fin_cases a <;> rfl

/-- The first step of a row tile stores the modulated norm of the rows. -/
theorem scrA0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S512x2048 .f32) (harg13 : arg13.IsWhole) (hc0 : cond0_0 i) (hc1 : ¬cond0_1 i)
    (x0 : Vec F S512x2048 .f32) (x1 : Vec F S1x2048 .f32) (x2 : Vec F S1x2048 .f32) (x3 : Vec F S1x2048 .f32) (x4 : Vec F S1x2048 .f32) (x5 : Vec F S1x2048 .f32) (x6 : Vec F S2048x512 .bf16) (x7 : Vec F S2048x512 .bf16) (x8 : Vec F S512x2048 .bf16) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = k0_pay1 x0 x1 x2 x3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x2048) hz, View.ld_unit_zero (S := S1x2048) hz, View.ld_unit_zero (S := S2048x512) hz]

/-- The first step of a row tile leaves in the accumulator the product of step 0 added to zero. -/
theorem scrA1 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S512x2048 .f32) (harg13 : arg13.IsWhole) (hc0 : cond0_0 i) (hc1 : ¬cond0_1 i)
    (x0 : Vec F S512x2048 .f32) (x1 : Vec F S1x2048 .f32) (x2 : Vec F S1x2048 .f32) (x3 : Vec F S1x2048 .f32) (x4 : Vec F S1x2048 .f32) (x5 : Vec F S1x2048 .f32) (x6 : Vec F S2048x512 .bf16) (x7 : Vec F S2048x512 .bf16) (x8 : Vec F S512x2048 .bf16) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = k0_pay3 (k0_pay1 x0 x1 x2 x3) x6 x7 k0_pay2 x8 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  sl_unfold_words
  rw [View.canon_cons_unit_zero (S := S512x2048) hz]
  simp only [View.readCov_unit_zero (S := S512x2048) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x2048) hz, View.ld_unit_zero (S := S1x2048) hz, View.ld_unit_zero (S := S2048x512) hz]

/-- A middle step adds its product to the accumulator. -/
theorem scrB1 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S512x2048 .f32) (harg13 : arg13.IsWhole) (hc0 : ¬cond0_0 i) (hc1 : ¬cond0_1 i)
    (x0 : Vec F S512x2048 .f32) (x1 : Vec F S1x2048 .f32) (x2 : Vec F S1x2048 .f32) (x3 : Vec F S1x2048 .f32) (x4 : Vec F S1x2048 .f32) (x5 : Vec F S1x2048 .f32) (x6 : Vec F S2048x512 .bf16) (x7 : Vec F S2048x512 .bf16) (x8 : Vec F S512x2048 .bf16) (xs0 : Vec F S512x2048 .bf16) (xs1 : Vec F S512x2048 .f32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay3 xs0 x6 x7 xs1 x8 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x2048) hz, View.ld_unit_zero (S := S1x2048) hz, View.ld_unit_zero (S := S2048x512) hz]

/-- The last step adds its product to the accumulator. -/
theorem scrC1 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S512x2048 .f32) (harg13 : arg13.IsWhole) (hc0 : ¬cond0_0 i) (hc1 : cond0_1 i)
    (x0 : Vec F S512x2048 .f32) (x1 : Vec F S1x2048 .f32) (x2 : Vec F S1x2048 .f32) (x3 : Vec F S1x2048 .f32) (x4 : Vec F S1x2048 .f32) (x5 : Vec F S1x2048 .f32) (x6 : Vec F S2048x512 .bf16) (x7 : Vec F S2048x512 .bf16) (x8 : Vec F S512x2048 .bf16) (xs0 : Vec F S512x2048 .bf16) (xs1 : Vec F S512x2048 .f32) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay3 xs0 x6 x7 xs1 x8 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x2048) hz, View.ld_unit_zero (S := S1x2048) hz, View.ld_unit_zero (S := S2048x512) hz]

/-- The last step stores the sum of the residual and the gated finished accumulator. -/
theorem outC9 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S512x2048 .f32) (harg13 : arg13.IsWhole) (hc0 : ¬cond0_0 i) (hc1 : cond0_1 i)
    (x0 : Vec F S512x2048 .f32) (x1 : Vec F S1x2048 .f32) (x2 : Vec F S1x2048 .f32) (x3 : Vec F S1x2048 .f32) (x4 : Vec F S1x2048 .f32) (x5 : Vec F S1x2048 .f32) (x6 : Vec F S2048x512 .bf16) (x7 : Vec F S2048x512 .bf16) (x8 : Vec F S512x2048 .bf16) (xs0 : Vec F S512x2048 .bf16) (xs1 : Vec F S512x2048 .f32) :
    out0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay4 x0 x4 (k0_pay3 xs0 x6 x7 xs1 x8) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  dsimp only
  sl_unfold_words
  rw [View.canon_unit_zero hz]
  simp only [View.readCov_unit_zero (S := S512x2048) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x2048) hz, View.ld_unit_zero (S := S1x2048) hz, View.ld_unit_zero (S := S2048x512) hz]

end Cert.Proof.FfnInner

end
-- ==== Proof.FfnInner.lean ====
/- The feed-forward half of the block, `_ffn` without the final norm: its payloads read at an index beside the reference's arrays. -/
module

public import proofs.«01_k».proof.Defs
public import proofs.«01_k».proof.Proof.FfnInnerBody
public import proofs.«01_k».proof.Proof.Gen.Reference6Ideal.Read
public import Idealize.ShloMosaic.Lib.StableHlo.ReadAt

@[expose] public section

set_option maxRecDepth 16384

noncomputable section

namespace Cert.Proof.FfnInner

open Cert.Kernel6Ideal Cert.Kernel6Ideal.Gen Cert.Kernel6Ideal.Value Idealize.ShloMosaic Idealize.ShloMosaic.TcCoe Idealize.SL.Sem

section payloads
open Cert.Reference6Ideal.Read

/-- An index of two coordinates is known by its coordinates. -/
theorem ix2_ext {n k : Nat} {i : (⟨2, ![n, k]⟩ : Shape).Idx} {a : Fin n} {b : Fin k} (h0 : (i 0).val = a.val) (h1 : (i 1).val = b.val) : i = ix2 a b :=
  funext fun x => Fin.ext (by match x with | ⟨0, _⟩ => exact h0 | ⟨1, _⟩ => exact h1)

variable (x0 : Vec Ideal S16384x2048 .f32) (x1 : Vec Ideal S2048 .f32) (x2 x3 x4 : Vec Ideal S1x2048 .f32)
  (x6 : Vec Ideal S2048x11264 .f32) (x7 : Vec Ideal S5632x2048 .f32)

/-- The norm stored at a row and a column, over blocks that hold the reference's rows. -/
theorem pay1_apply (X : Vec Ideal S512x2048 .f32) (G : Vec Ideal S1x2048 .f32)
    (r : Fin 512) (R : Fin 16384) (hX : ∀ k : Fin 2048, X (ix2 r k) = x0 (ix2 R k)) (hG : ∀ k : Fin 2048, G (ix2 0 k) = x1 (ix1 k)) (k : Fin 2048) :
    k0_pay1 X G x2 x3 (ix2 r k) = val_main_v18 (F := Ideal) x0 x1 x2 x3 (ix2 R k) := by
  unfold k0_pay1
  simp only [val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, val_main_cst_2_apply]
  pointwise
  have e1 : ∀ x : Fin 2048, idx_main_v1 (idx_main_v2 (idx_main_v8 (ix2 R k))) x = ix2 R x := fun x => ix2_ext rfl rfl
  have e2 : idx_main_v10 (idx_main_v11 (ix2 R k)) = ix1 k := funext fun a => by match a with | ⟨0, _⟩ => rfl
  have e3 : idx_main_v15 (ix2 R k) = ix2 0 k := ix2_ext rfl rfl
  have e4 : idx_main_v17 (ix2 R k) = ix2 0 k := ix2_ext rfl rfl
  simp only [e1, e2, e3, e4, hX, hG]

/-- One step's product added to the accumulator, over blocks that hold the reference's norm and weights. -/
theorem pay3_apply (H : Vec Ideal S512x2048 .bf16) (Wg Wu : Vec Ideal S2048x512 .bf16) (A : Vec Ideal S512x2048 .f32) (Wo : Vec Ideal S512x2048 .bf16)
    (r : Fin 512) (R : Fin 16384) (j : Fin 2048) (s : Fin 11)
    (hH : ∀ q : Fin 2048, H (ix2 r q) = val_main_v18 (F := Ideal) x0 x1 x2 x3 (ix2 R q))
    (hg : ∀ (q : Fin 2048) (k : Fin 512), Wg (ix2 q k) = x6 (ix2 q ⟨s.val * 512 + k.val, by omega⟩))
    (hu : ∀ (q : Fin 2048) (k : Fin 512), Wu (ix2 q k) = x6 (ix2 q ⟨5632 + (s.val * 512 + k.val), by omega⟩))
    (ho : ∀ (k : Fin 512), Wo (ix2 k j) = x7 (ix2 ⟨s.val * 512 + k.val, by omega⟩ j)) :
    k0_pay3 H Wg Wu A Wo (ix2 r j) = A (ix2 r j) + ∑ k : Fin 512, val_main_v23 (F := Ideal) x0 x1 x2 x3 x6 (ix2 R ⟨s.val * 512 + k.val, by omega⟩) * x7 (ix2 ⟨s.val * 512 + k.val, by omega⟩ j) := by
  unfold k0_pay3
  simp only [val_main_v23_apply, val_main_v22_apply, val_main_call0_v5_apply, val_main_call0_v4_apply, val_main_call0_v3_apply, val_main_call0_v2_apply, val_main_call0_v1_apply, val_main_call0_v0_apply, val_main_v21_apply, val_main_v20_apply, val_main_v19_apply, val_main_call0_cst_apply, val_main_call0_cst_0_apply]
  pointwise
  have e1 : ∀ (K : Fin 5632) (q : Fin 2048), lidx_main_v19 (idx_main_v20 (ix2 R K)) q = ix2 R q := fun K q => ix2_ext rfl rfl
  have e2 : ∀ (K : Fin 5632) (q : Fin 2048), ridx_main_v19 (idx_main_v20 (ix2 R K)) q = ix2 q ⟨K.val, by omega⟩ := fun K q => ix2_ext rfl rfl
  have e3 : ∀ (K : Fin 5632) (q : Fin 2048), lidx_main_v19 (idx_main_v21 (ix2 R K)) q = ix2 R q := fun K q => ix2_ext rfl rfl
  have e4 : ∀ (K : Fin 5632) (q : Fin 2048), ridx_main_v19 (idx_main_v21 (ix2 R K)) q = ix2 q ⟨5632 + K.val, by omega⟩ := fun K q => ix2_ext rfl rfl
  simp only [e1, e2, e3, e4, hH, hg, hu, ho, Ideal.logistic]

/-- The last step's output at a row and a column, over an accumulator that holds the whole product. -/
theorem pay4_apply (X A : Vec Ideal S512x2048 .f32)
    (r : Fin 512) (R : Fin 16384) (hX : ∀ k : Fin 2048, X (ix2 r k) = x0 (ix2 R k))
    (hA : ∀ k : Fin 2048, A (ix2 r k) = val_main_v24 (F := Ideal) x0 x1 x2 x3 x6 x7 (ix2 R k)) (k : Fin 2048) :
    k0_pay4 X x4 A (ix2 r k) = val_main_v27 (F := Ideal) x0 x1 x2 x3 x4 x6 x7 (ix2 R k) := by
  unfold k0_pay4
  simp only [val_main_v27_apply, val_main_v26_apply, val_main_v25_apply]
  pointwise
  have e3 : idx_main_v25 (ix2 R k) = ix2 0 k := ix2_ext rfl rfl
  simp only [e3, hX, hA]

/-- The eleven steps' products together are the reference's product. -/
theorem sum_steps (f : Fin 5632 → EReal) : ∑ s : Fin 11, ∑ k : Fin 512, f ⟨s.val * 512 + k.val, by omega⟩ = ∑ K : Fin 5632, f K := by
  rw [← Finset.sum_product', Finset.univ_product_univ]
  refine (Equiv.sum_comp (finProdFinEquiv (m := 11) (n := 512)) (fun K => f K)).symm.trans ?_ |>.symm
  refine Finset.sum_congr rfl fun p _ => congrArg f (Fin.ext ?_)
  show p.2.val + 512 * p.1.val = p.1.val * 512 + p.2.val
  omega

/-- The reference's product as the sum over the eleven steps. -/
theorem v24_steps (R : Fin 16384) (j : Fin 2048) :
    val_main_v24 (F := Ideal) x0 x1 x2 x3 x6 x7 (ix2 R j) = ∑ s : Fin 11, ∑ k : Fin 512, val_main_v23 (F := Ideal) x0 x1 x2 x3 x6 (ix2 R ⟨s.val * 512 + k.val, by omega⟩) * x7 (ix2 ⟨s.val * 512 + k.val, by omega⟩ j) := by
  rw [val_main_v24_apply, sum_steps (fun K => val_main_v23 (F := Ideal) x0 x1 x2 x3 x6 (ix2 R K) * x7 (ix2 K j))]
  refine Finset.sum_congr rfl fun K _ => ?_
  rw [show lidx_main_v24 (ix2 R j) K = ix2 R K from ix2_ext rfl rfl, show ridx_main_v24 (ix2 R j) K = ix2 K j from ix2_ext rfl rfl]

end payloads

variable (m : (ℓ : Loc nD τ sig) → Buf (Elt Ideal) ℓ) (ρ : Dev nD → PrngReg)

/-- The index maps over the grid: the row tile is `t / 11`, the step `t % 11`. -/
theorem idx_facts : ∀ t : Fin cfg0.N, (win0_0.index t (0 : Fin 2) = t.val / 11 ∧ win0_0.index t (1 : Fin 2) = 0)
    ∧ (win0_6.index t (0 : Fin 2) = 0 ∧ win0_6.index t (1 : Fin 2) = t.val % 11) ∧ (win0_7.index t (0 : Fin 2) = 0 ∧ win0_7.index t (1 : Fin 2) = t.val % 11 + 11)
    ∧ (win0_8.index t (0 : Fin 2) = t.val % 11 ∧ win0_8.index t (1 : Fin 2) = 0) ∧ (win0_9.index t (0 : Fin 2) = t.val / 11 ∧ win0_9.index t (1 : Fin 2) = 0) :=
  (by decide +kernel : ∀ t : Fin grid0.N, _)

/-- The index maps of the row vectors: always the one block. -/
theorem idx_vec : ∀ t : Fin cfg0.N, (win0_1.index t (0 : Fin 2) = 0 ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0) ∧ (win0_4.index t (0 : Fin 2) = 0 ∧ win0_4.index t (1 : Fin 2) = 0) ∧ (win0_5.index t (0 : Fin 2) = 0 ∧ win0_5.index t (1 : Fin 2) = 0) :=
  (by decide +kernel : ∀ t : Fin grid0.N, _)

abbrev a0 (c : Dev nD) : Vec Ideal S16384x2048 .f32 := m ((c : Thread nD τ).loc main_arg0)
abbrev a1 (c : Dev nD) : Vec Ideal S2048 .f32 := m ((c : Thread nD τ).loc main_arg1)
abbrev a2 (c : Dev nD) : Vec Ideal S1x2048 .f32 := m ((c : Thread nD τ).loc main_arg2)
abbrev a3 (c : Dev nD) : Vec Ideal S1x2048 .f32 := m ((c : Thread nD τ).loc main_arg3)
abbrev a4 (c : Dev nD) : Vec Ideal S1x2048 .f32 := m ((c : Thread nD τ).loc main_arg4)
abbrev a6 (c : Dev nD) : Vec Ideal S2048x11264 .f32 := m ((c : Thread nD τ).loc main_arg6)
abbrev a7 (c : Dev nD) : Vec Ideal S5632x2048 .f32 := m ((c : Thread nD τ).loc main_arg7)

theorem V_v0 (c : Dev nD) (k : Fin 2048) : V m c main_v0 (ix2 0 k) = a1 m c (ix1 k) := by
  unfold V
  after_reads_at
theorem V_v2 (c : Dev nD) (i : S2048x11264.Idx) : V m c main_v2 i = a6 m c i := by
  unfold V
  after_reads_at
theorem V_v3 (c : Dev nD) (i : S5632x2048.Idx) : V m c main_v3 i = a7 m c i := by
  unfold V
  after_reads_at

theorem blk0 (c : Dev nD) (t : Fin cfg0.N) (r : Fin 512) (k : Fin 2048) (R : Fin 16384) (hR : R.val = t.val / 11 * 512 + r.val) :
    iblk m c 0 t (ix2 r k) = a0 m c (ix2 R k) := by
  obtain ⟨⟨e0, e1⟩, -⟩ := idx_facts t
  show V m c main_arg0 (((cfg0.win 0).blk t).view.emb (ix2 r k)) = _
  rw [V_main_arg0]
  refine congrArg (a0 m c) (ix2_ext ?_ ?_)
  · show win0_0.index t (0 : Fin 2) * 512 + 1 * r.val = R.val; omega
  · show win0_0.index t (1 : Fin 2) * 2048 + 1 * k.val = k.val; omega

theorem blk1 (c : Dev nD) (t : Fin cfg0.N) (k : Fin 2048) : iblk m c 1 t (ix2 0 k) = a1 m c (ix1 k) := by
  obtain ⟨⟨e0, e1⟩, -⟩ := idx_vec t
  rw [← V_v0]
  refine congrArg (V m c main_v0) (ix2_ext ?_ ?_)
  · show win0_1.index t (0 : Fin 2) * 1 + 1 * 0 = 0; omega
  · show win0_1.index t (1 : Fin 2) * 2048 + 1 * k.val = k.val; omega

theorem blk2 (c : Dev nD) (t : Fin cfg0.N) : iblk m c 2 t = a2 m c := by
  obtain ⟨-, ⟨e0, e1⟩, -⟩ := idx_vec t
  funext i
  have h0 : (i 0).val < 1 := (i 0).isLt
  show V m c main_arg2 (((cfg0.win 2).blk t).view.emb i) = _
  rw [V_main_arg2]
  refine congrArg (a2 m c) (funext fun a => Fin.ext ?_)
  match a with
  | ⟨0, _⟩ => show win0_2.index t (0 : Fin 2) * 1 + 1 * (i 0).val = (i 0).val; omega
  | ⟨1, _⟩ => show win0_2.index t (1 : Fin 2) * 2048 + 1 * (i 1).val = (i 1).val; omega

theorem blk3 (c : Dev nD) (t : Fin cfg0.N) : iblk m c 3 t = a3 m c := by
  obtain ⟨-, -, ⟨e0, e1⟩, -⟩ := idx_vec t
  funext i
  have h0 : (i 0).val < 1 := (i 0).isLt
  show V m c main_arg3 (((cfg0.win 3).blk t).view.emb i) = _
  rw [V_main_arg3]
  refine congrArg (a3 m c) (funext fun a => Fin.ext ?_)
  match a with
  | ⟨0, _⟩ => show win0_3.index t (0 : Fin 2) * 1 + 1 * (i 0).val = (i 0).val; omega
  | ⟨1, _⟩ => show win0_3.index t (1 : Fin 2) * 2048 + 1 * (i 1).val = (i 1).val; omega

theorem blk4 (c : Dev nD) (t : Fin cfg0.N) : iblk m c 4 t = a4 m c := by
  obtain ⟨-, -, -, ⟨e0, e1⟩, -⟩ := idx_vec t
  funext i
  have h0 : (i 0).val < 1 := (i 0).isLt
  show V m c main_arg4 (((cfg0.win 4).blk t).view.emb i) = _
  rw [V_main_arg4]
  refine congrArg (a4 m c) (funext fun a => Fin.ext ?_)
  match a with
  | ⟨0, _⟩ => show win0_4.index t (0 : Fin 2) * 1 + 1 * (i 0).val = (i 0).val; omega
  | ⟨1, _⟩ => show win0_4.index t (1 : Fin 2) * 2048 + 1 * (i 1).val = (i 1).val; omega

theorem blk6 (c : Dev nD) (t : Fin cfg0.N) (q : Fin 2048) (k : Fin 512) (J : Fin 11264) (hJ : J.val = t.val % 11 * 512 + k.val) :
    iblk m c 6 t (ix2 q k) = a6 m c (ix2 q J) := by
  obtain ⟨-, ⟨e0, e1⟩, -⟩ := idx_facts t
  rw [← V_v2]
  refine congrArg (V m c main_v2) (ix2_ext ?_ ?_)
  · show win0_6.index t (0 : Fin 2) * 2048 + 1 * q.val = q.val; omega
  · show win0_6.index t (1 : Fin 2) * 512 + 1 * k.val = J.val; omega

theorem blk7 (c : Dev nD) (t : Fin cfg0.N) (q : Fin 2048) (k : Fin 512) (J : Fin 11264) (hJ : J.val = 5632 + (t.val % 11 * 512 + k.val)) :
    iblk m c 7 t (ix2 q k) = a6 m c (ix2 q J) := by
  obtain ⟨-, -, ⟨e0, e1⟩, -⟩ := idx_facts t
  rw [← V_v2]
  refine congrArg (V m c main_v2) (ix2_ext ?_ ?_)
  · show win0_7.index t (0 : Fin 2) * 2048 + 1 * q.val = q.val; omega
  · show win0_7.index t (1 : Fin 2) * 512 + 1 * k.val = J.val; omega

theorem blk8 (c : Dev nD) (t : Fin cfg0.N) (k : Fin 512) (j : Fin 2048) (J : Fin 5632) (hJ : J.val = t.val % 11 * 512 + k.val) :
    iblk m c 8 t (ix2 k j) = a7 m c (ix2 J j) := by
  obtain ⟨-, -, -, ⟨e0, e1⟩, -⟩ := idx_facts t
  rw [← V_v3]
  refine congrArg (V m c main_v3) (ix2_ext ?_ ?_)
  · show win0_8.index t (0 : Fin 2) * 512 + 1 * k.val = J.val; omega
  · show win0_8.index t (1 : Fin 2) * 2048 + 1 * j.val = j.val; omega

/-- The reference's modulated norm, over the arguments as launched. -/
abbrev Nrm (c : Dev nD) : Vec Ideal S16384x2048 .f32 := Cert.Reference6Ideal.Read.val_main_v18 (F := Ideal) (a0 m c) (a1 m c) (a2 m c) (a3 m c)
/-- The part of the reference's second product that step `s` adds, at a row and a column. -/
def step (c : Dev nD) (R : Fin 16384) (j : Fin 2048) (s : Nat) : EReal :=
  if hs : s < 11 then ∑ k : Fin 512, Cert.Reference6Ideal.Read.val_main_v23 (F := Ideal) (a0 m c) (a1 m c) (a2 m c) (a3 m c) (a6 m c) (ix2 R ⟨s * 512 + k.val, by omega⟩) * a7 m c (ix2 ⟨s * 512 + k.val, by omega⟩ j) else 0

/-- The payload of a point adds the point's step. -/
theorem pay3_step (c : Dev nD) (t : Fin cfg0.N) (H : Vec Ideal S512x2048 .bf16) (A : Vec Ideal S512x2048 .f32) (r : Fin 512) (j : Fin 2048)
    (R : Fin 16384) (hH : ∀ q : Fin 2048, H (ix2 r q) = Nrm m c (ix2 R q)) :
    k0_pay3 H (iblk m c 6 t) (iblk m c 7 t) A (iblk m c 8 t) (ix2 r j) = A (ix2 r j) + step m c R j (t.val % 11) := by
  have hs : t.val % 11 < 11 := Nat.mod_lt _ (by decide)
  unfold step
  rw [dif_pos hs]
  exact pay3_apply (a0 m c) (a1 m c) (a2 m c) (a3 m c) (a6 m c) (a7 m c) H (iblk m c 6 t) (iblk m c 7 t) A (iblk m c 8 t) r R j ⟨t.val % 11, hs⟩ hH
    (fun q k => blk6 m c t q k _ rfl) (fun q k => blk7 m c t q k _ rfl) (fun k => blk8 m c t k j _ rfl)

/-- What the scratches hold after point `n`: the norm of the row tile, and the sum of the steps so far. -/
theorem scratch_eq (c : Dev nD) : ∀ (n : Nat) (hn : n < cfg0.N) (r : Fin 512) (R : Fin 16384), R.val = n / 11 * 512 + r.val →
    (∀ q : Fin 2048, (outsAt0 m c n hn).2.1 (ix2 r q) = Nrm m c (ix2 R q))
    ∧ ∀ j : Fin 2048, (outsAt0 m c n hn).2.2 (ix2 r j) = ∑ s ∈ Finset.range (n % 11 + 1), step m c R j s := by
  have hA : ∀ (t : Fin cfg0.N), t.val % 11 = 0 → ∀ (r : Fin 512) (R : Fin 16384), R.val = t.val / 11 * 512 + r.val →
      (∀ q : Fin 2048, (outsAt0 m c t.val t.isLt).2.1 (ix2 r q) = Nrm m c (ix2 R q))
      ∧ ∀ j : Fin 2048, (outsAt0 m c t.val t.isLt).2.2 (ix2 r j) = ∑ s ∈ Finset.range (t.val % 11 + 1), step m c R j s := by
    intro t h0 r R hR
    have hN : ∀ q : Fin 2048, k0_pay1 (iblk m c 0 t) (iblk m c 1 t) (iblk m c 2 t) (iblk m c 3 t) (ix2 r q) = Nrm m c (ix2 R q) := by
      intro q
      rw [blk2, blk3]
      exact pay1_apply (a0 m c) (a1 m c) (a2 m c) (a3 m c) _ _ r R (fun k => blk0 m c t r k R hR) (fun k => blk1 m c t k) q
    rw [outsAt0_A m c t h0 (by omega)]
    dsimp only
    rw [scrA0, scrA1]
    refine ⟨hN, fun j => ?_⟩
    rw [pay3_step m c t _ _ r j R hN, h0, Finset.sum_range_one]
    unfold k0_pay2
    pointwise
  intro n
  induction n with
  | zero => exact fun hn => hA ⟨0, hn⟩ rfl
  | succ n ih =>
    intro hn r R hR
    by_cases h0 : (n + 1) % 11 = 0
    · exact hA ⟨n + 1, hn⟩ h0 r R hR
    obtain ⟨i0, i1⟩ := ih (Nat.lt_of_succ_lt hn) r R (by omega)
    have key : ∀ j : Fin 2048, k0_pay3 (outsAt0 m c n (Nat.lt_of_succ_lt hn)).2.1 (iblk m c 6 ⟨n + 1, hn⟩) (iblk m c 7 ⟨n + 1, hn⟩) (outsAt0 m c n (Nat.lt_of_succ_lt hn)).2.2 (iblk m c 8 ⟨n + 1, hn⟩) (ix2 r j)
        = ∑ s ∈ Finset.range ((n + 1) % 11 + 1), step m c R j s := by
      intro j
      rw [pay3_step m c ⟨n + 1, hn⟩ _ _ r j R i0, i1 j, show (n + 1) % 11 = n % 11 + 1 from by omega, Finset.sum_range_succ _ (n % 11 + 1)]
    by_cases h1 : (n + 1) % 11 = 10
    · rw [outsAt0_C m c ⟨n + 1, hn⟩ h0 h1]
      dsimp only
      rw [scrC1]
      exact ⟨i0, key⟩
    · rw [outsAt0_B m c ⟨n + 1, hn⟩ h0 h1]
      dsimp only
      rw [scrB1]
      exact ⟨i0, key⟩

/-- The reference's result over the arguments as launched. -/
abbrev RV (c : Dev nD) : Vec Ideal S16384x2048 .f32 :=
  Cert.Reference6Ideal.Read.val_main_v27 (F := Ideal) (a0 m c) (a1 m c) (a2 m c) (a3 m c) (a4 m c) (a6 m c) (a7 m c)

/-- What the last step of a row tile leaves in the output block. -/
theorem out_eq (c : Dev nD) (t : Fin cfg0.N) (h1 : t.val % 11 = 10) (r : Fin 512) (R : Fin 16384) (hR : R.val = t.val / 11 * 512 + r.val) (j : Fin 2048) :
    (outsAt0 m c t.val t.isLt).1 (ix2 r j) = RV m c (ix2 R j) := by
  obtain ⟨i0, i1⟩ := scratch_eq m c (t.val - 1) (Nat.lt_of_le_of_lt (Nat.sub_le _ _) t.isLt) r R (by omega)
  rw [outsAt0_C m c t (by omega) h1]
  dsimp only
  rw [outC9, blk4]
  refine pay4_apply (a0 m c) (a1 m c) (a2 m c) (a3 m c) (a4 m c) (a6 m c) (a7 m c) _ _ r R (fun k => blk0 m c t r k R hR) (fun k => ?_) j
  rw [pay3_step m c t _ _ r k R i0, i1 k, h1, show (t.val - 1) % 11 + 1 = 10 from by omega, ← Finset.sum_range_succ, v24_steps, Finset.sum_range]
  exact Finset.sum_congr rfl fun s _ => by unfold step; rw [dif_pos s.isLt]

/-- What a row tile's last point writes back is its block of the reference's result. -/
theorem flushed_eq (c : Dev nD) (t : Fin cfg0.N) (hf : (cfg0.win 9).flush t = true) :
    (dats m 0 c).flushed 9 t = ((cfg0.win 9).blk t).view.read (Elt Ideal) (RV m c) := by
  have hN : t.val < 352 := lt_of_lt_of_eq t.isLt (show cfg0.N = 352 from N_0)
  obtain ⟨-, -, -, -, e0, e1⟩ := idx_facts t
  rw [flushed9]
  funext y
  have hr : (y 0).val < 512 := (y 0).isLt
  have hc : (y 1).val < 2048 := (y 1).isLt
  have hy : y = ix2 (⟨(y 0).val, hr⟩ : Fin 512) (⟨(y 1).val, hc⟩ : Fin 2048) := ix2_ext rfl rfl
  show (outsAt0 m c t.val t.isLt).1 y = RV m c (((cfg0.win 9).blk t).view.emb y)
  have he : ((cfg0.win 9).blk t).view.emb y = ix2 (⟨t.val / 11 * 512 + (y 0).val, by omega⟩ : Fin 16384) (⟨(y 1).val, hc⟩ : Fin 2048) := by
    refine ix2_ext ?_ ?_
    · show win0_9.index t (0 : Fin 2) * 512 + 1 * (y 0).val = t.val / 11 * 512 + (y 0).val; omega
    · show win0_9.index t (1 : Fin 2) * 2048 + 1 * (y 1).val = (y 1).val; omega
  rw [he]
  exact (congrArg (outsAt0 m c t.val t.isLt).1 hy).trans (out_eq m c t ((flush0_9 t).mp hf) _ _ rfl _)

/-- Every index of the result array is in the block of its row tile's last point. -/
theorem covered (i : main_v4.ty.Idx) : ∃ t : Fin cfg0.N, (cfg0.win 9).flush t = true ∧ i ∈ ((cfg0.win 9).blk t).view.set := by
  have hr : (i 0).val < 16384 := (i 0).isLt
  have hc : (i 1).val < 2048 := (i 1).isLt
  have hN : cfg0.N = 352 := N_0
  obtain ⟨t, ht⟩ : ∃ t : Fin cfg0.N, t.val = (i 0).val / 512 * 11 + 10 := ⟨⟨_, by omega⟩, rfl⟩
  obtain ⟨-, -, -, -, e0, e1⟩ := idx_facts t
  refine ⟨t, (flush0_9 t).mpr (by omega), ?_⟩
  show i ∈ ((View.whole main_v4).slice (win0_9.rect t)).set
  rw [View.set_slice_whole, Rect.mem_set_unit]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 2048 ≤ (i 1).val ∧ (i 1).val < win0_9.index t (1 : Fin 2) * 2048 + 2048; omega

/-- The result array after the run is the reference's. -/
theorem final (c : Dev nD) : (dats m 0 c).arrAt 9 cfg0.N = RV m c :=
  (dats m 0 c).arrAt_eq_of_cover 9 (RV m c) (fun t hf => flushed_eq m c t hf) covered

/-- The kernel and the reference, from memories that agree on the arguments, both run and end with equal results. -/
theorem algebraic : Cert.algebraic_Kernel6Ideal_Reference6Ideal := fun m ρ m' ρ' _ hag =>
  ⟨fun c => RV m c, (θ_run defs _ _).mono (fun r h c => ⟨(h c).1.trans (final m c), (h c).2⟩) (run_blocks m ρ), (θ_run _ _ _).mono
    (fun _ h c => ⟨(h c).1.trans (by
      obtain ⟨h0, h1, h2, h3, h4, h5, h6, h7⟩ := hag c
      rw [Cert.Reference6Ideal.Read.val_main_v27_eq, h0, h1, h2, h3, h4, h6, h7]), (h c).2⟩)
    (Cert.Reference6Ideal.Value.run m' ρ')⟩

end Cert.Proof.FfnInner

end
-- ==== Proof.ScanBackRun.lean ====
/-
One call of the recurrence's kernel that goes from the last row to the first: the tiles are taken from the last, and in
a tile the rows from the bottom. Read upside down a tile goes as the forward kernel's does, so its recursion, its
factors and its terms are the forward ones; the state between tiles is a recursion over the tiles again.
-/
module

public import proofs.«01_k».proof.Proof.ScanRun
public import proofs.«01_k».proof.Proof.Gen.Kernel7Ideal.Frame
public import proofs.«01_k».proof.Proof.Gen.Kernel7Ideal.Loops
public import proofs.«01_k».proof.Proof.Gen.Kernel7Ideal.Skeleton
public import proofs.«01_k».proof.Proof.Gen.Kernel7Ideal.Points
public import Idealize.ShloMosaic.Lib.Pipeline.TableIdle
public import Idealize.ShloMosaic.Lib.Ring
public import Idealize.ShloMosaic.Lib.Pipeline.Value
public import Idealize.ShloMosaic.Lib.WordCmp
public import Idealize.ShloMosaic.Lib.WritesUnit
public import Idealize.ShloMosaic.Lib.Pipeline.ValueKit.Tiles
public import Idealize.ShloMosaic.Lib.Pointwise
public import Idealize.ShloMosaic.Lib.Claim

@[expose] public section

set_option maxRecDepth 16384

noncomputable section

namespace Cert.Proof.ScanBackRun

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.ScanRun (rowOf hRow xwin wrow0 wrow1 wrow2 wrow3 head0 head1 head2 head3 head4 head5 head6 head7 v28T v43T v104T aTile bTile hz)
open Idealize.ShloMosaic.Pipeline (Dat Cfg Window BodyObligation cellOf)

variable {F : FTy → Type} [FloatOps F]

local notation "𝕄" => MT nD τ sig Unit (Elt F) ℕ (UR sig nD τ) ℕ

/-! ## Rows of a tile, and the state after each of them -/

/-- A tile upside down. -/
def upend (X : Vec F S256x1024 .f32) : Vec F S256x1024 .f32 :=
  fun y => X (ix2 (⟨255 - (y 0).val, by have := (y 0).isLt; omega⟩ : Fin 256) (⟨(y 1).val, (y 1).isLt⟩ : Fin 1024))

/-- What the recurrence leaves in the tile: at row `t`, the state after the rows from the bottom up to and with `t`. -/
def outTile (A B : Vec F S256x1024 .f32) (h0 : Vec F S1x1024 .f32) : Vec F S256x1024 .f32 :=
  fun y => hRow (upend A) (upend B) h0 (256 - (y 0).val) (ix2 (0 : Fin 1) (⟨(y 1).val, (y 1).isLt⟩ : Fin 1024))

theorem trips_le : k0_t1_loop.trips ≤ 32 := k0_t1_abs.2.1

theorem trips_eq : k0_t1_loop.trips = 32 := by decide +kernel

/-- A load of one row of a tile reads that row, counted from the bottom. -/
theorem readAt_row (v : View sig .tc .vmem S256x1024 .f32) (X : v.ty.Contents (Elt F)) (k : Fin k0_t1_loop.trips) (q : ℕ) (r : Fin 8) (hq : q + r.val = 7)
    (inb : ∀ a, (k0_off1 k (BitVec.ofNat 32 r.val)) a + S1x1024.size a ≤ S256x1024.size a) :
    v.readAt (Elt F) (Rect.unit (s := S256x1024) (k0_off1 k (BitVec.ofNat 32 r.val)) S1x1024.size inb).toLoadRect X = rowOf (upend (v.read (Elt F) X)) (8 * k.val + q) := by
  have hk : k.val < 32 := Nat.lt_of_lt_of_le k.isLt trips_le
  funext j
  rw [View.readAt_eq_ld, View.ld_apply]
  unfold rowOf upend
  congr 1
  have h0 : (k0_off1 k (BitVec.ofNat 32 r.val)) 0 = r.val + 248 - 8 * k.val := congrFun (k0_off1_eq k r) 0
  have h1 : (k0_off1 k (BitVec.ofNat 32 r.val)) 1 = 0 := congrFun (k0_off1_eq k r) 1
  have hj : (j 0).val < 1 := (j 0).isLt
  funext a
  apply Fin.ext
  match a with
  | 0 =>
    show (k0_off1 k (BitVec.ofNat 32 r.val)) 0 + 1 * (j 0).val = 255 - (8 * k.val + q) % 256
    rw [h0]; have := r.isLt; omega
  | 1 =>
    show (k0_off1 k (BitVec.ofNat 32 r.val)) 1 + 1 * (j 1).val = (j 1).val
    rw [h1]; omega

/-- What a load of row `r` of trip `k` reads. -/
abbrev rdRow (v : View sig .tc .vmem S256x1024 .f32) (X : v.ty.Contents (Elt F)) (k : Fin k0_t1_loop.trips) (r : ℕ) (hr : r < 8) : Vec F S1x1024 .f32 :=
  v.readAt (Elt F) (Rect.unit (s := S256x1024) (k0_off1 k (BitVec.ofNat 32 r)) S1x1024.size (k0_off1_inb k ⟨r, hr⟩)).toLoadRect X

/-- It is the row, counted from the bottom. -/
theorem readRow (v : View sig .tc .vmem S256x1024 .f32) (X : v.ty.Contents (Elt F)) (k : Fin k0_t1_loop.trips) (q r : ℕ) (hr : r < 8) (hq : q + r = 7) :
    rdRow v X k r hr = rowOf (upend (v.read (Elt F) X)) (8 * k.val + q) :=
  readAt_row v X k q ⟨r, hr⟩ hq _

/-- Reading after a store of one row: the row's payload there, elsewhere what was there. -/
theorem read_row1 (v : View sig .tc .vmem S256x1024 .f32) (f : v.ty.Contents (Elt F)) (k : Fin k0_t1_loop.trips) (r : ℕ) (hr : r < 8)
    (w : Vec F S1x1024 .f32) (L : List (View.Piece (Elt F) S256x1024 .f32)) (y : S256x1024.Idx) :
    v.read (Elt F) (v.writes (Elt F) f ((⟨Rect.unit (s := S256x1024) (k0_off1 k (BitVec.ofNat 32 r)) S1x1024.size (k0_off1_inb k ⟨r, hr⟩), w⟩ : View.Piece (Elt F) S256x1024 .f32) :: L)) y
      = if (y 0).val = 8 * (31 - k.val) + r then w (ix2 (0 : Fin 1) (⟨(y 1).val, (y 1).isLt⟩ : Fin 1024)) else v.read (Elt F) (v.writes (Elt F) f L) y := by
  have hk : k.val < 32 := Nat.lt_of_lt_of_le k.isLt trips_le
  split
  · next h =>
    exact View.read_writes_cons_rows_of_mem v f _ w L y (ix2 (0 : Fin 1) (⟨(y 1).val, (y 1).isLt⟩ : Fin 1024)) (k0_off1_eq k ⟨r, hr⟩)
      (by rw [h]; show 8 * (31 - k.val) + r = r + 248 - 8 * k.val + 0; omega) rfl
  · next h =>
    exact View.read_writes_cons_rows_of_not_mem (W := 1) v f _ w L y (k0_off1_eq k ⟨r, hr⟩) rfl (by
      have hne : (y 0).val ≠ 8 * (31 - k.val) + r := h
      show (y 0).val < r + 248 - 8 * k.val ∨ r + 248 - 8 * k.val + 1 ≤ (y 0).val
      omega)

section Trip

variable (𝒱 : Variants) (c : Dev nD) (bd : Option 𝒱.V) (i : grid0.Coords) (arg1 : Memref sig .tc .vmem S256x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S272x1024 .f32) (harg12 : arg12.IsWhole) (arg13 : Memref sig .tc .vmem S256x1024 .f32) (harg13 : arg13.IsWhole) (arg14 : Memref sig .tc .vmem S256x1024 .f32) (harg14 : arg14.IsWhole) (arg15 : Memref sig .tc .vmem S1x1024 .f32) (harg15 : arg15.IsWhole) (c0_i32_72 c1_i32 : BitVec 32) (A : BufTy.Contents (Elt F) arg13.view.ty) (B : BufTy.Contents (Elt F) arg14.view.ty)

/-- One trip's result: the state eight rows on. -/
theorem tripR_eq (k : Fin k0_t1_loop.trips) (h0 : Vec F S1x1024 .f32) :
    tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 c0_i32_72 c1_i32 A B k (hRow (upend (arg13.view.read (Elt F) A)) (upend (arg14.view.read (Elt F) B)) h0 (8 * k.val))
      = hRow (upend (arg13.view.read (Elt F) A)) (upend (arg14.view.read (Elt F) B)) h0 (8 * k.val + 8) := by
  have e : tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 c0_i32_72 c1_i32 A B k (hRow (upend (arg13.view.read (Elt F) A)) (upend (arg14.view.read (Elt F) B)) h0 (8 * k.val))
      = (k0_pay4 (k0_pay4 (k0_pay4 (k0_pay4 (k0_pay4 (k0_pay4 (k0_pay4 (k0_pay4 (hRow (upend (arg13.view.read (Elt F) A)) (upend (arg14.view.read (Elt F) B)) h0 (8 * k.val)) (rdRow arg13.view A k 7 (by decide)) (rdRow arg14.view B k 7 (by decide))) (rdRow arg13.view A k 6 (by decide)) (rdRow arg14.view B k 6 (by decide))) (rdRow arg13.view A k 5 (by decide)) (rdRow arg14.view B k 5 (by decide))) (rdRow arg13.view A k 4 (by decide)) (rdRow arg14.view B k 4 (by decide))) (rdRow arg13.view A k 3 (by decide)) (rdRow arg14.view B k 3 (by decide))) (rdRow arg13.view A k 2 (by decide)) (rdRow arg14.view B k 2 (by decide))) (rdRow arg13.view A k 1 (by decide)) (rdRow arg14.view B k 1 (by decide))) (rdRow arg13.view A k 0 (by decide)) (rdRow arg14.view B k 0 (by decide))) := by
    unfold tripR_k0_t1 trip_k0_t1
    dsimp only
    rfl
  rw [e, readRow arg13.view A k 0 7 (by decide) rfl, readRow arg14.view B k 0 7 (by decide) rfl, readRow arg13.view A k 1 6 (by decide) rfl, readRow arg14.view B k 1 6 (by decide) rfl, readRow arg13.view A k 2 5 (by decide) rfl, readRow arg14.view B k 2 5 (by decide) rfl, readRow arg13.view A k 3 4 (by decide) rfl, readRow arg14.view B k 3 4 (by decide) rfl, readRow arg13.view A k 4 3 (by decide) rfl, readRow arg14.view B k 4 3 (by decide) rfl, readRow arg13.view A k 5 2 (by decide) rfl, readRow arg14.view B k 5 2 (by decide) rfl, readRow arg13.view A k 6 1 (by decide) rfl, readRow arg14.view B k 6 1 (by decide) rfl, readRow arg13.view A k 7 0 (by decide) rfl, readRow arg14.view B k 7 0 (by decide) rfl]
  rfl

/-- One trip's stores: the eight states, each at its row. -/
theorem tripL_eq (k : Fin k0_t1_loop.trips) (h0 : Vec F S1x1024 .f32) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 c0_i32_72 c1_i32 A B k (hRow (upend (arg13.view.read (Elt F) A)) (upend (arg14.view.read (Elt F) B)) h0 (8 * k.val))
      = [(⟨Rect.unit (s := S256x1024) (k0_off1 k 0#32) S1x1024.size (k0_off1_inb k ⟨0, by decide⟩), hRow (upend (arg13.view.read (Elt F) A)) (upend (arg14.view.read (Elt F) B)) h0 (8 * k.val + 8)⟩ : View.Piece (Elt F) S256x1024 .f32), (⟨Rect.unit (s := S256x1024) (k0_off1 k 1#32) S1x1024.size (k0_off1_inb k ⟨1, by decide⟩), hRow (upend (arg13.view.read (Elt F) A)) (upend (arg14.view.read (Elt F) B)) h0 (8 * k.val + 7)⟩ : View.Piece (Elt F) S256x1024 .f32), (⟨Rect.unit (s := S256x1024) (k0_off1 k 2#32) S1x1024.size (k0_off1_inb k ⟨2, by decide⟩), hRow (upend (arg13.view.read (Elt F) A)) (upend (arg14.view.read (Elt F) B)) h0 (8 * k.val + 6)⟩ : View.Piece (Elt F) S256x1024 .f32), (⟨Rect.unit (s := S256x1024) (k0_off1 k 3#32) S1x1024.size (k0_off1_inb k ⟨3, by decide⟩), hRow (upend (arg13.view.read (Elt F) A)) (upend (arg14.view.read (Elt F) B)) h0 (8 * k.val + 5)⟩ : View.Piece (Elt F) S256x1024 .f32), (⟨Rect.unit (s := S256x1024) (k0_off1 k 4#32) S1x1024.size (k0_off1_inb k ⟨4, by decide⟩), hRow (upend (arg13.view.read (Elt F) A)) (upend (arg14.view.read (Elt F) B)) h0 (8 * k.val + 4)⟩ : View.Piece (Elt F) S256x1024 .f32), (⟨Rect.unit (s := S256x1024) (k0_off1 k 5#32) S1x1024.size (k0_off1_inb k ⟨5, by decide⟩), hRow (upend (arg13.view.read (Elt F) A)) (upend (arg14.view.read (Elt F) B)) h0 (8 * k.val + 3)⟩ : View.Piece (Elt F) S256x1024 .f32), (⟨Rect.unit (s := S256x1024) (k0_off1 k 6#32) S1x1024.size (k0_off1_inb k ⟨6, by decide⟩), hRow (upend (arg13.view.read (Elt F) A)) (upend (arg14.view.read (Elt F) B)) h0 (8 * k.val + 2)⟩ : View.Piece (Elt F) S256x1024 .f32), (⟨Rect.unit (s := S256x1024) (k0_off1 k 7#32) S1x1024.size (k0_off1_inb k ⟨7, by decide⟩), hRow (upend (arg13.view.read (Elt F) A)) (upend (arg14.view.read (Elt F) B)) h0 (8 * k.val + 1)⟩ : View.Piece (Elt F) S256x1024 .f32)] := by
  have e : tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 c0_i32_72 c1_i32 A B k (hRow (upend (arg13.view.read (Elt F) A)) (upend (arg14.view.read (Elt F) B)) h0 (8 * k.val))
      = [(⟨Rect.unit (s := S256x1024) (k0_off1 k 0#32) S1x1024.size (k0_off1_inb k ⟨0, by decide⟩), (k0_pay4 (k0_pay4 (k0_pay4 (k0_pay4 (k0_pay4 (k0_pay4 (k0_pay4 (k0_pay4 (hRow (upend (arg13.view.read (Elt F) A)) (upend (arg14.view.read (Elt F) B)) h0 (8 * k.val)) (rdRow arg13.view A k 7 (by decide)) (rdRow arg14.view B k 7 (by decide))) (rdRow arg13.view A k 6 (by decide)) (rdRow arg14.view B k 6 (by decide))) (rdRow arg13.view A k 5 (by decide)) (rdRow arg14.view B k 5 (by decide))) (rdRow arg13.view A k 4 (by decide)) (rdRow arg14.view B k 4 (by decide))) (rdRow arg13.view A k 3 (by decide)) (rdRow arg14.view B k 3 (by decide))) (rdRow arg13.view A k 2 (by decide)) (rdRow arg14.view B k 2 (by decide))) (rdRow arg13.view A k 1 (by decide)) (rdRow arg14.view B k 1 (by decide))) (rdRow arg13.view A k 0 (by decide)) (rdRow arg14.view B k 0 (by decide)))⟩ : View.Piece (Elt F) S256x1024 .f32), (⟨Rect.unit (s := S256x1024) (k0_off1 k 1#32) S1x1024.size (k0_off1_inb k ⟨1, by decide⟩), (k0_pay4 (k0_pay4 (k0_pay4 (k0_pay4 (k0_pay4 (k0_pay4 (k0_pay4 (hRow (upend (arg13.view.read (Elt F) A)) (upend (arg14.view.read (Elt F) B)) h0 (8 * k.val)) (rdRow arg13.view A k 7 (by decide)) (rdRow arg14.view B k 7 (by decide))) (rdRow arg13.view A k 6 (by decide)) (rdRow arg14.view B k 6 (by decide))) (rdRow arg13.view A k 5 (by decide)) (rdRow arg14.view B k 5 (by decide))) (rdRow arg13.view A k 4 (by decide)) (rdRow arg14.view B k 4 (by decide))) (rdRow arg13.view A k 3 (by decide)) (rdRow arg14.view B k 3 (by decide))) (rdRow arg13.view A k 2 (by decide)) (rdRow arg14.view B k 2 (by decide))) (rdRow arg13.view A k 1 (by decide)) (rdRow arg14.view B k 1 (by decide)))⟩ : View.Piece (Elt F) S256x1024 .f32), (⟨Rect.unit (s := S256x1024) (k0_off1 k 2#32) S1x1024.size (k0_off1_inb k ⟨2, by decide⟩), (k0_pay4 (k0_pay4 (k0_pay4 (k0_pay4 (k0_pay4 (k0_pay4 (hRow (upend (arg13.view.read (Elt F) A)) (upend (arg14.view.read (Elt F) B)) h0 (8 * k.val)) (rdRow arg13.view A k 7 (by decide)) (rdRow arg14.view B k 7 (by decide))) (rdRow arg13.view A k 6 (by decide)) (rdRow arg14.view B k 6 (by decide))) (rdRow arg13.view A k 5 (by decide)) (rdRow arg14.view B k 5 (by decide))) (rdRow arg13.view A k 4 (by decide)) (rdRow arg14.view B k 4 (by decide))) (rdRow arg13.view A k 3 (by decide)) (rdRow arg14.view B k 3 (by decide))) (rdRow arg13.view A k 2 (by decide)) (rdRow arg14.view B k 2 (by decide)))⟩ : View.Piece (Elt F) S256x1024 .f32), (⟨Rect.unit (s := S256x1024) (k0_off1 k 3#32) S1x1024.size (k0_off1_inb k ⟨3, by decide⟩), (k0_pay4 (k0_pay4 (k0_pay4 (k0_pay4 (k0_pay4 (hRow (upend (arg13.view.read (Elt F) A)) (upend (arg14.view.read (Elt F) B)) h0 (8 * k.val)) (rdRow arg13.view A k 7 (by decide)) (rdRow arg14.view B k 7 (by decide))) (rdRow arg13.view A k 6 (by decide)) (rdRow arg14.view B k 6 (by decide))) (rdRow arg13.view A k 5 (by decide)) (rdRow arg14.view B k 5 (by decide))) (rdRow arg13.view A k 4 (by decide)) (rdRow arg14.view B k 4 (by decide))) (rdRow arg13.view A k 3 (by decide)) (rdRow arg14.view B k 3 (by decide)))⟩ : View.Piece (Elt F) S256x1024 .f32), (⟨Rect.unit (s := S256x1024) (k0_off1 k 4#32) S1x1024.size (k0_off1_inb k ⟨4, by decide⟩), (k0_pay4 (k0_pay4 (k0_pay4 (k0_pay4 (hRow (upend (arg13.view.read (Elt F) A)) (upend (arg14.view.read (Elt F) B)) h0 (8 * k.val)) (rdRow arg13.view A k 7 (by decide)) (rdRow arg14.view B k 7 (by decide))) (rdRow arg13.view A k 6 (by decide)) (rdRow arg14.view B k 6 (by decide))) (rdRow arg13.view A k 5 (by decide)) (rdRow arg14.view B k 5 (by decide))) (rdRow arg13.view A k 4 (by decide)) (rdRow arg14.view B k 4 (by decide)))⟩ : View.Piece (Elt F) S256x1024 .f32), (⟨Rect.unit (s := S256x1024) (k0_off1 k 5#32) S1x1024.size (k0_off1_inb k ⟨5, by decide⟩), (k0_pay4 (k0_pay4 (k0_pay4 (hRow (upend (arg13.view.read (Elt F) A)) (upend (arg14.view.read (Elt F) B)) h0 (8 * k.val)) (rdRow arg13.view A k 7 (by decide)) (rdRow arg14.view B k 7 (by decide))) (rdRow arg13.view A k 6 (by decide)) (rdRow arg14.view B k 6 (by decide))) (rdRow arg13.view A k 5 (by decide)) (rdRow arg14.view B k 5 (by decide)))⟩ : View.Piece (Elt F) S256x1024 .f32), (⟨Rect.unit (s := S256x1024) (k0_off1 k 6#32) S1x1024.size (k0_off1_inb k ⟨6, by decide⟩), (k0_pay4 (k0_pay4 (hRow (upend (arg13.view.read (Elt F) A)) (upend (arg14.view.read (Elt F) B)) h0 (8 * k.val)) (rdRow arg13.view A k 7 (by decide)) (rdRow arg14.view B k 7 (by decide))) (rdRow arg13.view A k 6 (by decide)) (rdRow arg14.view B k 6 (by decide)))⟩ : View.Piece (Elt F) S256x1024 .f32), (⟨Rect.unit (s := S256x1024) (k0_off1 k 7#32) S1x1024.size (k0_off1_inb k ⟨7, by decide⟩), (k0_pay4 (hRow (upend (arg13.view.read (Elt F) A)) (upend (arg14.view.read (Elt F) B)) h0 (8 * k.val)) (rdRow arg13.view A k 7 (by decide)) (rdRow arg14.view B k 7 (by decide)))⟩ : View.Piece (Elt F) S256x1024 .f32)] := by
    unfold tripL_k0_t1 trip_k0_t1
    dsimp only
    rfl
  rw [e]
  simp only [readRow arg13.view A k 0 7 (by decide) rfl, readRow arg14.view B k 0 7 (by decide) rfl, readRow arg13.view A k 1 6 (by decide) rfl, readRow arg14.view B k 1 6 (by decide) rfl, readRow arg13.view A k 2 5 (by decide) rfl, readRow arg14.view B k 2 5 (by decide) rfl, readRow arg13.view A k 3 4 (by decide) rfl, readRow arg14.view B k 3 4 (by decide) rfl, readRow arg13.view A k 4 3 (by decide) rfl, readRow arg14.view B k 4 3 (by decide) rfl, readRow arg13.view A k 5 2 (by decide) rfl, readRow arg14.view B k 5 2 (by decide) rfl, readRow arg13.view A k 6 1 (by decide) rfl, readRow arg14.view B k 6 1 (by decide) rfl, readRow arg13.view A k 7 0 (by decide) rfl, readRow arg14.view B k 7 0 (by decide) rfl]
  rfl

/-- The carried value before trip `k` is the state after `8 k` rows. -/
theorem st_fst (h0 : Vec F S1x1024 .f32) : ∀ k : ℕ, k ≤ k0_t1_loop.trips →
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 c0_i32_72 c1_i32 A B h0 k).1 = hRow (upend (arg13.view.read (Elt F) A)) (upend (arg14.view.read (Elt F) B)) h0 (8 * k)
  | 0, _ => rfl
  | k + 1, hk => by
    have e := st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 c0_i32_72 c1_i32 A B h0 ⟨k, hk⟩
    rw [show (⟨k, hk⟩ : Fin k0_t1_loop.trips).val + 1 = k + 1 from rfl] at e
    rw [e]
    show tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 c0_i32_72 c1_i32 A B ⟨k, hk⟩ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 c0_i32_72 c1_i32 A B h0 k).1 = _
    rw [st_fst h0 k (by omega)]
    exact tripR_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 c0_i32_72 c1_i32 A B ⟨k, hk⟩ h0

/-- The rows stored before trip `k` read as the recurrence's tile. -/
theorem st_read (h0 : Vec F S1x1024 .f32) (v : View sig .tc .vmem S256x1024 .f32) (f : v.ty.Contents (Elt F)) : ∀ k : ℕ, k ≤ k0_t1_loop.trips →
    ∀ y : S256x1024.Idx, 256 - 8 * k ≤ (y 0).val →
    v.read (Elt F) (v.writes (Elt F) f (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 c0_i32_72 c1_i32 A B h0 k).2) y
      = outTile (arg13.view.read (Elt F) A) (arg14.view.read (Elt F) B) h0 y
  | 0, _ => fun y hy => absurd (show (y 0).val < 256 from (y 0).isLt) (by omega)
  | k + 1, hk => fun y hy => by
    have e := st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 c0_i32_72 c1_i32 A B h0 ⟨k, hk⟩
    rw [show (⟨k, hk⟩ : Fin k0_t1_loop.trips).val + 1 = k + 1 from rfl] at e
    rw [e]
    show v.read (Elt F) (v.writes (Elt F) f (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 c0_i32_72 c1_i32 A B ⟨k, hk⟩ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 c0_i32_72 c1_i32 A B h0 k).1
      ++ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 c0_i32_72 c1_i32 A B h0 k).2)) y = _
    rw [st_fst 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 c0_i32_72 c1_i32 A B h0 k (by omega)]
    have el := tripL_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 c0_i32_72 c1_i32 A B ⟨k, hk⟩ h0
    rw [show (⟨k, hk⟩ : Fin k0_t1_loop.trips).val = k from rfl] at el
    rw [el]
    simp only [List.cons_append, List.nil_append]
    rw [read_row1 v f ⟨k, hk⟩ 0 (by decide), read_row1 v f ⟨k, hk⟩ 1 (by decide), read_row1 v f ⟨k, hk⟩ 2 (by decide), read_row1 v f ⟨k, hk⟩ 3 (by decide), read_row1 v f ⟨k, hk⟩ 4 (by decide), read_row1 v f ⟨k, hk⟩ 5 (by decide), read_row1 v f ⟨k, hk⟩ 6 (by decide), read_row1 v f ⟨k, hk⟩ 7 (by decide)]
    have hk' : k < 32 := Nat.lt_of_lt_of_le hk trips_le
    have hy256 : (y 0).val < 256 := (y 0).isLt
    by_cases hlt : 256 - 8 * k ≤ (y 0).val
    · rw [if_neg (by show ¬ (y 0).val = 8 * (31 - k) + 0; omega), if_neg (by show ¬ (y 0).val = 8 * (31 - k) + 1; omega), if_neg (by show ¬ (y 0).val = 8 * (31 - k) + 2; omega), if_neg (by show ¬ (y 0).val = 8 * (31 - k) + 3; omega), if_neg (by show ¬ (y 0).val = 8 * (31 - k) + 4; omega), if_neg (by show ¬ (y 0).val = 8 * (31 - k) + 5; omega), if_neg (by show ¬ (y 0).val = 8 * (31 - k) + 6; omega), if_neg (by show ¬ (y 0).val = 8 * (31 - k) + 7; omega)]
      exact st_read h0 v f k (by omega) y hlt
    · obtain ⟨r, hr, hy'⟩ : ∃ r, r < 8 ∧ (y 0).val = 8 * (31 - k) + r := ⟨(y 0).val - 8 * (31 - k), by omega, by omega⟩
      unfold outTile
      rw [show 256 - (y 0).val = 8 * k + (8 - r) by omega, hy']
      interval_cases r <;> simp

/-- So the loop leaves the recurrence's tile, -/
theorem st_out (h0 : Vec F S1x1024 .f32) (v : View sig .tc .vmem S256x1024 .f32) (f : v.ty.Contents (Elt F)) :
    v.read (Elt F) (v.writes (Elt F) f (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 c0_i32_72 c1_i32 A B h0 k0_t1_loop.trips).2)
      = outTile (arg13.view.read (Elt F) A) (arg14.view.read (Elt F) B) h0 := by
  funext y
  have hy : (y 0).val < 256 := (y 0).isLt
  exact st_read 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 c0_i32_72 c1_i32 A B h0 v f k0_t1_loop.trips le_rfl y (by rw [trips_eq]; omega)

/-- and yields the state after the tile's last row. -/
theorem st_carry (h0 : Vec F S1x1024 .f32) :
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 c0_i32_72 c1_i32 A B h0 k0_t1_loop.trips).1
      = hRow (upend (arg13.view.read (Elt F) A)) (upend (arg14.view.read (Elt F) B)) h0 256 := by
  rw [st_fst 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 c0_i32_72 c1_i32 A B h0 k0_t1_loop.trips le_rfl, trips_eq]

end Trip

/-! ## What one point computes -/

/-- The forward kernel's point that has this point's tile. -/
def rev (i : grid0.Coords) : Cert.KernelIdeal.grid0.Coords := fun a => match a with
  | ⟨0, _⟩ => ⟨63 - (i 0).val, by have h : (i 0).val < 64 := (i 0).isLt; show 63 - (i 0).val < 64; omega⟩

theorem word_rev : ∀ n : Fin 64, Scalar.subi 63#32 (BitVec.ofNat 32 n.val) = BitVec.ofNat 32 (63 - n.val) := by decide +kernel

/-- The rows before a tile are zeros at the same tile as in the forward kernel, -/
theorem pre_eq (i : grid0.Coords) (x : Vec F S8x1024 .f32) : k0_pay12 i x = Cert.KernelIdeal.Gen.k0_pay10 (rev i) x := by
  unfold k0_pay12
  dsimp only
  rw [show Scalar.subi 63#32 (BitVec.ofNat 32 (i 0).val) = BitVec.ofNat 32 (63 - (i 0).val) from word_rev ⟨(i 0).val, (i 0).isLt⟩]
  rfl

/-- and so are the rows after it. -/
theorem post_eq (i : grid0.Coords) (x : Vec F S8x1024 .f32) : k0_pay14 i x = Cert.KernelIdeal.Gen.k0_pay12 (rev i) x := by
  unfold k0_pay14
  dsimp only
  rw [show Scalar.subi 63#32 (BitVec.ofNat 32 (i 0).val) = BitVec.ofNat 32 (63 - (i 0).val) from word_rev ⟨(i 0).val, (i 0).isLt⟩]
  rfl

/-- A buffer filled by one store reads as what was stored. -/
theorem read_fill (v : View sig .tc .vmem S256x1024 .f32) (f : v.ty.Contents (Elt F)) (w : Vec F S256x1024 .f32) (inb : ∀ a, (![0, 0] : Fin 2 → ℕ) a + S256x1024.size a ≤ S256x1024.size a) :
    v.read (Elt F) (v.writes (Elt F) f [(⟨Rect.unit (s := S256x1024) ![0, 0] S256x1024.size inb, w⟩ : View.Piece (Elt F) S256x1024 .f32)]) = w := by
  rw [View.read_writes_eq_canon _ _ _ (View.cover_of_tiled _ S256x1024.size (by rfl)), View.canon_unit_zero hz]

/-- The body's condition: the first tile. -/
def cond (i : grid0.Coords) : BitVec 1 := Scalar.cmpi .ne (Scalar.extui (Scalar.cmpi .eq (BitVec.ofNat 32 (i 0).val) 0#32)) 0#32

set_option maxHeartbeats 1000000 in
/-- The body at the first tile: the state starts from the given one. -/
theorem run_first (c : Dev nD) (E : Set ℕ) (i : grid0.Coords) (hc : cond i = 1#1) (arg1 : Memref sig .tc .vmem S256x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S272x1024 .f32) (harg12 : arg12.IsWhole) (arg13 : Memref sig .tc .vmem S256x1024 .f32) (harg13 : arg13.IsWhole) (arg14 : Memref sig .tc .vmem S256x1024 .f32) (harg14 : arg14.IsWhole) (arg15 : Memref sig .tc .vmem S1x1024 .f32) (harg15 : arg15.IsWhole) (x1 : Vec F S256x1024 .f32) (x2 x3 : Vec F S8x1024 .f32) (x4 : Vec F S4x1024 .f32) (x5 : Vec F S1x1024 .f32) (x6 : Vec F S8x128x256 .bf16) (x7 x8 x9 : Vec F S1x1024 .f32) (x10 : Vec F S1x1024 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outTile (aTile (rev i) x1 x2 x3 x4 x5 x6 x7 x8 x9) (bTile (rev i) x1 x2 x3 x4 x5 x6 x7 x8 x9) (k0_pay11 x10)) ∗ (∃ d, owns (c : Thread nD τ) arg12 fullShare d) ∗ (∃ d, owns (c : Thread nD τ) arg13 fullShare d) ∗ (∃ d, owns (c : Thread nD τ) arg14 fullShare d)
            ∗ owns (c : Thread nD τ) arg15 fullShare (k0_pay3 (hRow (upend (aTile (rev i) x1 x2 x3 x4 x5 x6 x7 x8 x9)) (upend (bTile (rev i) x1 x2 x3 x4 x5 x6 x7 x8 x9)) (k0_pay11 x10) 256))) -∗ K ⟨⟩))
      ⊢ wp frame (wpE (defs₀ (F := F)) Variants.none c none) E (cc0_scan_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  unfold cond at hc
  simp only [cc0_scan_bwd_eq_skeleton]; unfold cc0_scan_bwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, Hk⟩
  subst hf1 hf2 hf3 hf4 hf5 hf6 hf7 hf8 hf9 hf10
  sl_exec (disch := first | sl_exact hc)
  sl_step
  have ev25 : run_first.sl.v25 c i arg1 arg2 arg3 arg12 f1 f2 f3 = xwin 6 (by decide) (rev i) (arg1.view.read (Elt F) f1) (arg2.view.read (Elt F) f2) (arg3.view.read (Elt F) f3) := by
    delta run_first.sl.v25 run_first.sl.H12_3
    rw [View.readCov_eq_canon']
    simp only [View.readAt_eq_ld, View.ld_unit_zero (S := S256x1024) hz, View.ld_unit_zero (S := S8x1024) hz, View.ld_unit_zero (S := S1x1024) hz, pre_eq, post_eq]
    rfl
  have ev31 : run_first.sl.v31 c i arg1 arg2 arg3 arg12 f1 f2 f3 = xwin 7 (by decide) (rev i) (arg1.view.read (Elt F) f1) (arg2.view.read (Elt F) f2) (arg3.view.read (Elt F) f3) := by
    delta run_first.sl.v31 run_first.sl.H12_3
    rw [View.readCov_eq_canon']
    simp only [View.readAt_eq_ld, View.ld_unit_zero (S := S256x1024) hz, View.ld_unit_zero (S := S8x1024) hz, View.ld_unit_zero (S := S1x1024) hz, pre_eq, post_eq]
    rfl
  have ev36 : run_first.sl.v36 c i arg1 arg2 arg3 arg12 f1 f2 f3 = xwin 8 (by decide) (rev i) (arg1.view.read (Elt F) f1) (arg2.view.read (Elt F) f2) (arg3.view.read (Elt F) f3) := by
    delta run_first.sl.v36 run_first.sl.H12_3
    rw [View.readCov_eq_canon']
    simp only [View.readAt_eq_ld, View.ld_unit_zero (S := S256x1024) hz, View.ld_unit_zero (S := S8x1024) hz, View.ld_unit_zero (S := S1x1024) hz, pre_eq, post_eq]
    rfl
  have ev41 : run_first.sl.v41 c i arg1 arg2 arg3 arg12 f1 f2 f3 = xwin 9 (by decide) (rev i) (arg1.view.read (Elt F) f1) (arg2.view.read (Elt F) f2) (arg3.view.read (Elt F) f3) := by
    delta run_first.sl.v41 run_first.sl.H12_3
    rw [View.readCov_eq_canon']
    simp only [View.readAt_eq_ld, View.ld_unit_zero (S := S256x1024) hz, View.ld_unit_zero (S := S8x1024) hz, View.ld_unit_zero (S := S1x1024) hz, pre_eq, post_eq]
    rfl
  have er : run_first.sl.r c i arg1 arg2 arg3 arg4 arg5 arg12 f1 f2 f3 f4 f5 = v28T (rev i) (arg1.view.read (Elt F) f1) (arg2.view.read (Elt F) f2) (arg3.view.read (Elt F) f3) (arg4.view.read (Elt F) f4) (arg5.view.read (Elt F) f5) := by
    delta run_first.sl.r
    rw [ev25]
    simp only [View.readAt_eq_ld, View.ld_unit_zero (S := S256x1024) hz, View.ld_unit_zero (S := S8x1024) hz, View.ld_unit_zero (S := S1x1024) hz]
    rfl
  have er1 : run_first.sl.r_1 c i arg1 arg2 arg3 arg4 arg5 arg12 f1 f2 f3 f4 f5 = v43T (rev i) (arg1.view.read (Elt F) f1) (arg2.view.read (Elt F) f2) (arg3.view.read (Elt F) f3) (arg4.view.read (Elt F) f4) (arg5.view.read (Elt F) f5) := by
    delta run_first.sl.r_1
    rw [er, ev31, ev36, ev41]
    rfl
  have eA : ∀ g, arg13.view.read (Elt F) (arg13.view.writes (Elt F) g (run_first.sl.H13_1 c i arg1 arg2 arg3 arg4 arg5 arg6 arg7 arg9 arg12 f1 f2 f3 f4 f5 f6 f7 f9)) = aTile (rev i) (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) := by
    intro g
    delta run_first.sl.H13_1
    rw [read_fill]
    delta run_first.sl.r_13 run_first.sl.r_14 run_first.sl.r_2 run_first.sl.r_4 run_first.sl.r_6
    dsimp only
    simp only [er, er1, ev31, ev36, ev41, View.readAt_eq_ld, View.ld_unit_zero (S := S256x1024) hz, View.ld_unit_zero (S := S8x1024) hz, View.ld_unit_zero (S := S1x1024) hz]
    rfl
  have eB : ∀ g, arg14.view.read (Elt F) (arg14.view.writes (Elt F) g (run_first.sl.H14_1 c i arg1 arg2 arg3 arg4 arg5 arg6 arg7 arg8 arg9 arg12 f1 f2 f3 f4 f5 f6 f7 f8 f9)) = bTile (rev i) (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) := by
    intro g
    delta run_first.sl.H14_1
    rw [read_fill]
    delta run_first.sl.r_13 run_first.sl.r_14 run_first.sl.r_2 run_first.sl.r_4 run_first.sl.r_6 run_first.sl.r_3 run_first.sl.r_5 run_first.sl.r_7 run_first.sl.r_8 run_first.sl.r_9 run_first.sl.r_10 run_first.sl.r_11 run_first.sl.r_12
    dsimp only
    simp only [er, er1, ev31, ev36, ev41, pre_eq, post_eq, View.readAt_eq_ld, View.ld_unit_zero (S := S256x1024) hz, View.ld_unit_zero (S := S8x1024) hz, View.ld_unit_zero (S := S1x1024) hz]
    rfl
  have eH : run_first.sl.v142 c arg10 arg15 f10 = k0_pay11 (arg10.view.read (Elt F) f10) := by
    delta run_first.sl.v142 run_first.sl.H15_1
    rw [View.readCov_unit_zero (S := S1x1024) _ hz]
    simp only [View.readAt_eq_ld, View.ld_unit_zero (S := S256x1024) hz, View.ld_unit_zero (S := S8x1024) hz, View.ld_unit_zero (S := S1x1024) hz]
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (st_out _ _ _ _ _ _ _ _ _ _ _ _ _ _ _ _ _ _ _ _ _ _ _ _ _ _ _ _ _ _ _ _ _ _ _ _ _ _ _ arg11.view _).trans ?_
    rw [eA, eB]
    rw [eH]
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  · iexists _; isplitr
    swap; · iexact H15
    ipureintro
    rw [View.read_writes_eq_canon _ _ _ (View.cover_of_tiled _ S1x1024.size (by rfl)), View.canon_cons_unit_zero (S := S1x1024) hz]
    refine congrArg k0_pay3 ((st_carry _ _ _ _ _ _ _ _ _ _ _ _ _ _ _ _ _ _ _ _ _ _ _ _ _ _ _ _ _ _ _ _ _ _ _ _ _ _ _).trans ?_)
    rw [eA, eB]
    rw [eH]

set_option maxHeartbeats 1000000 in
/-- The body at a later tile: the state is the one the tile before left. -/
theorem run_rest (c : Dev nD) (E : Set ℕ) (i : grid0.Coords) (hc : ¬ cond i = 1#1) (arg1 : Memref sig .tc .vmem S256x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S272x1024 .f32) (harg12 : arg12.IsWhole) (arg13 : Memref sig .tc .vmem S256x1024 .f32) (harg13 : arg13.IsWhole) (arg14 : Memref sig .tc .vmem S256x1024 .f32) (harg14 : arg14.IsWhole) (arg15 : Memref sig .tc .vmem S1x1024 .f32) (harg15 : arg15.IsWhole) (x1 : Vec F S256x1024 .f32) (x2 x3 : Vec F S8x1024 .f32) (x4 : Vec F S4x1024 .f32) (x5 : Vec F S1x1024 .f32) (x6 : Vec F S8x128x256 .bf16) (x7 x8 x9 : Vec F S1x1024 .f32) (x10 : Vec F S1x1024 .f32) (h0 : Vec F S1x1024 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare h0
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outTile (aTile (rev i) x1 x2 x3 x4 x5 x6 x7 x8 x9) (bTile (rev i) x1 x2 x3 x4 x5 x6 x7 x8 x9) h0) ∗ (∃ d, owns (c : Thread nD τ) arg12 fullShare d) ∗ (∃ d, owns (c : Thread nD τ) arg13 fullShare d) ∗ (∃ d, owns (c : Thread nD τ) arg14 fullShare d)
            ∗ owns (c : Thread nD τ) arg15 fullShare (k0_pay3 (hRow (upend (aTile (rev i) x1 x2 x3 x4 x5 x6 x7 x8 x9)) (upend (bTile (rev i) x1 x2 x3 x4 x5 x6 x7 x8 x9)) h0 256))) -∗ K ⟨⟩))
      ⊢ wp frame (wpE (defs₀ (F := F)) Variants.none c none) E (cc0_scan_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  unfold cond at hc
  simp only [cc0_scan_bwd_eq_skeleton]; unfold cc0_scan_bwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, Hk⟩
  subst hf1 hf2 hf3 hf4 hf5 hf6 hf7 hf8 hf9 hf10 hf15
  sl_exec (disch := first | sl_exact hc)
  sl_step
  have ev25 : run_rest.sl.v25 c i arg1 arg2 arg3 arg12 f1 f2 f3 = xwin 6 (by decide) (rev i) (arg1.view.read (Elt F) f1) (arg2.view.read (Elt F) f2) (arg3.view.read (Elt F) f3) := by
    delta run_rest.sl.v25 run_rest.sl.H12_3
    rw [View.readCov_eq_canon']
    simp only [View.readAt_eq_ld, View.ld_unit_zero (S := S256x1024) hz, View.ld_unit_zero (S := S8x1024) hz, View.ld_unit_zero (S := S1x1024) hz, pre_eq, post_eq]
    rfl
  have ev31 : run_rest.sl.v31 c i arg1 arg2 arg3 arg12 f1 f2 f3 = xwin 7 (by decide) (rev i) (arg1.view.read (Elt F) f1) (arg2.view.read (Elt F) f2) (arg3.view.read (Elt F) f3) := by
    delta run_rest.sl.v31 run_rest.sl.H12_3
    rw [View.readCov_eq_canon']
    simp only [View.readAt_eq_ld, View.ld_unit_zero (S := S256x1024) hz, View.ld_unit_zero (S := S8x1024) hz, View.ld_unit_zero (S := S1x1024) hz, pre_eq, post_eq]
    rfl
  have ev36 : run_rest.sl.v36 c i arg1 arg2 arg3 arg12 f1 f2 f3 = xwin 8 (by decide) (rev i) (arg1.view.read (Elt F) f1) (arg2.view.read (Elt F) f2) (arg3.view.read (Elt F) f3) := by
    delta run_rest.sl.v36 run_rest.sl.H12_3
    rw [View.readCov_eq_canon']
    simp only [View.readAt_eq_ld, View.ld_unit_zero (S := S256x1024) hz, View.ld_unit_zero (S := S8x1024) hz, View.ld_unit_zero (S := S1x1024) hz, pre_eq, post_eq]
    rfl
  have ev41 : run_rest.sl.v41 c i arg1 arg2 arg3 arg12 f1 f2 f3 = xwin 9 (by decide) (rev i) (arg1.view.read (Elt F) f1) (arg2.view.read (Elt F) f2) (arg3.view.read (Elt F) f3) := by
    delta run_rest.sl.v41 run_rest.sl.H12_3
    rw [View.readCov_eq_canon']
    simp only [View.readAt_eq_ld, View.ld_unit_zero (S := S256x1024) hz, View.ld_unit_zero (S := S8x1024) hz, View.ld_unit_zero (S := S1x1024) hz, pre_eq, post_eq]
    rfl
  have er : run_rest.sl.r c i arg1 arg2 arg3 arg4 arg5 arg12 f1 f2 f3 f4 f5 = v28T (rev i) (arg1.view.read (Elt F) f1) (arg2.view.read (Elt F) f2) (arg3.view.read (Elt F) f3) (arg4.view.read (Elt F) f4) (arg5.view.read (Elt F) f5) := by
    delta run_rest.sl.r
    rw [ev25]
    simp only [View.readAt_eq_ld, View.ld_unit_zero (S := S256x1024) hz, View.ld_unit_zero (S := S8x1024) hz, View.ld_unit_zero (S := S1x1024) hz]
    rfl
  have er1 : run_rest.sl.r_1 c i arg1 arg2 arg3 arg4 arg5 arg12 f1 f2 f3 f4 f5 = v43T (rev i) (arg1.view.read (Elt F) f1) (arg2.view.read (Elt F) f2) (arg3.view.read (Elt F) f3) (arg4.view.read (Elt F) f4) (arg5.view.read (Elt F) f5) := by
    delta run_rest.sl.r_1
    rw [er, ev31, ev36, ev41]
    rfl
  have eA : ∀ g, arg13.view.read (Elt F) (arg13.view.writes (Elt F) g (run_rest.sl.H13_1 c i arg1 arg2 arg3 arg4 arg5 arg6 arg7 arg9 arg12 f1 f2 f3 f4 f5 f6 f7 f9)) = aTile (rev i) (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) := by
    intro g
    delta run_rest.sl.H13_1
    rw [read_fill]
    delta run_rest.sl.r_13 run_rest.sl.r_14 run_rest.sl.r_2 run_rest.sl.r_4 run_rest.sl.r_6
    dsimp only
    simp only [er, er1, ev31, ev36, ev41, View.readAt_eq_ld, View.ld_unit_zero (S := S256x1024) hz, View.ld_unit_zero (S := S8x1024) hz, View.ld_unit_zero (S := S1x1024) hz]
    rfl
  have eB : ∀ g, arg14.view.read (Elt F) (arg14.view.writes (Elt F) g (run_rest.sl.H14_1 c i arg1 arg2 arg3 arg4 arg5 arg6 arg7 arg8 arg9 arg12 f1 f2 f3 f4 f5 f6 f7 f8 f9)) = bTile (rev i) (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) := by
    intro g
    delta run_rest.sl.H14_1
    rw [read_fill]
    delta run_rest.sl.r_13 run_rest.sl.r_14 run_rest.sl.r_2 run_rest.sl.r_4 run_rest.sl.r_6 run_rest.sl.r_3 run_rest.sl.r_5 run_rest.sl.r_7 run_rest.sl.r_8 run_rest.sl.r_9 run_rest.sl.r_10 run_rest.sl.r_11 run_rest.sl.r_12
    dsimp only
    simp only [er, er1, ev31, ev36, ev41, pre_eq, post_eq, View.readAt_eq_ld, View.ld_unit_zero (S := S256x1024) hz, View.ld_unit_zero (S := S8x1024) hz, View.ld_unit_zero (S := S1x1024) hz]
    rfl
  have eH : View.readAt (Elt F) arg15.view (Rect.unit (s := S1x1024) ![0, 0] S1x1024.size inb_S1x1024_S1x1024_0_0).toLoadRect f15 = arg15.view.read (Elt F) f15 := by
    rw [View.readAt_eq_ld, View.ld_unit_zero (S := S1x1024) hz]
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (st_out _ _ _ _ _ _ _ _ _ _ _ _ _ _ _ _ _ _ _ _ _ _ _ _ _ _ _ _ _ _ _ _ _ _ _ _ _ _ _ arg11.view _).trans ?_
    rw [eA, eB]
    exact congrArg (fun h => outTile (aTile (rev i) (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9)) (bTile (rev i) (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9)) h) eH
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  · iexists _; isplitr
    swap; · iexact H15
    ipureintro
    rw [View.read_writes_eq_canon _ _ _ (View.cover_of_tiled _ S1x1024.size (by rfl)), View.canon_cons_unit_zero (S := S1x1024) hz]
    refine congrArg k0_pay3 ((st_carry _ _ _ _ _ _ _ _ _ _ _ _ _ _ _ _ _ _ _ _ _ _ _ _ _ _ _ _ _ _ _ _ _ _ _ _ _ _ _).trans ?_)
    rw [eA, eB]
    exact congrArg (fun h => hRow (upend (aTile (rev i) (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9))) (upend (bTile (rev i) (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9))) h 256) eH

/-! ## The carried state, tile by tile -/

variable (m : (ℓ : Loc nD τ sig) → Buf (Elt F) ℓ) (ρ : Dev nD → PrngReg)

/-- The body's condition holds exactly at the first tile. -/
theorem first_iff : ∀ t : Fin cfg0.N, cond (grid0.coords t) = 1#1 ↔ t.val = 0 := by decide +kernel

/-- The recurrence's factors at tile `t`. -/
def aAt (c : Dev nD) (t : Fin cfg0.N) : Vec F S256x1024 .f32 := aTile (rev (grid0.coords t)) (iblk m c 0 t) (iblk m c 1 t) (iblk m c 2 t) (iblk m c 3 t) (iblk m c 4 t) (iblk m c 5 t) (iblk m c 6 t) (iblk m c 7 t) (iblk m c 8 t)

/-- The recurrence's terms at tile `t`. -/
def bAt (c : Dev nD) (t : Fin cfg0.N) : Vec F S256x1024 .f32 := bTile (rev (grid0.coords t)) (iblk m c 0 t) (iblk m c 1 t) (iblk m c 2 t) (iblk m c 3 t) (iblk m c 4 t) (iblk m c 5 t) (iblk m c 6 t) (iblk m c 7 t) (iblk m c 8 t)

/-- The state after the first `n` tiles. -/
def carry (c : Dev nD) : ℕ → Vec F S1x1024 .f32
  | 0 => k0_pay11 (iblk m c 9 ⟨0, by decide⟩)
  | n + 1 => if h : n < cfg0.N then k0_pay3 (hRow (upend (aAt m c ⟨n, h⟩)) (upend (bAt m c ⟨n, h⟩)) (carry c n) 256) else carry c n

theorem carry_succ (c : Dev nD) (t : Fin cfg0.N) : carry m c (t.val + 1) = k0_pay3 (hRow (upend (aAt m c t)) (upend (bAt m c t)) (carry m c t.val) 256) := by
  show (if h : t.val < cfg0.N then _ else _) = _
  rw [dif_pos t.isLt]

theorem carry_first (c : Dev nD) (t : Fin cfg0.N) (h : t.val = 0) : carry m c t.val = k0_pay11 (iblk m c 9 t) := by
  obtain ⟨n, hn⟩ := t
  dsimp only at h
  subst h
  rfl

/-- What tile `t` leaves in the output's buffer. -/
def outAt (c : Dev nD) (t : Fin cfg0.N) : Vec F S256x1024 .f32 := outTile (aAt m c t) (bAt m c t) (carry m c t.val)

/-! ## The pipeline's proof data -/

/-- The four scratches. -/
abbrev scM0_0 : Memref sig .tc .vmem S272x1024 .f32 := Memref.whole cc0_scratch0
abbrev scM0_1 : Memref sig .tc .vmem S256x1024 .f32 := Memref.whole cc0_scratch1
abbrev scM0_2 : Memref sig .tc .vmem S256x1024 .f32 := Memref.whole cc0_scratch2
abbrev scM0_3 : Memref sig .tc .vmem S1x1024 .f32 := Memref.whole cc0_scratch3

theorem PhiA0_eq (c : Dev nD) : (Pipeline.ΦA spec0 c : sProp 𝕄)
    = iprop(iprop((∃ d, owns (c : Thread nD τ) scM0_0 fullShare d) ∗ (∃ d, owns (c : Thread nD τ) scM0_1 fullShare d) ∗ (∃ d, owns (c : Thread nD τ) scM0_2 fullShare d)
        ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- Between points: before the first the scratches at anything; after `n` tiles the last one at the state after them. -/
def PhiS (c : Dev nD) : (n : ℕ) → n ≤ cfg0.N → sProp 𝕄
  | 0, _ => Pipeline.ΦA spec0 c
  | n + 1, _ => iprop(iprop((∃ d, owns (c : Thread nD τ) scM0_0 fullShare d) ∗ (∃ d, owns (c : Thread nD τ) scM0_1 fullShare d) ∗ (∃ d, owns (c : Thread nD τ) scM0_2 fullShare d)
        ∗ owns (c : Thread nD τ) scM0_3 fullShare (carry m c (n + 1))) ∗ (∃ r, prngReg c r))

theorem PhiS_zero (c : Dev nD) (n : ℕ) (hn : n ≤ cfg0.N) (h : n = 0) : PhiS m c n hn = Pipeline.ΦA spec0 c := by subst h; rfl

theorem PhiS_pos (c : Dev nD) (n : ℕ) (hn : n ≤ cfg0.N) (h : n ≠ 0) : PhiS m c n hn
    = iprop(iprop((∃ d, owns (c : Thread nD τ) scM0_0 fullShare d) ∗ (∃ d, owns (c : Thread nD τ) scM0_1 fullShare d) ∗ (∃ d, owns (c : Thread nD τ) scM0_2 fullShare d)
        ∗ owns (c : Thread nD τ) scM0_3 fullShare (carry m c n)) ∗ (∃ r, prngReg c r)) := by
  cases n with
  | zero => exact absurd rfl h
  | succ n => rfl

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = PhiS m c (t.val + 1) t.isLt from rfl, PhiS_pos m c (t.val + 1) t.isLt (Nat.succ_ne_zero _), PhiS_castSucc,
    show (dats m 0 c).owesAt () t.succ = (dats m 0 c).owesAt () t.castSucc from rfl,
    after_0, after_1, after_2, after_3, after_4, after_5, after_6, after_7, after_8, after_9, after_10]
  by_cases h : t.val = 0
  · rw [PhiS_zero m c t.val _ h, PhiA0_eq]
    iintro ⟨⟨⟨⟨%s0, HS0⟩, ⟨%s1, HS1⟩, ⟨%s2, HS2⟩, ⟨%s3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_first c Set.univ (grid0.coords t) ((first_iff t).mpr h) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexists _; iexact HS0
    isplitl [HS1]; · iexists _; iexact HS1
    isplitl [HS2]; · iexists _; iexact HS2
    isplitl [HS3]; · iexists _; iexact HS3
    iintro ⟨H0, H1, H2, H3, H4, H5, H6, H7, H8, H9, H10, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        rw [carry_succ]; rw [carry_first m c t h]; iexact HS3
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    rw [outAt, carry_first m c t h]; iexact H10
  · rw [PhiS_pos m c t.val _ h]
    iintro ⟨⟨⟨⟨%s0, HS0⟩, ⟨%s1, HS1⟩, ⟨%s2, HS2⟩, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_rest c Set.univ (grid0.coords t) (fun e => h ((first_iff t).mp e)) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (carry m c t.val) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexists _; iexact HS0
    isplitl [HS1]; · iexists _; iexact HS1
    isplitl [HS2]; · iexists _; iexact HS2
    isplitl [HS3]; · iexact HS3
    iintro ⟨H0, H1, H2, H3, H4, H5, H6, H7, H8, H9, H10, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        rw [carry_succ]; iexact HS3
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots is the body at `t`. -/
theorem row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The run and the frame -/

theorem hin (c : Dev nD) : Pipeline.ΦA spec0 c ⊢ (dats (F := F) m 0 c).Φ 0 := by
  rw [show (dats m 0 c).Φ 0 = PhiS m c 0 (Nat.zero_le _) from rfl, PhiS_zero m c 0 _ rfl]
  try exact Idealize.SL.BI.Entails.refl _

theorem hout (c : Dev nD) : (dats (F := F) m 0 c).Φ (Fin.last cfg0.N) ⊢ Pipeline.ΦA spec0 c := by
  rw [show (dats m 0 c).Φ (Fin.last cfg0.N) = PhiS m c cfg0.N (le_refl _) from rfl, PhiS_pos m c cfg0.N _ (by decide), PhiA0_eq]
  iintro ⟨⟨H0, H1, H2, H3⟩, Hg⟩
  isplitl [H0 H1 H2 H3]
  · isplitl [H0]; · iexact H0
    isplitl [H1]; · iexact H1
    isplitl [H2]; · iexact H2
    iexists _; iexact H3
  · iexact Hg

set_option backward.isDefEq.respectTransparency.types false in
set_option maxHeartbeats 800000 in
/-- The launch: every array ends at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every argument array ends as it started and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.Proof.ScanBackRun

end
-- ==== Proof.ScanBackRunBits.lean ====
/-
The frame of the backward recurrence's kernel as printed. Idealization applied no rule, so the printed program is the
idealized one at every type of floats, and the run by hand of the idealized one, at bits, is the printed one's.
-/
module

public import proofs.«01_k».proof.Proof.ScanBackRun
public import proofs.«01_k».proof.Proof.Gen.Kernel7.Frame

@[expose] public section

set_option maxRecDepth 65536

noncomputable section

namespace Cert.Proof.ScanBackRunBits

open Cert.Kernel7 Cert.Kernel7.Gen
open Idealize.ShloMosaic Idealize.ShloMosaic.TcCoe
open Idealize.SL.Sem

variable {F : FTy → Type} [FloatOps F]

/-- The two kernels' bodies are one program. -/
theorem body_same : cc0_scan_bwd (F := F) = Cert.Kernel7Ideal.cc0_scan_bwd (F := F) := rfl

/-- So are their body tables, -/
theorem table_same : defs₀ (F := F) = Cert.Kernel7Ideal.defs₀ (F := F) := by
  unfold defs₀ Cert.Kernel7Ideal.defs₀
  refine congrArg (Defs.onTc (τ := τ)) ?_
  funext l x
  match l, x with
  | 0, (t, s) => rfl

/-- with the pipeline's region, -/
theorem defs_same : defs (F := F) = Cert.Kernel7Ideal.defs (F := F) :=
  congrArg (Pipeline.defs (pcfgs (F := F))) table_same

/-- and the programs that call them. -/
theorem main_same : main (F := F) = Cert.Kernel7Ideal.main (F := F) := rfl

variable (m : (ℓ : Loc nD τ sig) → Buf (Elt Bits) ℓ) (ρ : Dev nD → PrngReg)

/-- The frame: every argument array ends as it started and every counter at zero. -/
theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  rw [defs_same, main_same]
  exact Cert.Proof.ScanBackRun.frame (F := Bits) m ρ

end Cert.Proof.ScanBackRunBits

end
-- ==== Proof.ScanBackRef.lean ====
/-
The reference of the recurrence that goes from the last row to the first: the arrays of the factors and of the terms
are the forward reference's; the loop's trip `k` takes row `16383 - k`, so its states are the forward recursion's over
the two arrays read from their last rows.
-/
module

public import proofs.«01_k».proof.Proof.ScanRef
public import proofs.«01_k».proof.Proof.Gen.Reference7Ideal.Run
public import Idealize.ShloMosaic.Lib.MatmulPlain
public import Idealize.ShloMosaic.Lib.IdealHost
public import Idealize.ShloMosaic.Lib.Pointwise
public import Idealize.ShloMosaic.Lib.DynamicIndex
public import Idealize.ShloMosaic.Lib.StableHlo.ReadAt

@[expose] public section

set_option maxRecDepth 16384

noncomputable section

namespace Cert.Proof.ScanBackRef

open Idealize.ShloMosaic Idealize.ShloMosaic.TcCoe Idealize.SL.Sem Idealize.ShloMosaic.StableHlo
open Cert.Reference7Ideal Cert.Reference7Ideal.Gen Cert.Reference7Ideal.Value
open Cert.ReferenceIdeal.Step (A_main_v64 A_main_v71 A_main_v72)
open Cert.Proof.ScanRef (hAt hAt_succ slice_row update_row)

variable {F : FTy → Type} [FloatOps F]

/-- An array read from its last row to its first. -/
def lastFirst (A : Vec F S16384x1024 .f32) : Vec F S16384x1024 .f32 :=
  fun y => A (ix2 (⟨16383 - (y 0).val, by omega⟩ : Fin 16384) (y 1))

/-- The row a trip takes, as the loop computes it. -/
theorem row_word (k : ℕ) (hk : k < 16384) : (subi (subi (constantI S_ 32 16384#32) (constantI S_ 32 (BitVec.ofNat 32 k))) (constantI S_ 32 1#32) : IVec S_ 32)
    = constantI S_ 32 (BitVec.ofNat 32 (16383 - k)) := by
  funext i
  show 16384#32 - BitVec.ofNat 32 k - 1#32 = BitVec.ofNat 32 (16383 - k)
  apply BitVec.eq_of_toNat_eq
  simp only [BitVec.toNat_sub, BitVec.toNat_ofNat]
  omega

/-- Before trip `k`: the two arrays, the trip's number, the state after the last `k` rows, and the rows written so far. -/
structure Holds (A B : Vec F S16384x1024 .f32) (h : Vec F S1024 .f32) (k : ℕ) (V : Valuation τ sig (Elt F)) : Prop where
  a : V (Proc.devRef .tc main_v74_0) = A
  b : V (Proc.devRef .tc main_v74_1) = B
  n : V (Proc.devRef .tc main_v74_2) = constantI S_ 32 (BitVec.ofNat 32 k)
  s : V (Proc.devRef .tc main_v74_3) = hAt (lastFirst A) (lastFirst B) h k
  o : ∀ y : S16384x1024.Idx, 16384 - k ≤ (y 0).val → (V (Proc.devRef .tc main_v74_4) : Vec F S16384x1024 .f32) y = hAt (lastFirst A) (lastFirst B) h (16384 - (y 0).val) (ix1 (y 1))

variable {A B : Vec F S16384x1024 .f32} {h : Vec F S1024 .f32} {k : ℕ} {V : Valuation τ sig (Elt F)}

theorem next_row (H : Holds A B h k V) (hk : k < 16384) : res_main_while0b_v76 V = constantI S_ 32 (BitVec.ofNat 32 (16383 - k)) := by
  unfold res_main_while0b_v76
  rw [H.n]
  exact row_word k hk

/-- The state a trip computes. -/
theorem next_state (H : Holds A B h k V) (hk : k < 16384) : res_main_while0b_v80 V = hAt (lastFirst A) (lastFirst B) h (k + 1) := by
  rw [hAt_succ (lastFirst A) (lastFirst B) h k hk, ← H.s]
  have ea := slice_row (F := F) A (16383 - k) (by omega)
  have eb := slice_row (F := F) B (16383 - k) (by omega)
  rw [← next_row H hk] at ea eb
  rw [← H.a] at ea
  rw [← H.b] at eb
  unfold res_main_while0b_v80
  refine congrArg₂ addf (congrArg₂ mulf (ea.trans ?_) rfl) (eb.trans ?_)
  · rw [H.a]; rfl
  · rw [H.b]; rfl

/-- One trip. -/
theorem holds_step (H : Holds A B h k V) (hk : k < 16384) : Holds A B h (k + 1) (STEP V) where
  a := (STEP_main_v74_0 V).trans H.a
  b := (STEP_main_v74_1 V).trans H.b
  n := by
    rw [STEP_main_v74_2]
    unfold Value.step_main_v74_2
    rw [H.n]
    funext i
    show BitVec.ofNat 32 k + 1#32 = BitVec.ofNat 32 (k + 1)
    simp only [BitVec.ofNat_add]
  s := by
    rw [STEP_main_v74_3]
    unfold Value.step_main_v74_3
    exact next_state H hk
  o := fun y hy => by
    rw [STEP_main_v74_4]
    unfold Value.step_main_v74_4
    rw [id_eq, next_row H hk]
    refine (update_row (F := F) (V (Proc.devRef .tc main_v74_4)) (res_main_while0b_v80 V) (16383 - k) (by omega) y).trans ?_
    have hy' : (y 0).val < 16384 := (y 0).isLt
    by_cases hyk : (y 0).val = 16383 - k
    · rw [if_pos hyk, next_state H hk, show 16384 - (y 0).val = k + 1 by omega]
    · rw [if_neg hyk]
      exact H.o y (by omega)

/-- All the trips up to number `k`. -/
theorem holds_iter (H : Holds A B h 0 V) : ∀ k, k ≤ 16384 → Holds A B h k (STEP^[k] V)
  | 0, _ => H
  | k + 1, hk => by
    rw [Function.iterate_succ_apply']
    exact holds_step (holds_iter H k (by omega)) (by omega)

/-- The array of all the states, each at its row. -/
def states (A B : Vec F S16384x1024 .f32) (h : Vec F S1024 .f32) : Vec F S16384x1024 .f32 :=
  fun y => hAt (lastFirst A) (lastFirst B) h (16384 - (y 0).val) (ix1 (y 1))

variable (m : (ℓ : Loc nD τ sig) → Buf (Elt F) ℓ) (ρ : Dev nD → PrngReg)

set_option maxRecDepth 65536 in
set_option maxHeartbeats 1000000 in
/-- What the operations before the loop leave it. -/
theorem entry_holds (c : Dev nD) : Holds (A_main_v64 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (A_main_v71 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (A_main_v72 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) 0 (entryContents preI m c) := by
  constructor
  case o => exact fun y hy => absurd (show (y 0).val < 16384 from (y 0).isLt) (by omega)
  all_goals (simp only [entryContents, afterL_cons, afterL_nil]; after_reads_simp)
  all_goals rfl

/-- The reference's result. -/
theorem run_states : θ_run (defs (F := F)) (onTc (τ := τ) (main (F := F))) ⟨m, fun _ => 0, ρ⟩ fun r => ∀ c : Dev nD,
    r.2.mem ((c.tc : Thread nD τ).loc main_v74_4) = states (A_main_v64 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (A_main_v71 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (A_main_v72 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  (θ_run defs _ _).mono (fun r hr c => ⟨(hr c).1.trans (funext fun y => (holds_iter (entry_holds m c) 16384 le_rfl).o y (by omega)), (hr c).2⟩) (Value.run m ρ)

end Cert.Proof.ScanBackRef

end
-- ==== Proof.ScanBack.lean ====
/-
The value of the recurrence's kernel that goes from the last row to the first: at point `t` the tile is number `63 - t`,
its factors and terms are the reference's at the tile's rows, its states the reference's from the last row on; so the
result is the reference's at every index.
-/
module

public import proofs.«01_k».proof.Defs
public import proofs.«01_k».proof.Proof.Scan
public import proofs.«01_k».proof.Proof.ScanBackRun
public import proofs.«01_k».proof.Proof.ScanBackRef
public import Idealize.ShloMosaic.Lib.MatmulPlain
public import Idealize.ShloMosaic.Lib.IdealHost
public import Idealize.ShloMosaic.Lib.Pointwise
public import Idealize.ShloMosaic.Lib.StableHlo.ReadAt

@[expose] public section

set_option maxRecDepth 16384

noncomputable section

namespace Cert.Proof.ScanBack

open Cert.Kernel7Ideal Cert.Kernel7Ideal.Gen Cert.Proof.ScanBackRun Idealize.ShloMosaic Idealize.ShloMosaic.TcCoe Idealize.SL.Sem
open Cert.Proof.ScanRef (ix2_ext ix1_ext hd pl)
open Cert.Proof.ScanRun (hRow)
open Cert.Proof.ScanBackRef (lastFirst)
open Cert.Proof.Scan (Blocks ix3_ext)

variable (m : (ℓ : Loc nD τ sig) → Buf (Elt Ideal) ℓ) (ρ : Dev nD → PrngReg)

/-- The windows' block indices at a grid point: the tile, counted from the last, its neighbours of eight rows clamped to the array, the
parameters whole. -/
theorem idx_facts : ∀ t : Fin cfg0.N, (win0_0.index t (0 : Fin 2) = 63 - t.val ∧ win0_0.index t (1 : Fin 2) = 0)
    ∧ (win0_1.index t (0 : Fin 2) = 32 * (63 - t.val) - 1 ∧ win0_1.index t (1 : Fin 2) = 0)
    ∧ (win0_2.index t (0 : Fin 2) = min (32 * (63 - t.val + 1)) 2047 ∧ win0_2.index t (1 : Fin 2) = 0)
    ∧ (win0_10.index t (0 : Fin 2) = 63 - t.val ∧ win0_10.index t (1 : Fin 2) = 0) ∧ (grid0.coords t 0).val = t.val :=
  (by decide +kernel : ∀ t : Fin grid0.N, _)

/-- The parameters are staged whole. -/
theorem idx_par : ∀ t : Fin cfg0.N, (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = 0 ∧ win0_5.index t (1 : Fin 3) = 0 ∧ win0_5.index t (2 : Fin 3) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ win0_9.index t (0 : Fin 2) = 0 ∧ win0_9.index t (1 : Fin 2) = 0 :=
  (by decide +kernel : ∀ t : Fin grid0.N, _)

abbrev a0 (c : Dev nD) : Vec Ideal S16384x3072 .f32 := m ((c : Thread nD τ).loc main_arg0)
abbrev a1 (c : Dev nD) : Vec Ideal S4x1024 .f32 := m ((c : Thread nD τ).loc main_arg1)
abbrev a2 (c : Dev nD) : Vec Ideal S1024 .f32 := m ((c : Thread nD τ).loc main_arg2)
abbrev a3 (c : Dev nD) : Vec Ideal S8x128x128 .f32 := m ((c : Thread nD τ).loc main_arg3)
abbrev a4 (c : Dev nD) : Vec Ideal S8x128 .f32 := m ((c : Thread nD τ).loc main_arg4)
abbrev a5 (c : Dev nD) : Vec Ideal S8x128x128 .f32 := m ((c : Thread nD τ).loc main_arg5)
abbrev a6 (c : Dev nD) : Vec Ideal S8x128 .f32 := m ((c : Thread nD τ).loc main_arg6)
abbrev a7 (c : Dev nD) : Vec Ideal S1024 .f32 := m ((c : Thread nD τ).loc main_arg7)
abbrev a8 (c : Dev nD) : Vec Ideal S1x1024 .f32 := m ((c : Thread nD τ).loc main_arg8)

theorem V_v1a (c : Dev nD) (h : Fin 8) (q j : Fin 128) : V m c main_v1 (ix3 h q ⟨j.val, by omega⟩) = a3 m c (ix3 h q j) := by
  unfold V
  after_reads_at
  pointwise
  rfl
theorem V_v1x (c : Dev nD) (h : Fin 8) (q j : Fin 128) : V m c main_v1 (ix3 h q ⟨128 + j.val, by omega⟩) = a5 m c (ix3 h q j) := by
  unfold V
  after_reads_at
  pointwise
  rfl
theorem V_v2 (c : Dev nD) (k : Fin 1024) : V m c main_v2 (ix2 0 k) = a2 m c (ix1 k) := by
  unfold V
  after_reads_at
theorem V_v3 (c : Dev nD) (k : Fin 1024) : V m c main_v3 (ix2 0 k) = a4 m c (ix2 (hd k) (pl k)) := by
  unfold V
  after_reads_at
theorem V_v4 (c : Dev nD) (k : Fin 1024) : V m c main_v4 (ix2 0 k) = a6 m c (ix2 (hd k) (pl k)) := by
  unfold V
  after_reads_at
theorem V_v5 (c : Dev nD) (k : Fin 1024) : V m c main_v5 (ix2 0 k) = a7 m c (ix1 k) := by
  unfold V
  after_reads_at

theorem blk0 (c : Dev nD) (t : Fin cfg0.N) (r : Fin 256) (k : Fin 1024) (R : Fin 16384) (hR : R.val = 256 * (63 - t.val) + r.val) :
    iblk m c 0 t (ix2 r k) = a0 m c (ix2 R ⟨k.val, by omega⟩) := by
  obtain ⟨⟨e0, e1⟩, -⟩ := idx_facts t
  show V m c main_arg0 (((cfg0.win 0).blk t).view.emb (ix2 r k)) = _
  rw [V_main_arg0]
  refine congrArg _ (ix2_ext ?_ ?_)
  · show win0_0.index t (0 : Fin 2) * 256 + 1 * r.val = R.val; omega
  · show win0_0.index t (1 : Fin 2) * 1024 + 1 * k.val = k.val; omega
theorem blk1 (c : Dev nD) (t : Fin cfg0.N) (r : Fin 8) (k : Fin 1024) (R : Fin 16384) (h : 0 < 63 - t.val) (hR : R.val = 256 * (63 - t.val) - 8 + r.val) :
    iblk m c 1 t (ix2 r k) = a0 m c (ix2 R ⟨k.val, by omega⟩) := by
  obtain ⟨-, ⟨e0, e1⟩, -⟩ := idx_facts t
  show V m c main_arg0 (((cfg0.win 1).blk t).view.emb (ix2 r k)) = _
  rw [V_main_arg0]
  refine congrArg _ (ix2_ext ?_ ?_)
  · show win0_1.index t (0 : Fin 2) * 8 + 1 * r.val = R.val; omega
  · show win0_1.index t (1 : Fin 2) * 1024 + 1 * k.val = k.val; omega
theorem blk2 (c : Dev nD) (t : Fin cfg0.N) (r : Fin 8) (k : Fin 1024) (R : Fin 16384) (h : 63 - t.val < 63) (hR : R.val = 256 * (63 - t.val) + 256 + r.val) :
    iblk m c 2 t (ix2 r k) = a0 m c (ix2 R ⟨k.val, by omega⟩) := by
  obtain ⟨-, -, ⟨e0, e1⟩, -⟩ := idx_facts t
  show V m c main_arg0 (((cfg0.win 2).blk t).view.emb (ix2 r k)) = _
  rw [V_main_arg0]
  refine congrArg _ (ix2_ext ?_ ?_)
  · show win0_2.index t (0 : Fin 2) * 8 + 1 * r.val = R.val; omega
  · show win0_2.index t (1 : Fin 2) * 1024 + 1 * k.val = k.val; omega
theorem blk3 (c : Dev nD) (t : Fin cfg0.N) : iblk m c 3 t = a1 m c := by
  obtain ⟨⟨e0, e1⟩, -⟩ := idx_par t
  funext y
  show V m c main_arg1 (((cfg0.win 3).blk t).view.emb y) = _
  rw [V_main_arg1]
  refine congrArg _ (funext fun a => Fin.ext ?_)
  match a with
  | ⟨0, _⟩ => show win0_3.index t (0 : Fin 2) * 4 + 1 * (y 0).val = (y 0).val; omega
  | ⟨1, _⟩ => show win0_3.index t (1 : Fin 2) * 1024 + 1 * (y 1).val = (y 1).val; omega
theorem blk5 (c : Dev nD) (t : Fin cfg0.N) (h : Fin 8) (q : Fin 128) (j : Fin 256) : iblk m c 5 t (ix3 h q j) = V m c main_v1 (ix3 h q j) := by
  obtain ⟨-, -, ⟨e0, e1, e2⟩, -⟩ := idx_par t
  show V m c main_v1 (((cfg0.win 5).blk t).view.emb (ix3 h q j)) = _
  refine congrArg _ (ix3_ext ?_ ?_ ?_)
  · show win0_5.index t (0 : Fin 3) * 8 + 1 * h.val = h.val; omega
  · show win0_5.index t (1 : Fin 3) * 128 + 1 * q.val = q.val; omega
  · show win0_5.index t (2 : Fin 3) * 256 + 1 * j.val = j.val; omega
theorem blk4 (c : Dev nD) (t : Fin cfg0.N) (k : Fin 1024) : iblk m c 4 t (ix2 0 k) = V m c main_v2 (ix2 0 k) := by
  obtain ⟨-, ⟨e0, e1⟩, -⟩ := idx_par t
  show V m c main_v2 (((cfg0.win 4).blk t).view.emb (ix2 0 k)) = _
  refine congrArg _ (ix2_ext ?_ ?_)
  · show win0_4.index t (0 : Fin 2) * 1 + 1 * (0 : Fin 1).val = (0 : Fin 1).val; omega
  · show win0_4.index t (1 : Fin 2) * 1024 + 1 * k.val = k.val; omega
theorem blk6 (c : Dev nD) (t : Fin cfg0.N) (k : Fin 1024) : iblk m c 6 t (ix2 0 k) = V m c main_v3 (ix2 0 k) := by
  obtain ⟨-, -, -, ⟨e0, e1⟩, -⟩ := idx_par t
  show V m c main_v3 (((cfg0.win 6).blk t).view.emb (ix2 0 k)) = _
  refine congrArg _ (ix2_ext ?_ ?_)
  · show win0_6.index t (0 : Fin 2) * 1 + 1 * (0 : Fin 1).val = (0 : Fin 1).val; omega
  · show win0_6.index t (1 : Fin 2) * 1024 + 1 * k.val = k.val; omega
theorem blk7 (c : Dev nD) (t : Fin cfg0.N) (k : Fin 1024) : iblk m c 7 t (ix2 0 k) = V m c main_v4 (ix2 0 k) := by
  obtain ⟨-, -, -, -, ⟨e0, e1⟩, -⟩ := idx_par t
  show V m c main_v4 (((cfg0.win 7).blk t).view.emb (ix2 0 k)) = _
  refine congrArg _ (ix2_ext ?_ ?_)
  · show win0_7.index t (0 : Fin 2) * 1 + 1 * (0 : Fin 1).val = (0 : Fin 1).val; omega
  · show win0_7.index t (1 : Fin 2) * 1024 + 1 * k.val = k.val; omega
theorem blk8 (c : Dev nD) (t : Fin cfg0.N) (k : Fin 1024) : iblk m c 8 t (ix2 0 k) = V m c main_v5 (ix2 0 k) := by
  obtain ⟨-, -, -, -, -, ⟨e0, e1⟩, -⟩ := idx_par t
  show V m c main_v5 (((cfg0.win 8).blk t).view.emb (ix2 0 k)) = _
  refine congrArg _ (ix2_ext ?_ ?_)
  · show win0_8.index t (0 : Fin 2) * 1 + 1 * (0 : Fin 1).val = (0 : Fin 1).val; omega
  · show win0_8.index t (1 : Fin 2) * 1024 + 1 * k.val = k.val; omega
theorem blk9 (c : Dev nD) (t : Fin cfg0.N) (k : Fin 1024) : iblk m c 9 t (ix2 0 k) = V m c main_arg8 (ix2 0 k) := by
  obtain ⟨-, -, -, -, -, -, e0, e1⟩ := idx_par t
  show V m c main_arg8 (((cfg0.win 9).blk t).view.emb (ix2 0 k)) = _
  refine congrArg _ (ix2_ext ?_ ?_)
  · show win0_9.index t (0 : Fin 2) * 1 + 1 * (0 : Fin 1).val = (0 : Fin 1).val; omega
  · show win0_9.index t (1 : Fin 2) * 1024 + 1 * k.val = k.val; omega

/-- The blocks at point `t`. -/
theorem blocks (c : Dev nD) (t : Fin cfg0.N) : Blocks (a0 m c) (a1 m c) (a2 m c) (a3 m c) (a4 m c) (a5 m c) (a6 m c) (a7 m c) (rev (grid0.coords t)) (63 - t.val)
    (iblk m c 0 t) (iblk m c 1 t) (iblk m c 2 t) (iblk m c 3 t) (iblk m c 4 t) (iblk m c 5 t) (iblk m c 6 t) (iblk m c 7 t) (iblk m c 8 t) where
  i0 := congrArg (63 - ·) (idx_facts t).2.2.2.2
  hT := by omega
  p1 r k := blk0 m c t r k _ rfl
  p2 r k h := blk1 m c t r k _ h rfl
  p3 r k h := blk2 m c t r k _ h rfl
  p4 := blk3 m c t
  p5 k := (blk4 m c t k).trans (V_v2 m c k)
  p6a h q j := (blk5 m c t h q _).trans (V_v1a m c h q j)
  p6x h q j := (blk5 m c t h q _).trans (V_v1x m c h q j)
  p7 k := (blk6 m c t k).trans (V_v3 m c k)
  p8 k := (blk7 m c t k).trans (V_v4 m c k)
  p9 k := (blk8 m c t k).trans (V_v5 m c k)

/-- The reference's factors, terms, first state and states over the arguments as launched. -/
abbrev RA (c : Dev nD) : Vec Ideal S16384x1024 .f32 := Cert.ReferenceIdeal.Step.A_main_v64 (F := Ideal) (a0 m c) (a1 m c) (a2 m c) (a3 m c) (a4 m c) (a5 m c) (a6 m c) (a7 m c) (a8 m c)
abbrev RB (c : Dev nD) : Vec Ideal S16384x1024 .f32 := Cert.ReferenceIdeal.Step.A_main_v71 (F := Ideal) (a0 m c) (a1 m c) (a2 m c) (a3 m c) (a4 m c) (a5 m c) (a6 m c) (a7 m c) (a8 m c)
abbrev RH (c : Dev nD) : Vec Ideal S1024 .f32 := Cert.ReferenceIdeal.Step.A_main_v72 (F := Ideal) (a0 m c) (a1 m c) (a2 m c) (a3 m c) (a4 m c) (a5 m c) (a6 m c) (a7 m c) (a8 m c)
abbrev RS (c : Dev nD) : Vec Ideal S16384x1024 .f32 := Cert.Proof.ScanBackRef.states (RA m c) (RB m c) (RH m c)

/-- The tile's factors and terms are the reference's rows. -/
theorem aAt_eq (c : Dev nD) (t : Fin cfg0.N) (r : Fin 256) (k : Fin 1024) (R : Fin 16384) (hR : R.val = 256 * (63 - t.val) + r.val) : aAt m c t (ix2 r k) = RA m c (ix2 R k) :=
  (Cert.Proof.Scan.a_apply (blocks m c t) r k).trans (by rw [← hR]; exact (Cert.Proof.ScanRef.a_apply (a0 m c) (a1 m c) (a2 m c) (a3 m c) (a4 m c) (a5 m c) (a6 m c) (a7 m c) (a8 m c) R k).symm)
theorem bAt_eq (c : Dev nD) (t : Fin cfg0.N) (r : Fin 256) (k : Fin 1024) (R : Fin 16384) (hR : R.val = 256 * (63 - t.val) + r.val) : bAt m c t (ix2 r k) = RB m c (ix2 R k) :=
  (Cert.Proof.Scan.b_apply (blocks m c t) r k).trans (by rw [← hR]; exact (Cert.Proof.ScanRef.b_apply (a0 m c) (a1 m c) (a2 m c) (a3 m c) (a4 m c) (a5 m c) (a6 m c) (a7 m c) (a8 m c) R k).symm)

/-- The reference's state after the last `n` rows. -/
abbrev RT (c : Dev nD) (n : ℕ) : Vec Ideal S1024 .f32 := Cert.Proof.ScanRef.hAt (lastFirst (RA m c)) (lastFirst (RB m c)) (RH m c) n

/-- Within a tile that starts from the reference's state, the states are the reference's. -/
theorem hRow_eq (c : Dev nD) (t : Fin cfg0.N) (h0 : Vec Ideal S1x1024 .f32) (e : ∀ k : Fin 1024, h0 (ix2 0 k) = RT m c (256 * t.val) (ix1 k)) :
    ∀ s : ℕ, s ≤ 256 → ∀ k : Fin 1024, hRow (upend (aAt m c t)) (upend (bAt m c t)) h0 s (ix2 0 k) = RT m c (256 * t.val + s) (ix1 k)
  | 0, _, k => e k
  | s + 1, hs, k => by
      have hN : t.val < 64 := lt_of_lt_of_eq t.isLt (show cfg0.N = 64 from N_0)
      have ih := hRow_eq c t h0 e s (by omega) k
      have er : (⟨s % 256, Nat.mod_lt _ (by decide)⟩ : Fin 256) = ⟨s, by omega⟩ := Fin.ext (Nat.mod_eq_of_lt (by omega))
      show upend (aAt m c t) (ix2 ⟨s % 256, _⟩ ⟨k.val, _⟩) * hRow (upend (aAt m c t)) (upend (bAt m c t)) h0 s (ix2 0 k) + upend (bAt m c t) (ix2 ⟨s % 256, _⟩ ⟨k.val, _⟩) = _
      have ea : upend (aAt m c t) (ix2 (⟨s, by omega⟩ : Fin 256) k) = RA m c (ix2 (⟨16383 - (256 * t.val + s), by omega⟩ : Fin 16384) k) :=
        aAt_eq m c t ⟨255 - s, by omega⟩ k _ (by show 16383 - (256 * t.val + s) = 256 * (63 - t.val) + (255 - s); omega)
      have eb : upend (bAt m c t) (ix2 (⟨s, by omega⟩ : Fin 256) k) = RB m c (ix2 (⟨16383 - (256 * t.val + s), by omega⟩ : Fin 16384) k) :=
        bAt_eq m c t ⟨255 - s, by omega⟩ k _ (by show 16383 - (256 * t.val + s) = 256 * (63 - t.val) + (255 - s); omega)
      rw [er, ih, ea, eb]
      exact (congrFun (Cert.Proof.ScanRef.hAt_succ (lastFirst (RA m c)) (lastFirst (RB m c)) (RH m c) (256 * t.val + s) (by omega)) (ix1 k)).symm

/-- The state carried into tile `n` is the reference's after the rows of the tiles before. -/
theorem carry_eq (c : Dev nD) : ∀ n : ℕ, n < 64 → ∀ k : Fin 1024, carry m c n (ix2 0 k) = RT m c (256 * n) (ix1 k)
  | 0, _, k => by
      have e := Cert.Proof.ScanRef.h0_apply (a0 m c) (a1 m c) (a2 m c) (a3 m c) (a4 m c) (a5 m c) (a6 m c) (a7 m c) (a8 m c) k
      refine Eq.trans ?_ e.symm
      show k0_pay11 (iblk m c 9 ⟨0, _⟩) (ix2 0 k) = _
      unfold k0_pay11
      pointwise
      exact (blk9 m c _ k).trans (congrFun (V_main_arg8 m c) _)
  | n + 1, hn, k => by
      have hN : cfg0.N = 64 := N_0
      have e := carry_succ m c ⟨n, by omega⟩
      have ih := hRow_eq m c ⟨n, by omega⟩ (carry m c n) (carry_eq c n (by omega)) 256 le_rfl k
      rw [show carry m c (n + 1) = _ from e]
      unfold k0_pay3
      pointwise
      exact ih

/-- What a point writes back is its block of the reference's states. -/
theorem flushed10_eq (c : Dev nD) (t : Fin cfg0.N) :
    (dats m 0 c).flushed 10 t = ((cfg0.win 10).blk t).view.read (Elt Ideal) (RS m c) := by
  have hN : t.val < 64 := lt_of_lt_of_eq t.isLt (show cfg0.N = 64 from N_0)
  obtain ⟨-, -, -, ⟨e0, e1⟩, -⟩ := idx_facts t
  show (cfg0.win 10).cut (grid0.coords t) ((dats m 0 c).after 10 t) = _
  rw [after_10]
  funext y
  have hr : (y 0).val < 256 := (y 0).isLt
  have hc : (y 1).val < 1024 := (y 1).isLt
  show hRow (upend (aAt m c t)) (upend (bAt m c t)) (carry m c t.val) (256 - (y 0).val) (ix2 0 (⟨(y 1).val, hc⟩ : Fin 1024)) = RS m c (((cfg0.win 10).blk t).view.emb y)
  have he : ((cfg0.win 10).blk t).view.emb y = ix2 (⟨256 * (63 - t.val) + (y 0).val, by omega⟩ : Fin 16384) (⟨(y 1).val, hc⟩ : Fin 1024) := by
    refine ix2_ext ?_ ?_
    · show win0_10.index t (0 : Fin 2) * 256 + 1 * (y 0).val = 256 * (63 - t.val) + (y 0).val; omega
    · show win0_10.index t (1 : Fin 2) * 1024 + 1 * (y 1).val = (y 1).val; omega
  rw [he]
  refine (hRow_eq m c t _ (carry_eq m c t.val hN) (256 - (y 0).val) (by omega) _).trans ?_
  show RT m c (256 * t.val + (256 - (y 0).val)) (ix1 _) = RT m c (16384 - (256 * (63 - t.val) + (y 0).val)) (ix1 _)
  rw [show 16384 - (256 * (63 - t.val) + (y 0).val) = 256 * t.val + (256 - (y 0).val) by omega]
  rfl

/-- Every index of the result is in some tile's block. -/
theorem covered10 (i : main_v6.ty.Idx) : ∃ t : Fin cfg0.N, (cfg0.win 10).flush t = true ∧ i ∈ ((cfg0.win 10).blk t).view.set := by
  have hr : (i 0).val < 16384 := (i 0).isLt
  have hc : (i 1).val < 1024 := (i 1).isLt
  have hN : cfg0.N = 64 := N_0
  obtain ⟨t, ht⟩ : ∃ t : Fin cfg0.N, t.val = 63 - (i 0).val / 256 := ⟨⟨_, by omega⟩, rfl⟩
  obtain ⟨-, -, -, ⟨e0, e1⟩, -⟩ := idx_facts t
  refine ⟨t, flush0_10 t, ?_⟩
  show i ∈ ((View.whole main_v6).slice (win0_10.rect t)).set
  rw [View.set_slice_whole, Rect.mem_set_unit]
  intro a
  match a with
  | ⟨0, _⟩ => show win0_10.index t (0 : Fin 2) * 256 ≤ (i 0).val ∧ (i 0).val < win0_10.index t (0 : Fin 2) * 256 + 256; omega
  | ⟨1, _⟩ => show win0_10.index t (1 : Fin 2) * 1024 ≤ (i 1).val ∧ (i 1).val < win0_10.index t (1 : Fin 2) * 1024 + 1024; omega

/-- The result array after the run is the reference's. -/
theorem final10 (c : Dev nD) : (dats m 0 c).arrAt 10 cfg0.N = RS m c :=
  (dats m 0 c).arrAt_eq_of_cover 10 (RS m c) (fun t _ => flushed10_eq m c t) covered10

/-- The run of the kernel with its result named. -/
theorem run : θ_run defs (onTc (τ := τ) (main (F := Ideal))) ⟨m, fun _ => 0, ρ⟩ fun r => ∀ c : Dev nD,
      r.2.mem ((c : Thread nD τ).loc main_v6) = RS m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h.1 c).1 10).trans (final10 m c), h.2 c⟩)
    (θ_run_and (run_main m ρ) (frame_of m ρ (dats m) (A_eq m) (run_main m ρ)))

/-- The kernel and the reference, from memories that agree on the arguments, both run and end with equal results. -/
theorem algebraic : Cert.algebraic_Kernel7Ideal_Reference7Ideal := fun m ρ m' ρ' _ hag =>
  ⟨fun c => RS m c, run m ρ, (θ_run _ _ _).mono
    (fun _ h c => by
      obtain ⟨h0, h1, h2, h3, h4, h5, h6, h7, h8⟩ := hag c
      exact ⟨(h c).1.trans (by rw [h0, h1, h2, h3, h4, h5, h6, h7, h8]), (h c).2⟩)
    (Cert.Proof.ScanBackRef.run_states m' ρ')⟩

end Cert.Proof.ScanBack

end
-- ==== Proof.Ada.lean ====
/- The modulation of every layer, `_ada`: what each grid point writes back is its tile of the reference's value, read
   element by element; so the whole array after the run is the reference's. -/
module

public import proofs.«01_k».proof.Proof.Gen.Kernel8Ideal.Value
public import proofs.«01_k».proof.Proof.Gen.Reference8Ideal.Read
public import proofs.«01_k».proof.Defs
public import Idealize.ShloMosaic.Lib.IdealHost
public import Idealize.ShloMosaic.Lib.StableHlo.ReadAt
public import Idealize.ShloMosaic.Lib.Pointwise

@[expose] public section

set_option maxRecDepth 16384

noncomputable section

namespace Cert.Proof.Ada

open Cert.Kernel8Ideal Cert.Kernel8Ideal.Gen Cert.Kernel8Ideal.Value Idealize.ShloMosaic Idealize.ShloMosaic.TcCoe Idealize.SL.Sem

/-- The value at layer `l`, condition row `b` and column `n`: the product of the row's `silu` with the layer's weight,
    plus the layer's bias. -/
def G (x : S8x2048.Idx → EReal) (w : S2x2048x12288.Idx → EReal) (v : S2x12288.Idx → EReal) (l : Fin 2) (b : Fin 8) (n : Fin 12288) : EReal :=
  (∑ k : Fin 2048, x (ix2 b k) * Ideal.logistic (x (ix2 b k)) * w (ix3 l k n)) + v (ix2 l n)

/-- The reference's result read at an index. -/
theorem ref_apply (x : S8x2048.Idx → EReal) (w : S2x2048x12288.Idx → EReal) (v : S2x12288.Idx → EReal) (l : Fin 2) (b : Fin 8) (n : Fin 12288) :
    Cert.Reference8Ideal.Read.val_main_v5 (F := Ideal) x w v (ix3 l b n) = G x w v l b n := by
  have e1 : ∀ k : Fin 2048, Cert.Reference8Ideal.Read.lidx_main_v1 (Cert.Reference8Ideal.Read.idx_main_v2 (ix3 l b n)) k = ix3 l k n := fun k =>
    funext fun a => by match a with | ⟨0, _⟩ => rfl | ⟨1, _⟩ => rfl | ⟨2, _⟩ => rfl
  have e2 : ∀ k : Fin 2048, Cert.Reference8Ideal.Read.ridx_main_v1 (Cert.Reference8Ideal.Read.idx_main_v2 (ix3 l b n)) k = ix2 b k := fun k =>
    funext fun a => by match a with | ⟨0, _⟩ => rfl | ⟨1, _⟩ => rfl
  have e3 : Cert.Reference8Ideal.Read.idx_main_v3 (Cert.Reference8Ideal.Read.idx_main_v4 (ix3 l b n)) = ix2 l n :=
    funext fun a => by match a with | ⟨0, _⟩ => rfl | ⟨1, _⟩ => rfl
  rw [Cert.Reference8Ideal.Read.val_main_v5_apply, Cert.Reference8Ideal.Read.val_main_v4_apply, Cert.Reference8Ideal.Read.val_main_v3_apply, Cert.Reference8Ideal.Read.val_main_v2_apply, Cert.Reference8Ideal.Read.val_main_v1_apply, e3]
  simp only [e1, e2, Cert.Reference8Ideal.Read.val_main_v0_apply, Cert.Reference8Ideal.Read.val_main_call0_v5_apply, Cert.Reference8Ideal.Read.val_main_call0_v4_apply, Cert.Reference8Ideal.Read.val_main_call0_v3_apply, Cert.Reference8Ideal.Read.val_main_call0_v2_apply,
    Cert.Reference8Ideal.Read.val_main_call0_v1_apply, Cert.Reference8Ideal.Read.val_main_call0_v0_apply, Cert.Reference8Ideal.Read.val_main_call0_cst_apply, Cert.Reference8Ideal.Read.val_main_call0_cst_0_apply]
  pointwise
  unfold G Ideal.logistic
  exact congrArg (· + _) (Finset.sum_congr rfl fun k _ => mul_comm _ _)

theorem hz2 : (![0, 0] : Fin 2 → Nat) = fun _ => 0 := funext fun a => by fin_cases a <;> rfl
theorem hz3 : (![0, 0, 0] : Fin 3 → Nat) = fun _ => 0 := funext fun a => by fin_cases a <;> rfl

/-- The body's output block read at a condition row and a column. -/
theorem out_apply (x0 : Vec Ideal S8x2048 .f32) (x1 : Vec Ideal S1x2048x1024 .f32) (x2 : Vec Ideal S1x1x1024 .f32) (b : Fin 8) (j : Fin 1024) :
    out0_3 x0 x1 x2 (ix3 0 b j) = (∑ k : Fin 2048, x0 (ix2 b k) * Ideal.logistic (x0 (ix2 b k)) * x1 (ix3 0 k j)) + x2 (ix3 0 0 j) := by
  unfold out0_3
  rw [View.canon_unit_zero hz3, View.ld_unit_zero hz2, View.ld_unit_zero hz3, View.ld_unit_zero hz3]
  unfold k0_pay1
  pointwise

variable (m : (ℓ : Loc nD τ sig) → Buf (Elt Ideal) ℓ) (ρ : Dev nD → PrngReg)

/-- The windows' block indices at a grid point: the layer is the quotient by twelve, the column tile the remainder. -/
theorem idx_facts : ∀ t : Fin cfg0.N, (win0_0.index t (0 : Fin 2) = 0 ∧ win0_0.index t (1 : Fin 2) = 0)
    ∧ (win0_1.index t (0 : Fin 3) = t.val / 12 ∧ win0_1.index t (1 : Fin 3) = 0 ∧ win0_1.index t (2 : Fin 3) = t.val % 12)
    ∧ (win0_2.index t (0 : Fin 3) = t.val / 12 ∧ win0_2.index t (1 : Fin 3) = 0 ∧ win0_2.index t (2 : Fin 3) = t.val % 12)
    ∧ (win0_3.index t (0 : Fin 3) = t.val / 12 ∧ win0_3.index t (1 : Fin 3) = 0 ∧ win0_3.index t (2 : Fin 3) = t.val % 12) :=
  (by decide +kernel : ∀ t : Fin grid0.N, _)

/-- The bias as the kernel's call is given it: the argument with an axis of size one put between. -/
theorem V_v0 (c : Dev nD) (l : Fin 2) (n : Fin 12288) : V m c main_v0 (ix3 l 0 n) = m ((c : Thread nD τ).loc main_arg2) (ix2 l n) := by
  unfold V
  after_reads_at

/-- The input windows' blocks read at an index of the block. -/
theorem iblk0_apply (c : Dev nD) (t : Fin cfg0.N) (b : Fin 8) (k : Fin 2048) :
    iblk m c 0 t (ix2 b k) = m ((c : Thread nD τ).loc main_arg0) (ix2 b k) := by
  obtain ⟨⟨e0, e1⟩, -⟩ := idx_facts t
  show V m c main_arg0 (((cfg0.win 0).blk t).view.emb (ix2 b k)) = _
  rw [V_main_arg0]
  refine congrArg _ (funext fun a => Fin.ext ?_)
  match a with
  | ⟨0, _⟩ => show win0_0.index t (0 : Fin 2) * 8 + 1 * b.val = b.val; omega
  | ⟨1, _⟩ => show win0_0.index t (1 : Fin 2) * 2048 + 1 * k.val = k.val; omega

theorem iblk1_apply (c : Dev nD) (t : Fin cfg0.N) (k : Fin 2048) (j : Fin 1024) (l : Fin 2) (n : Fin 12288) (hl : l.val = t.val / 12) (hn : n.val = t.val % 12 * 1024 + j.val) :
    iblk m c 1 t (ix3 0 k j) = m ((c : Thread nD τ).loc main_arg1) (ix3 l k n) := by
  obtain ⟨-, ⟨e0, e1, e2⟩, -⟩ := idx_facts t
  show V m c main_arg1 (((cfg0.win 1).blk t).view.emb (ix3 0 k j)) = _
  rw [V_main_arg1]
  refine congrArg _ (funext fun a => Fin.ext ?_)
  match a with
  | ⟨0, _⟩ => show win0_1.index t (0 : Fin 3) * 1 + 1 * 0 = l.val; omega
  | ⟨1, _⟩ => show win0_1.index t (1 : Fin 3) * 2048 + 1 * k.val = k.val; omega
  | ⟨2, _⟩ => show win0_1.index t (2 : Fin 3) * 1024 + 1 * j.val = n.val; omega

theorem iblk2_apply (c : Dev nD) (t : Fin cfg0.N) (j : Fin 1024) (l : Fin 2) (n : Fin 12288) (hl : l.val = t.val / 12) (hn : n.val = t.val % 12 * 1024 + j.val) :
    iblk m c 2 t (ix3 0 0 j) = m ((c : Thread nD τ).loc main_arg2) (ix2 l n) := by
  obtain ⟨-, -, ⟨e0, e1, e2⟩, -⟩ := idx_facts t
  rw [← V_v0 m c l n]
  refine congrArg (V m c main_v0) (funext fun a => Fin.ext ?_)
  match a with
  | ⟨0, _⟩ => show win0_2.index t (0 : Fin 3) * 1 + 1 * 0 = l.val; omega
  | ⟨1, _⟩ => show win0_2.index t (1 : Fin 3) * 1 + 1 * 0 = 0; omega
  | ⟨2, _⟩ => show win0_2.index t (2 : Fin 3) * 1024 + 1 * j.val = n.val; omega

/-- The reference's result over the arguments as launched. -/
abbrev RV (c : Dev nD) : Vec Ideal S2x8x12288 .f32 :=
  Cert.Reference8Ideal.Read.val_main_v5 (F := Ideal) (m ((c : Thread nD τ).loc main_arg0)) (m ((c : Thread nD τ).loc main_arg1)) (m ((c : Thread nD τ).loc main_arg2))

/-- What a grid point writes back is its block of the reference's result. -/
theorem flushed_eq (c : Dev nD) (t : Fin cfg0.N) :
    (dats m 0 c).flushed 3 t = ((cfg0.win 3).blk t).view.read (Elt Ideal) (RV m c) := by
  have hN : t.val < 24 := lt_of_lt_of_eq t.isLt (show cfg0.N = 24 from N_0)
  obtain ⟨-, -, -, e0, e1, e2⟩ := idx_facts t
  rw [flushed3]
  funext y
  have h0 : (y 0).val < 1 := (y 0).isLt
  have hb : (y 1).val < 8 := (y 1).isLt
  have hj : (y 2).val < 1024 := (y 2).isLt
  have hy : y = ix3 (0 : Fin 1) (⟨(y 1).val, hb⟩ : Fin 8) (⟨(y 2).val, hj⟩ : Fin 1024) := funext fun a => by
    match a with | ⟨0, _⟩ => exact Fin.ext (show (y 0).val = 0 by omega) | ⟨1, _⟩ => rfl | ⟨2, _⟩ => rfl
  show out0_3 _ _ _ y = RV m c (((cfg0.win 3).blk t).view.emb y)
  have he : ((cfg0.win 3).blk t).view.emb y = ix3 (⟨t.val / 12, by omega⟩ : Fin 2) (⟨(y 1).val, hb⟩ : Fin 8) (⟨t.val % 12 * 1024 + (y 2).val, by omega⟩ : Fin 12288) := by
    funext a; apply Fin.ext
    match a with
    | ⟨0, _⟩ => show win0_3.index t (0 : Fin 3) * 1 + 1 * (y 0).val = t.val / 12; omega
    | ⟨1, _⟩ => show win0_3.index t (1 : Fin 3) * 8 + 1 * (y 1).val = (y 1).val; omega
    | ⟨2, _⟩ => show win0_3.index t (2 : Fin 3) * 1024 + 1 * (y 2).val = t.val % 12 * 1024 + (y 2).val; omega
  rw [he, show RV m c (ix3 _ _ _) = _ from ref_apply _ _ _ _ _ _]
  refine (congrArg (out0_3 _ _ _) hy).trans ?_
  rw [out_apply, iblk2_apply m c t ⟨(y 2).val, hj⟩ ⟨t.val / 12, by omega⟩ ⟨t.val % 12 * 1024 + (y 2).val, by omega⟩ rfl rfl]
  unfold G
  refine congrArg (· + _) (Finset.sum_congr rfl fun k _ => ?_)
  rw [iblk0_apply m c t, iblk1_apply m c t k ⟨(y 2).val, hj⟩ ⟨t.val / 12, by omega⟩ ⟨t.val % 12 * 1024 + (y 2).val, by omega⟩ rfl rfl]

/-- Every index of the result array is in some point's block. -/
theorem covered (i : main_v1.ty.Idx) : ∃ t : Fin cfg0.N, (cfg0.win 3).flush t = true ∧ i ∈ ((cfg0.win 3).blk t).view.set := by
  have hl : (i 0).val < 2 := (i 0).isLt
  have hb : (i 1).val < 8 := (i 1).isLt
  have hn : (i 2).val < 12288 := (i 2).isLt
  have hN : cfg0.N = 24 := N_0
  obtain ⟨t, ht⟩ : ∃ t : Fin cfg0.N, t.val = (i 0).val * 12 + (i 2).val / 1024 := ⟨⟨_, by omega⟩, rfl⟩
  obtain ⟨-, -, -, e0, e1, e2⟩ := idx_facts t
  refine ⟨t, flush0_3 t, ?_⟩
  show i ∈ ((View.whole main_v1).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 8 ≤ (i 1).val ∧ (i 1).val < win0_3.index t (1 : Fin 3) * 8 + 8; omega
  | ⟨2, _⟩ => show win0_3.index t (2 : Fin 3) * 1024 ≤ (i 2).val ∧ (i 2).val < win0_3.index t (2 : Fin 3) * 1024 + 1024; omega

/-- The result array after the run is the reference's. -/
theorem final (c : Dev nD) : (dats m 0 c).arrAt 3 cfg0.N = RV m c :=
  (dats m 0 c).arrAt_eq_of_cover 3 (RV m c) (fun t _ => flushed_eq m c t) covered

/-- The kernel and the reference, from memories that agree on the arguments, both run and end with equal results. -/
theorem algebraic : Cert.algebraic_Kernel8Ideal_Reference8Ideal := fun m ρ m' ρ' _ hag =>
  ⟨fun c => RV m c, (θ_run defs _ _).mono (fun r h c => ⟨(h c).1.trans (final m c), (h c).2⟩) (run_blocks m ρ), (θ_run _ _ _).mono
    (fun _ h c => ⟨(h c).1.trans (by rw [Cert.Reference8Ideal.Read.val_main_v5_eq, (hag c).1, (hag c).2.1, (hag c).2.2]), (h c).2⟩)
    (Cert.Reference8Ideal.Value.run m' ρ')⟩

end Cert.Proof.Ada

end
-- ==== Proof.ProjBCtx.lean ====
/- The gate product of the block over the context tokens, `proj_b` at 256 rows: what each grid point writes back is its tile of the reference's value, read
   element by element; so the whole array after the run is the reference's. -/
module

public import proofs.«01_k».proof.Proof.Gen.Kernel9Ideal.Value
public import proofs.«01_k».proof.Proof.Gen.Reference9Ideal.Read
public import proofs.«01_k».proof.Defs
public import Idealize.ShloMosaic.Lib.IdealHost
public import Idealize.ShloMosaic.Lib.StableHlo.ReadAt
public import Idealize.ShloMosaic.Lib.Pointwise

@[expose] public section

set_option maxRecDepth 16384

noncomputable section

namespace Cert.Proof.ProjBCtx

open Cert.Kernel9Ideal Cert.Kernel9Ideal.Gen Cert.Kernel9Ideal.Value Idealize.ShloMosaic Idealize.ShloMosaic.TcCoe Idealize.SL.Sem

/-- The reference's value at row `r` and column `c`: the logistic of the row's product with the gate's columns of the
    weight, plus the gate's bias. -/
def G (u : S256x2048.Idx → EReal) (w : S2048x9216.Idx → EReal) (b : S6144.Idx → EReal) (r : Fin 256) (c : Fin 6144) : EReal :=
  Ideal.logistic ((∑ k : Fin 2048, u (ix2 r k) * w (ix2 k (⟨3072 + c.val, by omega⟩ : Fin 9216))) + b (ix1 c))

/-- The reference's result read at an index. -/
theorem ref_apply (u : S256x2048.Idx → EReal) (w : S2048x9216.Idx → EReal) (b : S6144.Idx → EReal) (r : Fin 256) (c : Fin 6144) :
    Cert.Reference9Ideal.Read.val_main_v12 (F := Ideal) u w b (ix2 r c) = G u w b r c := by
  rw [Cert.Reference9Ideal.Read.val_main_v12_apply, Cert.Reference9Ideal.Read.val_main_v11_apply,
    Cert.Reference9Ideal.Read.val_main_v10_apply, Cert.Reference9Ideal.Read.val_main_v9_apply,
    Cert.Reference9Ideal.Read.val_main_v8_apply, Cert.Reference9Ideal.Read.val_main_v7_apply,
    Cert.Reference9Ideal.Read.val_main_v6_apply, Cert.Reference9Ideal.Read.val_main_v5_apply,
    Cert.Reference9Ideal.Read.val_main_v4_apply, Cert.Reference9Ideal.Read.val_main_v3_apply,
    Cert.Reference9Ideal.Read.val_main_v2_apply]
  simp only [Cert.Reference9Ideal.Read.val_main_v1_apply, Cert.Reference9Ideal.Read.val_main_v0_apply,
    Cert.Reference9Ideal.Read.val_main_cst_apply, Cert.Reference9Ideal.Read.val_main_cst_0_apply]
  pointwise
  unfold G Ideal.logistic
  have el : ∀ k : Fin 2048, Cert.Reference9Ideal.Read.lidx_main_v2 (ix2 r c) k = ix2 r k := fun k =>
    funext fun a => by match a with | ⟨0, _⟩ => rfl | ⟨1, _⟩ => rfl
  have er : ∀ k : Fin 2048, Cert.Reference9Ideal.Read.idx_main_v1 (Cert.Reference9Ideal.Read.ridx_main_v2 (ix2 r c) k) = ix2 k ⟨3072 + c.val, by omega⟩ := fun k =>
    funext fun a => by match a with | ⟨0, _⟩ => rfl | ⟨1, _⟩ => rfl
  have eb : Cert.Reference9Ideal.Read.idx_main_v3 (Cert.Reference9Ideal.Read.idx_main_v4 (ix2 r c)) = ix1 c :=
    funext fun a => by match a with | ⟨0, _⟩ => rfl
  simp only [el, er, eb]

theorem hz : (![0, 0] : Fin 2 → Nat) = fun _ => 0 := funext fun a => by fin_cases a <;> rfl

/-- The body's output block read at a row and a column. -/
theorem out_apply (x0 : Vec Ideal S256x2048 .bf16) (x1 : Vec Ideal S2048x1024 .bf16) (x2 : Vec Ideal S1x1024 .f32) (r : Fin 256) (c : Fin 1024) :
    out0_3 x0 x1 x2 (ix2 r c) = Ideal.logistic ((∑ k : Fin 2048, x0 (ix2 r k) * x1 (ix2 k c)) + x2 (ix2 0 c)) := by
  unfold out0_3
  rw [View.canon_unit_zero hz, View.ld_unit_zero hz, View.ld_unit_zero hz, View.ld_unit_zero hz]
  unfold k0_pay1
  pointwise

variable (m : (ℓ : Loc nD τ sig) → Buf (Elt Ideal) ℓ) (ρ : Dev nD → PrngReg)

/-- The windows' block indices at a grid point: the row tile is the quotient by six, the column tile the remainder. -/
theorem idx_facts : ∀ t : Fin cfg0.N, win0_0.index t (0 : Fin 2) = t.val / 6 ∧ win0_0.index t (1 : Fin 2) = 0
    ∧ win0_1.index t (0 : Fin 2) = 0 ∧ win0_1.index t (1 : Fin 2) = t.val % 6
    ∧ win0_2.index t (0 : Fin 2) = 0 ∧ win0_2.index t (1 : Fin 2) = t.val % 6
    ∧ win0_3.index t (0 : Fin 2) = t.val / 6 ∧ win0_3.index t (1 : Fin 2) = t.val % 6 :=
  (by decide +kernel : ∀ t : Fin grid0.N, _)

theorem V_v1 (c : Dev nD) (i : S2048x6144.Idx) : V m c main_v1 i = m ((c : Thread nD τ).loc main_arg1) (ix2 (i 0) (⟨3072 + (i 1).val, by have := (i 1).isLt; change (i 1).val < 6144 at this; omega⟩ : Fin 9216)) := by
  unfold V
  after_reads_at

theorem V_v2 (c : Dev nD) (i : S1x6144.Idx) : V m c main_v2 i = m ((c : Thread nD τ).loc main_arg2) (ix1 (i 1)) := by
  unfold V
  after_reads_at

/-- The input windows' blocks read at an index of the block. -/
theorem iblk0_apply (c : Dev nD) (t : Fin cfg0.N) (r : Fin 256) (k : Fin 2048) (R : Fin 256) (hR : R.val = t.val / 6 * 256 + r.val) :
    iblk m c 0 t (ix2 r k) = m ((c : Thread nD τ).loc main_arg0) (ix2 R k) := by
  obtain ⟨e0, e1, -⟩ := idx_facts t
  show V m c main_arg0 (((cfg0.win 0).blk t).view.emb (ix2 r k)) = _
  rw [V_main_arg0]
  refine congrArg _ (funext fun a => Fin.ext ?_)
  match a with
  | ⟨0, _⟩ => show win0_0.index t (0 : Fin 2) * 256 + 1 * r.val = R.val; omega
  | ⟨1, _⟩ => show win0_0.index t (1 : Fin 2) * 2048 + 1 * k.val = k.val; omega

theorem iblk1_apply (c : Dev nD) (t : Fin cfg0.N) (k : Fin 2048) (j : Fin 1024) (J : Fin 9216) (hJ : J.val = 3072 + (t.val % 6 * 1024 + j.val)) :
    iblk m c 1 t (ix2 k j) = m ((c : Thread nD τ).loc main_arg1) (ix2 k J) := by
  obtain ⟨-, -, e0, e1, -⟩ := idx_facts t
  show V m c main_v1 (((cfg0.win 1).blk t).view.emb (ix2 k j)) = _
  rw [V_v1]
  refine congrArg _ (funext fun a => Fin.ext ?_)
  match a with
  | ⟨0, _⟩ => show win0_1.index t (0 : Fin 2) * 2048 + 1 * k.val = k.val; omega
  | ⟨1, _⟩ => show 3072 + (win0_1.index t (1 : Fin 2) * 1024 + 1 * j.val) = J.val; omega

theorem iblk2_apply (c : Dev nD) (t : Fin cfg0.N) (j : Fin 1024) (J : Fin 6144) (hJ : J.val = t.val % 6 * 1024 + j.val) :
    iblk m c 2 t (ix2 0 j) = m ((c : Thread nD τ).loc main_arg2) (ix1 J) := by
  obtain ⟨-, -, -, -, e0, e1, -⟩ := idx_facts t
  show V m c main_v2 (((cfg0.win 2).blk t).view.emb (ix2 0 j)) = _
  rw [V_v2]
  refine congrArg _ (funext fun a => Fin.ext ?_)
  match a with
  | ⟨0, _⟩ => show win0_2.index t (1 : Fin 2) * 1024 + 1 * j.val = J.val; omega

/-- The reference's result over the arguments as launched. -/
abbrev RV (c : Dev nD) : Vec Ideal S256x6144 .bf16 :=
  Cert.Reference9Ideal.Read.val_main_v12 (F := Ideal) (m ((c : Thread nD τ).loc main_arg0)) (m ((c : Thread nD τ).loc main_arg1)) (m ((c : Thread nD τ).loc main_arg2))

/-- What a grid point writes back is its block of the reference's result. -/
theorem flushed_eq (c : Dev nD) (t : Fin cfg0.N) :
    (dats m 0 c).flushed 3 t = ((cfg0.win 3).blk t).view.read (Elt Ideal) (RV m c) := by
  have hN : t.val < 6 := lt_of_lt_of_eq t.isLt (show cfg0.N = 6 from N_0)
  obtain ⟨-, -, -, -, -, -, e0, e1⟩ := idx_facts t
  rw [flushed3]
  funext y
  have hr : (y 0).val < 256 := (y 0).isLt
  have hc : (y 1).val < 1024 := (y 1).isLt
  have hy : y = ix2 (⟨(y 0).val, hr⟩ : Fin 256) (⟨(y 1).val, hc⟩ : Fin 1024) := funext fun a => by match a with | ⟨0, _⟩ => rfl | ⟨1, _⟩ => rfl
  show out0_3 _ _ _ y = RV m c (((cfg0.win 3).blk t).view.emb y)
  have he : ((cfg0.win 3).blk t).view.emb y = ix2 (⟨t.val / 6 * 256 + (y 0).val, by omega⟩ : Fin 256) (⟨t.val % 6 * 1024 + (y 1).val, by omega⟩ : Fin 6144) := by
    funext a; apply Fin.ext
    match a with
    | ⟨0, _⟩ => show win0_3.index t (0 : Fin 2) * 256 + 1 * (y 0).val = t.val / 6 * 256 + (y 0).val; omega
    | ⟨1, _⟩ => show win0_3.index t (1 : Fin 2) * 1024 + 1 * (y 1).val = t.val % 6 * 1024 + (y 1).val; omega
  rw [he, show RV m c (ix2 _ _) = _ from ref_apply _ _ _ _ _]
  refine (congrArg (out0_3 _ _ _) hy).trans ?_
  rw [out_apply, iblk2_apply m c t ⟨(y 1).val, hc⟩ ⟨t.val % 6 * 1024 + (y 1).val, by omega⟩ rfl]
  unfold G
  refine congrArg (fun z => Ideal.logistic (z + _)) (Finset.sum_congr rfl fun k _ => ?_)
  rw [iblk0_apply m c t ⟨(y 0).val, hr⟩ k ⟨t.val / 6 * 256 + (y 0).val, by omega⟩ rfl,
    iblk1_apply m c t k ⟨(y 1).val, hc⟩ ⟨3072 + (t.val % 6 * 1024 + (y 1).val), by omega⟩ rfl]

/-- Every index of the result array is in some point's block. -/
theorem covered (i : main_v3.ty.Idx) : ∃ t : Fin cfg0.N, (cfg0.win 3).flush t = true ∧ i ∈ ((cfg0.win 3).blk t).view.set := by
  have hr : (i 0).val < 256 := (i 0).isLt
  have hc : (i 1).val < 6144 := (i 1).isLt
  have hN : cfg0.N = 6 := N_0
  obtain ⟨t, ht⟩ : ∃ t : Fin cfg0.N, t.val = (i 0).val / 256 * 6 + (i 1).val / 1024 := ⟨⟨_, by omega⟩, rfl⟩
  obtain ⟨-, -, -, -, -, -, e0, e1⟩ := idx_facts t
  refine ⟨t, flush0_3 t, ?_⟩
  show i ∈ ((View.whole main_v3).slice (win0_3.rect t)).set
  rw [View.set_slice_whole, Rect.mem_set_unit]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1024 ≤ (i 1).val ∧ (i 1).val < win0_3.index t (1 : Fin 2) * 1024 + 1024; omega

/-- The result array after the run is the reference's. -/
theorem final (c : Dev nD) : (dats m 0 c).arrAt 3 cfg0.N = RV m c :=
  (dats m 0 c).arrAt_eq_of_cover 3 (RV m c) (fun t _ => flushed_eq m c t) covered

/-- The run of the kernel with its result named. -/
theorem run : θ_run defs (onTc (τ := τ) (main (F := Ideal))) ⟨m, fun _ => 0, ρ⟩ fun r => ∀ c : Dev nD,
      r.2.mem ((c : Thread nD τ).loc main_v3) = RV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

/-- The kernel and the reference, from memories that agree on the arguments, both run and end with equal results. -/
theorem algebraic : Cert.algebraic_Kernel9Ideal_Reference9Ideal := fun m ρ m' ρ' _ hag =>
  ⟨fun c => RV m c, run m ρ, (θ_run _ _ _).mono
    (fun _ h c => ⟨(h c).1.trans (by rw [Cert.Reference9Ideal.Read.val_main_v12_eq, (hag c).1, (hag c).2.1, (hag c).2.2]), (h c).2⟩)
    (Cert.Reference9Ideal.Value.run m' ρ')⟩

end Cert.Proof.ProjBCtx

end
-- ==== Proof.FfnCtxBody.lean ====
/- The feed-forward half of the block over the context tokens, `_ffn` at 256 rows without the final norm: what its body
   leaves in the two scratches and in the output block, as the pure functions of the blocks it reads. At the first step
   it stores the modulated norm and the product of step 0; at the later steps it adds a product; at the last it stores
   the sum with the residual. -/
module

public import proofs.«01_k».proof.Proof.Gen.Kernel10Ideal.Value
public import Idealize.ShloMosaic.Lib.MatmulPlain
public import Idealize.ShloMosaic.Lib.IdealHost
public import Idealize.ShloMosaic.Lib.Pointwise

@[expose] public section

set_option maxRecDepth 16384

noncomputable section

namespace Cert.Proof.FfnCtx

open Cert.Kernel10Ideal Cert.Kernel10Ideal.Gen Cert.Kernel10Ideal.Value Idealize.ShloMosaic Idealize.ShloMosaic.TcCoe Idealize.SL.Sem

variable {F : FTy → Type} [FloatOps F]

theorem hz : (![0, 0] : Fin 2 → Nat) = fun _ => 0 := funext fun a => by fin_cases a <;> rfl

/-- The first step of a row tile stores the modulated norm of the rows. -/
theorem scrA0 (c : Dev nD) (i : grid0.Coords) (arg2 : Memref sig .tc .vmem S256x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S256x2048 .f32) (harg11 : arg11.IsWhole) (arg12 : Memref sig .tc .vmem S256x2048 .bf16) (harg12 : arg12.IsWhole) (arg13 : Memref sig .tc .vmem S256x2048 .f32) (harg13 : arg13.IsWhole) (hc0 : cond0_0 i) (hc1 : ¬cond0_1 i)
    (x0 : Vec F S256x2048 .f32) (x1 : Vec F S1x2048 .f32) (x2 : Vec F S1x2048 .f32) (x3 : Vec F S1x2048 .f32) (x4 : Vec F S1x2048 .f32) (x5 : Vec F S1x2048 .f32) (x6 : Vec F S2048x512 .bf16) (x7 : Vec F S2048x512 .bf16) (x8 : Vec F S512x2048 .bf16) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = k0_pay1 x0 x1 x2 x3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x2048) hz, View.ld_unit_zero (S := S512x2048) hz, View.ld_unit_zero (S := S1x2048) hz, View.ld_unit_zero (S := S2048x512) hz]

/-- The first step of a row tile leaves in the accumulator the product of step 0 added to zero. -/
theorem scrA1 (c : Dev nD) (i : grid0.Coords) (arg2 : Memref sig .tc .vmem S256x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S256x2048 .f32) (harg11 : arg11.IsWhole) (arg12 : Memref sig .tc .vmem S256x2048 .bf16) (harg12 : arg12.IsWhole) (arg13 : Memref sig .tc .vmem S256x2048 .f32) (harg13 : arg13.IsWhole) (hc0 : cond0_0 i) (hc1 : ¬cond0_1 i)
    (x0 : Vec F S256x2048 .f32) (x1 : Vec F S1x2048 .f32) (x2 : Vec F S1x2048 .f32) (x3 : Vec F S1x2048 .f32) (x4 : Vec F S1x2048 .f32) (x5 : Vec F S1x2048 .f32) (x6 : Vec F S2048x512 .bf16) (x7 : Vec F S2048x512 .bf16) (x8 : Vec F S512x2048 .bf16) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = k0_pay3 (k0_pay1 x0 x1 x2 x3) x6 x7 k0_pay2 x8 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  sl_unfold_words
  rw [View.canon_cons_unit_zero (S := S256x2048) hz]
  simp only [View.readCov_unit_zero (S := S256x2048) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x2048) hz, View.ld_unit_zero (S := S512x2048) hz, View.ld_unit_zero (S := S1x2048) hz, View.ld_unit_zero (S := S2048x512) hz]

/-- A middle step adds its product to the accumulator. -/
theorem scrB1 (c : Dev nD) (i : grid0.Coords) (arg2 : Memref sig .tc .vmem S256x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S256x2048 .f32) (harg11 : arg11.IsWhole) (arg12 : Memref sig .tc .vmem S256x2048 .bf16) (harg12 : arg12.IsWhole) (arg13 : Memref sig .tc .vmem S256x2048 .f32) (harg13 : arg13.IsWhole) (hc0 : ¬cond0_0 i) (hc1 : ¬cond0_1 i)
    (x0 : Vec F S256x2048 .f32) (x1 : Vec F S1x2048 .f32) (x2 : Vec F S1x2048 .f32) (x3 : Vec F S1x2048 .f32) (x4 : Vec F S1x2048 .f32) (x5 : Vec F S1x2048 .f32) (x6 : Vec F S2048x512 .bf16) (x7 : Vec F S2048x512 .bf16) (x8 : Vec F S512x2048 .bf16) (xs0 : Vec F S256x2048 .bf16) (xs1 : Vec F S256x2048 .f32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay3 xs0 x6 x7 xs1 x8 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x2048) hz, View.ld_unit_zero (S := S512x2048) hz, View.ld_unit_zero (S := S1x2048) hz, View.ld_unit_zero (S := S2048x512) hz]

/-- The last step adds its product to the accumulator. -/
theorem scrC1 (c : Dev nD) (i : grid0.Coords) (arg2 : Memref sig .tc .vmem S256x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S256x2048 .f32) (harg11 : arg11.IsWhole) (arg12 : Memref sig .tc .vmem S256x2048 .bf16) (harg12 : arg12.IsWhole) (arg13 : Memref sig .tc .vmem S256x2048 .f32) (harg13 : arg13.IsWhole) (hc0 : ¬cond0_0 i) (hc1 : cond0_1 i)
    (x0 : Vec F S256x2048 .f32) (x1 : Vec F S1x2048 .f32) (x2 : Vec F S1x2048 .f32) (x3 : Vec F S1x2048 .f32) (x4 : Vec F S1x2048 .f32) (x5 : Vec F S1x2048 .f32) (x6 : Vec F S2048x512 .bf16) (x7 : Vec F S2048x512 .bf16) (x8 : Vec F S512x2048 .bf16) (xs0 : Vec F S256x2048 .bf16) (xs1 : Vec F S256x2048 .f32) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay3 xs0 x6 x7 xs1 x8 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x2048) hz, View.ld_unit_zero (S := S512x2048) hz, View.ld_unit_zero (S := S1x2048) hz, View.ld_unit_zero (S := S2048x512) hz]

/-- The last step stores the sum of the residual and the gated finished accumulator. -/
theorem outC9 (c : Dev nD) (i : grid0.Coords) (arg2 : Memref sig .tc .vmem S256x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S256x2048 .f32) (harg11 : arg11.IsWhole) (arg12 : Memref sig .tc .vmem S256x2048 .bf16) (harg12 : arg12.IsWhole) (arg13 : Memref sig .tc .vmem S256x2048 .f32) (harg13 : arg13.IsWhole) (hc0 : ¬cond0_0 i) (hc1 : cond0_1 i)
    (x0 : Vec F S256x2048 .f32) (x1 : Vec F S1x2048 .f32) (x2 : Vec F S1x2048 .f32) (x3 : Vec F S1x2048 .f32) (x4 : Vec F S1x2048 .f32) (x5 : Vec F S1x2048 .f32) (x6 : Vec F S2048x512 .bf16) (x7 : Vec F S2048x512 .bf16) (x8 : Vec F S512x2048 .bf16) (xs0 : Vec F S256x2048 .bf16) (xs1 : Vec F S256x2048 .f32) :
    out0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay4 x0 x4 (k0_pay3 xs0 x6 x7 xs1 x8) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  dsimp only
  sl_unfold_words
  rw [View.canon_unit_zero hz]
  simp only [View.readCov_unit_zero (S := S256x2048) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x2048) hz, View.ld_unit_zero (S := S512x2048) hz, View.ld_unit_zero (S := S1x2048) hz, View.ld_unit_zero (S := S2048x512) hz]

end Cert.Proof.FfnCtx

end
-- ==== Proof.FfnCtx.lean ====
/- The feed-forward half of the block over the context tokens, `_ffn` at 256 rows without the final norm: its payloads read
   at an index beside the reference's arrays. -/
module

public import proofs.«01_k».proof.Defs
public import proofs.«01_k».proof.Proof.FfnCtxBody
public import proofs.«01_k».proof.Proof.Gen.Reference10Ideal.Read
public import Idealize.ShloMosaic.Lib.StableHlo.ReadAt

@[expose] public section

set_option maxRecDepth 16384

noncomputable section

namespace Cert.Proof.FfnCtx

open Cert.Kernel10Ideal Cert.Kernel10Ideal.Gen Cert.Kernel10Ideal.Value Idealize.ShloMosaic Idealize.ShloMosaic.TcCoe Idealize.SL.Sem

section payloads
open Cert.Reference10Ideal.Read

/-- An index of two coordinates is known by its coordinates. -/
theorem ix2_ext {n k : Nat} {i : (⟨2, ![n, k]⟩ : Shape).Idx} {a : Fin n} {b : Fin k} (h0 : (i 0).val = a.val) (h1 : (i 1).val = b.val) : i = ix2 a b :=
  funext fun x => Fin.ext (by match x with | ⟨0, _⟩ => exact h0 | ⟨1, _⟩ => exact h1)

variable (x0 : Vec Ideal S256x2048 .f32) (x1 : Vec Ideal S2048 .f32) (x2 x3 x4 : Vec Ideal S1x2048 .f32)
  (x6 : Vec Ideal S2048x11264 .f32) (x7 : Vec Ideal S5632x2048 .f32)

/-- The norm stored at a row and a column, over blocks that hold the reference's rows. -/
theorem pay1_apply (X : Vec Ideal S256x2048 .f32) (G : Vec Ideal S1x2048 .f32)
    (r : Fin 256) (R : Fin 256) (hX : ∀ k : Fin 2048, X (ix2 r k) = x0 (ix2 R k)) (hG : ∀ k : Fin 2048, G (ix2 0 k) = x1 (ix1 k)) (k : Fin 2048) :
    k0_pay1 X G x2 x3 (ix2 r k) = val_main_v18 (F := Ideal) x0 x1 x2 x3 (ix2 R k) := by
  unfold k0_pay1
  simp only [val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, val_main_cst_2_apply]
  pointwise
  have e1 : ∀ x : Fin 2048, idx_main_v1 (idx_main_v2 (idx_main_v8 (ix2 R k))) x = ix2 R x := fun x => ix2_ext rfl rfl
  have e2 : idx_main_v10 (idx_main_v11 (ix2 R k)) = ix1 k := funext fun a => by match a with | ⟨0, _⟩ => rfl
  have e3 : idx_main_v15 (ix2 R k) = ix2 0 k := ix2_ext rfl rfl
  have e4 : idx_main_v17 (ix2 R k) = ix2 0 k := ix2_ext rfl rfl
  simp only [e1, e2, e3, e4, hX, hG]

/-- One step's product added to the accumulator, over blocks that hold the reference's norm and weights. -/
theorem pay3_apply (H : Vec Ideal S256x2048 .bf16) (Wg Wu : Vec Ideal S2048x512 .bf16) (A : Vec Ideal S256x2048 .f32) (Wo : Vec Ideal S512x2048 .bf16)
    (r : Fin 256) (R : Fin 256) (j : Fin 2048) (s : Fin 11)
    (hH : ∀ q : Fin 2048, H (ix2 r q) = val_main_v18 (F := Ideal) x0 x1 x2 x3 (ix2 R q))
    (hg : ∀ (q : Fin 2048) (k : Fin 512), Wg (ix2 q k) = x6 (ix2 q ⟨s.val * 512 + k.val, by omega⟩))
    (hu : ∀ (q : Fin 2048) (k : Fin 512), Wu (ix2 q k) = x6 (ix2 q ⟨5632 + (s.val * 512 + k.val), by omega⟩))
    (ho : ∀ (k : Fin 512), Wo (ix2 k j) = x7 (ix2 ⟨s.val * 512 + k.val, by omega⟩ j)) :
    k0_pay3 H Wg Wu A Wo (ix2 r j) = A (ix2 r j) + ∑ k : Fin 512, val_main_v23 (F := Ideal) x0 x1 x2 x3 x6 (ix2 R ⟨s.val * 512 + k.val, by omega⟩) * x7 (ix2 ⟨s.val * 512 + k.val, by omega⟩ j) := by
  unfold k0_pay3
  simp only [val_main_v23_apply, val_main_v22_apply, val_main_call0_v5_apply, val_main_call0_v4_apply, val_main_call0_v3_apply, val_main_call0_v2_apply, val_main_call0_v1_apply, val_main_call0_v0_apply, val_main_v21_apply, val_main_v20_apply, val_main_v19_apply, val_main_call0_cst_apply, val_main_call0_cst_0_apply]
  pointwise
  have e1 : ∀ (K : Fin 5632) (q : Fin 2048), lidx_main_v19 (idx_main_v20 (ix2 R K)) q = ix2 R q := fun K q => ix2_ext rfl rfl
  have e2 : ∀ (K : Fin 5632) (q : Fin 2048), ridx_main_v19 (idx_main_v20 (ix2 R K)) q = ix2 q ⟨K.val, by omega⟩ := fun K q => ix2_ext rfl rfl
  have e3 : ∀ (K : Fin 5632) (q : Fin 2048), lidx_main_v19 (idx_main_v21 (ix2 R K)) q = ix2 R q := fun K q => ix2_ext rfl rfl
  have e4 : ∀ (K : Fin 5632) (q : Fin 2048), ridx_main_v19 (idx_main_v21 (ix2 R K)) q = ix2 q ⟨5632 + K.val, by omega⟩ := fun K q => ix2_ext rfl rfl
  simp only [e1, e2, e3, e4, hH, hg, hu, ho, Ideal.logistic]

/-- The last step's output at a row and a column, over an accumulator that holds the whole product. -/
theorem pay4_apply (X A : Vec Ideal S256x2048 .f32)
    (r : Fin 256) (R : Fin 256) (hX : ∀ k : Fin 2048, X (ix2 r k) = x0 (ix2 R k))
    (hA : ∀ k : Fin 2048, A (ix2 r k) = val_main_v24 (F := Ideal) x0 x1 x2 x3 x6 x7 (ix2 R k)) (k : Fin 2048) :
    k0_pay4 X x4 A (ix2 r k) = val_main_v27 (F := Ideal) x0 x1 x2 x3 x4 x6 x7 (ix2 R k) := by
  unfold k0_pay4
  simp only [val_main_v27_apply, val_main_v26_apply, val_main_v25_apply]
  pointwise
  have e3 : idx_main_v25 (ix2 R k) = ix2 0 k := ix2_ext rfl rfl
  simp only [e3, hX, hA]

/-- The eleven steps' products together are the reference's product. -/
theorem sum_steps (f : Fin 5632 → EReal) : ∑ s : Fin 11, ∑ k : Fin 512, f ⟨s.val * 512 + k.val, by omega⟩ = ∑ K : Fin 5632, f K := by
  rw [← Finset.sum_product', Finset.univ_product_univ]
  refine (Equiv.sum_comp (finProdFinEquiv (m := 11) (n := 512)) (fun K => f K)).symm.trans ?_ |>.symm
  refine Finset.sum_congr rfl fun p _ => congrArg f (Fin.ext ?_)
  show p.2.val + 512 * p.1.val = p.1.val * 512 + p.2.val
  omega

/-- The reference's product as the sum over the eleven steps. -/
theorem v24_steps (R : Fin 256) (j : Fin 2048) :
    val_main_v24 (F := Ideal) x0 x1 x2 x3 x6 x7 (ix2 R j) = ∑ s : Fin 11, ∑ k : Fin 512, val_main_v23 (F := Ideal) x0 x1 x2 x3 x6 (ix2 R ⟨s.val * 512 + k.val, by omega⟩) * x7 (ix2 ⟨s.val * 512 + k.val, by omega⟩ j) := by
  rw [val_main_v24_apply, sum_steps (fun K => val_main_v23 (F := Ideal) x0 x1 x2 x3 x6 (ix2 R K) * x7 (ix2 K j))]
  refine Finset.sum_congr rfl fun K _ => ?_
  rw [show lidx_main_v24 (ix2 R j) K = ix2 R K from ix2_ext rfl rfl, show ridx_main_v24 (ix2 R j) K = ix2 K j from ix2_ext rfl rfl]

end payloads

variable (m : (ℓ : Loc nD τ sig) → Buf (Elt Ideal) ℓ) (ρ : Dev nD → PrngReg)

/-- The index maps over the grid: the row tile is `t / 11`, the step `t % 11`. -/
theorem idx_facts : ∀ t : Fin cfg0.N, (win0_0.index t (0 : Fin 2) = t.val / 11 ∧ win0_0.index t (1 : Fin 2) = 0)
    ∧ (win0_6.index t (0 : Fin 2) = 0 ∧ win0_6.index t (1 : Fin 2) = t.val % 11) ∧ (win0_7.index t (0 : Fin 2) = 0 ∧ win0_7.index t (1 : Fin 2) = t.val % 11 + 11)
    ∧ (win0_8.index t (0 : Fin 2) = t.val % 11 ∧ win0_8.index t (1 : Fin 2) = 0) ∧ (win0_9.index t (0 : Fin 2) = t.val / 11 ∧ win0_9.index t (1 : Fin 2) = 0) :=
  (by decide +kernel : ∀ t : Fin grid0.N, _)

/-- The index maps of the row vectors: always the one block. -/
theorem idx_vec : ∀ t : Fin cfg0.N, (win0_1.index t (0 : Fin 2) = 0 ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0) ∧ (win0_4.index t (0 : Fin 2) = 0 ∧ win0_4.index t (1 : Fin 2) = 0) ∧ (win0_5.index t (0 : Fin 2) = 0 ∧ win0_5.index t (1 : Fin 2) = 0) :=
  (by decide +kernel : ∀ t : Fin grid0.N, _)

abbrev a0 (c : Dev nD) : Vec Ideal S256x2048 .f32 := m ((c : Thread nD τ).loc main_arg0)
abbrev a1 (c : Dev nD) : Vec Ideal S2048 .f32 := m ((c : Thread nD τ).loc main_arg1)
abbrev a2 (c : Dev nD) : Vec Ideal S1x2048 .f32 := m ((c : Thread nD τ).loc main_arg2)
abbrev a3 (c : Dev nD) : Vec Ideal S1x2048 .f32 := m ((c : Thread nD τ).loc main_arg3)
abbrev a4 (c : Dev nD) : Vec Ideal S1x2048 .f32 := m ((c : Thread nD τ).loc main_arg4)
abbrev a6 (c : Dev nD) : Vec Ideal S2048x11264 .f32 := m ((c : Thread nD τ).loc main_arg6)
abbrev a7 (c : Dev nD) : Vec Ideal S5632x2048 .f32 := m ((c : Thread nD τ).loc main_arg7)

theorem V_v0 (c : Dev nD) (k : Fin 2048) : V m c main_v0 (ix2 0 k) = a1 m c (ix1 k) := by
  unfold V
  after_reads_at
theorem V_v2 (c : Dev nD) (i : S2048x11264.Idx) : V m c main_v2 i = a6 m c i := by
  unfold V
  after_reads_at
theorem V_v3 (c : Dev nD) (i : S5632x2048.Idx) : V m c main_v3 i = a7 m c i := by
  unfold V
  after_reads_at

theorem blk0 (c : Dev nD) (t : Fin cfg0.N) (r : Fin 256) (k : Fin 2048) (R : Fin 256) (hR : R.val = t.val / 11 * 256 + r.val) :
    iblk m c 0 t (ix2 r k) = a0 m c (ix2 R k) := by
  obtain ⟨⟨e0, e1⟩, -⟩ := idx_facts t
  show V m c main_arg0 (((cfg0.win 0).blk t).view.emb (ix2 r k)) = _
  rw [V_main_arg0]
  refine congrArg (a0 m c) (ix2_ext ?_ ?_)
  · show win0_0.index t (0 : Fin 2) * 256 + 1 * r.val = R.val; omega
  · show win0_0.index t (1 : Fin 2) * 2048 + 1 * k.val = k.val; omega

theorem blk1 (c : Dev nD) (t : Fin cfg0.N) (k : Fin 2048) : iblk m c 1 t (ix2 0 k) = a1 m c (ix1 k) := by
  obtain ⟨⟨e0, e1⟩, -⟩ := idx_vec t
  rw [← V_v0]
  refine congrArg (V m c main_v0) (ix2_ext ?_ ?_)
  · show win0_1.index t (0 : Fin 2) * 1 + 1 * 0 = 0; omega
  · show win0_1.index t (1 : Fin 2) * 2048 + 1 * k.val = k.val; omega

theorem blk2 (c : Dev nD) (t : Fin cfg0.N) : iblk m c 2 t = a2 m c := by
  obtain ⟨-, ⟨e0, e1⟩, -⟩ := idx_vec t
  funext i
  have h0 : (i 0).val < 1 := (i 0).isLt
  show V m c main_arg2 (((cfg0.win 2).blk t).view.emb i) = _
  rw [V_main_arg2]
  refine congrArg (a2 m c) (funext fun a => Fin.ext ?_)
  match a with
  | ⟨0, _⟩ => show win0_2.index t (0 : Fin 2) * 1 + 1 * (i 0).val = (i 0).val; omega
  | ⟨1, _⟩ => show win0_2.index t (1 : Fin 2) * 2048 + 1 * (i 1).val = (i 1).val; omega

theorem blk3 (c : Dev nD) (t : Fin cfg0.N) : iblk m c 3 t = a3 m c := by
  obtain ⟨-, -, ⟨e0, e1⟩, -⟩ := idx_vec t
  funext i
  have h0 : (i 0).val < 1 := (i 0).isLt
  show V m c main_arg3 (((cfg0.win 3).blk t).view.emb i) = _
  rw [V_main_arg3]
  refine congrArg (a3 m c) (funext fun a => Fin.ext ?_)
  match a with
  | ⟨0, _⟩ => show win0_3.index t (0 : Fin 2) * 1 + 1 * (i 0).val = (i 0).val; omega
  | ⟨1, _⟩ => show win0_3.index t (1 : Fin 2) * 2048 + 1 * (i 1).val = (i 1).val; omega

theorem blk4 (c : Dev nD) (t : Fin cfg0.N) : iblk m c 4 t = a4 m c := by
  obtain ⟨-, -, -, ⟨e0, e1⟩, -⟩ := idx_vec t
  funext i
  have h0 : (i 0).val < 1 := (i 0).isLt
  show V m c main_arg4 (((cfg0.win 4).blk t).view.emb i) = _
  rw [V_main_arg4]
  refine congrArg (a4 m c) (funext fun a => Fin.ext ?_)
  match a with
  | ⟨0, _⟩ => show win0_4.index t (0 : Fin 2) * 1 + 1 * (i 0).val = (i 0).val; omega
  | ⟨1, _⟩ => show win0_4.index t (1 : Fin 2) * 2048 + 1 * (i 1).val = (i 1).val; omega

theorem blk6 (c : Dev nD) (t : Fin cfg0.N) (q : Fin 2048) (k : Fin 512) (J : Fin 11264) (hJ : J.val = t.val % 11 * 512 + k.val) :
    iblk m c 6 t (ix2 q k) = a6 m c (ix2 q J) := by
  obtain ⟨-, ⟨e0, e1⟩, -⟩ := idx_facts t
  rw [← V_v2]
  refine congrArg (V m c main_v2) (ix2_ext ?_ ?_)
  · show win0_6.index t (0 : Fin 2) * 2048 + 1 * q.val = q.val; omega
  · show win0_6.index t (1 : Fin 2) * 512 + 1 * k.val = J.val; omega

theorem blk7 (c : Dev nD) (t : Fin cfg0.N) (q : Fin 2048) (k : Fin 512) (J : Fin 11264) (hJ : J.val = 5632 + (t.val % 11 * 512 + k.val)) :
    iblk m c 7 t (ix2 q k) = a6 m c (ix2 q J) := by
  obtain ⟨-, -, ⟨e0, e1⟩, -⟩ := idx_facts t
  rw [← V_v2]
  refine congrArg (V m c main_v2) (ix2_ext ?_ ?_)
  · show win0_7.index t (0 : Fin 2) * 2048 + 1 * q.val = q.val; omega
  · show win0_7.index t (1 : Fin 2) * 512 + 1 * k.val = J.val; omega

theorem blk8 (c : Dev nD) (t : Fin cfg0.N) (k : Fin 512) (j : Fin 2048) (J : Fin 5632) (hJ : J.val = t.val % 11 * 512 + k.val) :
    iblk m c 8 t (ix2 k j) = a7 m c (ix2 J j) := by
  obtain ⟨-, -, -, ⟨e0, e1⟩, -⟩ := idx_facts t
  rw [← V_v3]
  refine congrArg (V m c main_v3) (ix2_ext ?_ ?_)
  · show win0_8.index t (0 : Fin 2) * 512 + 1 * k.val = J.val; omega
  · show win0_8.index t (1 : Fin 2) * 2048 + 1 * j.val = j.val; omega

/-- The reference's modulated norm, over the arguments as launched. -/
abbrev Nrm (c : Dev nD) : Vec Ideal S256x2048 .f32 := Cert.Reference10Ideal.Read.val_main_v18 (F := Ideal) (a0 m c) (a1 m c) (a2 m c) (a3 m c)
/-- The part of the reference's second product that step `s` adds, at a row and a column. -/
def step (c : Dev nD) (R : Fin 256) (j : Fin 2048) (s : Nat) : EReal :=
  if hs : s < 11 then ∑ k : Fin 512, Cert.Reference10Ideal.Read.val_main_v23 (F := Ideal) (a0 m c) (a1 m c) (a2 m c) (a3 m c) (a6 m c) (ix2 R ⟨s * 512 + k.val, by omega⟩) * a7 m c (ix2 ⟨s * 512 + k.val, by omega⟩ j) else 0

/-- The payload of a point adds the point's step. -/
theorem pay3_step (c : Dev nD) (t : Fin cfg0.N) (H : Vec Ideal S256x2048 .bf16) (A : Vec Ideal S256x2048 .f32) (r : Fin 256) (j : Fin 2048)
    (R : Fin 256) (hH : ∀ q : Fin 2048, H (ix2 r q) = Nrm m c (ix2 R q)) :
    k0_pay3 H (iblk m c 6 t) (iblk m c 7 t) A (iblk m c 8 t) (ix2 r j) = A (ix2 r j) + step m c R j (t.val % 11) := by
  have hs : t.val % 11 < 11 := Nat.mod_lt _ (by decide)
  unfold step
  rw [dif_pos hs]
  exact pay3_apply (a0 m c) (a1 m c) (a2 m c) (a3 m c) (a6 m c) (a7 m c) H (iblk m c 6 t) (iblk m c 7 t) A (iblk m c 8 t) r R j ⟨t.val % 11, hs⟩ hH
    (fun q k => blk6 m c t q k _ rfl) (fun q k => blk7 m c t q k _ rfl) (fun k => blk8 m c t k j _ rfl)

/-- What the scratches hold after point `n`: the norm of the row tile, and the sum of the steps so far. -/
theorem scratch_eq (c : Dev nD) : ∀ (n : Nat) (hn : n < cfg0.N) (r : Fin 256) (R : Fin 256), R.val = n / 11 * 256 + r.val →
    (∀ q : Fin 2048, (outsAt0 m c n hn).2.1 (ix2 r q) = Nrm m c (ix2 R q))
    ∧ ∀ j : Fin 2048, (outsAt0 m c n hn).2.2 (ix2 r j) = ∑ s ∈ Finset.range (n % 11 + 1), step m c R j s := by
  have hA : ∀ (t : Fin cfg0.N), t.val % 11 = 0 → ∀ (r : Fin 256) (R : Fin 256), R.val = t.val / 11 * 256 + r.val →
      (∀ q : Fin 2048, (outsAt0 m c t.val t.isLt).2.1 (ix2 r q) = Nrm m c (ix2 R q))
      ∧ ∀ j : Fin 2048, (outsAt0 m c t.val t.isLt).2.2 (ix2 r j) = ∑ s ∈ Finset.range (t.val % 11 + 1), step m c R j s := by
    intro t h0 r R hR
    have hN : ∀ q : Fin 2048, k0_pay1 (iblk m c 0 t) (iblk m c 1 t) (iblk m c 2 t) (iblk m c 3 t) (ix2 r q) = Nrm m c (ix2 R q) := by
      intro q
      rw [blk2, blk3]
      exact pay1_apply (a0 m c) (a1 m c) (a2 m c) (a3 m c) _ _ r R (fun k => blk0 m c t r k R hR) (fun k => blk1 m c t k) q
    rw [outsAt0_A m c t h0 (by omega)]
    dsimp only
    rw [scrA0, scrA1]
    refine ⟨hN, fun j => ?_⟩
    rw [pay3_step m c t _ _ r j R hN, h0, Finset.sum_range_one]
    unfold k0_pay2
    pointwise
  intro n
  induction n with
  | zero => exact fun hn => hA ⟨0, hn⟩ rfl
  | succ n ih =>
    intro hn r R hR
    by_cases h0 : (n + 1) % 11 = 0
    · exact hA ⟨n + 1, hn⟩ h0 r R hR
    obtain ⟨i0, i1⟩ := ih (Nat.lt_of_succ_lt hn) r R (by omega)
    have key : ∀ j : Fin 2048, k0_pay3 (outsAt0 m c n (Nat.lt_of_succ_lt hn)).2.1 (iblk m c 6 ⟨n + 1, hn⟩) (iblk m c 7 ⟨n + 1, hn⟩) (outsAt0 m c n (Nat.lt_of_succ_lt hn)).2.2 (iblk m c 8 ⟨n + 1, hn⟩) (ix2 r j)
        = ∑ s ∈ Finset.range ((n + 1) % 11 + 1), step m c R j s := by
      intro j
      rw [pay3_step m c ⟨n + 1, hn⟩ _ _ r j R i0, i1 j, show (n + 1) % 11 = n % 11 + 1 from by omega, Finset.sum_range_succ _ (n % 11 + 1)]
    by_cases h1 : (n + 1) % 11 = 10
    · rw [outsAt0_C m c ⟨n + 1, hn⟩ h0 h1]
      dsimp only
      rw [scrC1]
      exact ⟨i0, key⟩
    · rw [outsAt0_B m c ⟨n + 1, hn⟩ h0 h1]
      dsimp only
      rw [scrB1]
      exact ⟨i0, key⟩

/-- The reference's result over the arguments as launched. -/
abbrev RV (c : Dev nD) : Vec Ideal S256x2048 .f32 :=
  Cert.Reference10Ideal.Read.val_main_v27 (F := Ideal) (a0 m c) (a1 m c) (a2 m c) (a3 m c) (a4 m c) (a6 m c) (a7 m c)

/-- What the last step of a row tile leaves in the output block. -/
theorem out_eq (c : Dev nD) (t : Fin cfg0.N) (h1 : t.val % 11 = 10) (r : Fin 256) (R : Fin 256) (hR : R.val = t.val / 11 * 256 + r.val) (j : Fin 2048) :
    (outsAt0 m c t.val t.isLt).1 (ix2 r j) = RV m c (ix2 R j) := by
  obtain ⟨i0, i1⟩ := scratch_eq m c (t.val - 1) (Nat.lt_of_le_of_lt (Nat.sub_le _ _) t.isLt) r R (by omega)
  rw [outsAt0_C m c t (by omega) h1]
  dsimp only
  rw [outC9, blk4]
  refine pay4_apply (a0 m c) (a1 m c) (a2 m c) (a3 m c) (a4 m c) (a6 m c) (a7 m c) _ _ r R (fun k => blk0 m c t r k R hR) (fun k => ?_) j
  rw [pay3_step m c t _ _ r k R i0, i1 k, h1, show (t.val - 1) % 11 + 1 = 10 from by omega, ← Finset.sum_range_succ, v24_steps, Finset.sum_range]
  exact Finset.sum_congr rfl fun s _ => by unfold step; rw [dif_pos s.isLt]

/-- What a row tile's last point writes back is its block of the reference's result. -/
theorem flushed_eq (c : Dev nD) (t : Fin cfg0.N) (hf : (cfg0.win 9).flush t = true) :
    (dats m 0 c).flushed 9 t = ((cfg0.win 9).blk t).view.read (Elt Ideal) (RV m c) := by
  have hN : t.val < 11 := lt_of_lt_of_eq t.isLt (show cfg0.N = 11 from N_0)
  obtain ⟨-, -, -, -, e0, e1⟩ := idx_facts t
  rw [flushed9]
  funext y
  have hr : (y 0).val < 256 := (y 0).isLt
  have hc : (y 1).val < 2048 := (y 1).isLt
  have hy : y = ix2 (⟨(y 0).val, hr⟩ : Fin 256) (⟨(y 1).val, hc⟩ : Fin 2048) := ix2_ext rfl rfl
  show (outsAt0 m c t.val t.isLt).1 y = RV m c (((cfg0.win 9).blk t).view.emb y)
  have he : ((cfg0.win 9).blk t).view.emb y = ix2 (⟨t.val / 11 * 256 + (y 0).val, by omega⟩ : Fin 256) (⟨(y 1).val, hc⟩ : Fin 2048) := by
    refine ix2_ext ?_ ?_
    · show win0_9.index t (0 : Fin 2) * 256 + 1 * (y 0).val = t.val / 11 * 256 + (y 0).val; omega
    · show win0_9.index t (1 : Fin 2) * 2048 + 1 * (y 1).val = (y 1).val; omega
  rw [he]
  exact (congrArg (outsAt0 m c t.val t.isLt).1 hy).trans (out_eq m c t ((flush0_9 t).mp hf) _ _ rfl _)

/-- Every index of the result array is in the block of its row tile's last point. -/
theorem covered (i : main_v4.ty.Idx) : ∃ t : Fin cfg0.N, (cfg0.win 9).flush t = true ∧ i ∈ ((cfg0.win 9).blk t).view.set := by
  have hr : (i 0).val < 256 := (i 0).isLt
  have hc : (i 1).val < 2048 := (i 1).isLt
  have hN : cfg0.N = 11 := N_0
  obtain ⟨t, ht⟩ : ∃ t : Fin cfg0.N, t.val = (i 0).val / 256 * 11 + 10 := ⟨⟨_, by omega⟩, rfl⟩
  obtain ⟨-, -, -, -, e0, e1⟩ := idx_facts t
  refine ⟨t, (flush0_9 t).mpr (by omega), ?_⟩
  show i ∈ ((View.whole main_v4).slice (win0_9.rect t)).set
  rw [View.set_slice_whole, Rect.mem_set_unit]
  intro a
  match a with
  | ⟨0, _⟩ => show win0_9.index t (0 : Fin 2) * 256 ≤ (i 0).val ∧ (i 0).val < win0_9.index t (0 : Fin 2) * 256 + 256; omega
  | ⟨1, _⟩ => show win0_9.index t (1 : Fin 2) * 2048 ≤ (i 1).val ∧ (i 1).val < win0_9.index t (1 : Fin 2) * 2048 + 2048; omega

/-- The result array after the run is the reference's. -/
theorem final (c : Dev nD) : (dats m 0 c).arrAt 9 cfg0.N = RV m c :=
  (dats m 0 c).arrAt_eq_of_cover 9 (RV m c) (fun t hf => flushed_eq m c t hf) covered

/-- The kernel and the reference, from memories that agree on the arguments, both run and end with equal results. -/
theorem algebraic : Cert.algebraic_Kernel10Ideal_Reference10Ideal := fun m ρ m' ρ' _ hag =>
  ⟨fun c => RV m c, (θ_run defs _ _).mono (fun r h c => ⟨(h c).1.trans (final m c), (h c).2⟩) (run_blocks m ρ), (θ_run _ _ _).mono
    (fun _ h c => ⟨(h c).1.trans (by
      obtain ⟨h0, h1, h2, h3, h4, h5, h6, h7⟩ := hag c
      rw [Cert.Reference10Ideal.Read.val_main_v27_eq, h0, h1, h2, h3, h4, h6, h7]), (h c).2⟩)
    (Cert.Reference10Ideal.Value.run m' ρ')⟩

end Cert.Proof.FfnCtx

end
-- ==== Proof.ProjACtxRun.lean ====
/-
The run of the input projection's kernel over the context tokens (`Kernel11Ideal`): the adaptive RMS norm followed by the projection of the plain
half, with every output named.

The grid walks one row tile of 256 rows times 3 column blocks.  At the first point of a row tile the body stores the normalised
row tile into its second output's buffer; at all three points it reads that buffer back and stores the product with
the current weight column block into the first output's buffer.  So the second output's buffer holds the normalised
rows of the tile from the tile's first point to its last, where the pipeline writes it back.  The file proves this
point by point, for any number type, and hence that the launch ends with both output arrays written by these
blocks, every argument unchanged and every semaphore counter at zero.
-/
module

public import proofs.«01_k».proof.Proof.Gen.Kernel11Ideal.Frame
public import proofs.«01_k».proof.Proof.Gen.Kernel11Ideal.Skeleton
public import proofs.«01_k».proof.Proof.Gen.Kernel11Ideal.Points
public import Idealize.ShloMosaic.Lib.Pipeline.TableIdle
public import Idealize.ShloMosaic.Lib.Ring
public import Idealize.ShloMosaic.Lib.Pipeline.Value
public import Idealize.ShloMosaic.Lib.WordCmp
public import Idealize.ShloMosaic.Lib.Claim

@[expose] public section

set_option maxRecDepth 16384

noncomputable section

namespace Cert.Proof.ProjACtxRun

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where each point is -/

/-- The body's condition holds exactly at the first point of each row tile. -/
theorem first_iff : ∀ t : Fin cfg0.N, k0_cond1 (grid0.coords t) = 1#1 ↔ t.val % 3 = 0 := by decide +kernel

/-- The second output is stored at the first point of a row tile. -/
theorem idle_first : ∀ t : Fin cfg0.N, t.val % 3 = 0 → cfg0.idle 6 (grid0.coords t) = false := by decide +kernel

/-- The second output is left alone at the other points. -/
theorem idle_rest : ∀ t : Fin cfg0.N, t.val % 3 ≠ 0 → cfg0.idle 6 (grid0.coords t) = true := by decide +kernel

/-- The second output is not written back at the middle point of a row tile. -/
theorem flush_mid : ∀ t : Fin cfg0.N, t.val % 3 = 1 → (cfg0.win 6).flush t = false := by decide +kernel

/-- The second output is written back at the last point of a row tile. -/
theorem flush_last : ∀ t : Fin cfg0.N, t.val % 3 = 2 → (cfg0.win 6).flush t = true := by decide +kernel

/-- The second output's buffer is fresh exactly at the first point of a row tile. -/
theorem fresh_eq (t : Fin cfg0.N) : cfg0.fresh 6 t.val = decide (t.val % 3 = 0) :=
  Cfg.fresh_tab cfg0 6 (fun n => decide (n % 3 = 0)) rfl (by decide +kernel) t.val (Nat.le_of_lt t.isLt)

/-- The first point of the row tile of a point. -/
def base (t : Fin cfg0.N) : Fin cfg0.N := ⟨t.val - t.val % 3, Nat.lt_of_le_of_lt (Nat.sub_le _ _) t.isLt⟩

theorem base_first (t : Fin cfg0.N) (h : t.val % 3 = 0) : base t = t := Fin.ext (by unfold base; dsimp only; omega)

theorem base_pred (t : Fin cfg0.N) (h : t.val % 3 ≠ 0) (h' : t.val - 1 < cfg0.N) : base ⟨t.val - 1, h'⟩ = base t :=
  Fin.ext (by unfold base; dsimp only; omega)

/-! ## The body -/

theorem hz : (![0, 0] : Fin 2 → Nat) = fun _ => 0 := funext fun a => by fin_cases a <;> rfl

set_option maxHeartbeats 1000000 in
/-- The body at the first point of a row tile: it leaves the normalised rows in the second output's buffer and their
    product with the weight block in the first's. -/
theorem run_first (c : Dev nD) (E : Set ℕ) (i : grid0.Coords) (hc : k0_cond1 i = 1#1)
    (arg2 : Memref sig .tc .vmem S256x2048 .f32) (harg2 : arg2.IsWhole) (arg3 : Memref sig .tc .vmem S1x2048 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S2048x1024 .bf16) (harg6 : arg6.IsWhole) (arg7 : Memref sig .tc .vmem S256x1024 .f32) (harg7 : arg7.IsWhole)
    (arg8 : Memref sig .tc .vmem S256x2048 .bf16) (harg8 : arg8.IsWhole)
    (x0 : Vec F S256x2048 .f32) (x1 x2 x3 : Vec F S1x2048 .f32) (x4 : Vec F S2048x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k0_pay2 (k0_pay1 x0 x1 x2 x3) x4)
            ∗ owns (c : Thread nD τ) arg8 fullShare (k0_pay1 x0 x1 x2 x3)) -∗ K ⟨⟩))
      ⊢ wp frame (wpE (defs₀ (F := F)) Variants.none c none) E (cc0_proj_a i arg2 harg2 arg3 harg3 arg4 harg4 arg5 harg5 arg6 harg6 arg7 harg7 arg8 harg8) K := by
  simp only [cc0_proj_a_eq_skeleton]; unfold cc0_proj_a_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [View.read_writes_eq_canon _ _ _ (View.cover_of_tiled _ S256x1024.size (by rfl)), View.canon_unit_zero hz]
    simp only [View.readCov_unit_zero (S := S256x2048) _ hz]
    simp only [View.readAt_eq_ld, View.ld_unit_zero (S := S256x2048) hz, View.ld_unit_zero (S := S1x2048) hz, View.ld_unit_zero (S := S2048x1024) hz]
  · iexists _; isplitr
    swap; · iexact H6
    ipureintro
    sl_unfold_words
    rw [View.read_writes_eq_canon _ _ _ (View.cover_of_tiled _ S256x2048.size (by rfl)), View.canon_unit_zero hz]
    simp only [View.readAt_eq_ld, View.ld_unit_zero (S := S256x2048) hz, View.ld_unit_zero (S := S1x2048) hz, View.ld_unit_zero (S := S2048x1024) hz]

set_option maxHeartbeats 1000000 in
/-- The body at the other points of a row tile: it reads the second output's buffer, keeps it, and leaves its product
    with the weight block in the first output's buffer. -/
theorem run_rest (c : Dev nD) (E : Set ℕ) (i : grid0.Coords) (hc : ¬ k0_cond1 i = 1#1)
    (arg2 : Memref sig .tc .vmem S256x2048 .f32) (harg2 : arg2.IsWhole) (arg3 : Memref sig .tc .vmem S1x2048 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S2048x1024 .bf16) (harg6 : arg6.IsWhole) (arg7 : Memref sig .tc .vmem S256x1024 .f32) (harg7 : arg7.IsWhole)
    (arg8 : Memref sig .tc .vmem S256x2048 .bf16) (harg8 : arg8.IsWhole)
    (x0 : Vec F S256x2048 .f32) (x1 x2 x3 : Vec F S1x2048 .f32) (x4 : Vec F S2048x1024 .bf16) (u : Vec F S256x2048 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare u
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k0_pay2 u x4)
            ∗ owns (c : Thread nD τ) arg8 fullShare u) -∗ K ⟨⟩))
      ⊢ wp frame (wpE (defs₀ (F := F)) Variants.none c none) E (cc0_proj_a i arg2 harg2 arg3 harg3 arg4 harg4 arg5 harg5 arg6 harg6 arg7 harg7 arg8 harg8) K := by
  simp only [cc0_proj_a_eq_skeleton]; unfold cc0_proj_a_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0 hf1 hf2 hf3 hf4 hf6
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [View.read_writes_eq_canon _ _ _ (View.cover_of_tiled _ S256x1024.size (by rfl)), View.canon_unit_zero hz]
    simp only [View.readAt_eq_ld, View.ld_unit_zero (S := S256x2048) hz, View.ld_unit_zero (S := S2048x1024) hz]
  · iexists f6; isplitr; · ipureintro; rfl
    iexact H6

/-! ## The pipeline's proof data -/

/-- The normalised rows of the row tile of point `t`. -/
def uAt (c : Dev nD) (t : Fin cfg0.N) : Vec F S256x2048 .bf16 :=
  k0_pay1 (iblk m c 0 (base t)) (iblk m c 1 (base t)) (iblk m c 2 (base t)) (iblk m c 3 (base t))

/-- The proof data on core `c`: each input's buffer at its block, the first output's at the product, the second's at
    the normalised rows of the row tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (uAt m c t) (iblk m c 4 t)
    | ⟨6, _⟩ => uAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = k0_pay2 (uAt m c t) (iblk m c 4 t) := by dsimp only [dats]
theorem after_6 (c : Dev nD) (t : Fin cfg0.N) : (dats m 0 c).after 6 t = uAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The normalised rows do not change inside a row tile. -/
theorem uAt_pred (c : Dev nD) (t : Fin cfg0.N) (h : t.val % 3 ≠ 0) (h' : t.val - 1 < cfg0.N) :
    uAt m c ⟨t.val - 1, h'⟩ = uAt m c t := by
  unfold uAt; rw [base_pred t h h']

/-- Past the first point of a row tile the body finds the normalised rows in the second output's buffer. -/
theorem before_6 (c : Dev nD) (t : Fin cfg0.N) (h : t.val % 3 ≠ 0) (d) : (dats m 0 c).before 6 t d = uAt m c t := by
  rw [(dats m 0 c).before_out_traj 6 rfl (fun _ _ => rfl) (fun t ht _ hf => ?_) t.val t rfl d]
  · rw [fresh_eq, if_neg (by simpa using h), after_6, uAt_pred m c t h]
  · rw [fresh_eq] at hf
    rw [after_6, after_6, uAt_pred m c t (by simpa using hf)]

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t)

/-- Handing the second output's buffer back at the normalised rows meets the post at every point. -/
theorem leaves_6 (c : Dev nD) (t : Fin cfg0.N) :
    owns (c : Thread nD τ) (st0_6 t) fullShare (uAt m c t) ⊢ ((dats m 0 c).leavesExact 6 t : sProp 𝕄) := by
  by_cases h0 : t.val % 3 = 0
  · unfold Dat.leavesExact; rw [idle_first t h0, after_6]
  · by_cases h1 : t.val % 3 = 1
    · rw [Dat.leavesExact_idle (dats m 0 c) 6 t (idle_rest t h0) (flush_mid t h1)]
      iintro H
      iexists uAt m c t
      rw [before_6 m c t h0]
      iexact H
    · unfold Dat.leavesExact; rw [idle_rest t h0, flush_last t (by omega), after_6]

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  have e6 := leaves_6 m c t
  by_cases h : t.val % 3 = 0
  · have hu : uAt m c t = k0_pay1 (iblk m c 0 t) (iblk m c 1 t) (iblk m c 2 t) (iblk m c 3 t) := by
      unfold uAt; rw [base_first t h]
    rw [hu] at e6 ⊢
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_first c Set.univ (grid0.coords t) ((first_iff t).mpr h) _ _ _ _ _ _ _ _ _ _ _ _ _ _ (iblk m c 0 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply e6; iexact H6
  · simp only [before_6 m c t h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_rest c Set.univ (grid0.coords t) (fun e => h ((first_iff t).mp e)) _ _ _ _ _ _ _ _ _ _ _ _ _ _ (iblk m c 0 t) (iblk m c 1 t) (iblk m c 2 t) (iblk m c 3 t) (iblk m c 4 t) (uAt m c t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply e6; iexact H6

/-- The body table's row at point `t`'s slots is the body at `t`. -/
theorem row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The run and the frame -/

set_option backward.isDefEq.respectTransparency.types false in
set_option maxHeartbeats 800000 in
/-- The launch: every array ends at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every argument array ends as it started and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Proof.ProjACtxRun

end
-- ==== Proof.ProjACtxRunBits.lean ====
/-
The frame of the input projection's kernel over the context tokens as printed. Idealization applied no rule, so the
printed program is the idealized one at every type of floats, and the run by hand of the idealized one, at bits, is
the printed one's.
-/
module

public import proofs.«01_k».proof.Defs
public import proofs.«01_k».proof.Proof.ProjACtxRun
public import proofs.«01_k».proof.Proof.Gen.Kernel11.Frame

@[expose] public section

set_option maxRecDepth 65536

noncomputable section

namespace Cert.Proof.ProjACtxRunBits

open Cert.Kernel11 Cert.Kernel11.Gen
open Idealize.ShloMosaic Idealize.ShloMosaic.TcCoe
open Idealize.SL.Sem

variable {F : FTy → Type} [FloatOps F]

/-- The two kernels' bodies are one program. -/
theorem body_same : cc0_proj_a (F := F) = Cert.Kernel11Ideal.cc0_proj_a (F := F) := rfl

/-- So are their body tables, -/
theorem table_same : defs₀ (F := F) = Cert.Kernel11Ideal.defs₀ (F := F) := by
  unfold defs₀ Cert.Kernel11Ideal.defs₀
  refine congrArg (Defs.onTc (τ := τ)) ?_
  funext l x
  match l, x with
  | 0, (t, s) => rfl

/-- with the pipeline's region, -/
theorem defs_same : defs (F := F) = Cert.Kernel11Ideal.defs (F := F) :=
  congrArg (Pipeline.defs (pcfgs (F := F))) table_same

/-- and the programs that call them. -/
theorem main_same : main (F := F) = Cert.Kernel11Ideal.main (F := F) := rfl

variable (m : (ℓ : Loc nD τ sig) → Buf (Elt Bits) ℓ) (ρ : Dev nD → PrngReg)

/-- The frame: every argument array ends as it started and every counter at zero. -/
theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_same, main_same]
  exact Cert.Proof.ProjACtxRun.frame (F := Bits) m ρ

end Cert.Proof.ProjACtxRunBits

end
-- ==== Proof.ProjACtx.lean ====
/-
The value of the input projection's kernel over the context tokens: its second result is the adaptive RMS norm of the residual stream, its
first the product of that norm with the plain half of the weights, both equal at every index to the reference's
arrays.
-/
module

public import proofs.«01_k».proof.Defs
public import proofs.«01_k».proof.Proof.ProjACtxRun
public import proofs.«01_k».proof.Proof.Gen.Reference11Ideal.Read
public import Idealize.ShloMosaic.Lib.MatmulPlain
public import Idealize.ShloMosaic.Lib.IdealHost
public import Idealize.ShloMosaic.Lib.Pointwise
public import Idealize.ShloMosaic.Lib.StableHlo.ReadAt

@[expose] public section

set_option maxRecDepth 16384

noncomputable section

namespace Cert.Proof.ProjACtx

open Cert.Kernel11Ideal Cert.Kernel11Ideal.Gen Cert.Proof.ProjACtxRun Idealize.ShloMosaic Idealize.ShloMosaic.TcCoe Idealize.SL.Sem

/-- An index of two coordinates is known by its coordinates. -/
theorem ix2_ext {n k : Nat} {i : (⟨2, ![n, k]⟩ : Shape).Idx} {a : Fin n} {b : Fin k} (h0 : (i 0).val = a.val) (h1 : (i 1).val = b.val) : i = ix2 a b :=
  funext fun x => Fin.ext (by match x with | ⟨0, _⟩ => exact h0 | ⟨1, _⟩ => exact h1)

section payloads
open Cert.Reference11Ideal.Read

variable (x0 : Vec Ideal S256x2048 .f32) (x1 : Vec Ideal S2048 .f32) (x2 x3 : Vec Ideal S1x2048 .f32) (x4 : Vec Ideal S2048x9216 .f32)

/-- The norm stored at a row and a column, over blocks that hold the reference's rows. -/
theorem pay1_apply (X : Vec Ideal S256x2048 .f32) (G : Vec Ideal S1x2048 .f32)
    (r : Fin 256) (R : Fin 256) (hX : ∀ k : Fin 2048, X (ix2 r k) = x0 (ix2 R k)) (hG : ∀ k : Fin 2048, G (ix2 0 k) = x1 (ix1 k)) (k : Fin 2048) :
    k0_pay1 X G x2 x3 (ix2 r k) = val_main_v18 (F := Ideal) x0 x1 x2 x3 (ix2 R k) := by
  unfold k0_pay1
  simp only [val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, val_main_cst_2_apply]
  pointwise
  have e1 : ∀ x : Fin 2048, idx_main_v1 (idx_main_v2 (idx_main_v8 (ix2 R k))) x = ix2 R x := fun x => ix2_ext rfl rfl
  have e2 : idx_main_v10 (idx_main_v11 (ix2 R k)) = ix1 k := funext fun a => by match a with | ⟨0, _⟩ => rfl
  have e3 : idx_main_v15 (ix2 R k) = ix2 0 k := ix2_ext rfl rfl
  have e4 : idx_main_v17 (ix2 R k) = ix2 0 k := ix2_ext rfl rfl
  simp only [e1, e2, e3, e4, hX, hG]

/-- The product stored at a row and a column, over blocks that hold the reference's norm and weights. -/
theorem pay2_apply (U : Vec Ideal S256x2048 .bf16) (W : Vec Ideal S2048x1024 .bf16)
    (r : Fin 256) (R : Fin 256) (j : Fin 1024) (J : Fin 3072)
    (hU : ∀ q : Fin 2048, U (ix2 r q) = val_main_v18 (F := Ideal) x0 x1 x2 x3 (ix2 R q))
    (hW : ∀ q : Fin 2048, W (ix2 q j) = x4 (ix2 q ⟨J.val, by omega⟩)) :
    k0_pay2 U W (ix2 r j) = val_main_v20 (F := Ideal) x0 x1 x2 x3 x4 (ix2 R J) := by
  unfold k0_pay2
  simp only [val_main_v20_apply, val_main_v19_apply]
  pointwise
  have e1 : ∀ q : Fin 2048, lidx_main_v20 (ix2 R J) q = ix2 R q := fun q => ix2_ext rfl rfl
  have e2 : ∀ q : Fin 2048, idx_main_v19 (ridx_main_v20 (ix2 R J) q) = ix2 q ⟨J.val, by omega⟩ := fun q => ix2_ext rfl rfl
  simp only [e1, e2, hU, hW]

end payloads

variable (m : (ℓ : Loc nD τ sig) → Buf (Elt Ideal) ℓ) (ρ : Dev nD → PrngReg)

/-- The windows' block indices at a grid point: the row tile is the quotient by three, the column block the remainder. -/
theorem idx_facts : ∀ t : Fin cfg0.N, (win0_0.index t (0 : Fin 2) = t.val / 3 ∧ win0_0.index t (1 : Fin 2) = 0)
    ∧ (win0_4.index t (0 : Fin 2) = 0 ∧ win0_4.index t (1 : Fin 2) = t.val % 3)
    ∧ (win0_5.index t (0 : Fin 2) = t.val / 3 ∧ win0_5.index t (1 : Fin 2) = t.val % 3)
    ∧ win0_6.index t (0 : Fin 2) = t.val / 3 ∧ win0_6.index t (1 : Fin 2) = 0 :=
  (by decide +kernel : ∀ t : Fin grid0.N, _)

/-- The three row vectors are staged whole. -/
theorem idx_vec : ∀ t : Fin cfg0.N, (win0_1.index t (0 : Fin 2) = 0 ∧ win0_1.index t (1 : Fin 2) = 0)
    ∧ (win0_2.index t (0 : Fin 2) = 0 ∧ win0_2.index t (1 : Fin 2) = 0)
    ∧ win0_3.index t (0 : Fin 2) = 0 ∧ win0_3.index t (1 : Fin 2) = 0 :=
  (by decide +kernel : ∀ t : Fin grid0.N, _)

abbrev a0 (c : Dev nD) : Vec Ideal S256x2048 .f32 := m ((c : Thread nD τ).loc main_arg0)
abbrev a1 (c : Dev nD) : Vec Ideal S2048 .f32 := m ((c : Thread nD τ).loc main_arg1)
abbrev a2 (c : Dev nD) : Vec Ideal S1x2048 .f32 := m ((c : Thread nD τ).loc main_arg2)
abbrev a3 (c : Dev nD) : Vec Ideal S1x2048 .f32 := m ((c : Thread nD τ).loc main_arg3)
abbrev a4 (c : Dev nD) : Vec Ideal S2048x9216 .f32 := m ((c : Thread nD τ).loc main_arg4)

theorem V_v0 (c : Dev nD) (k : Fin 2048) : V m c main_v0 (ix2 0 k) = a1 m c (ix1 k) := by
  unfold V
  after_reads_at

theorem V_v2 (c : Dev nD) (i : S2048x3072.Idx) : V m c main_v2 i = a4 m c (ix2 (i 0) (⟨(i 1).val, by have := (i 1).isLt; change (i 1).val < 3072 at this; omega⟩ : Fin 9216)) := by
  unfold V
  after_reads_at

theorem blk0 (c : Dev nD) (t : Fin cfg0.N) (r : Fin 256) (k : Fin 2048) (R : Fin 256) (hR : R.val = t.val / 3 * 256 + r.val) :
    iblk m c 0 t (ix2 r k) = a0 m c (ix2 R k) := by
  obtain ⟨⟨e0, e1⟩, -⟩ := idx_facts t
  show V m c main_arg0 (((cfg0.win 0).blk t).view.emb (ix2 r k)) = _
  rw [V_main_arg0]
  refine congrArg _ (ix2_ext ?_ ?_)
  · show win0_0.index t (0 : Fin 2) * 256 + 1 * r.val = R.val; omega
  · show win0_0.index t (1 : Fin 2) * 2048 + 1 * k.val = k.val; omega

theorem blk1 (c : Dev nD) (t : Fin cfg0.N) (k : Fin 2048) : iblk m c 1 t (ix2 0 k) = a1 m c (ix1 k) := by
  obtain ⟨⟨e0, e1⟩, -⟩ := idx_vec t
  rw [← V_v0 m c k]
  show V m c main_v0 (((cfg0.win 1).blk t).view.emb (ix2 0 k)) = _
  refine congrArg _ (ix2_ext ?_ ?_)
  · show win0_1.index t (0 : Fin 2) * 1 + 1 * (0 : Fin 1).val = (0 : Fin 1).val; omega
  · show win0_1.index t (1 : Fin 2) * 2048 + 1 * k.val = k.val; omega

theorem blk2 (c : Dev nD) (t : Fin cfg0.N) : iblk m c 2 t = a2 m c := by
  obtain ⟨-, ⟨e0, e1⟩, -⟩ := idx_vec t
  funext y
  show V m c main_arg2 (((cfg0.win 2).blk t).view.emb y) = _
  rw [V_main_arg2]
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 2048 + 1 * (y 1).val = (y 1).val; omega

theorem blk3 (c : Dev nD) (t : Fin cfg0.N) : iblk m c 3 t = a3 m c := by
  obtain ⟨-, -, e0, e1⟩ := idx_vec t
  funext y
  show V m c main_arg3 (((cfg0.win 3).blk t).view.emb y) = _
  rw [V_main_arg3]
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 2048 + 1 * (y 1).val = (y 1).val; omega

theorem blk4 (c : Dev nD) (t : Fin cfg0.N) (q : Fin 2048) (j : Fin 1024) (J : Fin 9216) (hJ : J.val = t.val % 3 * 1024 + j.val) :
    iblk m c 4 t (ix2 q j) = a4 m c (ix2 q J) := by
  obtain ⟨-, ⟨e0, e1⟩, -⟩ := idx_facts t
  show V m c main_v2 (((cfg0.win 4).blk t).view.emb (ix2 q j)) = _
  rw [V_v2]
  refine congrArg _ (ix2_ext ?_ ?_)
  · show win0_4.index t (0 : Fin 2) * 2048 + 1 * q.val = q.val; omega
  · show win0_4.index t (1 : Fin 2) * 1024 + 1 * j.val = J.val; omega

/-- The reference's results over the arguments as launched. -/
abbrev RU (c : Dev nD) : Vec Ideal S256x2048 .bf16 :=
  Cert.Reference11Ideal.Read.val_main_v21 (F := Ideal) (a0 m c) (a1 m c) (a2 m c) (a3 m c)
abbrev RP (c : Dev nD) : Vec Ideal S256x3072 .f32 :=
  Cert.Reference11Ideal.Read.val_main_v20 (F := Ideal) (a0 m c) (a1 m c) (a2 m c) (a3 m c) (a4 m c)

/-- The rows held in the second output's buffer are the reference's norm. -/
theorem uAt_eq (c : Dev nD) (t : Fin cfg0.N) (r : Fin 256) (R : Fin 256) (hR : R.val = t.val / 3 * 256 + r.val) (k : Fin 2048) :
    uAt m c t (ix2 r k) = Cert.Reference11Ideal.Read.val_main_v18 (F := Ideal) (a0 m c) (a1 m c) (a2 m c) (a3 m c) (ix2 R k) := by
  unfold uAt
  rw [blk2, blk3]
  exact pay1_apply (a0 m c) (a1 m c) (a2 m c) (a3 m c) _ _ r R
    (fun k => blk0 m c (base t) r k R (by unfold base; dsimp only; omega)) (fun k => blk1 m c _ k) k

/-- What a row tile's last point writes back of the second result is its block of the reference's. -/
theorem flushed6_eq (c : Dev nD) (t : Fin cfg0.N) :
    (dats m 0 c).flushed 6 t = ((cfg0.win 6).blk t).view.read (Elt Ideal) (RU m c) := by
  have hN : t.val < 3 := lt_of_lt_of_eq t.isLt (show cfg0.N = 3 from N_0)
  obtain ⟨-, -, -, e0, e1⟩ := idx_facts t
  show (cfg0.win 6).cut (grid0.coords t) ((dats m 0 c).after 6 t) = _
  rw [after_6]
  funext y
  have hr : (y 0).val < 256 := (y 0).isLt
  have hc : (y 1).val < 2048 := (y 1).isLt
  have hy : y = ix2 (⟨(y 0).val, hr⟩ : Fin 256) (⟨(y 1).val, hc⟩ : Fin 2048) := ix2_ext rfl rfl
  show uAt m c t y = RU m c (((cfg0.win 6).blk t).view.emb y)
  have he : ((cfg0.win 6).blk t).view.emb y = ix2 (⟨t.val / 3 * 256 + (y 0).val, by omega⟩ : Fin 256) (⟨(y 1).val, hc⟩ : Fin 2048) := by
    refine ix2_ext ?_ ?_
    · show win0_6.index t (0 : Fin 2) * 256 + 1 * (y 0).val = t.val / 3 * 256 + (y 0).val; omega
    · show win0_6.index t (1 : Fin 2) * 2048 + 1 * (y 1).val = (y 1).val; omega
  rw [he]
  refine (congrArg (uAt m c t) hy).trans ?_
  exact (uAt_eq m c t _ _ rfl _).trans rfl

/-- What a point writes back of the first result is its block of the reference's. -/
theorem flushed5_eq (c : Dev nD) (t : Fin cfg0.N) :
    (dats m 0 c).flushed 5 t = ((cfg0.win 5).blk t).view.read (Elt Ideal) (RP m c) := by
  have hN : t.val < 3 := lt_of_lt_of_eq t.isLt (show cfg0.N = 3 from N_0)
  obtain ⟨-, -, ⟨e0, e1⟩, -⟩ := idx_facts t
  show (cfg0.win 5).cut (grid0.coords t) ((dats m 0 c).after 5 t) = _
  rw [after_5]
  funext y
  have hr : (y 0).val < 256 := (y 0).isLt
  have hc : (y 1).val < 1024 := (y 1).isLt
  have hy : y = ix2 (⟨(y 0).val, hr⟩ : Fin 256) (⟨(y 1).val, hc⟩ : Fin 1024) := ix2_ext rfl rfl
  show k0_pay2 (uAt m c t) (iblk m c 4 t) y = RP m c (((cfg0.win 5).blk t).view.emb y)
  have he : ((cfg0.win 5).blk t).view.emb y = ix2 (⟨t.val / 3 * 256 + (y 0).val, by omega⟩ : Fin 256) (⟨t.val % 3 * 1024 + (y 1).val, by omega⟩ : Fin 3072) := by
    refine ix2_ext ?_ ?_
    · show win0_5.index t (0 : Fin 2) * 256 + 1 * (y 0).val = t.val / 3 * 256 + (y 0).val; omega
    · show win0_5.index t (1 : Fin 2) * 1024 + 1 * (y 1).val = t.val % 3 * 1024 + (y 1).val; omega
  rw [he]
  refine (congrArg (k0_pay2 (uAt m c t) (iblk m c 4 t)) hy).trans ?_
  exact pay2_apply (a0 m c) (a1 m c) (a2 m c) (a3 m c) (a4 m c) _ _ _ _ _ _
    (fun q => uAt_eq m c t _ _ rfl q) (fun q => blk4 m c t q _ _ rfl)

/-- Every index of the first result is in some point's block. -/
theorem covered5 (i : main_v3_0.ty.Idx) : ∃ t : Fin cfg0.N, (cfg0.win 5).flush t = true ∧ i ∈ ((cfg0.win 5).blk t).view.set := by
  have hr : (i 0).val < 256 := (i 0).isLt
  have hc : (i 1).val < 3072 := (i 1).isLt
  have hN : cfg0.N = 3 := N_0
  obtain ⟨t, ht⟩ : ∃ t : Fin cfg0.N, t.val = (i 0).val / 256 * 3 + (i 1).val / 1024 := ⟨⟨_, by omega⟩, rfl⟩
  obtain ⟨-, -, ⟨e0, e1⟩, -⟩ := idx_facts t
  refine ⟨t, flush0_5 t, ?_⟩
  show i ∈ ((View.whole main_v3_0).slice (win0_5.rect t)).set
  rw [View.set_slice_whole, Rect.mem_set_unit]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1024 ≤ (i 1).val ∧ (i 1).val < win0_5.index t (1 : Fin 2) * 1024 + 1024; omega

/-- Every index of the second result is in the block of its row tile's last point. -/
theorem covered6 (i : main_v3_1.ty.Idx) : ∃ t : Fin cfg0.N, (cfg0.win 6).flush t = true ∧ i ∈ ((cfg0.win 6).blk t).view.set := by
  have hr : (i 0).val < 256 := (i 0).isLt
  have hc : (i 1).val < 2048 := (i 1).isLt
  have hN : cfg0.N = 3 := N_0
  obtain ⟨t, ht⟩ : ∃ t : Fin cfg0.N, t.val = (i 0).val / 256 * 3 + 2 := ⟨⟨_, by omega⟩, rfl⟩
  obtain ⟨-, -, -, e0, e1⟩ := idx_facts t
  refine ⟨t, (flush0_6 t).mpr (by omega), ?_⟩
  show i ∈ ((View.whole main_v3_1).slice (win0_6.rect t)).set
  rw [View.set_slice_whole, Rect.mem_set_unit]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 2048 ≤ (i 1).val ∧ (i 1).val < win0_6.index t (1 : Fin 2) * 2048 + 2048; omega

/-- The result arrays after the run are the reference's. -/
theorem final5 (c : Dev nD) : (dats m 0 c).arrAt 5 cfg0.N = RP m c :=
  (dats m 0 c).arrAt_eq_of_cover 5 (RP m c) (fun t _ => flushed5_eq m c t) covered5
theorem final6 (c : Dev nD) : (dats m 0 c).arrAt 6 cfg0.N = RU m c :=
  (dats m 0 c).arrAt_eq_of_cover 6 (RU m c) (fun t _ => flushed6_eq m c t) covered6

/-- The run of the kernel with its results named. -/
theorem run : θ_run defs (onTc (τ := τ) (main (F := Ideal))) ⟨m, fun _ => 0, ρ⟩ fun r => ∀ c : Dev nD,
      r.2.mem ((c : Thread nD τ).loc main_v3_0) = RP m c
      ∧ r.2.mem ((c : Thread nD τ).loc main_v3_1) = RU m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 5).trans (final5 m c), ((h.1 c).1 6).trans (final6 m c), h.2 c⟩)
    (θ_run_and (run_main m ρ) (frame_of m ρ (dats m) (A_eq m) (run_main m ρ)))

/-- The kernel and the reference, from memories that agree on the arguments, both run and end with equal results. -/
theorem algebraic : Cert.algebraic_Kernel11Ideal_Reference11Ideal := fun m ρ m' ρ' _ hag =>
  ⟨fun c => RP m c, fun c => RU m c, run m ρ, (θ_run _ _ _).mono
    (fun _ h c => by
      obtain ⟨h0, h1, h2, h3, h4⟩ := hag c
      exact ⟨(h c).1.trans (by rw [Cert.Reference11Ideal.Read.val_main_v20_eq, h0, h1, h2, h3, h4]),
        (h c).2.1.trans (by rw [Cert.Reference11Ideal.Read.val_main_v21_eq, h0, h1, h2, h3]), (h c).2.2⟩)
    (Cert.Reference11Ideal.Value.run m' ρ')⟩

end Cert.Proof.ProjACtx

end
-- ==== Proof.lean ====
module

public import proofs.«01_k».proof.Defs
public import proofs.«01_k».proof.Proof.ScanRunBits
public import proofs.«01_k».proof.Proof.Gen.ReferenceIdeal.Run
public import proofs.«01_k».proof.Proof.Scan
public import proofs.«01_k».proof.Proof.Gen.Kernel2.Frame
public import proofs.«01_k».proof.Proof.Gen.Kernel2Ideal.Frame
public import proofs.«01_k».proof.Proof.Gen.Reference2Ideal.Run
public import proofs.«01_k».proof.Proof.FfnValue
public import proofs.«01_k».proof.Proof.ProjARunBits
public import proofs.«01_k».proof.Proof.Gen.Reference3Ideal.Run
public import proofs.«01_k».proof.Proof.ProjA
public import proofs.«01_k».proof.Proof.Gen.Kernel4.Frame
public import proofs.«01_k».proof.Proof.Gen.Kernel4Ideal.Frame
public import proofs.«01_k».proof.Proof.Gen.Reference4Ideal.Run
public import proofs.«01_k».proof.Proof.ProjB
public import proofs.«01_k».proof.Proof.Gen.Kernel5.Frame
public import proofs.«01_k».proof.Proof.Gen.Kernel5Ideal.Frame
public import proofs.«01_k».proof.Proof.Gen.Reference5Ideal.Run
public import proofs.«01_k».proof.Proof.Merge
public import proofs.«01_k».proof.Proof.Gen.Kernel6.Frame
public import proofs.«01_k».proof.Proof.Gen.Kernel6Ideal.Frame
public import proofs.«01_k».proof.Proof.Gen.Reference6Ideal.Run
public import proofs.«01_k».proof.Proof.FfnInner
public import proofs.«01_k».proof.Proof.ScanBackRunBits
public import proofs.«01_k».proof.Proof.Gen.Reference7Ideal.Run
public import proofs.«01_k».proof.Proof.ScanBack
public import proofs.«01_k».proof.Proof.Gen.Kernel8.Frame
public import proofs.«01_k».proof.Proof.Gen.Kernel8Ideal.Frame
public import proofs.«01_k».proof.Proof.Gen.Reference8Ideal.Run
public import proofs.«01_k».proof.Proof.Ada
public import proofs.«01_k».proof.Proof.Gen.Kernel9.Frame
public import proofs.«01_k».proof.Proof.Gen.Kernel9Ideal.Frame
public import proofs.«01_k».proof.Proof.Gen.Reference9Ideal.Run
public import proofs.«01_k».proof.Proof.ProjBCtx
public import proofs.«01_k».proof.Proof.Gen.Kernel10.Frame
public import proofs.«01_k».proof.Proof.Gen.Kernel10Ideal.Frame
public import proofs.«01_k».proof.Proof.Gen.Reference10Ideal.Run
public import proofs.«01_k».proof.Proof.FfnCtx
public import proofs.«01_k».proof.Proof.ProjACtxRunBits
public import proofs.«01_k».proof.Proof.Gen.Reference11Ideal.Run
public import proofs.«01_k».proof.Proof.ProjACtx
public import proofs.«01_k».proof.Proof.Gen.Pre_pool_finite
public import Idealize.ShloMosaic.Lib.Quiescent

@[expose] public section

noncomputable section

namespace Cert.Proof

open Idealize.ShloMosaic Idealize.SL.Sem

/-- The reference of the recurrence, forward runs, keeps its arguments, and has no semaphore to leave set. -/
theorem frame_reference : Cert.quiescent_ReferenceIdeal := fun m ρ _ =>
  (θ_run _ _ _).mono (fun r h => ⟨fun c => (h c).2, sem_eq_zero_of_no_sems (by decide) r.2⟩) (Cert.ReferenceIdeal.Value.run m ρ)

/-- The reference of the feed-forward half runs, keeps its arguments, and has no semaphore to leave set. -/
theorem frame_reference2 : Cert.quiescent_Reference2Ideal := fun m ρ _ =>
  (θ_run _ _ _).mono (fun r h => ⟨fun c => (h c).2, sem_eq_zero_of_no_sems (by decide) r.2⟩) (Cert.Reference2Ideal.Value.run m ρ)

/-- The reference of the norm and its first projection runs, keeps its arguments, and has no semaphore to leave set. -/
theorem frame_reference3 : Cert.quiescent_Reference3Ideal := fun m ρ _ =>
  (θ_run _ _ _).mono (fun r h => ⟨fun c => (h c).2.2, sem_eq_zero_of_no_sems (by decide) r.2⟩) (Cert.Reference3Ideal.Value.run m ρ)

/-- The reference of the gates runs, keeps its arguments, and has no semaphore to leave set. -/
theorem frame_reference4 : Cert.quiescent_Reference4Ideal := fun m ρ _ =>
  (θ_run _ _ _).mono (fun r h => ⟨fun c => (h c).2, sem_eq_zero_of_no_sems (by decide) r.2⟩) (Cert.Reference4Ideal.Value.run m ρ)

/-- The reference of the merge of the branches runs, keeps its arguments, and has no semaphore to leave set. -/
theorem frame_reference5 : Cert.quiescent_Reference5Ideal := fun m ρ _ =>
  (θ_run _ _ _).mono (fun r h => ⟨fun c => (h c).2, sem_eq_zero_of_no_sems (by decide) r.2⟩) (Cert.Reference5Ideal.Value.run m ρ)

/-- The reference of the feed-forward half without the final norm runs, keeps its arguments, and has no semaphore to leave set. -/
theorem frame_reference6 : Cert.quiescent_Reference6Ideal := fun m ρ _ =>
  (θ_run _ _ _).mono (fun r h => ⟨fun c => (h c).2, sem_eq_zero_of_no_sems (by decide) r.2⟩) (Cert.Reference6Ideal.Value.run m ρ)

/-- The reference of the recurrence, backward runs, keeps its arguments, and has no semaphore to leave set. -/
theorem frame_reference7 : Cert.quiescent_Reference7Ideal := fun m ρ _ =>
  (θ_run _ _ _).mono (fun r h => ⟨fun c => (h c).2, sem_eq_zero_of_no_sems (by decide) r.2⟩) (Cert.Reference7Ideal.Value.run m ρ)

/-- The reference of the modulation runs, keeps its arguments, and has no semaphore to leave set. -/
theorem frame_reference8 : Cert.quiescent_Reference8Ideal := fun m ρ _ =>
  (θ_run _ _ _).mono (fun r h => ⟨fun c => (h c).2, sem_eq_zero_of_no_sems (by decide) r.2⟩) (Cert.Reference8Ideal.Value.run m ρ)

/-- The reference of the gates over the context tokens runs, keeps its arguments, and has no semaphore to leave set. -/
theorem frame_reference9 : Cert.quiescent_Reference9Ideal := fun m ρ _ =>
  (θ_run _ _ _).mono (fun r h => ⟨fun c => (h c).2, sem_eq_zero_of_no_sems (by decide) r.2⟩) (Cert.Reference9Ideal.Value.run m ρ)

/-- The reference of the feed-forward half over the context tokens runs, keeps its arguments, and has no semaphore to leave set. -/
theorem frame_reference10 : Cert.quiescent_Reference10Ideal := fun m ρ _ =>
  (θ_run _ _ _).mono (fun r h => ⟨fun c => (h c).2, sem_eq_zero_of_no_sems (by decide) r.2⟩) (Cert.Reference10Ideal.Value.run m ρ)

/-- The reference of the norm and its first projection over the context tokens runs, keeps its arguments, and has no semaphore to leave set. -/
theorem frame_reference11 : Cert.quiescent_Reference11Ideal := fun m ρ _ =>
  (θ_run _ _ _).mono (fun r h => ⟨fun c => (h c).2.2, sem_eq_zero_of_no_sems (by decide) r.2⟩) (Cert.Reference11Ideal.Value.run m ρ)

/-- Every stated claim holds. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Pre_pool_finite.Gen.facts,
    fun m ρ _ => Cert.Proof.ScanRunBits.frame m ρ, fun m ρ _ => Cert.Proof.ScanRun.frame m ρ, frame_reference,
    fun m ρ _ => Cert.Kernel2.Gen.frame m ρ, fun m ρ _ => Cert.Kernel2Ideal.Gen.frame m ρ, frame_reference2,
    fun m ρ _ => Cert.Proof.ProjARunBits.frame m ρ, fun m ρ _ => Cert.Proof.ProjARun.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, fun m ρ _ => Cert.Kernel5Ideal.Gen.frame m ρ, frame_reference5, fun m ρ _ => frame_reference5 m ρ trivial,
    fun m ρ _ => Cert.Kernel6.Gen.frame m ρ, fun m ρ _ => Cert.Kernel6Ideal.Gen.frame m ρ, frame_reference6,
    fun m ρ _ => Cert.Proof.ScanBackRunBits.frame m ρ, fun m ρ _ => Cert.Proof.ScanBackRun.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Proof.ProjACtxRunBits.frame m ρ, fun m ρ _ => Cert.Proof.ProjACtxRun.frame m ρ, frame_reference11,
    trivial, Scan.algebraic, trivial, Ffn.algebraic, trivial, ProjA.algebraic, trivial, ProjB.algebraic, trivial, Merge.algebraic, trivial, FfnInner.algebraic, trivial, ScanBack.algebraic, trivial, Ada.algebraic, trivial, ProjBCtx.algebraic, trivial, FfnCtx.algebraic, trivial, ProjACtx.algebraic⟩

end Cert.Proof

end
